-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def preserves_Loss_LossIdeal : Prop :=
  True

def preserves_Mla_MlaIdeal : Prop :=
  True

def preserves_Ffn_FfnIdeal : Prop :=
  True

def preserves_Attn_AttnIdeal : Prop :=
  True

def preserves_Conv_ConvIdeal : Prop :=
  True

def preserves_Mix_MixIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)) →
    ∃ (v0 : (c : Dev Cert.MlaIdeal.nD) → Buf (Elt Ideal) ((c.tc : Thread Cert.MlaIdeal.nD Cert.MlaIdeal.τ).loc Cert.MlaIdeal.main_v45_0)) (v1 : (c : Dev Cert.MlaIdeal.nD) → Buf (Elt Ideal) ((c.tc : Thread Cert.MlaIdeal.nD Cert.MlaIdeal.τ).loc Cert.MlaIdeal.main_v45_1)) (v2 : (c : Dev Cert.MlaIdeal.nD) → Buf (Elt Ideal) ((c.tc : Thread Cert.MlaIdeal.nD Cert.MlaIdeal.τ).loc Cert.MlaIdeal.main_v45_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v45_0) = v0 c
          ∧ r.2.mem ((c.tc : Thread Cert.MlaIdeal.nD Cert.MlaIdeal.τ).loc Cert.MlaIdeal.main_v45_1) = v1 c
          ∧ r.2.mem ((c.tc : Thread Cert.MlaIdeal.nD Cert.MlaIdeal.τ).loc Cert.MlaIdeal.main_v45_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v70) = v0 c
          ∧ r.2.mem ((c.tc : Thread Cert.MlaRefIdeal.nD Cert.MlaRefIdeal.τ).loc Cert.MlaRefIdeal.main_v71) = v1 c
          ∧ r.2.mem ((c.tc : Thread Cert.MlaRefIdeal.nD Cert.MlaRefIdeal.τ).loc Cert.MlaRefIdeal.main_v73) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v23_0)) (v1 : (c : Dev Cert.FfnIdeal.nD) → Buf (Elt Ideal) ((c.tc : Thread Cert.FfnIdeal.nD Cert.FfnIdeal.τ).loc Cert.FfnIdeal.main_v23_1)) (v2 : (c : Dev Cert.FfnIdeal.nD) → Buf (Elt Ideal) ((c.tc : Thread Cert.FfnIdeal.nD Cert.FfnIdeal.τ).loc Cert.FfnIdeal.main_v23_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v23_0) = v0 c
          ∧ r.2.mem ((c.tc : Thread Cert.FfnIdeal.nD Cert.FfnIdeal.τ).loc Cert.FfnIdeal.main_v23_1) = v1 c
          ∧ r.2.mem ((c.tc : Thread Cert.FfnIdeal.nD Cert.FfnIdeal.τ).loc Cert.FfnIdeal.main_v23_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_v45) = v1 c
          ∧ r.2.mem ((c.tc : Thread Cert.FfnRefIdeal.nD Cert.FfnRefIdeal.τ).loc Cert.FfnRefIdeal.main_v44) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v14_0)) (v1 : (c : Dev Cert.AttnIdeal.nD) → Buf (Elt Ideal) ((c.tc : Thread Cert.AttnIdeal.nD Cert.AttnIdeal.τ).loc Cert.AttnIdeal.main_v14_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14_0) = v0 c
          ∧ r.2.mem ((c.tc : Thread Cert.AttnIdeal.nD Cert.AttnIdeal.τ).loc Cert.AttnIdeal.main_v14_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v38) = v0 c
          ∧ r.2.mem ((c.tc : Thread Cert.AttnRefIdeal.nD Cert.AttnRefIdeal.τ).loc Cert.AttnRefIdeal.main_v39) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v22_0)) (v1 : (c : Dev Cert.ConvIdeal.nD) → Buf (Elt Ideal) ((c.tc : Thread Cert.ConvIdeal.nD Cert.ConvIdeal.τ).loc Cert.ConvIdeal.main_v22_1)) (v2 : (c : Dev Cert.ConvIdeal.nD) → Buf (Elt Ideal) ((c.tc : Thread Cert.ConvIdeal.nD Cert.ConvIdeal.τ).loc Cert.ConvIdeal.main_v22_2)) (v3 : (c : Dev Cert.ConvIdeal.nD) → Buf (Elt Ideal) ((c.tc : Thread Cert.ConvIdeal.nD Cert.ConvIdeal.τ).loc Cert.ConvIdeal.main_v22_3)) (v4 : (c : Dev Cert.ConvIdeal.nD) → Buf (Elt Ideal) ((c.tc : Thread Cert.ConvIdeal.nD Cert.ConvIdeal.τ).loc Cert.ConvIdeal.main_v22_4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v22_0) = v0 c
          ∧ r.2.mem ((c.tc : Thread Cert.ConvIdeal.nD Cert.ConvIdeal.τ).loc Cert.ConvIdeal.main_v22_1) = v1 c
          ∧ r.2.mem ((c.tc : Thread Cert.ConvIdeal.nD Cert.ConvIdeal.τ).loc Cert.ConvIdeal.main_v22_2) = v2 c
          ∧ r.2.mem ((c.tc : Thread Cert.ConvIdeal.nD Cert.ConvIdeal.τ).loc Cert.ConvIdeal.main_v22_3) = v3 c
          ∧ r.2.mem ((c.tc : Thread Cert.ConvIdeal.nD Cert.ConvIdeal.τ).loc Cert.ConvIdeal.main_v22_4) = v4 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v80) = v0 c
          ∧ r.2.mem ((c.tc : Thread Cert.ConvRefIdeal.nD Cert.ConvRefIdeal.τ).loc Cert.ConvRefIdeal.main_v81) = v1 c
          ∧ r.2.mem ((c.tc : Thread Cert.ConvRefIdeal.nD Cert.ConvRefIdeal.τ).loc Cert.ConvRefIdeal.main_v82) = v2 c
          ∧ r.2.mem ((c.tc : Thread Cert.ConvRefIdeal.nD Cert.ConvRefIdeal.τ).loc Cert.ConvRefIdeal.main_v83) = v3 c
          ∧ r.2.mem ((c.tc : Thread Cert.ConvRefIdeal.nD Cert.ConvRefIdeal.τ).loc Cert.ConvRefIdeal.main_v86) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)) (v3 : (c : Dev Cert.MixIdeal.nD) → Buf (Elt Ideal) ((c.tc : Thread Cert.MixIdeal.nD Cert.MixIdeal.τ).loc Cert.MixIdeal.main_v8_3)) (v4 : (c : Dev Cert.MixIdeal.nD) → Buf (Elt Ideal) ((c.tc : Thread Cert.MixIdeal.nD Cert.MixIdeal.τ).loc Cert.MixIdeal.main_v8_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v8_2) = v2 c
          ∧ r.2.mem ((c.tc : Thread Cert.MixIdeal.nD Cert.MixIdeal.τ).loc Cert.MixIdeal.main_v8_3) = v3 c
          ∧ r.2.mem ((c.tc : Thread Cert.MixIdeal.nD Cert.MixIdeal.τ).loc Cert.MixIdeal.main_v8_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v75) = v0 c
          ∧ r.2.mem ((c.tc : Thread Cert.MixRefIdeal.nD Cert.MixRefIdeal.τ).loc Cert.MixRefIdeal.main_v76) = v1 c
          ∧ r.2.mem ((c.tc : Thread Cert.MixRefIdeal.nD Cert.MixRefIdeal.τ).loc Cert.MixRefIdeal.main_v77) = v2 c
          ∧ r.2.mem ((c.tc : Thread Cert.MixRefIdeal.nD Cert.MixRefIdeal.τ).loc Cert.MixRefIdeal.main_v74) = v3 c
          ∧ r.2.mem ((c.tc : Thread Cert.MixRefIdeal.nD Cert.MixRefIdeal.τ).loc Cert.MixRefIdeal.main_v78) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def Claim : Prop :=
  ∃ (hLoss : Cert.Loss.Facts) (hLossIdeal : Cert.LossIdeal.Facts) (hLossRefIdeal : Cert.LossRefIdeal.Facts) (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hConv : Cert.Conv.Facts) (hConvIdeal : Cert.ConvIdeal.Facts) (hConvRefIdeal : Cert.ConvRefIdeal.Facts) (hMix : Cert.Mix.Facts) (hMixIdeal : Cert.MixIdeal.Facts) (hMixRefIdeal : Cert.MixRefIdeal.Facts) (hPre_loss_finite : Cert.Pre_loss_finite.Facts) (hPre_mla_finite : Cert.Pre_mla_finite.Facts) (hPre_ffn_finite : Cert.Pre_ffn_finite.Facts) (hPre_attn_finite : Cert.Pre_attn_finite.Facts) (hPre_conv_finite : Cert.Pre_conv_finite.Facts) (hPre_mix_finite : Cert.Pre_mix_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ preserves_Loss_LossIdeal
    ∧ preserves_Mla_MlaIdeal
    ∧ preserves_Ffn_FfnIdeal
    ∧ preserves_Attn_AttnIdeal
    ∧ preserves_Conv_ConvIdeal
    ∧ preserves_Mix_MixIdeal
    ∧ algebraic_LossIdeal_LossRefIdeal_pre_loss_finite (hLossIdeal := hLossIdeal) (hLossRefIdeal := hLossRefIdeal) (hPre_loss_finite := hPre_loss_finite)
    ∧ algebraic_MlaIdeal_MlaRefIdeal_pre_mla_finite (hMlaIdeal := hMlaIdeal) (hMlaRefIdeal := hMlaRefIdeal) (hPre_mla_finite := hPre_mla_finite)
    ∧ algebraic_FfnIdeal_FfnRefIdeal_pre_ffn_finite (hFfnIdeal := hFfnIdeal) (hFfnRefIdeal := hFfnRefIdeal) (hPre_ffn_finite := hPre_ffn_finite)
    ∧ algebraic_AttnIdeal_AttnRefIdeal_pre_attn_finite (hAttnIdeal := hAttnIdeal) (hAttnRefIdeal := hAttnRefIdeal) (hPre_attn_finite := hPre_attn_finite)
    ∧ algebraic_ConvIdeal_ConvRefIdeal_pre_conv_finite (hConvIdeal := hConvIdeal) (hConvRefIdeal := hConvRefIdeal) (hPre_conv_finite := hPre_conv_finite)
    ∧ algebraic_MixIdeal_MixRefIdeal_pre_mix_finite (hMixIdeal := hMixIdeal) (hMixRefIdeal := hMixRefIdeal) (hPre_mix_finite := hPre_mix_finite)
-- ==== Pre_attn_finite.lean ====
abbrev S8192x1024 : Shape := ⟨2, ![8192, 1024]⟩
abbrev S1024 : Shape := ⟨1, ![1024]⟩
abbrev S1024x2464 : Shape := ⟨2, ![1024, 2464]⟩
abbrev S8192x2464 : Shape := ⟨2, ![8192, 2464]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2464 : S_.BroadcastsInDim S1024x2464 (![] : Fin 0 → Fin S1024x2464.rank)
  reducesTo_S1024x2464_S_d0_1 : S1024x2464.ReducesTo [0, 1] S_
  bcast_S_S8192x2464 : S_.BroadcastsInDim S8192x2464 (![] : Fin 0 → Fin S8192x2464.rank)
  reducesTo_S8192x2464_S_d0_1 : S8192x2464.ReducesTo [0, 1] S_

variable [Facts]

def fn_part1 {F : FTy → Type} [FloatOps F] (main_v13 : IVec S_ 1) (main_v16 : IVec S8192x2464 1) : IVec S_ 1 :=
  let main_c_5 : IVec S_ 1 := constantI S_ 1 1#1
  let main_v17 : IVec S_ 1 := (fun x v => Host.reduce IntOp.andi x v reducesTo_S8192x2464_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x2464 .f32) (main_arg3 : FVec F S8192x2464 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2464 .f32 := Host.absf main_arg2
  let main_cst_2 : FVec F S_ .f32 := constant S_ .f32 0x7F800000#32
  let main_v10 : FVec F S1024x2464 .f32 := broadcastInDim S1024x2464 ![] bcast_S_S1024x2464 main_cst_2
  let main_v11 : IVec S1024x2464 1 := cmpf .olt main_v9 main_v10
  let main_c_3 : IVec S_ 1 := constantI S_ 1 1#1
  let main_v12 : IVec S_ 1 := (fun x v => Host.reduce IntOp.andi x v reducesTo_S1024x2464_S_d0_1 h_S_) main_v11 main_c_3
  let main_v13 : IVec S_ 1 := andi main_v8 main_v12
  let main_v14 : FVec F S8192x2464 .f32 := Host.absf main_arg3
  let main_cst_4 : FVec F S_ .f32 := constant S_ .f32 0x7F800000#32
  let main_v15 : FVec F S8192x2464 .f32 := broadcastInDim S8192x2464 ![] bcast_S_S8192x2464 main_cst_4
  let main_v16 : IVec S8192x2464 1 := cmpf .olt main_v14 main_v15
  fn_part1 (F := F) main_v13 main_v16
-- ==== Pre_conv_finite.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v13 : IVec S_ 1) (main_v16 : IVec S8192x2816 1) : IVec S_ 1 :=
  let main_c_5 : IVec S_ 1 := constantI S_ 1 1#1
  let main_v17 : IVec S_ 1 := (fun x v => Host.reduce IntOp.andi x v reducesTo_S8192x2816_S_d0_1 h_S_) main_v16 main_c_5
  let main_v18 : IVec S_ 1 := andi main_v13 main_v17
  main_v18

def fn {F : FTy → Type} [FloatOps F] (main_arg0 : FVec F S8192x5632 .f32) (main_arg1 : FVec F S3x5632 .f32) (main_arg2 : FVec F S5632 .f32) (main_arg3 : FVec F S8192x2816 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S5632 .f32 := Host.absf main_arg2
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : IVec S_ 1 := andi main_v8 main_v12
  let main_v14 : FVec F S8192x2816 .f32 := Host.absf main_arg3
  let main_cst_4 : FVec F S_ .f32 := constant S_ .f32 0x7F800000#32
  let main_v15 : FVec F S8192x2816 .f32 := broadcastInDim S8192x2816 ![] bcast_S_S8192x2816 main_cst_4
  let main_v16 : IVec S8192x2816 1 := cmpf .olt main_v14 main_v15
  fn_part1 (F := F) main_v13 main_v16
-- ==== Pre_ffn_finite.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_arg4 : FVec F S1024 .f32) (main_arg5 : FVec F S1024x5632 .f32) (main_arg6 : FVec F S8192x5632 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S8192x5632 .f32 := Host.absf main_arg6
  let main_cst_10 : FVec F S_ .f32 := constant S_ .f32 0x7F800000#32
  let main_v30 : FVec F S8192x5632 .f32 := broadcastInDim S8192x5632 ![] bcast_S_S8192x5632 main_cst_10
  let main_v31 : IVec S8192x5632 1 := cmpf .olt main_v29 main_v30
  let main_c_11 : IVec S_ 1 := constantI S_ 1 1#1
  let main_v32 : IVec S_ 1 := (fun x v => Host.reduce IntOp.andi x v reducesTo_S8192x5632_S_d0_1 h_S_) main_v31 main_c_11
  let main_v33 : IVec S_ 1 := andi main_v28 main_v32
  main_v33

def fn {F : FTy → Type} [FloatOps F] (main_arg0 : FVec F S8192x1024 .f32) (main_arg1 : FVec F S8192x512 .f32) (main_arg2 : FVec F S8192x512 .f32) (main_arg3 : FVec F S1024x1024 .f32) (main_arg4 : FVec F S1024 .f32) (main_arg5 : FVec F S1024x5632 .f32) (main_arg6 : FVec F S8192x5632 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Pre_loss_finite.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x2816 .f32) (main_arg1 : FVec F S2816x1024 .f32) (main_arg2 : FVec F S8192x1024 .f32) (main_arg3 : FVec F S8192x1024 .f32) (main_arg4 : FVec F S1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_mix_finite.lean ====
abbrev S8192x512 : Shape := ⟨2, ![8192, 512]⟩
abbrev S8192x2464 : Shape := ⟨2, ![8192, 2464]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x2464 : S_.BroadcastsInDim S8192x2464 (![] : Fin 0 → Fin S8192x2464.rank)
  reducesTo_S8192x2464_S_d0_1 : S8192x2464.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg5 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x512 .f32) (main_arg1 : FVec F S8192x2464 .f32) (main_arg2 : FVec F S8192x512 .f32) (main_arg3 : FVec F S512 .f32) (main_arg4 : FVec F S1024x1024 .f32) (main_arg5 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x2464 .f32 := Host.absf main_arg1
  let main_cst_0 : FVec F S_ .f32 := constant S_ .f32 0x7F800000#32
  let main_v5 : FVec F S8192x2464 .f32 := broadcastInDim S8192x2464 ![] bcast_S_S8192x2464 main_cst_0
  let main_v6 : IVec S8192x2464 1 := cmpf .olt main_v4 main_v5
  let main_c_1 : IVec S_ 1 := constantI S_ 1 1#1
  let main_v7 : IVec S_ 1 := (fun x v => Host.reduce IntOp.andi x v reducesTo_S8192x2464_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Pre_mla_finite.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x32 : S_.BroadcastsInDim S8192x32 (![] : Fin 0 → Fin S8192x32.rank)
  reducesTo_S8192x32_S_d0_1 : S8192x32.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8192x8x64 .f32) (main_arg5 : FVec F S8192x512 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) (main_arg5 : FVec F S8192x512 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_v13 main_v16
-- ==== Loss.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S1x128, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x128, .f32⟩
  | .hbm, ⟨76, _⟩ => ⟨S8192x1024, .bf16⟩
  | .hbm, ⟨77, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Mla.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S8192x8x96 : Shape := ⟨3, ![8192, 8, 96]⟩
abbrev S_ : Shape := ⟨0, ![]⟩
abbrev S8192x1x32 : Shape := ⟨3, ![8192, 1, 32]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x16x1x512 : Shape := ⟨4, ![8, 16, 1, 512]⟩
abbrev S8x8192x64 : Shape := ⟨3, ![8, 8192, 64]⟩
abbrev S8192x4x64 : Shape := ⟨3, ![8192, 4, 64]⟩
abbrev S8192x4x256 : Shape := ⟨3, ![8192, 4, 256]⟩
abbrev S8192x1024 : Shape := ⟨2, ![8192, 1024]⟩
abbrev S8192x8x128 : Shape := ⟨3, ![8192, 8, 128]⟩
abbrev S4x16x256x512 : Shape := ⟨4, ![4, 16, 256, 512]⟩
abbrev S8192x256 : Shape := ⟨2, ![8192, 256]⟩
abbrev S512x256 : Shape := ⟨2, ![512, 256]⟩
abbrev S8192x128 : Shape := ⟨2, ![8192, 128]⟩
abbrev S2x16x1x512 : Shape := ⟨4, ![2, 16, 1, 512]⟩
abbrev S1x16x256x512 : Shape := ⟨4, ![1, 16, 256, 512]⟩
abbrev S512x128 : Shape := ⟨2, ![512, 128]⟩
abbrev S16x256x512 : Shape := ⟨3, ![16, 256, 512]⟩
abbrev S512x512 : Shape := ⟨2, ![512, 512]⟩
abbrev S1x1x1x512 : Shape := ⟨4, ![1, 1, 1, 512]⟩
abbrev S1x512 : Shape := ⟨2, ![1, 512]⟩
abbrev S1x1x128x512 : Shape := ⟨4, ![1, 1, 128, 512]⟩
abbrev S128x512 : Shape := ⟨2, ![128, 512]⟩

abbrev nBuf : Space → Nat
  | .hbm => 67
  | .vmem => 18
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x512, .f32⟩
  | .hbm, ⟨6, _⟩ => ⟨S8192x8x96, .f32⟩
  | .hbm, ⟨7, _⟩ => ⟨S_, .f32⟩
  | .hbm, ⟨8, _⟩ => ⟨S8192x8x96, .f32⟩
  | .hbm, ⟨9, _⟩ => ⟨S8192x8x96, .f32⟩
  | .hbm, ⟨10, _⟩ => ⟨S8192x1x32, .f32⟩
  | .hbm, ⟨11, _⟩ => ⟨S8192x8x32, .f32⟩
  | .hbm, ⟨12, _⟩ => ⟨S8192x8x96, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x1, .f32⟩
  | .hbm, ⟨35, _⟩ => ⟨S8x8192x1, .f32⟩
  | .hbm, ⟨36, _⟩ => ⟨S8x16x1x512, .f32⟩
  | .hbm, ⟨37, _⟩ => ⟨S8x8192x8192, .f32⟩
  | .hbm, ⟨38, _⟩ => ⟨S8x8192x8192, .f32⟩
  | .hbm, ⟨39, _⟩ => ⟨S8x8192x64, .f32⟩
  | .hbm, ⟨40, _⟩ => ⟨S8192x8x64, .f32⟩
  | .hbm, ⟨41, _⟩ => ⟨S8x8192x64, .f32⟩
  | .hbm, ⟨42, _⟩ => ⟨S8x8192x64, .f32⟩
  | .hbm, ⟨43, _⟩ => ⟨S_, .f32⟩
  | .hbm, ⟨44, _⟩ => ⟨S8x8192, .f32⟩
  | .hbm, ⟨45, _⟩ => ⟨S8x16x1x512, .f32⟩
  | .hbm, ⟨46, _⟩ => ⟨S_, .f32⟩
  | .hbm, ⟨47, _⟩ => ⟨S8192x4x64, .f32⟩
  | .hbm, ⟨48, _⟩ => ⟨S8192x4x64, .f32⟩
  | .hbm, ⟨49, _⟩ => ⟨S8192x4x64, .f32⟩
  | .hbm, ⟨50, _⟩ => ⟨S8192x4x256, .f32⟩
  | .hbm, ⟨51, _⟩ => ⟨S8192x1024, .f32⟩
  | .hbm, ⟨52, _⟩ => ⟨S_, .i32⟩
  | .hbm, ⟨53, _⟩ => ⟨S_, .f32⟩
  | .hbm, ⟨54, _⟩ => ⟨S8192x8x128, .f32⟩
  | .hbm, ⟨55, _⟩ => ⟨S8192x1024, .f32⟩
  | .hbm, ⟨56, _⟩ => ⟨S8192x1024, .bf16⟩
  | .hbm, ⟨57, _⟩ => ⟨S_, .i32⟩
  | .hbm, ⟨58, _⟩ => ⟨S_, .f32⟩
  | .hbm, ⟨59, _⟩ => ⟨S8192x8x128, .f32⟩
  | .hbm, ⟨60, _⟩ => ⟨S8192x1024, .f32⟩
  | .hbm, ⟨61, _⟩ => ⟨S8192x1024, .bf16⟩
  | .hbm, ⟨62, _⟩ => ⟨S8192x1024, .bf16⟩
  | .hbm, ⟨63, _⟩ => ⟨S8192x512, .bf16⟩
  | .hbm, ⟨64, _⟩ => ⟨S4x16x256x512, .f32⟩
  | .hbm, ⟨65, _⟩ => ⟨S8192x1024, .f32⟩
  | .hbm, ⟨66, _⟩ => ⟨S8192x512, .bf16⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S8192x128, .bf16⟩
  | .local _ .vmem, ⟨7, _⟩ => ⟨S8192x128, .bf16⟩
  | .local _ .vmem, ⟨8, _⟩ => ⟨S2x16x1x512, .f32⟩
  | .local _ .vmem, ⟨9, _⟩ => ⟨S2x16x1x512, .f32⟩
  | .local _ .vmem, ⟨10, _⟩ => ⟨S2x16x1x512, .f32⟩
  | .local _ .vmem, ⟨11, _⟩ => ⟨S2x16x1x512, .f32⟩
  | .local _ .vmem, ⟨12, _⟩ => ⟨S1x16x256x512, .f32⟩
  | .local _ .vmem, ⟨13, _⟩ => ⟨S1x16x256x512, .f32⟩
  | .local _ .vmem, ⟨14, _⟩ => ⟨S512x256, .f32⟩
  | .local _ .vmem, ⟨15, _⟩ => ⟨S512x256, .f32⟩
  | .local _ .vmem, ⟨16, _⟩ => ⟨S512x128, .bf16⟩
  | .local _ .vmem, ⟨17, _⟩ => ⟨S512x128, .bf16⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call1_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_call2_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v23 : BitVec 32 := Scalar.muli arg1 c512_i32
  v23
def k0_off1 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v25 : Index := Scalar.indexCast v24
  let c0_4 : Index := 0#32
  ![v25.toNat, 0]
def k0_off2 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v31 : Index := Scalar.indexCast v24
  let c0_7 : Index := 0#32
  ![v31.toNat, 0]
def k0_off3 (i : grid0.Coords) : Fin 4 → Nat :=
  let c0_9 : Index := 0#32
  let arg1 : BitVec 32 := BitVec.ofNat 32 (i 1).val
  let v35 : Index := Scalar.indexCast arg1
  let c0_10 : Index := 0#32
  let c0_11 : Index := 0#32
  ![0, v35.toNat, 0, 0]
def k0_off4 (i : grid0.Coords) : Fin 4 → Nat :=
  let c0_19 : Index := 0#32
  let arg1 : BitVec 32 := BitVec.ofNat 32 (i 1).val
  let v59 : Index := Scalar.indexCast arg1
  let c0_20 : Index := 0#32
  let c0_21 : Index := 0#32
  ![0, v59.toNat, 0, 0]
def k0_off5 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v70 : Index := Scalar.indexCast v24
  let c128_28 : Index := 128#32
  ![v70.toNat, 128]
def k0_off6 (i : grid0.Coords) : Fin 4 → Nat :=
  let c1 : Index := 1#32
  let arg1 : BitVec 32 := BitVec.ofNat 32 (i 1).val
  let v74 : Index := Scalar.indexCast arg1
  let c0_30 : Index := 0#32
  let c0_31 : Index := 0#32
  ![1, v74.toNat, 0, 0]
def k0_off7 (i : grid0.Coords) : Fin 4 → Nat :=
  let c0_39 : Index := 0#32
  let arg1 : BitVec 32 := BitVec.ofNat 32 (i 1).val
  let v98 : Index := Scalar.indexCast arg1
  let c128_40 : Index := 128#32
  let c0_41 : Index := 0#32
  ![0, v98.toNat, 128, 0]
@[reducible] def k0_t1_loop (i : grid0.Coords) : Scf.Loop 32 :=
  let c0_i32_51 : BitVec 32 := 0#32
  let c15_i32 : BitVec 32 := 15#32
  let arg1 : BitVec 32 := BitVec.ofNat 32 (i 1).val
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_53 : BitVec 32 := 1#32
  ⟨c0_i32_51, v129, c1_i32_53⟩
def k0_mult2 (i : grid0.Coords) (k0_t1 : Fin (k0_t1_loop i).trips) : BitVec 32 :=
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c1_i32_53 : BitVec 32 := 1#32
  let arg11 : BitVec 32 := Scf.iv c0_i32_51 c1_i32_53 k0_t1
  let v147 : BitVec 32 := Scalar.muli c3_i32_67 arg11
  let v148 : BitVec 32 := Scalar.addi v146 v147
  let c0_i32_68 : BitVec 32 := 0#32
  let v149 : BitVec 32 := Scalar.addi v148 c0_i32_68
  let c512_i32_69 : BitVec 32 := 512#32
  let v150 : BitVec 32 := Scalar.muli v149 c512_i32_69
  v150
def k0_off8 (i : grid0.Coords) (k0_t1 : Fin (k0_t1_loop i).trips) (c0_i32_68 : BitVec 32) : Fin 2 → Nat :=
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c1_i32_53 : BitVec 32 := 1#32
  let arg11 : BitVec 32 := Scf.iv c0_i32_51 c1_i32_53 k0_t1
  let v147 : BitVec 32 := Scalar.muli c3_i32_67 arg11
  let v148 : BitVec 32 := Scalar.addi v146 v147
  let v149 : BitVec 32 := Scalar.addi v148 c0_i32_68
  let c512_i32_69 : BitVec 32 := 512#32
  let v150 : BitVec 32 := Scalar.muli v149 c512_i32_69
  let v151 : BitVec 32 := v150
  let v152 : Index := Scalar.indexCast v151
  let c0_70 : Index := 0#32
  ![v152.toNat, 0]
def k0_off9 (i : grid0.Coords) (k0_t1 : Fin (k0_t1_loop i).trips) (c0_i32_68 : BitVec 32) : Fin 2 → Nat :=
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c1_i32_53 : BitVec 32 := 1#32
  let arg11 : BitVec 32 := Scf.iv c0_i32_51 c1_i32_53 k0_t1
  let v147 : BitVec 32 := Scalar.muli c3_i32_67 arg11
  let v148 : BitVec 32 := Scalar.addi v146 v147
  let v149 : BitVec 32 := Scalar.addi v148 c0_i32_68
  let c512_i32_69 : BitVec 32 := 512#32
  let v150 : BitVec 32 := Scalar.muli v149 c512_i32_69
  let v151 : BitVec 32 := v150
  let v158 : Index := Scalar.indexCast v151
  let c0_73 : Index := 0#32
  ![v158.toNat, 0]
def k0_off10 (i : grid0.Coords) (k0_t1 : Fin (k0_t1_loop i).trips) (c0_i32_68 : BitVec 32) : Fin 4 → Nat :=
  let c0_75 : Index := 0#32
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c1_i32_53 : BitVec 32 := 1#32
  let arg11 : BitVec 32 := Scf.iv c0_i32_51 c1_i32_53 k0_t1
  let v147 : BitVec 32 := Scalar.muli c3_i32_67 arg11
  let v148 : BitVec 32 := Scalar.addi v146 v147
  let v149 : BitVec 32 := Scalar.addi v148 c0_i32_68
  let v162 : Index := Scalar.indexCast v149
  let c0_76 : Index := 0#32
  let c0_77 : Index := 0#32
  ![0, v162.toNat, 0, 0]
def k0_off11 (i : grid0.Coords) (k0_t1 : Fin (k0_t1_loop i).trips) (c0_i32_68 : BitVec 32) : Fin 4 → Nat :=
  let c0_84 : Index := 0#32
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c1_i32_53 : BitVec 32 := 1#32
  let arg11 : BitVec 32 := Scf.iv c0_i32_51 c1_i32_53 k0_t1
  let v147 : BitVec 32 := Scalar.muli c3_i32_67 arg11
  let v148 : BitVec 32 := Scalar.addi v146 v147
  let v149 : BitVec 32 := Scalar.addi v148 c0_i32_68
  let v183 : Index := Scalar.indexCast v149
  let c0_85 : Index := 0#32
  let c0_86 : Index := 0#32
  ![0, v183.toNat, 0, 0]
def k0_off12 (i : grid0.Coords) (k0_t1 : Fin (k0_t1_loop i).trips) (c0_i32_68 : BitVec 32) : Fin 2 → Nat :=
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c1_i32_53 : BitVec 32 := 1#32
  let arg11 : BitVec 32 := Scf.iv c0_i32_51 c1_i32_53 k0_t1
  let v147 : BitVec 32 := Scalar.muli c3_i32_67 arg11
  let v148 : BitVec 32 := Scalar.addi v146 v147
  let v149 : BitVec 32 := Scalar.addi v148 c0_i32_68
  let c512_i32_69 : BitVec 32 := 512#32
  let v150 : BitVec 32 := Scalar.muli v149 c512_i32_69
  let v151 : BitVec 32 := v150
  let v194 : Index := Scalar.indexCast v151
  let c128_93 : Index := 128#32
  ![v194.toNat, 128]
def k0_off13 (i : grid0.Coords) (k0_t1 : Fin (k0_t1_loop i).trips) (c0_i32_68 : BitVec 32) : Fin 4 → Nat :=
  let c1_95 : Index := 1#32
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c1_i32_53 : BitVec 32 := 1#32
  let arg11 : BitVec 32 := Scf.iv c0_i32_51 c1_i32_53 k0_t1
  let v147 : BitVec 32 := Scalar.muli c3_i32_67 arg11
  let v148 : BitVec 32 := Scalar.addi v146 v147
  let v149 : BitVec 32 := Scalar.addi v148 c0_i32_68
  let v198 : Index := Scalar.indexCast v149
  let c0_96 : Index := 0#32
  let c0_97 : Index := 0#32
  ![1, v198.toNat, 0, 0]
def k0_off14 (i : grid0.Coords) (k0_t1 : Fin (k0_t1_loop i).trips) (c0_i32_68 : BitVec 32) : Fin 4 → Nat :=
  let c0_104 : Index := 0#32
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c1_i32_53 : BitVec 32 := 1#32
  let arg11 : BitVec 32 := Scf.iv c0_i32_51 c1_i32_53 k0_t1
  let v147 : BitVec 32 := Scalar.muli c3_i32_67 arg11
  let v148 : BitVec 32 := Scalar.addi v146 v147
  let v149 : BitVec 32 := Scalar.addi v148 c0_i32_68
  let v219 : Index := Scalar.indexCast v149
  let c128_105 : Index := 128#32
  let c0_106 : Index := 0#32
  ![0, v219.toNat, 128, 0]
def k0_mult3 (i : grid0.Coords) (k0_t1 : Fin (k0_t1_loop i).trips) : BitVec 32 :=
  let arg1 : BitVec 32 := BitVec.ofNat 32 (i 1).val
  let c1_i32_111 : BitVec 32 := 1#32
  let v228 : BitVec 32 := Scalar.addi arg1 c1_i32_111
  let c3_i32_112 : BitVec 32 := 3#32
  let c0_i32_51 : BitVec 32 := 0#32
  let c1_i32_53 : BitVec 32 := 1#32
  let arg11 : BitVec 32 := Scf.iv c0_i32_51 c1_i32_53 k0_t1
  let v229 : BitVec 32 := Scalar.muli c3_i32_112 arg11
  let v230 : BitVec 32 := Scalar.addi v228 v229
  let c1_i32_113 : BitVec 32 := 1#32
  let v231 : BitVec 32 := Scalar.addi v230 c1_i32_113
  let c512_i32_114 : BitVec 32 := 512#32
  let v232 : BitVec 32 := Scalar.muli v231 c512_i32_114
  v232
def k0_mult4 (i : grid0.Coords) (k0_t1 : Fin (k0_t1_loop i).trips) : BitVec 32 :=
  let arg1 : BitVec 32 := BitVec.ofNat 32 (i 1).val
  let c1_i32_156 : BitVec 32 := 1#32
  let v310 : BitVec 32 := Scalar.addi arg1 c1_i32_156
  let c3_i32_157 : BitVec 32 := 3#32
  let c0_i32_51 : BitVec 32 := 0#32
  let c1_i32_53 : BitVec 32 := 1#32
  let arg11 : BitVec 32 := Scf.iv c0_i32_51 c1_i32_53 k0_t1
  let v311 : BitVec 32 := Scalar.muli c3_i32_157 arg11
  let v312 : BitVec 32 := Scalar.addi v310 v311
  let c2_i32 : BitVec 32 := 2#32
  let v313 : BitVec 32 := Scalar.addi v312 c2_i32
  let c512_i32_158 : BitVec 32 := 512#32
  let v314 : BitVec 32 := Scalar.muli v313 c512_i32_158
  v314
@[reducible] def k0_t2_loop (i : grid0.Coords) : Scf.Loop 32 :=
  let c0_i32_51 : BitVec 32 := 0#32
  let c15_i32 : BitVec 32 := 15#32
  let arg1 : BitVec 32 := BitVec.ofNat 32 (i 1).val
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let v126 : BitVec 32 := Scalar.addi c0_i32_51 v125
  let c1_i32_54 : BitVec 32 := 1#32
  ⟨v129, v126, c1_i32_54⟩
def k0_mult5 (i : grid0.Coords) (k0_t2 : Fin (k0_t2_loop i).trips) : BitVec 32 :=
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v147 : BitVec 32 := Scalar.muli c3_i32_67 arg11
  let v148 : BitVec 32 := Scalar.addi v146 v147
  let c0_i32_68 : BitVec 32 := 0#32
  let v149 : BitVec 32 := Scalar.addi v148 c0_i32_68
  let c512_i32_69 : BitVec 32 := 512#32
  let v150 : BitVec 32 := Scalar.muli v149 c512_i32_69
  v150
def k0_off15 (i : grid0.Coords) (k0_t2 : Fin (k0_t2_loop i).trips) (c0_i32_68 : BitVec 32) : Fin 2 → Nat :=
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v147 : BitVec 32 := Scalar.muli c3_i32_67 arg11
  let v148 : BitVec 32 := Scalar.addi v146 v147
  let v149 : BitVec 32 := Scalar.addi v148 c0_i32_68
  let c512_i32_69 : BitVec 32 := 512#32
  let v150 : BitVec 32 := Scalar.muli v149 c512_i32_69
  let v151 : BitVec 32 := v150
  let v152 : Index := Scalar.indexCast v151
  let c0_70 : Index := 0#32
  ![v152.toNat, 0]
def k0_off16 (i : grid0.Coords) (k0_t2 : Fin (k0_t2_loop i).trips) (c0_i32_68 : BitVec 32) : Fin 2 → Nat :=
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v147 : BitVec 32 := Scalar.muli c3_i32_67 arg11
  let v148 : BitVec 32 := Scalar.addi v146 v147
  let v149 : BitVec 32 := Scalar.addi v148 c0_i32_68
  let c512_i32_69 : BitVec 32 := 512#32
  let v150 : BitVec 32 := Scalar.muli v149 c512_i32_69
  let v151 : BitVec 32 := v150
  let v158 : Index := Scalar.indexCast v151
  let c0_73 : Index := 0#32
  ![v158.toNat, 0]
def k0_off17 (i : grid0.Coords) (k0_t2 : Fin (k0_t2_loop i).trips) (c0_i32_68 : BitVec 32) : Fin 4 → Nat :=
  let c0_75 : Index := 0#32
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v147 : BitVec 32 := Scalar.muli c3_i32_67 arg11
  let v148 : BitVec 32 := Scalar.addi v146 v147
  let v149 : BitVec 32 := Scalar.addi v148 c0_i32_68
  let v162 : Index := Scalar.indexCast v149
  let c0_76 : Index := 0#32
  let c0_77 : Index := 0#32
  ![0, v162.toNat, 0, 0]
def k0_off18 (i : grid0.Coords) (k0_t2 : Fin (k0_t2_loop i).trips) (c0_i32_68 : BitVec 32) : Fin 4 → Nat :=
  let c0_84 : Index := 0#32
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v147 : BitVec 32 := Scalar.muli c3_i32_67 arg11
  let v148 : BitVec 32 := Scalar.addi v146 v147
  let v149 : BitVec 32 := Scalar.addi v148 c0_i32_68
  let v183 : Index := Scalar.indexCast v149
  let c0_85 : Index := 0#32
  let c0_86 : Index := 0#32
  ![0, v183.toNat, 0, 0]
def k0_off19 (i : grid0.Coords) (k0_t2 : Fin (k0_t2_loop i).trips) (c0_i32_68 : BitVec 32) : Fin 2 → Nat :=
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v147 : BitVec 32 := Scalar.muli c3_i32_67 arg11
  let v148 : BitVec 32 := Scalar.addi v146 v147
  let v149 : BitVec 32 := Scalar.addi v148 c0_i32_68
  let c512_i32_69 : BitVec 32 := 512#32
  let v150 : BitVec 32 := Scalar.muli v149 c512_i32_69
  let v151 : BitVec 32 := v150
  let v194 : Index := Scalar.indexCast v151
  let c128_93 : Index := 128#32
  ![v194.toNat, 128]
def k0_off20 (i : grid0.Coords) (k0_t2 : Fin (k0_t2_loop i).trips) (c0_i32_68 : BitVec 32) : Fin 4 → Nat :=
  let c1_95 : Index := 1#32
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v147 : BitVec 32 := Scalar.muli c3_i32_67 arg11
  let v148 : BitVec 32 := Scalar.addi v146 v147
  let v149 : BitVec 32 := Scalar.addi v148 c0_i32_68
  let v198 : Index := Scalar.indexCast v149
  let c0_96 : Index := 0#32
  let c0_97 : Index := 0#32
  ![1, v198.toNat, 0, 0]
def k0_off21 (i : grid0.Coords) (k0_t2 : Fin (k0_t2_loop i).trips) (c0_i32_68 : BitVec 32) : Fin 4 → Nat :=
  let c0_104 : Index := 0#32
  let arg1 : BitVec 32 := BitVec.ofNat 32 (i 1).val
  let c1_i32_66 : BitVec 32 := 1#32
  let v146 : BitVec 32 := Scalar.addi arg1 c1_i32_66
  let c3_i32_67 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v147 : BitVec 32 := Scalar.muli c3_i32_67 arg11
  let v148 : BitVec 32 := Scalar.addi v146 v147
  let v149 : BitVec 32 := Scalar.addi v148 c0_i32_68
  let v219 : Index := Scalar.indexCast v149
  let c128_105 : Index := 128#32
  let c0_106 : Index := 0#32
  ![0, v219.toNat, 128, 0]
def k0_mult6 (i : grid0.Coords) (k0_t2 : Fin (k0_t2_loop i).trips) : BitVec 32 :=
  let arg1 : BitVec 32 := BitVec.ofNat 32 (i 1).val
  let c1_i32_111 : BitVec 32 := 1#32
  let v228 : BitVec 32 := Scalar.addi arg1 c1_i32_111
  let c3_i32_112 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v229 : BitVec 32 := Scalar.muli c3_i32_112 arg11
  let v230 : BitVec 32 := Scalar.addi v228 v229
  let c1_i32_113 : BitVec 32 := 1#32
  let v231 : BitVec 32 := Scalar.addi v230 c1_i32_113
  let c512_i32_114 : BitVec 32 := 512#32
  let v232 : BitVec 32 := Scalar.muli v231 c512_i32_114
  v232
def k0_mult7 (i : grid0.Coords) (k0_t2 : Fin (k0_t2_loop i).trips) : BitVec 32 :=
  let arg1 : BitVec 32 := BitVec.ofNat 32 (i 1).val
  let c1_i32_156 : BitVec 32 := 1#32
  let v310 : BitVec 32 := Scalar.addi arg1 c1_i32_156
  let c3_i32_157 : BitVec 32 := 3#32
  let c0_i32_51 : BitVec 32 := 0#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t2
  let v311 : BitVec 32 := Scalar.muli c3_i32_157 arg11
  let v312 : BitVec 32 := Scalar.addi v310 v311
  let c2_i32 : BitVec 32 := 2#32
  let v313 : BitVec 32 := Scalar.addi v312 c2_i32
  let c512_i32_158 : BitVec 32 := 512#32
  let v314 : BitVec 32 := Scalar.muli v313 c512_i32_158
  v314
@[reducible] def k0_t3_loop (i : grid0.Coords) : Scf.Loop 32 :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let c1_i32_58 : BitVec 32 := 1#32
  ⟨v134, v139, c1_i32_58⟩
def k0_mult8 (i : grid0.Coords) (k0_t3 : Fin (k0_t3_loop i).trips) : BitVec 32 :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c1_i32_58 : BitVec 32 := 1#32
  let arg11 : BitVec 32 := Scf.iv v134 c1_i32_58 k0_t3
  let c512_i32_66 : BitVec 32 := 512#32
  let v146 : BitVec 32 := Scalar.muli arg11 c512_i32_66
  v146
def k0_off22 (i : grid0.Coords) (k0_t3 : Fin (k0_t3_loop i).trips) : Fin 2 → Nat :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c1_i32_58 : BitVec 32 := 1#32
  let arg11 : BitVec 32 := Scf.iv v134 c1_i32_58 k0_t3
  let c512_i32_66 : BitVec 32 := 512#32
  let v146 : BitVec 32 := Scalar.muli arg11 c512_i32_66
  let v147 : BitVec 32 := v146
  let v148 : Index := Scalar.indexCast v147
  let c0_67 : Index := 0#32
  ![v148.toNat, 0]
def k0_off23 (i : grid0.Coords) (k0_t3 : Fin (k0_t3_loop i).trips) : Fin 2 → Nat :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c1_i32_58 : BitVec 32 := 1#32
  let arg11 : BitVec 32 := Scf.iv v134 c1_i32_58 k0_t3
  let c512_i32_66 : BitVec 32 := 512#32
  let v146 : BitVec 32 := Scalar.muli arg11 c512_i32_66
  let v147 : BitVec 32 := v146
  let v154 : Index := Scalar.indexCast v147
  let c0_70 : Index := 0#32
  ![v154.toNat, 0]
def k0_off24 (i : grid0.Coords) (k0_t3 : Fin (k0_t3_loop i).trips) : Fin 4 → Nat :=
  let c0_72 : Index := 0#32
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c1_i32_58 : BitVec 32 := 1#32
  let arg11 : BitVec 32 := Scf.iv v134 c1_i32_58 k0_t3
  let v158 : Index := Scalar.indexCast arg11
  let c0_73 : Index := 0#32
  let c0_74 : Index := 0#32
  ![0, v158.toNat, 0, 0]
def k0_off25 (i : grid0.Coords) (k0_t3 : Fin (k0_t3_loop i).trips) : Fin 4 → Nat :=
  let c0_81 : Index := 0#32
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c1_i32_58 : BitVec 32 := 1#32
  let arg11 : BitVec 32 := Scf.iv v134 c1_i32_58 k0_t3
  let v179 : Index := Scalar.indexCast arg11
  let c0_82 : Index := 0#32
  let c0_83 : Index := 0#32
  ![0, v179.toNat, 0, 0]
def k0_off26 (i : grid0.Coords) (k0_t3 : Fin (k0_t3_loop i).trips) : Fin 2 → Nat :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c1_i32_58 : BitVec 32 := 1#32
  let arg11 : BitVec 32 := Scf.iv v134 c1_i32_58 k0_t3
  let c512_i32_66 : BitVec 32 := 512#32
  let v146 : BitVec 32 := Scalar.muli arg11 c512_i32_66
  let v147 : BitVec 32 := v146
  let v190 : Index := Scalar.indexCast v147
  let c128_90 : Index := 128#32
  ![v190.toNat, 128]
def k0_off27 (i : grid0.Coords) (k0_t3 : Fin (k0_t3_loop i).trips) : Fin 4 → Nat :=
  let c1_92 : Index := 1#32
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c1_i32_58 : BitVec 32 := 1#32
  let arg11 : BitVec 32 := Scf.iv v134 c1_i32_58 k0_t3
  let v194 : Index := Scalar.indexCast arg11
  let c0_93 : Index := 0#32
  let c0_94 : Index := 0#32
  ![1, v194.toNat, 0, 0]
def k0_off28 (i : grid0.Coords) (k0_t3 : Fin (k0_t3_loop i).trips) : Fin 4 → Nat :=
  let c0_101 : Index := 0#32
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c1_i32_58 : BitVec 32 := 1#32
  let arg11 : BitVec 32 := Scf.iv v134 c1_i32_58 k0_t3
  let v215 : Index := Scalar.indexCast arg11
  let c128_102 : Index := 128#32
  let c0_103 : Index := 0#32
  ![0, v215.toNat, 128, 0]
@[reducible] def k0_t4_loop (i : grid0.Coords) : Scf.Loop 32 :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let v136 : BitVec 32 := Scalar.addi v134 v135
  let c1_i32_59 : BitVec 32 := 1#32
  ⟨v139, v136, c1_i32_59⟩
def k0_mult9 (i : grid0.Coords) (k0_t4 : Fin (k0_t4_loop i).trips) : BitVec 32 :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let c1_i32_59 : BitVec 32 := 1#32
  let arg11 : BitVec 32 := Scf.iv v139 c1_i32_59 k0_t4
  let c512_i32_66 : BitVec 32 := 512#32
  let v146 : BitVec 32 := Scalar.muli arg11 c512_i32_66
  v146
def k0_off29 (i : grid0.Coords) (k0_t4 : Fin (k0_t4_loop i).trips) : Fin 2 → Nat :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let c1_i32_59 : BitVec 32 := 1#32
  let arg11 : BitVec 32 := Scf.iv v139 c1_i32_59 k0_t4
  let c512_i32_66 : BitVec 32 := 512#32
  let v146 : BitVec 32 := Scalar.muli arg11 c512_i32_66
  let v147 : BitVec 32 := v146
  let v148 : Index := Scalar.indexCast v147
  let c0_67 : Index := 0#32
  ![v148.toNat, 0]
def k0_off30 (i : grid0.Coords) (k0_t4 : Fin (k0_t4_loop i).trips) : Fin 2 → Nat :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let c1_i32_59 : BitVec 32 := 1#32
  let arg11 : BitVec 32 := Scf.iv v139 c1_i32_59 k0_t4
  let c512_i32_66 : BitVec 32 := 512#32
  let v146 : BitVec 32 := Scalar.muli arg11 c512_i32_66
  let v147 : BitVec 32 := v146
  let v154 : Index := Scalar.indexCast v147
  let c0_70 : Index := 0#32
  ![v154.toNat, 0]
def k0_off31 (i : grid0.Coords) (k0_t4 : Fin (k0_t4_loop i).trips) : Fin 4 → Nat :=
  let c0_72 : Index := 0#32
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let c1_i32_59 : BitVec 32 := 1#32
  let arg11 : BitVec 32 := Scf.iv v139 c1_i32_59 k0_t4
  let v158 : Index := Scalar.indexCast arg11
  let c0_73 : Index := 0#32
  let c0_74 : Index := 0#32
  ![0, v158.toNat, 0, 0]
def k0_off32 (i : grid0.Coords) (k0_t4 : Fin (k0_t4_loop i).trips) : Fin 4 → Nat :=
  let c0_81 : Index := 0#32
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let c1_i32_59 : BitVec 32 := 1#32
  let arg11 : BitVec 32 := Scf.iv v139 c1_i32_59 k0_t4
  let v179 : Index := Scalar.indexCast arg11
  let c0_82 : Index := 0#32
  let c0_83 : Index := 0#32
  ![0, v179.toNat, 0, 0]
def k0_off33 (i : grid0.Coords) (k0_t4 : Fin (k0_t4_loop i).trips) : Fin 2 → Nat :=
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let c1_i32_59 : BitVec 32 := 1#32
  let arg11 : BitVec 32 := Scf.iv v139 c1_i32_59 k0_t4
  let c512_i32_66 : BitVec 32 := 512#32
  let v146 : BitVec 32 := Scalar.muli arg11 c512_i32_66
  let v147 : BitVec 32 := v146
  let v190 : Index := Scalar.indexCast v147
  let c128_90 : Index := 128#32
  ![v190.toNat, 128]
def k0_off34 (i : grid0.Coords) (k0_t4 : Fin (k0_t4_loop i).trips) : Fin 4 → Nat :=
  let c1_92 : Index := 1#32
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let c1_i32_59 : BitVec 32 := 1#32
  let arg11 : BitVec 32 := Scf.iv v139 c1_i32_59 k0_t4
  let v194 : Index := Scalar.indexCast arg11
  let c0_93 : Index := 0#32
  let c0_94 : Index := 0#32
  ![1, v194.toNat, 0, 0]
def k0_off35 (i : grid0.Coords) (k0_t4 : Fin (k0_t4_loop i).trips) : Fin 4 → Nat :=
  let c0_101 : Index := 0#32
  let arg1 : BitVec 32 := BitVec.ofNat 32 (i 1).val
  let c1_i32_55 : BitVec 32 := 1#32
  let v132 : BitVec 32 := Scalar.addi arg1 c1_i32_55
  let c3_i32_56 : BitVec 32 := 3#32
  let c15_i32 : BitVec 32 := 15#32
  let v107 : BitVec 32 := Scalar.subi c15_i32 arg1
  let c0_i32_46 : BitVec 32 := 0#32
  let v109 : BitVec 1 := Scalar.cmpi .sgt v107 c0_i32_46
  let v110 : BitVec 32 := Scalar.extui v109
  let c0_i32_47 : BitVec 32 := 0#32
  let v111 : BitVec 1 := Scalar.cmpi .slt v107 c0_i32_47
  let v112 : BitVec 32 := Scalar.extui v111
  let v113 : BitVec 32 := Scalar.subi v110 v112
  let c3_i32 : BitVec 32 := 3#32
  let c0_i32_48 : BitVec 32 := 0#32
  let v114 : BitVec 1 := Scalar.cmpi .sgt c3_i32 c0_i32_48
  let v115 : BitVec 32 := Scalar.extui v114
  let c0_i32_49 : BitVec 32 := 0#32
  let v116 : BitVec 1 := Scalar.cmpi .slt c3_i32 c0_i32_49
  let v117 : BitVec 32 := Scalar.extui v116
  let v118 : BitVec 32 := Scalar.subi v115 v117
  let v119 : BitVec 1 := Scalar.cmpi .ne v113 v118
  let v120 : BitVec 32 := Scalar.remsi v107 c3_i32
  let c0_i32_50 : BitVec 32 := 0#32
  let v121 : BitVec 1 := Scalar.cmpi .ne v120 c0_i32_50
  let v122 : BitVec 1 := Scalar.andi v119 v121
  let v108 : BitVec 32 := Scalar.divsi v107 c3_i32
  let c1_i32 : BitVec 32 := 1#32
  let v123 : BitVec 32 := Scalar.subi v108 c1_i32
  let v124 : BitVec 32 := Scalar.select v122 v123 v108
  let v133 : BitVec 32 := Scalar.muli c3_i32_56 v124
  let v134 : BitVec 32 := Scalar.addi v132 v133
  let c16_i32 : BitVec 32 := 16#32
  let v135 : BitVec 32 := Scalar.subi c16_i32 v134
  let c1_i32_57 : BitVec 32 := 1#32
  let v137 : BitVec 32 := Scalar.divsi v135 c1_i32_57
  let v138 : BitVec 32 := Scalar.muli v137 c1_i32_57
  let v139 : BitVec 32 := Scalar.addi v134 v138
  let c1_i32_59 : BitVec 32 := 1#32
  let arg11 : BitVec 32 := Scf.iv v139 c1_i32_59 k0_t4
  let v215 : Index := Scalar.indexCast arg11
  let c128_102 : Index := 128#32
  let c0_103 : Index := 0#32
  ![0, v215.toNat, 128, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x16x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlaRefIdeal.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S8192x8x96 : Shape := ⟨3, ![8192, 8, 96]⟩
abbrev S_ : Shape := ⟨0, ![]⟩
abbrev S8192x1x32 : Shape := ⟨3, ![8192, 1, 32]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S16x512x4x256 : Shape := ⟨4, ![16, 512, 4, 256]⟩
abbrev S4x16x256x512 : Shape := ⟨4, ![4, 16, 256, 512]⟩
abbrev S8192x1024 : Shape := ⟨2, ![8192, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x512, .f32⟩
  | .hbm, ⟨6, _⟩ => ⟨S8192x8x96, .f32⟩
  | .hbm, ⟨7, _⟩ => ⟨S_, .f32⟩
  | .hbm, ⟨8, _⟩ => ⟨S8192x8x96, .f32⟩
  | .hbm, ⟨9, _⟩ => ⟨S8192x8x96, .f32⟩
  | .hbm, ⟨10, _⟩ => ⟨S8192x1x32, .f32⟩
  | .hbm, ⟨11, _⟩ => ⟨S8192x8x32, .f32⟩
  | .hbm, ⟨12, _⟩ => ⟨S8192x8x96, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .i1⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .i1⟩
  | .hbm, ⟨41, _⟩ => ⟨S_, .f32⟩
  | .hbm, ⟨42, _⟩ => ⟨S8x8192, .f32⟩
  | .hbm, ⟨43, _⟩ => ⟨S8x8192, .i1⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S_, .f32⟩
  | .hbm, ⟨49, _⟩ => ⟨S8x8192, .f32⟩
  | .hbm, ⟨50, _⟩ => ⟨S8x8192, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x8192x1, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S8x64x8192, .f32⟩
  | .hbm, ⟨66, _⟩ => ⟨S8192x8x64, .f32⟩
  | .hbm, ⟨67, _⟩ => ⟨S8192x512, .f32⟩
  | .hbm, ⟨68, _⟩ => ⟨S8192x8x64, .f32⟩
  | .hbm, ⟨69, _⟩ => ⟨S8x64x8192, .f32⟩
  | .hbm, ⟨70, _⟩ => ⟨S8x8192x8192, .f32⟩
  | .hbm, ⟨71, _⟩ => ⟨S8x64x8192, .f32⟩
  | .hbm, ⟨72, _⟩ => ⟨S8192x8x64, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x1, .f32⟩
  | .hbm, ⟨79, _⟩ => ⟨S8x8192x1, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192x8192, .f32⟩
  | .hbm, ⟨89, _⟩ => ⟨S8x8192x8192, .f32⟩
  | .hbm, ⟨90, _⟩ => ⟨S8x8192x96, .f32⟩
  | .hbm, ⟨91, _⟩ => ⟨S8192x8x96, .f32⟩
  | .hbm, ⟨92, _⟩ => ⟨S8x8192x96, .f32⟩
  | .hbm, ⟨93, _⟩ => ⟨S8192x8x96, .f32⟩
  | .hbm, ⟨94, _⟩ => ⟨S_, .i32⟩
  | .hbm, ⟨95, _⟩ => ⟨S_, .f32⟩
  | .hbm, ⟨96, _⟩ => ⟨S8192x8x128, .f32⟩
  | .hbm, ⟨97, _⟩ => ⟨S_, .i32⟩
  | .hbm, ⟨98, _⟩ => ⟨S_, .f32⟩
  | .hbm, ⟨99, _⟩ => ⟨S8192x8x128, .f32⟩
  | .hbm, ⟨100, _⟩ => ⟨S16x512x4x256, .f32⟩
  | .hbm, ⟨101, _⟩ => ⟨S4x16x256x512, .f32⟩
  | .hbm, ⟨102, _⟩ => ⟨S8192x1024, .f32⟩
  | .hbm, ⟨103, _⟩ => ⟨S8192x512, .f32⟩
  | .hbm, ⟨104, _⟩ => ⟨S8192x512, .bf16⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c : Ref sig .tc := ⟨.hbm, 94, rfl⟩
abbrev main_call2_v0 : Ref sig .tc := ⟨.hbm, 95, rfl⟩
abbrev main_v67 : Ref sig .tc := ⟨.hbm, 96, rfl⟩
abbrev main_c_13 : Ref sig .tc := ⟨.hbm, 97, rfl⟩
abbrev main_call3_v0 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== Ffn.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1024x5632 : Shape := ⟨2, ![1024, 5632]⟩
abbrev S8192x5632 : Shape := ⟨2, ![8192, 5632]⟩
abbrev S8192x2816 : Shape := ⟨2, ![8192, 2816]⟩
abbrev S8192x1408 : Shape := ⟨2, ![8192, 1408]⟩
abbrev S1024x2816 : Shape := ⟨2, ![1024, 2816]⟩
abbrev S1024x1408 : Shape := ⟨2, ![1024, 1408]⟩
abbrev S5632x1024 : Shape := ⟨2, ![5632, 1024]⟩
abbrev S1x1024 : Shape := ⟨2, ![1, 1024]⟩
abbrev S256x5632 : Shape := ⟨2, ![256, 5632]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 34
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S8192x5632, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x2816, .f32⟩
  | .hbm, ⟨12, _⟩ => ⟨S8192x2816, .f32⟩
  | .hbm, ⟨13, _⟩ => ⟨S8192x1408, .f32⟩
  | .hbm, ⟨14, _⟩ => ⟨S8192x1408, .f32⟩
  | .hbm, ⟨15, _⟩ => ⟨S8192x1408, .f32⟩
  | .hbm, ⟨16, _⟩ => ⟨S8192x1408, .f32⟩
  | .hbm, ⟨17, _⟩ => ⟨S8192x5632, .f32⟩
  | .hbm, ⟨18, _⟩ => ⟨S8192x5632, .bf16⟩
  | .hbm, ⟨19, _⟩ => ⟨S1024x2816, .f32⟩
  | .hbm, ⟨20, _⟩ => ⟨S1024x2816, .f32⟩
  | .hbm, ⟨21, _⟩ => ⟨S1024x1408, .f32⟩
  | .hbm, ⟨22, _⟩ => ⟨S1024x1408, .f32⟩
  | .hbm, ⟨23, _⟩ => ⟨S1024x1408, .f32⟩
  | .hbm, ⟨24, _⟩ => ⟨S1024x1408, .f32⟩
  | .hbm, ⟨25, _⟩ => ⟨S1024x5632, .f32⟩
  | .hbm, ⟨26, _⟩ => ⟨S5632x1024, .f32⟩
  | .hbm, ⟨27, _⟩ => ⟨S5632x1024, .bf16⟩
  | .hbm, ⟨28, _⟩ => ⟨S8192x512, .bf16⟩
  | .hbm, ⟨29, _⟩ => ⟨S8192x512, .bf16⟩
  | .hbm, ⟨30, _⟩ => ⟨S1x1024, .f32⟩
  | .hbm, ⟨31, _⟩ => ⟨S8192x1024, .f32⟩
  | .hbm, ⟨32, _⟩ => ⟨S1x1024, .f32⟩
  | .hbm, ⟨33, _⟩ => ⟨S1024x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRefIdeal.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S8192x5632, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x5632, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1024x1024, .f32⟩
  | .hbm, ⟨61, _⟩ => ⟨S1024x1024, .f32⟩
  | .hbm, ⟨62, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Attn.lean ====
abbrev S8192x1024 : Shape := ⟨2, ![8192, 1024]⟩
abbrev S1024 : Shape := ⟨1, ![1024]⟩
abbrev S1024x2464 : Shape := ⟨2, ![1024, 2464]⟩
abbrev S8192x2464 : Shape := ⟨2, ![8192, 2464]⟩
abbrev S8192x2432 : Shape := ⟨2, ![8192, 2432]⟩
abbrev S_ : Shape := ⟨0, ![]⟩
abbrev S8192x64 : Shape := ⟨2, ![8192, 64]⟩
abbrev S8192x32 : Shape := ⟨2, ![8192, 32]⟩
abbrev S8192x2560 : Shape := ⟨2, ![8192, 2560]⟩
abbrev S1024x2432 : Shape := ⟨2, ![1024, 2432]⟩
abbrev S1024x64 : Shape := ⟨2, ![1024, 64]⟩
abbrev S1024x32 : Shape := ⟨2, ![1024, 32]⟩
abbrev S1024x2560 : Shape := ⟨2, ![1024, 2560]⟩
abbrev S2560x1024 : Shape := ⟨2, ![2560, 1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩

abbrev nBuf : Space → Nat
  | .hbm => 25
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2464, .f32⟩
  | .hbm, ⟨3, _⟩ => ⟨S8192x2464, .f32⟩
  | .hbm, ⟨4, _⟩ => ⟨S8192x1024, .f32⟩
  | .hbm, ⟨5, _⟩ => ⟨S8192x2432, .f32⟩
  | .hbm, ⟨6, _⟩ => ⟨S_, .f32⟩
  | .hbm, ⟨7, _⟩ => ⟨S8192x64, .f32⟩
  | .hbm, ⟨8, _⟩ => ⟨S8192x32, .f32⟩
  | .hbm, ⟨9, _⟩ => ⟨S_, .f32⟩
  | .hbm, ⟨10, _⟩ => ⟨S8192x32, .f32⟩
  | .hbm, ⟨11, _⟩ => ⟨S8192x2560, .f32⟩
  | .hbm, ⟨12, _⟩ => ⟨S8192x2560, .bf16⟩
  | .hbm, ⟨13, _⟩ => ⟨S1024x2432, .f32⟩
  | .hbm, ⟨14, _⟩ => ⟨S_, .f32⟩
  | .hbm, ⟨15, _⟩ => ⟨S1024x64, .f32⟩
  | .hbm, ⟨16, _⟩ => ⟨S1024x32, .f32⟩
  | .hbm, ⟨17, _⟩ => ⟨S_, .f32⟩
  | .hbm, ⟨18, _⟩ => ⟨S1024x32, .f32⟩
  | .hbm, ⟨19, _⟩ => ⟨S1024x2560, .f32⟩
  | .hbm, ⟨20, _⟩ => ⟨S2560x1024, .f32⟩
  | .hbm, ⟨21, _⟩ => ⟨S2560x1024, .bf16⟩
  | .hbm, ⟨22, _⟩ => ⟨S1x1024, .f32⟩
  | .hbm, ⟨23, _⟩ => ⟨S8192x1024, .f32⟩
  | .hbm, ⟨24, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S8192x1024 : Shape := ⟨2, ![8192, 1024]⟩
abbrev S1024 : Shape := ⟨1, ![1024]⟩
abbrev S1024x2464 : Shape := ⟨2, ![1024, 2464]⟩
abbrev S8192x2464 : Shape := ⟨2, ![8192, 2464]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2464, .f32⟩
  | .hbm, ⟨3, _⟩ => ⟨S8192x2464, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2464, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Conv.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S8192x1408 : Shape := ⟨2, ![8192, 1408]⟩
abbrev S3x2816 : Shape := ⟨2, ![3, 2816]⟩
abbrev S3x1408 : Shape := ⟨2, ![3, 1408]⟩
abbrev S2816 : Shape := ⟨1, ![2816]⟩
abbrev S1408 : Shape := ⟨1, ![1408]⟩
abbrev S1x5632 : Shape := ⟨2, ![1, 5632]⟩
abbrev S512x2816 : Shape := ⟨2, ![512, 2816]⟩
abbrev S8x2816 : Shape := ⟨2, ![8, 2816]⟩
abbrev S512x1408 : Shape := ⟨2, ![512, 1408]⟩
abbrev S8x1408 : Shape := ⟨2, ![8, 1408]⟩
abbrev S1x2816 : Shape := ⟨2, ![1, 2816]⟩
abbrev S504x2816 : Shape := ⟨2, ![504, 2816]⟩

abbrev nBuf : Space → Nat
  | .hbm => 31
  | .vmem => 24
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x5632, .f32⟩
  | .hbm, ⟨11, _⟩ => ⟨S3x2816, .f32⟩
  | .hbm, ⟨12, _⟩ => ⟨S3x2816, .f32⟩
  | .hbm, ⟨13, _⟩ => ⟨S3x1408, .f32⟩
  | .hbm, ⟨14, _⟩ => ⟨S3x1408, .f32⟩
  | .hbm, ⟨15, _⟩ => ⟨S3x1408, .f32⟩
  | .hbm, ⟨16, _⟩ => ⟨S3x1408, .f32⟩
  | .hbm, ⟨17, _⟩ => ⟨S3x5632, .f32⟩
  | .hbm, ⟨18, _⟩ => ⟨S2816, .f32⟩
  | .hbm, ⟨19, _⟩ => ⟨S2816, .f32⟩
  | .hbm, ⟨20, _⟩ => ⟨S1408, .f32⟩
  | .hbm, ⟨21, _⟩ => ⟨S1408, .f32⟩
  | .hbm, ⟨22, _⟩ => ⟨S1408, .f32⟩
  | .hbm, ⟨23, _⟩ => ⟨S1408, .f32⟩
  | .hbm, ⟨24, _⟩ => ⟨S5632, .f32⟩
  | .hbm, ⟨25, _⟩ => ⟨S1x5632, .f32⟩
  | .hbm, ⟨26, _⟩ => ⟨S8192x5632, .bf16⟩
  | .hbm, ⟨27, _⟩ => ⟨S1x5632, .f32⟩
  | .hbm, ⟨28, _⟩ => ⟨S1x5632, .f32⟩
  | .hbm, ⟨29, _⟩ => ⟨S1x5632, .f32⟩
  | .hbm, ⟨30, _⟩ => ⟨S1x5632, .f32⟩
  | .local _ .vmem, ⟨0, _⟩ => ⟨S512x2816, .f32⟩
  | .local _ .vmem, ⟨1, _⟩ => ⟨S512x2816, .f32⟩
  | .local _ .vmem, ⟨2, _⟩ => ⟨S8x2816, .f32⟩
  | .local _ .vmem, ⟨3, _⟩ => ⟨S8x2816, .f32⟩
  | .local _ .vmem, ⟨4, _⟩ => ⟨S8x2816, .f32⟩
  | .local _ .vmem, ⟨5, _⟩ => ⟨S8x2816, .f32⟩
  | .local _ .vmem, ⟨6, _⟩ => ⟨S512x1408, .f32⟩
  | .local _ .vmem, ⟨7, _⟩ => ⟨S512x1408, .f32⟩
  | .local _ .vmem, ⟨8, _⟩ => ⟨S8x1408, .f32⟩
  | .local _ .vmem, ⟨9, _⟩ => ⟨S8x1408, .f32⟩
  | .local _ .vmem, ⟨10, _⟩ => ⟨S3x2816, .f32⟩
  | .local _ .vmem, ⟨11, _⟩ => ⟨S3x2816, .f32⟩
  | .local _ .vmem, ⟨12, _⟩ => ⟨S1x2816, .f32⟩
  | .local _ .vmem, ⟨13, _⟩ => ⟨S1x2816, .f32⟩
  | .local _ .vmem, ⟨14, _⟩ => ⟨S512x2816, .bf16⟩
  | .local _ .vmem, ⟨15, _⟩ => ⟨S512x2816, .bf16⟩
  | .local _ .vmem, ⟨16, _⟩ => ⟨S1x2816, .f32⟩
  | .local _ .vmem, ⟨17, _⟩ => ⟨S1x2816, .f32⟩
  | .local _ .vmem, ⟨18, _⟩ => ⟨S1x2816, .f32⟩
  | .local _ .vmem, ⟨19, _⟩ => ⟨S1x2816, .f32⟩
  | .local _ .vmem, ⟨20, _⟩ => ⟨S1x2816, .f32⟩
  | .local _ .vmem, ⟨21, _⟩ => ⟨S1x2816, .f32⟩
  | .local _ .vmem, ⟨22, _⟩ => ⟨S1x2816, .f32⟩
  | .local _ .vmem, ⟨23, _⟩ => ⟨S1x2816, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22_0 : Ref sig .tc := ⟨.hbm, 26, rfl⟩
abbrev main_v22_1 : Ref sig .tc := ⟨.hbm, 27, rfl⟩
abbrev main_v22_2 : Ref sig .tc := ⟨.hbm, 28, rfl⟩
abbrev main_v22_3 : Ref sig .tc := ⟨.hbm, 29, rfl⟩
abbrev main_v22_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ConvRefIdeal.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S3x2x2x1408 : Shape := ⟨4, ![3, 2, 2, 1408]⟩
abbrev S8192x2x2x1408 : Shape := ⟨4, ![8192, 2, 2, 1408]⟩
abbrev S1x2x2x1408 : Shape := ⟨4, ![1, 2, 2, 1408]⟩

abbrev nBuf : Space → Nat
  | .hbm => 125
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S8192x2816, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S_, .f32⟩
  | .hbm, ⟨8, _⟩ => ⟨S2x5632, .f32⟩
  | .hbm, ⟨9, _⟩ => ⟨S1x5632, .f32⟩
  | .hbm, ⟨10, _⟩ => ⟨S5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S5632, .f32⟩
  | .hbm, ⟨20, _⟩ => ⟨S8192x5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S5632, .f32⟩
  | .hbm, ⟨27, _⟩ => ⟨S8192x5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S1x5632, .f32⟩
  | .hbm, ⟨33, _⟩ => ⟨S8192x5632, .f32⟩
  | .hbm, ⟨34, _⟩ => ⟨S8192x5632, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x5632, .f32⟩
  | .hbm, ⟨59, _⟩ => ⟨S_, .f32⟩
  | .hbm, ⟨60, _⟩ => ⟨S8192x5632, .f32⟩
  | .hbm, ⟨61, _⟩ => ⟨S8192x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S5632, .f32⟩
  | .hbm, ⟨67, _⟩ => ⟨S8192x5632, .f32⟩
  | .hbm, ⟨68, _⟩ => ⟨S8192x5632, .f32⟩
  | .hbm, ⟨69, _⟩ => ⟨S8192x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S_, .f32⟩
  | .hbm, ⟨74, _⟩ => ⟨S5632, .f32⟩
  | .hbm, ⟨75, _⟩ => ⟨S_, .f32⟩
  | .hbm, ⟨76, _⟩ => ⟨S8194x5632, .f32⟩
  | .hbm, ⟨77, _⟩ => ⟨S1x5632, .f32⟩
  | .hbm, ⟨78, _⟩ => ⟨S_, .f32⟩
  | .hbm, ⟨79, _⟩ => ⟨S3x5632, .f32⟩
  | .hbm, ⟨80, _⟩ => ⟨S8192x5632, .f32⟩
  | .hbm, ⟨81, _⟩ => ⟨S8192x5632, .f32⟩
  | .hbm, ⟨82, _⟩ => ⟨S8192x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S_, .f32⟩
  | .hbm, ⟨87, _⟩ => ⟨S5632, .f32⟩
  | .hbm, ⟨88, _⟩ => ⟨S_, .f32⟩
  | .hbm, ⟨89, _⟩ => ⟨S8194x5632, .f32⟩
  | .hbm, ⟨90, _⟩ => ⟨S8194x5632, .f32⟩
  | .hbm, ⟨91, _⟩ => ⟨S1x5632, .f32⟩
  | .hbm, ⟨92, _⟩ => ⟨S_, .f32⟩
  | .hbm, ⟨93, _⟩ => ⟨S3x5632, .f32⟩
  | .hbm, ⟨94, _⟩ => ⟨S3x5632, .f32⟩
  | .hbm, ⟨95, _⟩ => ⟨S8192x5632, .f32⟩
  | .hbm, ⟨96, _⟩ => ⟨S8192x5632, .f32⟩
  | .hbm, ⟨97, _⟩ => ⟨S8192x5632, .f32⟩
  | .hbm, ⟨98, _⟩ => ⟨S_, .f32⟩
  | .hbm, ⟨99, _⟩ => ⟨S5632, .f32⟩
  | .hbm, ⟨100, _⟩ => ⟨S1x5632, .f32⟩
  | .hbm, ⟨101, _⟩ => ⟨S_, .f32⟩
  | .hbm, ⟨102, _⟩ => ⟨S5632, .f32⟩
  | .hbm, ⟨103, _⟩ => ⟨S_, .f32⟩
  | .hbm, ⟨104, _⟩ => ⟨S8194x5632, .f32⟩
  | .hbm, ⟨105, _⟩ => ⟨S8194x5632, .f32⟩
  | .hbm, ⟨106, _⟩ => ⟨S1x5632, .f32⟩
  | .hbm, ⟨107, _⟩ => ⟨S_, .f32⟩
  | .hbm, ⟨108, _⟩ => ⟨S3x5632, .f32⟩
  | .hbm, ⟨109, _⟩ => ⟨S3x5632, .f32⟩
  | .hbm, ⟨110, _⟩ => ⟨S2x5632, .f32⟩
  | .hbm, ⟨111, _⟩ => ⟨S8192x5632, .f32⟩
  | .hbm, ⟨112, _⟩ => ⟨S3x2x2x1408, .f32⟩
  | .hbm, ⟨113, _⟩ => ⟨S3x2x2x1408, .f32⟩
  | .hbm, ⟨114, _⟩ => ⟨S3x5632, .f32⟩
  | .hbm, ⟨115, _⟩ => ⟨S8192x2x2x1408, .f32⟩
  | .hbm, ⟨116, _⟩ => ⟨S8192x2x2x1408, .f32⟩
  | .hbm, ⟨117, _⟩ => ⟨S8192x5632, .f32⟩
  | .hbm, ⟨118, _⟩ => ⟨S8192x5632, .bf16⟩
  | .hbm, ⟨119, _⟩ => ⟨S1x5632, .f32⟩
  | .hbm, ⟨120, _⟩ => ⟨S1x5632, .f32⟩
  | .hbm, ⟨121, _⟩ => ⟨S1x5632, .f32⟩
  | .hbm, ⟨122, _⟩ => ⟨S1x2x2x1408, .f32⟩
  | .hbm, ⟨123, _⟩ => ⟨S1x2x2x1408, .f32⟩
  | .hbm, ⟨124, _⟩ => ⟨S1x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_17 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]
-- ==== Mix.lean ====
abbrev S8192x512 : Shape := ⟨2, ![8192, 512]⟩
abbrev S8192x2464 : Shape := ⟨2, ![8192, 2464]⟩
abbrev S512 : Shape := ⟨1, ![512]⟩
abbrev S1024x1024 : Shape := ⟨2, ![1024, 1024]⟩
abbrev S8192x1024 : Shape := ⟨2, ![8192, 1024]⟩
abbrev S8192x2432 : Shape := ⟨2, ![8192, 2432]⟩
abbrev S_ : Shape := ⟨0, ![]⟩
abbrev S8192x64 : Shape := ⟨2, ![8192, 64]⟩
abbrev S8192x32 : Shape := ⟨2, ![8192, 32]⟩
abbrev S8192x2560 : Shape := ⟨2, ![8192, 2560]⟩
abbrev S1x512 : Shape := ⟨2, ![1, 512]⟩
abbrev S8x8192 : Shape := ⟨2, ![8, 8192]⟩
abbrev S512x1024 : Shape := ⟨2, ![512, 1024]⟩
abbrev S512x512 : Shape := ⟨2, ![512, 512]⟩
abbrev S8x512 : Shape := ⟨2, ![8, 512]⟩
abbrev S512x128 : Shape := ⟨2, ![512, 128]⟩
abbrev S1x128 : Shape := ⟨2, ![1, 128]⟩
abbrev S512x1 : Shape := ⟨2, ![512, 1]⟩
abbrev S128 : Shape := ⟨1, ![128]⟩
abbrev S128x512 : Shape := ⟨2, ![128, 512]⟩

abbrev nBuf : Space → Nat
  | .hbm => 21
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x2464, .f32⟩
  | .hbm, ⟨2, _⟩ => ⟨S8192x512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S1024x1024, .bf16⟩
  | .hbm, ⟨7, _⟩ => ⟨S8192x2432, .f32⟩
  | .hbm, ⟨8, _⟩ => ⟨S_, .f32⟩
  | .hbm, ⟨9, _⟩ => ⟨S8192x64, .f32⟩
  | .hbm, ⟨10, _⟩ => ⟨S8192x32, .f32⟩
  | .hbm, ⟨11, _⟩ => ⟨S_, .f32⟩
  | .hbm, ⟨12, _⟩ => ⟨S8192x32, .f32⟩
  | .hbm, ⟨13, _⟩ => ⟨S8192x2560, .f32⟩
  | .hbm, ⟨14, _⟩ => ⟨S8192x512, .bf16⟩
  | .hbm, ⟨15, _⟩ => ⟨S1x512, .f32⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8x8192, .f32⟩
  | .hbm, ⟨20, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S8x512, .f32⟩
  | .local _ .vmem, ⟨17, _⟩ => ⟨S8x512, .f32⟩
  | .local _ .vmem, ⟨18, _⟩ => ⟨S1x512, .f32⟩
  | .local _ .vmem, ⟨19, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixRefIdeal.lean ====
abbrev S8192x512 : Shape := ⟨2, ![8192, 512]⟩
abbrev S8192x2464 : Shape := ⟨2, ![8192, 2464]⟩
abbrev S512 : Shape := ⟨1, ![512]⟩
abbrev S1024x1024 : Shape := ⟨2, ![1024, 1024]⟩
abbrev S8192x1024 : Shape := ⟨2, ![8192, 1024]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x512 : Shape := ⟨2, ![1, 512]⟩
abbrev S8x8192 : Shape := ⟨2, ![8, 8192]⟩

abbrev nBuf : Space → Nat
  | .hbm => 117
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2464, .f32⟩
  | .hbm, ⟨2, _⟩ => ⟨S8192x512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S8192x8x64, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S8192x8x64, .f32⟩
  | .hbm, ⟨15, _⟩ => ⟨S8192x8x64, .f32⟩
  | .hbm, ⟨16, _⟩ => ⟨S8192x8x64, .f32⟩
  | .hbm, ⟨17, _⟩ => ⟨S_, .f32⟩
  | .hbm, ⟨18, _⟩ => ⟨S8192x8x64, .f32⟩
  | .hbm, ⟨19, _⟩ => ⟨S8192x8x64, .f32⟩
  | .hbm, ⟨20, _⟩ => ⟨S_, .f32⟩
  | .hbm, ⟨21, _⟩ => ⟨S8192x8, .f32⟩
  | .hbm, ⟨22, _⟩ => ⟨S8192x8x1, .f32⟩
  | .hbm, ⟨23, _⟩ => ⟨S_, .f32⟩
  | .hbm, ⟨24, _⟩ => ⟨S8192x8x1, .f32⟩
  | .hbm, ⟨25, _⟩ => ⟨S8192x8x1, .f32⟩
  | .hbm, ⟨26, _⟩ => ⟨S8192x8x64, .f32⟩
  | .hbm, ⟨27, _⟩ => ⟨S8192x8x64, .f32⟩
  | .hbm, ⟨28, _⟩ => ⟨S_, .f32⟩
  | .hbm, ⟨29, _⟩ => ⟨S8192x8x1, .f32⟩
  | .hbm, ⟨30, _⟩ => ⟨S8192x8x1, .f32⟩
  | .hbm, ⟨31, _⟩ => ⟨S8192x8x1, .f32⟩
  | .hbm, ⟨32, _⟩ => ⟨S8192x8x1, .f32⟩
  | .hbm, ⟨33, _⟩ => ⟨S_, .f32⟩
  | .hbm, ⟨34, _⟩ => ⟨S8192x8x1, .f32⟩
  | .hbm, ⟨35, _⟩ => ⟨S8192x8x1, .f32⟩
  | .hbm, ⟨36, _⟩ => ⟨S8192x8x64, .f32⟩
  | .hbm, ⟨37, _⟩ => ⟨S8192x8x64, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S512, .f32⟩
  | .hbm, ⟨70, _⟩ => ⟨S1x512, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S512, .f32⟩
  | .hbm, ⟨75, _⟩ => ⟨S8192x8x64, .f32⟩
  | .hbm, ⟨76, _⟩ => ⟨S8192x8x64, .f32⟩
  | .hbm, ⟨77, _⟩ => ⟨S_, .f32⟩
  | .hbm, ⟨78, _⟩ => ⟨S8192x8, .f32⟩
  | .hbm, ⟨79, _⟩ => ⟨S8192x8x1, .f32⟩
  | .hbm, ⟨80, _⟩ => ⟨S8192x8x64, .f32⟩
  | .hbm, ⟨81, _⟩ => ⟨S8192x8x64, .f32⟩
  | .hbm, ⟨82, _⟩ => ⟨S8192x8x1, .f32⟩
  | .hbm, ⟨83, _⟩ => ⟨S8192x8x64, .f32⟩
  | .hbm, ⟨84, _⟩ => ⟨S_, .f32⟩
  | .hbm, ⟨85, _⟩ => ⟨S8192x8, .f32⟩
  | .hbm, ⟨86, _⟩ => ⟨S8192x8x1, .f32⟩
  | .hbm, ⟨87, _⟩ => ⟨S_, .f32⟩
  | .hbm, ⟨88, _⟩ => ⟨S8192x8x1, .f32⟩
  | .hbm, ⟨89, _⟩ => ⟨S8192x8x1, .f32⟩
  | .hbm, ⟨90, _⟩ => ⟨S_, .f32⟩
  | .hbm, ⟨91, _⟩ => ⟨S8192x8, .f32⟩
  | .hbm, ⟨92, _⟩ => ⟨S8192x8x64, .f32⟩
  | .hbm, ⟨93, _⟩ => ⟨S8192x8x64, .f32⟩
  | .hbm, ⟨94, _⟩ => ⟨S8192x8x64, .f32⟩
  | .hbm, ⟨95, _⟩ => ⟨S_, .f32⟩
  | .hbm, ⟨96, _⟩ => ⟨S8192x8, .f32⟩
  | .hbm, ⟨97, _⟩ => ⟨S8192x8x1, .f32⟩
  | .hbm, ⟨98, _⟩ => ⟨S8192x8x64, .f32⟩
  | .hbm, ⟨99, _⟩ => ⟨S8192x8x1, .f32⟩
  | .hbm, ⟨100, _⟩ => ⟨S_, .f32⟩
  | .hbm, ⟨101, _⟩ => ⟨S8192x8x1, .f32⟩
  | .hbm, ⟨102, _⟩ => ⟨S8192x8x1, .f32⟩
  | .hbm, ⟨103, _⟩ => ⟨S_, .f32⟩
  | .hbm, ⟨104, _⟩ => ⟨S8192x8, .f32⟩
  | .hbm, ⟨105, _⟩ => ⟨S8192x8x64, .f32⟩
  | .hbm, ⟨106, _⟩ => ⟨S8192x8x64, .f32⟩
  | .hbm, ⟨107, _⟩ => ⟨S8192x512, .f32⟩
  | .hbm, ⟨108, _⟩ => ⟨S8192x512, .f32⟩
  | .hbm, ⟨109, _⟩ => ⟨S8192x8x64, .f32⟩
  | .hbm, ⟨110, _⟩ => ⟨S_, .f32⟩
  | .hbm, ⟨111, _⟩ => ⟨S8192x8, .f32⟩
  | .hbm, ⟨112, _⟩ => ⟨S8x8192, .f32⟩
  | .hbm, ⟨113, _⟩ => ⟨S8192x512, .bf16⟩
  | .hbm, ⟨114, _⟩ => ⟨S8192x512, .bf16⟩
  | .hbm, ⟨115, _⟩ => ⟨S8192x512, .bf16⟩
  | .hbm, ⟨116, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v29_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v29_1 : Ref sig .tc := ⟨.hbm, 53, rfl⟩
abbrev main_v29_0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩

abbrev nD : Nat := 1
abbrev τ : Topo := Topo.v7x

variable {F : FTy → Type} [FloatOps F]
-- ==== Proof.Reals.lean ====
/- The operations of the ideal instance on real numbers: at finite arguments each of them is the operation of the
   real numbers, so a program whose arguments are finite computes, value by value, the coercion of a real expression.
   Also: what a precondition `all (|x| < ∞)` says of the array `x`. -/
module

public import Idealize.ShloMosaic.Lib.ReduceAll
public import Idealize.ShloMosaic.Lib.IdealHost
public import Idealize.ShloMosaic.Lib.Pointwise

@[expose] public section

noncomputable section

namespace Cert.Reals

open Idealize.ShloMosaic

/-- Division by a real that is not zero. -/
theorem div_real (a b : ℝ) (h : b ≠ 0) : Ideal.div (a : EReal) (b : EReal) = ((a / b : ℝ) : EReal) := by
  rw [Ideal.div_coe h, ← EReal.coe_mul, mul_one_div]

/-- The reciprocal square root of a positive real. -/
theorem rsqrt_real (a : ℝ) (h : 0 < a) : Ideal.rsqrt (a : EReal) = (((Real.sqrt a)⁻¹ : ℝ) : EReal) := by
  rw [Ideal.rsqrt_coe, if_neg (not_lt.mpr h.le), if_neg h.ne']

/-- The logarithm of a positive real. -/
theorem log_real (a : ℝ) (h : 0 < a) : Ideal.log (a : EReal) = ((Real.log a : ℝ) : EReal) := by
  rw [Ideal.log_coe, if_neg (not_le.mpr h)]

/-- A sum of reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over the indices of a vector is a sum over its coordinate. -/
theorem sum_vec {n : ℕ} (f : Fin n → ℝ) : ∑ i : (⟨1, ![n]⟩ : Shape).Idx, f (i 0) = ∑ a, f a := sum_idx1 _

/-- A sum block by block is the whole sum. -/
theorem sum_range_blocks (a b : ℕ) (f : ℕ → ℝ) : ∑ t ∈ Finset.range a, ∑ r ∈ Finset.range b, f (b * t + r) = ∑ s ∈ Finset.range (a * b), f s := by
  induction a with
  | zero => simp
  | succ a ih => rw [Finset.sum_range_succ, ih, Nat.succ_mul, Finset.sum_range_add, Nat.mul_comm b a]

/-- The same with the coordinates of literal type: `row t r` is row `b t + r`. -/
theorem sum_blocks {b n : ℕ} (a : ℕ) (h : n = a * b) (g : Fin n → ℝ) (row : ℕ → Fin b → Fin n)
    (hrow : ∀ t, t < a → ∀ r, (row t r : ℕ) = b * t + r) : ∑ t ∈ Finset.range a, ∑ r : Fin b, g (row t r) = ∑ s, g s := by
  let f : ℕ → ℝ := fun s => if hs : s < n then g ⟨s, hs⟩ else 0
  have e1 : ∑ s, g s = ∑ s ∈ Finset.range n, f s := by
    rw [Finset.sum_range]; exact Finset.sum_congr rfl fun s _ => by simp [f]
  rw [e1, h, ← sum_range_blocks]
  refine Finset.sum_congr rfl fun t ht => ?_
  rw [Finset.sum_range]
  refine Finset.sum_congr rfl fun r _ => ?_
  have hr := hrow t (Finset.mem_range.mp ht) r
  have hlt : b * t + (r : ℕ) < n := hr ▸ (row t r).isLt
  simp only [f, dif_pos hlt]
  exact congrArg g (Fin.ext hr)

theorem one_real : (1 : EReal) = ((1 : ℝ) : EReal) := rfl
theorem zero_real : (0 : EReal) = ((0 : ℝ) : EReal) := rfl

/-- The word of 1e-6, as the real number it stands for. -/
def eps : ℝ := 8796093 / 8796093022208

theorem eps_pos : 0 < eps := by unfold eps; norm_num

theorem eps_word : Ideal.ofBits .f32 0x358637BD#32 = ((eps : ℝ) : EReal) := by
  unfold eps
  simp [Ideal.ofBits, Ideal.ieee, -EReal.coe_mul]; norm_num

theorem half_word : Ideal.ofBits .f32 0x3F000000#32 = (((1 / 2 : ℝ)) : EReal) := by
  simp [Ideal.ofBits, Ideal.ieee, -EReal.coe_mul]; norm_num
theorem neg_half_word : Ideal.ofBits .f32 0xBF000000#32 = (((-(1 / 2) : ℝ)) : EReal) := by
  simp [Ideal.ofBits, Ideal.ieee, -EReal.coe_mul, -EReal.coe_neg]; norm_num
theorem two_word : Ideal.ofBits .f32 0x40000000#32 = (((2 : ℝ)) : EReal) := by
  simp [Ideal.ofBits, Ideal.ieee, -EReal.coe_mul]; norm_num
theorem one_word : Ideal.ofBits .f32 0x3F800000#32 = (((1 : ℝ)) : EReal) := by
  rw [Ideal.ofBits_one_f32]; rfl
theorem zero_word : Ideal.ofBits .f32 0x00000000#32 = (((0 : ℝ)) : EReal) := by
  rw [Ideal.ofBits_zero_f32]; rfl
/-- 1024. -/
theorem n1024_word : Ideal.ofBits .f32 0x44800000#32 = (((1024 : ℝ)) : EReal) := by
  simp [Ideal.ofBits, Ideal.ieee, -EReal.coe_mul]; norm_num
/-- 1/1024. -/
theorem inv1024_word : Ideal.ofBits .f32 0x3A800000#32 = (((1 / 1024 : ℝ)) : EReal) := by
  simp [Ideal.ofBits, Ideal.ieee, -EReal.coe_mul]; norm_num
theorem inf_word : Ideal.ofBits .f32 0x7F800000#32 = (⊤ : EReal) := by
  simp [Ideal.ofBits, Ideal.ieee]

/-- What `|x| < ∞` says of an extended real: it is a real number. -/
theorem real_of_abs_lt {x : EReal} (h : max x (-x) < ⊤) : x = ((x.toReal : ℝ) : EReal) := by
  refine (EReal.coe_toReal ?_ ?_).symm
  · rintro rfl; simp at h
  · rintro rfl; simp at h

/-- A printed `all (|x| < ∞)` that holds makes every element of `x` a real number. -/
theorem real_of_all {s u : Shape} {axes : List (Fin s.rank)} {t : Shape} [Subsingleton t.Idx]
    (x : FVec Ideal s .f32) (b : FVec Ideal s .f32) (hb : ∀ i, b i = Ideal.ofBits .f32 0x7F800000#32)
    (init : u.Idx → BitVec 1) (h : s.ReducesTo axes t) (hu : 0 < u.numel) (j : t.Idx)
    (e : Host.reduce IntOp.andi (cmpf .olt (Host.absf x) b) init h hu j = 1#1) (i : s.Idx) :
    x i = ((x i).toReal : EReal) := by
  have h1 := Host.reduce_andi_all _ init h hu j e i
  have h2 : Ideal.cmp .olt (max (x i) (-(x i))) (b i) = 1#1 := h1
  rw [hb i, inf_word] at h2
  refine real_of_abs_lt ?_
  unfold Ideal.cmp at h2
  by_contra hc
  rw [show decide (max (x i) (-(x i)) < ⊤) = false from decide_eq_false hc] at h2
  exact absurd (show (0#1 : BitVec 1) = 1#1 from h2) (by decide)

/-- A scalar broadcast reads the scalar. -/
theorem inf_splat {s : Shape} (h : (⟨0, ![]⟩ : Shape).BroadcastsInDim s ![]) (i : s.Idx) :
    broadcastInDim s ![] h (constant (F := Ideal) ⟨0, ![]⟩ .f32 0x7F800000#32) i = Ideal.ofBits .f32 0x7F800000#32 := by
  rw [ValueIdx.broadcastInDim_scalar_apply]; rfl

/-- A conjunction of two truth values that is true makes both true. -/
theorem andi_one {s : Shape} (a b : IVec s 1) (j : s.Idx) (h : andi a b j = 1#1) : a j = 1#1 ∧ b j = 1#1 := by
  have h' : a j &&& b j = 1#1 := h
  generalize a j = x at h' ⊢
  generalize b j = y at h' ⊢
  revert x y
  decide

instance : Subsingleton (⟨0, ![]⟩ : Shape).Idx := ⟨fun _ _ => funext fun a => a.elim0⟩

/-- The printed `all (|x| < ∞)` of one argument. -/
theorem real_of_fin {s u : Shape} {axes : List (Fin s.rank)} (x : FVec Ideal s .f32) (hb : (⟨0, ![]⟩ : Shape).BroadcastsInDim s ![])
    (init : u.Idx → BitVec 1) (h : s.ReducesTo axes ⟨0, ![]⟩) (hu : 0 < u.numel) (j : (⟨0, ![]⟩ : Shape).Idx)
    (e : Host.reduce IntOp.andi (cmpf .olt (Host.absf x) (broadcastInDim s ![] hb (constant (F := Ideal) ⟨0, ![]⟩ .f32 0x7F800000#32))) init h hu j = 1#1)
    (i : s.Idx) : x i = ((x i).toReal : EReal) :=
  real_of_all x _ (inf_splat hb) init h hu j e i

/-- A matrix of real elements is a matrix of real numbers. -/
theorem mat_of_real {a b : ℕ} {x : (⟨2, ![a, b]⟩ : Shape).Idx → EReal} (h : ∀ i, x i = ((x i).toReal : EReal)) :
    ∃ A : Fin a → Fin b → ℝ, ∀ i, x i = ((A (i 0) (i 1) : ℝ) : EReal) :=
  ⟨fun s f => (x (ix2 s f)).toReal, fun i => (h i).trans (congrArg (fun j => ((x j).toReal : EReal)) (eq_ix2 i))⟩

theorem vec_of_real {a : ℕ} {x : (⟨1, ![a]⟩ : Shape).Idx → EReal} (h : ∀ i, x i = ((x i).toReal : EReal)) :
    ∃ A : Fin a → ℝ, ∀ i, x i = ((A (i 0) : ℝ) : EReal) :=
  ⟨fun s => (x (ix1 s)).toReal, fun i => (h i).trans (congrArg (fun j => ((x j).toReal : EReal)) (eq_ix1 i))⟩

end Cert.Reals

end
-- ==== Proof.RmsMath.lean ====
/- Root-mean-square normalisation over the real numbers: the derivative as automatic differentiation writes it and as
   it is written by hand are the same expression. -/
module

public import proofs.«01_k».proof.Proof.Reals

@[expose] public section

noncomputable section

namespace Cert.Rms

open Cert.Reals

variable {D : ℕ}

/-- The mean square of a row, with the small number added. -/
def ms (x : Fin D → ℝ) (n : ℝ) : ℝ := (∑ d, x d * x d) / n + eps

/-- The reciprocal root of the mean square. -/
def ri (x : Fin D → ℝ) (n : ℝ) : ℝ := (Real.sqrt (ms x n))⁻¹

theorem ms_pos (x : Fin D → ℝ) (n : ℝ) (hn : 0 < n) : 0 < ms x n :=
  add_pos_of_nonneg_of_pos (div_nonneg (Finset.sum_nonneg fun d _ => mul_self_nonneg _) hn.le) eps_pos

theorem ri_mul_ri (x : Fin D → ℝ) (n : ℝ) (hn : 0 < n) : ri x n * ri x n = (ms x n)⁻¹ := by
  unfold ri
  rw [← mul_inv, Real.mul_self_sqrt (ms_pos x n hn).le]

/-- The gradient of a row's normalisation under the cotangent `g`, written by hand. -/
def back (x g : Fin D → ℝ) (n : ℝ) (d : Fin D) : ℝ :=
  ri x n * (g d - x d * ri x n * ((∑ k, g k * (x k * ri x n)) / n))

/-- The same gradient as the chain rule gives it: through the factor, and twice through the square. -/
theorem back_eq (x g : Fin D → ℝ) (n : ℝ) (hn : 0 < n) (d : Fin D) :
    g d * ri x n + x d * ((∑ k, x k * g k) * (-(1 / 2) * (ri x n / ms x n)) / n)
      + (∑ k, x k * g k) * (-(1 / 2) * (ri x n / ms x n)) / n * x d = back x g n d := by
  have h : ri x n / ms x n = ri x n * (ri x n * ri x n) := by rw [ri_mul_ri x n hn]; rfl
  have hs : ∑ k, g k * (x k * ri x n) = (∑ k, x k * g k) * ri x n := by
    rw [Finset.sum_mul]; exact Finset.sum_congr rfl fun k _ => by ring
  unfold back
  rw [h, hs]
  ring

end Cert.Rms

end
-- ==== Proof.LossMath.lean ====
/- The down projection, the final norm, the squared error and the gradients, over the real numbers, row by row. -/
module

public import proofs.«01_k».proof.Proof.RmsMath

@[expose] public section

noncomputable section

namespace Cert.LossMath

open Cert.Reals

variable {n : ℕ} (A : Fin n → Fin 2816 → ℝ) (B : Fin 2816 → Fin 1024 → ℝ) (X T : Fin n → Fin 1024 → ℝ) (W : Fin 1024 → ℝ)

/-- The residual stream after the down projection. -/
def x2 (s : Fin n) (d : Fin 1024) : ℝ := X s d + ∑ f, A s f * B f d

/-- The normalised row. -/
def xh (s : Fin n) (d : Fin 1024) : ℝ := x2 A B X s d * Rms.ri (x2 A B X s) 1024

/-- The error. -/
def err (s : Fin n) (d : Fin 1024) : ℝ := xh A B X s d * W d - T s d

/-- The cotangent of the normalised row times the weight, before the weight. -/
def dy (s : Fin n) (d : Fin 1024) : ℝ := err A B X T W s d * (1 / 1024)

/-- The gradient of the residual stream. -/
def dx (s : Fin n) (d : Fin 1024) : ℝ := Rms.back (x2 A B X s) (fun d => dy A B X T W s d * W d) 1024 d

/-- The gradient of the norm's weight. -/
def dw (d : Fin 1024) : ℝ := ∑ s, dy A B X T W s d * xh A B X s d

/-- The loss. -/
def loss : ℝ := 1 / 2 * ∑ s, (∑ d, err A B X T W s d * err A B X T W s d) / 1024

end Cert.LossMath

end
-- ==== Proof.LossPoint.lean ====
/- What one grid point of the loss kernel leaves in its four output buffers, from the five input blocks and, from the
   second point on, from what the point before left in the two accumulators. -/
module

public import proofs.«01_k».proof.Proof.Gen.LossIdeal.Value

@[expose] public section

set_option maxRecDepth 16384

noncomputable section

namespace Cert.LossPoint

open Cert.LossIdeal Cert.LossIdeal.Gen Idealize.ShloMosaic Idealize.ShloMosaic.TcCoe Idealize.SL.Sem

variable {F : FTy → Type} [FloatOps F]
variable (c : Dev nD) (i : grid0.Coords) (a1 : Memref sig .tc .vmem S512x2816 .bf16) (h1 : a1.IsWhole)
  (a2 : Memref sig .tc .vmem S2816x1024 .bf16) (h2 : a2.IsWhole) (a3 : Memref sig .tc .vmem S512x1024 .f32) (h3 : a3.IsWhole)
  (a4 : Memref sig .tc .vmem S512x1024 .f32) (h4 : a4.IsWhole) (a5 : Memref sig .tc .vmem S1x1024 .f32) (h5 : a5.IsWhole)
  (a6 : Memref sig .tc .vmem S1x128 .f32) (h6 : a6.IsWhole) (a7 : Memref sig .tc .vmem S512x1024 .f32) (h7 : a7.IsWhole)
  (a8 : Memref sig .tc .vmem S512x1024 .bf16) (h8 : a8.IsWhole) (a9 : Memref sig .tc .vmem S1x1024 .f32) (h9 : a9.IsWhole)
  (x0 : Vec F S512x2816 .bf16) (x1 : Vec F S2816x1024 .bf16) (x2 : Vec F S512x1024 .f32) (x3 : Vec F S512x1024 .f32)
  (x4 : Vec F S1x1024 .f32) (y5 : Vec F S1x128 .f32) (y8 : Vec F S1x1024 .f32)

theorem hz : (![0, 0] : Fin 2 → Nat) = fun _ => 0 := funext fun a => by fin_cases a <;> rfl

/-- The loss accumulator after the point: the part is added to `acc`. -/
abbrev lossOf (acc : Vec F S1x128 .f32) : Vec F S1x128 .f32 := k0_pay1 (k0_pay13 x2 x0 x1 x4 x3) acc
/-- The rows of the gradient of the residual stream. -/
abbrev dxOf : Vec F S512x1024 .f32 := k0_pay3 (k0_pay9 x4) (k0_pay10 x2 x0 x1) (k0_pay11 x2 x0 x1) (k0_pay12 x2 x0 x1 x4 x3)
/-- The same narrowed. -/
abbrev dxbOf : Vec F S512x1024 .bf16 := k0_pay4 (k0_pay9 x4) (k0_pay10 x2 x0 x1) (k0_pay11 x2 x0 x1) (k0_pay12 x2 x0 x1 x4 x3)
/-- The accumulator of the weight's gradient after the point. -/
abbrev dwOf (acc : Vec F S1x1024 .f32) : Vec F S1x1024 .f32 := k0_pay5 (k0_pay11 x2 x0 x1) (k0_pay12 x2 x0 x1 x4 x3) acc

theorem out_B_5 (hc : ¬cond0_0 i) : out0_B_5 c i a1 h1 a2 h2 a3 h3 a4 h4 a5 h5 a6 h6 a7 h7 a8 h8 a9 h9 hc x0 x1 x2 x3 x4 y5 y8 = lossOf x0 x1 x2 x3 x4 y5 := by
  unfold out0_B_5
  rw [View.read_writes_eq_canon _ _ _ (cover0_B_5 c i a1 h1 a2 h2 a3 h3 a4 h4 a5 h5 a6 h6 a7 h7 a8 h8 a9 h9 hc x0 x1 x2 x3 x4 y5 y8)]
  unfold kernelRun0_B
  dsimp only
  sl_unfold_words
  rw [View.canon_unit_zero hz]
  simp only [View.readAt_eq_ld, h1.read_unread, h2.read_unread, h3.read_unread, h4.read_unread, h5.read_unread, h6.read_unread, h9.read_unread, View.ld_unit_zero (S := S512x2816) hz, View.ld_unit_zero (S := S2816x1024) hz,
    View.ld_unit_zero (S := S512x1024) hz, View.ld_unit_zero (S := S1x1024) hz, View.ld_unit_zero (S := S1x128) hz]

theorem out_B_6 (hc : ¬cond0_0 i) : out0_B_6 c i a1 h1 a2 h2 a3 h3 a4 h4 a5 h5 a6 h6 a7 h7 a8 h8 a9 h9 hc x0 x1 x2 x3 x4 y5 y8 = dxOf x0 x1 x2 x3 x4 := by
  unfold out0_B_6
  rw [View.read_writes_eq_canon _ _ _ (cover0_B_6 c i a1 h1 a2 h2 a3 h3 a4 h4 a5 h5 a6 h6 a7 h7 a8 h8 a9 h9 hc x0 x1 x2 x3 x4 y5 y8)]
  unfold kernelRun0_B
  dsimp only
  sl_unfold_words
  rw [View.canon_unit_zero hz]
  simp only [View.readAt_eq_ld, h1.read_unread, h2.read_unread, h3.read_unread, h4.read_unread, h5.read_unread, View.ld_unit_zero (S := S512x2816) hz, View.ld_unit_zero (S := S2816x1024) hz,
    View.ld_unit_zero (S := S512x1024) hz, View.ld_unit_zero (S := S1x1024) hz, View.ld_unit_zero (S := S1x128) hz]

theorem out_B_7 (hc : ¬cond0_0 i) : out0_B_7 c i a1 h1 a2 h2 a3 h3 a4 h4 a5 h5 a6 h6 a7 h7 a8 h8 a9 h9 hc x0 x1 x2 x3 x4 y5 y8 = dxbOf x0 x1 x2 x3 x4 := by
  unfold out0_B_7
  rw [View.read_writes_eq_canon _ _ _ (cover0_B_7 c i a1 h1 a2 h2 a3 h3 a4 h4 a5 h5 a6 h6 a7 h7 a8 h8 a9 h9 hc x0 x1 x2 x3 x4 y5 y8)]
  unfold kernelRun0_B
  dsimp only
  sl_unfold_words
  rw [View.canon_unit_zero hz]
  simp only [View.readAt_eq_ld, h1.read_unread, h2.read_unread, h3.read_unread, h4.read_unread, h5.read_unread, View.ld_unit_zero (S := S512x2816) hz, View.ld_unit_zero (S := S2816x1024) hz,
    View.ld_unit_zero (S := S512x1024) hz, View.ld_unit_zero (S := S1x1024) hz, View.ld_unit_zero (S := S1x128) hz]

theorem out_B_8 (hc : ¬cond0_0 i) : out0_B_8 c i a1 h1 a2 h2 a3 h3 a4 h4 a5 h5 a6 h6 a7 h7 a8 h8 a9 h9 hc x0 x1 x2 x3 x4 y5 y8 = dwOf x0 x1 x2 x3 x4 y8 := by
  unfold out0_B_8
  rw [View.read_writes_eq_canon _ _ _ (cover0_B_8 c i a1 h1 a2 h2 a3 h3 a4 h4 a5 h5 a6 h6 a7 h7 a8 h8 a9 h9 hc x0 x1 x2 x3 x4 y5 y8)]
  unfold kernelRun0_B
  dsimp only
  sl_unfold_words
  rw [View.canon_unit_zero hz]
  simp only [View.readAt_eq_ld, h1.read_unread, h2.read_unread, h3.read_unread, h4.read_unread, h5.read_unread, h9.read_unread, View.ld_unit_zero (S := S512x2816) hz, View.ld_unit_zero (S := S2816x1024) hz,
    View.ld_unit_zero (S := S512x1024) hz, View.ld_unit_zero (S := S1x1024) hz, View.ld_unit_zero (S := S1x128) hz]

theorem out_A_5 (hc : cond0_0 i) : out0_A_5 c i a1 h1 a2 h2 a3 h3 a4 h4 a5 h5 a6 h6 a7 h7 a8 h8 a9 h9 hc x0 x1 x2 x3 x4 = lossOf x0 x1 x2 x3 x4 k0_pay7 := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, View.ld_unit_zero (S := S512x2816) hz, View.ld_unit_zero (S := S2816x1024) hz,
    View.ld_unit_zero (S := S512x1024) hz, View.ld_unit_zero (S := S1x1024) hz, View.ld_unit_zero (S := S1x128) hz]

theorem out_A_6 (hc : cond0_0 i) : out0_A_6 c i a1 h1 a2 h2 a3 h3 a4 h4 a5 h5 a6 h6 a7 h7 a8 h8 a9 h9 hc x0 x1 x2 x3 x4 = dxOf x0 x1 x2 x3 x4 := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x2816) hz, View.ld_unit_zero (S := S2816x1024) hz,
    View.ld_unit_zero (S := S512x1024) hz, View.ld_unit_zero (S := S1x1024) hz, View.ld_unit_zero (S := S1x128) hz]

theorem out_A_7 (hc : cond0_0 i) : out0_A_7 c i a1 h1 a2 h2 a3 h3 a4 h4 a5 h5 a6 h6 a7 h7 a8 h8 a9 h9 hc x0 x1 x2 x3 x4 = dxbOf x0 x1 x2 x3 x4 := by
  unfold out0_A_7
  rw [View.read_writes_eq_canon _ _ _ (cover0_A_7 c i a1 h1 a2 h2 a3 h3 a4 h4 a5 h5 a6 h6 a7 h7 a8 h8 a9 h9 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x2816) hz, View.ld_unit_zero (S := S2816x1024) hz,
    View.ld_unit_zero (S := S512x1024) hz, View.ld_unit_zero (S := S1x1024) hz, View.ld_unit_zero (S := S1x128) hz]

theorem out_A_8 (hc : cond0_0 i) : out0_A_8 c i a1 h1 a2 h2 a3 h3 a4 h4 a5 h5 a6 h6 a7 h7 a8 h8 a9 h9 hc x0 x1 x2 x3 x4 = dwOf x0 x1 x2 x3 x4 k0_pay6 := by
  unfold out0_A_8
  rw [View.read_writes_eq_canon _ _ _ (cover0_A_8 c i a1 h1 a2 h2 a3 h3 a4 h4 a5 h5 a6 h6 a7 h7 a8 h8 a9 h9 hc x0 x1 x2 x3 x4)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, View.ld_unit_zero (S := S512x2816) hz, View.ld_unit_zero (S := S2816x1024) hz,
    View.ld_unit_zero (S := S512x1024) hz, View.ld_unit_zero (S := S1x1024) hz, View.ld_unit_zero (S := S1x128) hz]

end Cert.LossPoint

end
-- ==== Proof.LossPay.lean ====
/- The values of one grid point of the loss kernel at finite blocks, as real expressions of `LossMath` on the block's 512 rows. -/
module

public import proofs.«01_k».proof.Proof.LossMath
public import proofs.«01_k».proof.Proof.LossPoint

@[expose] public section

set_option maxRecDepth 16384

noncomputable section

namespace Cert.LossPay

open Cert.LossIdeal Cert.LossIdeal.Gen Cert.LossPoint Cert.Reals Cert.LossMath Idealize.ShloMosaic

variable {x0 : Vec Ideal S512x2816 .bf16} {x1 : Vec Ideal S2816x1024 .bf16} {x2 x3 : Vec Ideal S512x1024 .f32} {x4 : Vec Ideal S1x1024 .f32}
variable {A : Fin 512 → Fin 2816 → ℝ} {B : Fin 2816 → Fin 1024 → ℝ} {X T : Fin 512 → Fin 1024 → ℝ} {W : Fin 1024 → ℝ}
variable (hA : ∀ s f, x0 (ix2 s f) = ((A s f : ℝ) : EReal)) (hB : ∀ f d, x1 (ix2 f d) = ((B f d : ℝ) : EReal))
  (hX : ∀ s d, x2 (ix2 s d) = ((X s d : ℝ) : EReal)) (hT : ∀ s d, x3 (ix2 s d) = ((T s d : ℝ) : EReal))
  (hW : ∀ z d, x4 (ix2 z d) = ((W d : ℝ) : EReal))

include hA hB hX

theorem pay8_real (s : Fin 512) (d : Fin 1024) : k0_pay8 x2 x0 x1 (ix2 s d) = ((LossMath.x2 A B X s d : ℝ) : EReal) := by
  pointwise [k0_pay8]
  simp only [hA, hB, hX, ← EReal.coe_mul, sum_real, ← EReal.coe_add, zero_add]
  rfl

theorem pay10_real (s : Fin 512) (z : Fin 1) : k0_pay10 x2 x0 x1 (ix2 s z) = ((Rms.ri (LossMath.x2 A B X s) 1024 : ℝ) : EReal) := by
  pointwise [k0_pay10]
  simp only [pay8_real hA hB hX, zero_word, n1024_word, eps_word, ← EReal.coe_mul, sum_real, ← EReal.coe_add, zero_add]
  rw [div_real _ _ (by norm_num), ← EReal.coe_add]
  exact rsqrt_real _ (Rms.ms_pos _ _ (by norm_num))

theorem pay11_real (s : Fin 512) (d : Fin 1024) : k0_pay11 x2 x0 x1 (ix2 s d) = ((xh A B X s d : ℝ) : EReal) := by
  pointwise [k0_pay11]
  simp only [pay8_real hA hB hX, pay10_real hA hB hX, ← EReal.coe_mul]
  rfl

include hT hW

theorem pay12_real (s : Fin 512) (d : Fin 1024) : k0_pay12 x2 x0 x1 x4 x3 (ix2 s d) = ((err A B X T W s d : ℝ) : EReal) := by
  pointwise [k0_pay12, k0_pay9]
  simp only [pay11_real hA hB hX, hT, hW, ← EReal.coe_mul, ← EReal.coe_sub]
  rfl

/-- What the point adds to the loss. -/
theorem loss_real (acc : Vec Ideal S1x128 .f32) (z : Fin 1) (l : Fin 128) :
    lossOf x0 x1 x2 x3 x4 acc (ix2 z l) = acc (ix2 z l) + ((loss A B X T W : ℝ) : EReal) := by
  pointwise [lossOf, k0_pay1, k0_pay13]
  simp only [pay12_real hA hB hX hT hW, zero_word, n1024_word, half_word, ← EReal.coe_mul, sum_real, ← EReal.coe_add, zero_add]
  simp only [div_real _ _ (show (1024 : ℝ) ≠ 0 by norm_num), sum_real, ← EReal.coe_mul, ← EReal.coe_add, zero_add]
  rfl

theorem dx_real (s : Fin 512) (d : Fin 1024) : dxOf x0 x1 x2 x3 x4 (ix2 s d) = ((dx A B X T W s d : ℝ) : EReal) := by
  pointwise [dxOf, k0_pay3, k0_pay2, k0_pay9]
  simp only [pay12_real hA hB hX hT hW, pay11_real hA hB hX, pay10_real hA hB hX, hW, zero_word, n1024_word, inv1024_word,
    ← EReal.coe_mul, sum_real, ← EReal.coe_add, zero_add]
  simp only [div_real _ _ (show (1024 : ℝ) ≠ 0 by norm_num), ← EReal.coe_mul, ← EReal.coe_sub]
  rfl

theorem dxb_real (s : Fin 512) (d : Fin 1024) : dxbOf x0 x1 x2 x3 x4 (ix2 s d) = ((dx A B X T W s d : ℝ) : EReal) :=
  dx_real hA hB hX hT hW s d

/-- What the point adds to the gradient of the weight. -/
theorem dw_real (acc : Vec Ideal S1x1024 .f32) (z : Fin 1) (d : Fin 1024) :
    dwOf x0 x1 x2 x3 x4 acc (ix2 z d) = acc (ix2 z d) + ((dw A B X T W d : ℝ) : EReal) := by
  pointwise [dwOf, k0_pay5, k0_pay2]
  simp only [pay12_real hA hB hX hT hW, pay11_real hA hB hX, zero_word, inv1024_word, ← EReal.coe_mul, sum_real, ← EReal.coe_add, zero_add]
  rfl

end Cert.LossPay

end
-- ==== Proof.LossArrays.lean ====
/- The four result arrays of the loss kernel at finite arguments: the sum of the parts of the sixteen row blocks for the
   loss and for the gradient of the weight, the blocks side by side for the gradient of the residual stream. -/
module

public import proofs.«01_k».proof.Proof.LossPay
public import Idealize.ShloMosaic.Lib.Pipeline.ValueKit
public import Idealize.ShloMosaic.Lib.StableHlo.ReadAt

@[expose] public section

set_option maxRecDepth 16384

noncomputable section

namespace Cert.LossArrays

open Cert.LossIdeal Cert.LossIdeal.Gen Cert.LossPoint Cert.LossPay Cert.Reals Cert.LossMath
open Idealize.ShloMosaic Idealize.ShloMosaic.TcCoe Idealize.SL.Sem

variable (m : (ℓ : Loc nD τ sig) → Buf (Elt Ideal) ℓ) (c : Dev nD)

/-- Row `r` of row block `t`. -/
def row (t : ℕ) (r : Fin 512) : Fin 8192 := ⟨(512 * t + r) % 8192, Nat.mod_lt _ (by norm_num)⟩

theorem row_val {t : ℕ} (h : t < 16) (r : Fin 512) : (row t r : ℕ) = 512 * t + r := by
  show (512 * t + (r : ℕ)) % 8192 = _
  have := r.isLt
  omega

theorem V_a (i : S8192x2816.Idx) : V m c main_v0 i = m ((c : Thread nD τ).loc main_arg0) i := by
  unfold V; after_reads_at
theorem V_w (i : S2816x1024.Idx) : V m c main_v1 i = m ((c : Thread nD τ).loc main_arg1) i := by
  unfold V; after_reads_at
theorem V_n (z : Fin 1) (d : Fin 1024) : V m c main_v2 (ix2 z d) = m ((c : Thread nD τ).loc main_arg4) (ix1 d) := by
  unfold V; after_reads_at

/-- The block indices of the nine windows at every point. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_6.index t = ![t.val, 0] ∧ win0_7.index t = ![t.val, 0] ∧ win0_5.index t = ![0, 0] ∧ win0_8.index t = ![0, 0] ∧ t.val < 16 :=
  (by decide +kernel : ∀ t : Fin grid0.N, _)

variable {A : Fin 8192 → Fin 2816 → ℝ} {B : Fin 2816 → Fin 1024 → ℝ} {X T : Fin 8192 → Fin 1024 → ℝ} {W : Fin 1024 → ℝ}
  (hA : ∀ i, m ((c : Thread nD τ).loc main_arg0) i = ((A (i 0) (i 1) : ℝ) : EReal))
  (hB : ∀ i, m ((c : Thread nD τ).loc main_arg1) i = ((B (i 0) (i 1) : ℝ) : EReal))
  (hX : ∀ i, m ((c : Thread nD τ).loc main_arg2) i = ((X (i 0) (i 1) : ℝ) : EReal))
  (hT : ∀ i, m ((c : Thread nD τ).loc main_arg3) i = ((T (i 0) (i 1) : ℝ) : EReal))
  (hW : ∀ i, m ((c : Thread nD τ).loc main_arg4) i = ((W (i 0) : ℝ) : EReal))

include hA in
theorem blk0 (t : Fin cfg0.N) (r : Fin 512) (f : Fin 2816) : (iblk m c 0 t : Vec Ideal S512x2816 .bf16) (ix2 r f) = ((A (row t r) f : ℝ) : EReal) := by
  blk_simp [iblk]
  refine (V_a m c _).trans ((hA _).trans (congrArg _ (congrArg₂ A (Fin.ext ?_) (Fin.ext ?_))))
  · rw [row_val (idx t).2.2.2.2.2.2.2.2.2]; blk_simp [idx t]; omega
  · blk_simp [idx t]

include hB in
theorem blk1 (t : Fin cfg0.N) (f : Fin 2816) (d : Fin 1024) : (iblk m c 1 t : Vec Ideal S2816x1024 .bf16) (ix2 f d) = ((B f d : ℝ) : EReal) := by
  blk_simp [iblk]
  refine (V_w m c _).trans ((hB _).trans (congrArg _ (congrArg₂ B (Fin.ext ?_) (Fin.ext ?_)))) <;> blk_simp [idx t]

include hX in
theorem blk2 (t : Fin cfg0.N) (r : Fin 512) (d : Fin 1024) : (iblk m c 2 t : Vec Ideal S512x1024 .f32) (ix2 r d) = ((X (row t r) d : ℝ) : EReal) := by
  blk_simp [iblk]
  refine (congrFun (V_main_arg2 m c) _).trans ((hX _).trans (congrArg _ (congrArg₂ X (Fin.ext ?_) (Fin.ext ?_))))
  · rw [row_val (idx t).2.2.2.2.2.2.2.2.2]; blk_simp [idx t]; omega
  · blk_simp [idx t]

include hT in
theorem blk3 (t : Fin cfg0.N) (r : Fin 512) (d : Fin 1024) : (iblk m c 3 t : Vec Ideal S512x1024 .f32) (ix2 r d) = ((T (row t r) d : ℝ) : EReal) := by
  blk_simp [iblk]
  refine (congrFun (V_main_arg3 m c) _).trans ((hT _).trans (congrArg _ (congrArg₂ T (Fin.ext ?_) (Fin.ext ?_))))
  · rw [row_val (idx t).2.2.2.2.2.2.2.2.2]; blk_simp [idx t]; omega
  · blk_simp [idx t]

include hW in
theorem blk4 (t : Fin cfg0.N) (z : Fin 1) (d : Fin 1024) : (iblk m c 4 t : Vec Ideal S1x1024 .f32) (ix2 z d) = ((W d : ℝ) : EReal) := by
  blk_simp [iblk]
  rw [show (win0_4.blk t).view.emb (ix2 z d) = ix2 z d by blk_ext [idx t]]
  exact (V_n m c z d).trans (hW _)

variable (A B X T W) in
/-- The part of the loss of row block `t`. -/
def lossAt (t : ℕ) : ℝ := loss (fun r => A (row t r)) B (fun r => X (row t r)) (fun r => T (row t r)) W

variable (A B X T W) in
/-- The part of the weight's gradient of row block `t`. -/
def dwAt (t : ℕ) (d : Fin 1024) : ℝ := dw (fun r => A (row t r)) B (fun r => X (row t r)) (fun r => T (row t r)) W d

include hA hB hX hT hW

theorem loss_step (t : Fin cfg0.N) (acc : Vec Ideal S1x128 .f32) (z : Fin 1) (l : Fin 128) :
    lossOf (iblk m c 0 t) (iblk m c 1 t) (iblk m c 2 t) (iblk m c 3 t) (iblk m c 4 t) acc (ix2 z l)
      = acc (ix2 z l) + ((lossAt A B X T W t.val : ℝ) : EReal) := by
  rw [loss_real (blk0 m c hA t) (blk1 m c hB t) (blk2 m c hX t) (blk3 m c hT t) (blk4 m c hW t)]
  rw [lossAt]

theorem dw_step (t : Fin cfg0.N) (acc : Vec Ideal S1x1024 .f32) (z : Fin 1) (d : Fin 1024) :
    dwOf (iblk m c 0 t) (iblk m c 1 t) (iblk m c 2 t) (iblk m c 3 t) (iblk m c 4 t) acc (ix2 z d)
      = acc (ix2 z d) + ((dwAt A B X T W t.val d : ℝ) : EReal) := by
  rw [dw_real (blk0 m c hA t) (blk1 m c hB t) (blk2 m c hX t) (blk3 m c hT t) (blk4 m c hW t)]
  rw [dwAt]

/-- The two accumulators after point `n`: the parts of the points so far, added up. -/
theorem acc_real : ∀ (n : ℕ) (h : n < cfg0.N),
    (∀ z l, (outsAt0 m c n h).1 (ix2 z l) = ((∑ t ∈ Finset.range (n + 1), lossAt A B X T W t : ℝ) : EReal))
    ∧ ∀ z d, (outsAt0 m c n h).2.2.2 (ix2 z d) = ((∑ t ∈ Finset.range (n + 1), dwAt A B X T W t d : ℝ) : EReal)
  | 0, h => by
    rw [outsAt0_A m c ⟨0, h⟩ rfl]
    dsimp only
    rw [out_A_5, out_A_8]
    refine ⟨fun z l => ?_, fun z d => ?_⟩
    · rw [loss_step m c hA hB hX hT hW, Finset.sum_range_one]
      rw [show (k0_pay7 (F := Ideal)) (ix2 z l) = 0 from zero_word, zero_add]
    · rw [dw_step m c hA hB hX hT hW, Finset.sum_range_one]
      rw [show (k0_pay6 (F := Ideal)) (ix2 z d) = 0 from zero_word, zero_add]
  | n + 1, h => by
    have hB' : ¬(⟨n + 1, h⟩ : Fin cfg0.N).val % 16 = 0 := by
      have : n + 1 < 16 := (idx ⟨n + 1, h⟩).2.2.2.2.2.2.2.2.2
      dsimp only
      omega
    obtain ⟨i1, i2⟩ := acc_real n (Nat.lt_of_succ_lt h)
    rw [outsAt0_B m c ⟨n + 1, h⟩ hB']
    dsimp only
    rw [out_B_5, out_B_8]
    refine ⟨fun z l => ?_, fun z d => ?_⟩
    · rw [loss_step m c hA hB hX hT hW, Finset.sum_range_succ, EReal.coe_add]
      exact congrArg (· + _) (i1 z l)
    · rw [dw_step m c hA hB hX hT hW, Finset.sum_range_succ, EReal.coe_add]
      exact congrArg (· + _) (i2 z d)

/-- The rows every point leaves, in both formats. -/
theorem rows_real (t : Fin cfg0.N) (r : Fin 512) (d : Fin 1024) :
    (outsAt0 m c t.val t.isLt).2.1 (ix2 r d) = ((dx A B X T W (row t r) d : ℝ) : EReal)
    ∧ (outsAt0 m c t.val t.isLt).2.2.1 (ix2 r d) = ((dx A B X T W (row t r) d : ℝ) : EReal) := by
  have h := dx_real (blk0 m c hA t) (blk1 m c hB t) (blk2 m c hX t) (blk3 m c hT t) (blk4 m c hW t) r d
  by_cases h0 : t.val % 16 = 0
  · rw [outsAt0_A m c t h0]
    dsimp only
    rw [out_A_6, out_A_7]
    exact ⟨h, h⟩
  · rw [outsAt0_B m c t h0]
    dsimp only
    rw [out_B_6, out_B_7]
    exact ⟨h, h⟩

omit hA hB hX hT hW in
theorem err_row (t : ℕ) (s : Fin 512) (d : Fin 1024) :
    err (fun r => A (row t r)) B (fun r => X (row t r)) (fun r => T (row t r)) W s d = err A B X T W (row t s) d := by
  unfold err xh x2; rfl

omit hA hB hX hT hW in
theorem xh_row (t : ℕ) (s : Fin 512) (d : Fin 1024) : xh (fun r => A (row t r)) B (fun r => X (row t r)) s d = xh A B X (row t s) d := by
  unfold xh x2; rfl

omit hA hB hX hT hW in
/-- The parts of the loss add up to the loss. -/
theorem loss_sum : ∑ t ∈ Finset.range 16, lossAt A B X T W t = loss A B X T W := by
  unfold lossAt loss
  rw [← Finset.mul_sum]
  simp only [err_row]
  rw [sum_blocks (b := 512) 16 (by norm_num) (fun s => (∑ d, err A B X T W s d * err A B X T W s d) / 1024) row fun t h r => row_val h r]

omit hA hB hX hT hW in
theorem dw_sum (d : Fin 1024) : ∑ t ∈ Finset.range 16, dwAt A B X T W t d = dw A B X T W d := by
  unfold dwAt dw dy
  simp only [err_row, xh_row]
  rw [sum_blocks (b := 512) 16 (by norm_num) (fun s => err A B X T W s d * (1 / 1024) * xh A B X s d) row fun t h r => row_val h r]

theorem final5 : (dats m 0 c).arrAt 5 cfg0.N = (fun _ => ((loss A B X T W : ℝ) : EReal) : Vec Ideal S1x128 .f32) := by
  refine (dats m 0 c).arrAt_eq_of_covers 5 _ (by decide +kernel) fun t hf y => ?_
  have ht : t.val = 15 := by have := (flush0_5 t).mp hf; have := (idx t).2.2.2.2.2.2.2.2.2; omega
  blk_simp
  rw [after0_5]
  refine (congrArg (outsAt0 m c t.val t.isLt).1 (eq_ix2 y)).trans (((acc_real m c hA hB hX hT hW t.val t.isLt).1 _ _).trans ?_)
  rw [ht, loss_sum]

theorem final8 : (dats m 0 c).arrAt 8 cfg0.N = (fun i => ((dw A B X T W (i 1) : ℝ) : EReal) : Vec Ideal S1x1024 .f32) := by
  refine (dats m 0 c).arrAt_eq_of_covers 8 _ (by decide +kernel) fun t hf y => ?_
  have ht : t.val = 15 := by have := (flush0_8 t).mp hf; have := (idx t).2.2.2.2.2.2.2.2.2; omega
  blk_simp
  rw [after0_8]
  refine (congrArg (outsAt0 m c t.val t.isLt).2.2.2 (eq_ix2 y)).trans (((acc_real m c hA hB hX hT hW t.val t.isLt).2 _ _).trans ?_)
  rw [ht]
  refine (congrArg _ (dw_sum _)).trans ?_
  refine congrArg _ (congrArg (dw A B X T W) (Fin.ext ?_))
  blk_simp [idx t]

theorem final6 : (dats m 0 c).arrAt 6 cfg0.N = (fun i => ((dx A B X T W (i 0) (i 1) : ℝ) : EReal) : Vec Ideal S8192x1024 .f32) := by
  refine (dats m 0 c).arrAt_eq_of_covers 6 _ (by decide +kernel) fun t hf y => ?_
  blk_simp
  rw [after0_6]
  refine (congrArg (outsAt0 m c t.val t.isLt).2.1 (eq_ix2 y)).trans ((rows_real m c hA hB hX hT hW t _ _).1.trans ?_)
  refine congrArg _ (congrArg₂ (dx A B X T W) (Fin.ext ?_) (Fin.ext ?_))
  · refine (row_val (idx t).2.2.2.2.2.2.2.2.2 _).trans ?_; blk_simp [idx t]; omega
  · blk_simp [idx t]

theorem final7 : (dats m 0 c).arrAt 7 cfg0.N = (fun i => ((dx A B X T W (i 0) (i 1) : ℝ) : EReal) : Vec Ideal S8192x1024 .bf16) := by
  refine (dats m 0 c).arrAt_eq_of_covers 7 _ (by decide +kernel) fun t hf y => ?_
  blk_simp
  rw [after0_7]
  refine (congrArg (outsAt0 m c t.val t.isLt).2.2.1 (eq_ix2 y)).trans ((rows_real m c hA hB hX hT hW t _ _).2.trans ?_)
  refine congrArg _ (congrArg₂ (dx A B X T W) (Fin.ext ?_) (Fin.ext ?_))
  · refine (row_val (idx t).2.2.2.2.2.2.2.2.2 _).trans ?_; blk_simp [idx t]; omega
  · blk_simp [idx t]

end Cert.LossArrays

end
-- ==== Proof.LossRefReal.lean ====
/- What the reference of the loss computes at finite arguments: each of its stages, read at an index, is the coercion of
   a real expression of `LossMath`; its four results are the loss, the gradient of the residual stream (twice) and the
   gradient of the norm's weight. -/
module

public import proofs.«01_k».proof.Proof.LossMath
public import proofs.«01_k».proof.Proof.Gen.LossRefIdeal.Read

@[expose] public section

set_option maxRecDepth 16384

noncomputable section

namespace Cert.LossRefReal

open Cert.LossRefIdeal Cert.LossRefIdeal.Gen Cert.LossRefIdeal.Read Cert.Reals Cert.LossMath
open Idealize.ShloMosaic

variable (x0 : (⟨S8192x2816, .f32⟩ : BufTy).Contents (Elt Ideal)) (x1 : (⟨S2816x1024, .f32⟩ : BufTy).Contents (Elt Ideal))
  (x2 x3 : (⟨S8192x1024, .f32⟩ : BufTy).Contents (Elt Ideal)) (x4 : (⟨S1024, .f32⟩ : BufTy).Contents (Elt Ideal))
variable {A : Fin 8192 → Fin 2816 → ℝ} {B : Fin 2816 → Fin 1024 → ℝ} {X T : Fin 8192 → Fin 1024 → ℝ} {W : Fin 1024 → ℝ}
variable (hA : ∀ i, x0 i = ((A (i 0) (i 1) : ℝ) : EReal)) (hB : ∀ i, x1 i = ((B (i 0) (i 1) : ℝ) : EReal))
  (hX : ∀ i, x2 i = ((X (i 0) (i 1) : ℝ) : EReal)) (hT : ∀ i, x3 i = ((T (i 0) (i 1) : ℝ) : EReal))
  (hW : ∀ i, x4 i = ((W (i 0) : ℝ) : EReal))

include hA hB hX

theorem v1_real (i : S8192x1024.Idx) : val_main_v1 (F := Ideal) x0 x1 x2 i = ((LossMath.x2 A B X (i 0) (i 1) : ℝ) : EReal) := by
  rw [val_main_v1_apply, val_main_v0_apply, hX]
  simp only [hA, hB, ← EReal.coe_mul, sum_real, Ideal.addf_def, ← EReal.coe_add]
  rfl

theorem v8_real (i : S8192x1.Idx) : val_main_v8 (F := Ideal) x0 x1 x2 i = ((Rms.ms (LossMath.x2 A B X (i 0)) 1024 : ℝ) : EReal) := by
  rw [val_main_v8_apply, val_main_v6_apply, val_main_v5_apply, val_main_v7_apply, val_main_v4_apply, val_main_v3_apply]
  simp only [val_main_v2_apply, v1_real x0 x1 x2 hA hB hX, val_main_cst_apply, val_main_cst_0_apply, val_main_cst_1_apply]
  simp only [Ideal.mulf_def, Ideal.addf_def, Ideal.hostDivf_def, Ideal.ofBits_def, zero_word, n1024_word, eps_word, ← EReal.coe_mul, sum_real,
    ← EReal.coe_add, zero_add]
  rw [div_real _ _ (by norm_num), ← EReal.coe_add]
  rfl

theorem v9_real (i : S8192x1.Idx) : val_main_v9 (F := Ideal) x0 x1 x2 i = ((Rms.ri (LossMath.x2 A B X (i 0)) 1024 : ℝ) : EReal) := by
  rw [val_main_v9_apply, v8_real x0 x1 x2 hA hB hX]
  exact rsqrt_real _ (Rms.ms_pos _ _ (by norm_num))

theorem v12_real (i : S8192x1.Idx) : val_main_v12 (F := Ideal) x0 x1 x2 i
    = ((-(1 / 2) * (Rms.ri (LossMath.x2 A B X (i 0)) 1024 / Rms.ms (LossMath.x2 A B X (i 0)) 1024) : ℝ) : EReal) := by
  rw [val_main_v12_apply, val_main_v11_apply, val_main_v10_apply, v8_real x0 x1 x2 hA hB hX, v9_real x0 x1 x2 hA hB hX, val_main_cst_2_apply]
  simp only [Ideal.mulf_def, Ideal.hostDivf_def, Ideal.ofBits_def, neg_half_word]
  rw [div_real _ _ (Rms.ms_pos _ _ (by norm_num)).ne', ← EReal.coe_mul]

theorem v14_real (i : S8192x1024.Idx) : val_main_v14 (F := Ideal) x0 x1 x2 i = ((xh A B X (i 0) (i 1) : ℝ) : EReal) := by
  rw [val_main_v14_apply, val_main_v13_apply, v1_real x0 x1 x2 hA hB hX, v9_real x0 x1 x2 hA hB hX]
  simp only [Ideal.mulf_def, ← EReal.coe_mul]
  rfl

include hT hW

theorem v18_real (i : S8192x1024.Idx) : val_main_v18 (F := Ideal) x0 x1 x2 x3 x4 i = ((err A B X T W (i 0) (i 1) : ℝ) : EReal) := by
  rw [val_main_v18_apply, val_main_v17_apply, val_main_v16_apply, val_main_v15_apply, v14_real x0 x1 x2 hA hB hX, hT, hW]
  simp only [Ideal.mulf_def, Ideal.subf_def, ← EReal.coe_mul, ← EReal.coe_sub]
  rfl

theorem v32_real (i : S8192x1024.Idx) : val_main_v32 (F := Ideal) x0 x1 x2 x3 x4 i = ((dy A B X T W (i 0) (i 1) : ℝ) : EReal) := by
  rw [val_main_v32_apply, val_main_v31_apply, val_main_v30_apply, val_main_v28_apply, val_main_v27_apply, val_main_v29_apply, val_main_v21_apply,
    val_main_v20_apply, v18_real x0 x1 x2 x3 x4 hA hB hX hT hW]
  simp only [val_main_cst_8_apply, val_main_cst_9_apply, val_main_cst_10_apply, val_main_cst_3_apply, Ideal.mulf_def, Ideal.hostDivf_def,
    Ideal.ofBits_def, half_word, one_word, n1024_word, two_word, ← EReal.coe_mul]
  rw [div_real _ _ (by norm_num), ← EReal.coe_mul]
  refine congrArg _ ?_
  unfold dy
  ring

theorem v37_real (i : S8192x1024.Idx) : val_main_v37 (F := Ideal) x0 x1 x2 x3 x4 i = ((dy A B X T W (i 0) (i 1) * W (i 1) : ℝ) : EReal) := by
  rw [val_main_v37_apply, val_main_v36_apply, val_main_v15_apply, v32_real x0 x1 x2 x3 x4 hA hB hX hT hW, hW]
  simp only [Ideal.mulf_def, ← EReal.coe_mul]
  rfl

theorem v40_real (i : S8192.Idx) : val_main_v40 (F := Ideal) x0 x1 x2 x3 x4 i
    = ((∑ k, LossMath.x2 A B X (i 0) k * (dy A B X T W (i 0) k * W k) : ℝ) : EReal) := by
  rw [val_main_v40_apply]
  simp only [val_main_v39_apply, v1_real x0 x1 x2 hA hB hX, v37_real x0 x1 x2 x3 x4 hA hB hX hT hW, val_main_cst_13_apply]
  simp only [Ideal.mulf_def, Ideal.ofBits_def, zero_word, ← EReal.coe_mul, sum_real, ← EReal.coe_add, zero_add]
  rfl

theorem v41_real (i : S8192x1.Idx) : val_main_v41 (F := Ideal) x0 x1 x2 x3 x4 i
    = ((∑ k, LossMath.x2 A B X (i 0) k * (dy A B X T W (i 0) k * W k) : ℝ) : EReal) := by
  have hi : idx_main_v41 i 0 = i 0 := Fin.ext (by
    show (i 0 : ℕ) * 1 + (i 1 : ℕ) = (i 0 : ℕ); have : (i 1 : ℕ) < 1 := (i 1).isLt; omega)
  rw [val_main_v41_apply, v40_real x0 x1 x2 x3 x4 hA hB hX hT hW]
  exact congrArg (fun s : Fin 8192 => ((∑ k, LossMath.x2 A B X s k * (dy A B X T W s k * W k) : ℝ) : EReal)) hi

theorem v48_real (i : S8192x1024.Idx) : val_main_v48 (F := Ideal) x0 x1 x2 x3 x4 i
    = (((∑ k, LossMath.x2 A B X (i 0) k * (dy A B X T W (i 0) k * W k))
        * (-(1 / 2) * (Rms.ri (LossMath.x2 A B X (i 0)) 1024 / Rms.ms (LossMath.x2 A B X (i 0)) 1024)) / 1024 : ℝ) : EReal) := by
  rw [val_main_v48_apply, val_main_v47_apply]
  simp only [val_main_v46_apply, val_main_v45_apply, val_main_v44_apply,
    v41_real x0 x1 x2 x3 x4 hA hB hX hT hW, v12_real x0 x1 x2 hA hB hX, val_main_cst_14_apply, val_main_cst_15_apply]
  simp only [Fin.sum_univ_one, Ideal.mulf_def, Ideal.addf_def, Ideal.hostDivf_def, Ideal.ofBits_def, zero_word, n1024_word, ← EReal.coe_mul, sum_real,
    ← EReal.coe_add, zero_add]
  rw [div_real _ _ (by norm_num), ← EReal.coe_add, zero_add]
  rfl

/-- The gradient of the residual stream. -/
theorem v52_real (i : S8192x1024.Idx) : val_main_v52 (F := Ideal) x0 x1 x2 x3 x4 i = ((dx A B X T W (i 0) (i 1) : ℝ) : EReal) := by
  rw [val_main_v52_apply, val_main_v51_apply, val_main_v50_apply, val_main_v49_apply, val_main_v43_apply, val_main_v42_apply,
    v48_real x0 x1 x2 x3 x4 hA hB hX hT hW, v37_real x0 x1 x2 x3 x4 hA hB hX hT hW, v1_real x0 x1 x2 hA hB hX, v9_real x0 x1 x2 hA hB hX]
  simp only [Ideal.mulf_def, Ideal.addf_def, ← EReal.coe_mul, ← EReal.coe_add]
  exact congrArg _ (Rms.back_eq (LossMath.x2 A B X (i 0)) (fun d => dy A B X T W (i 0) d * W d) 1024 (by norm_num) (i 1))

/-- The same narrowed. -/
theorem v54_real (i : S8192x1024.Idx) : val_main_v54 (F := Ideal) x0 x1 x2 x3 x4 i = ((dx A B X T W (i 0) (i 1) : ℝ) : EReal) := by
  rw [val_main_v54_apply]
  exact v52_real x0 x1 x2 x3 x4 hA hB hX hT hW i

/-- The gradient of the norm's weight. -/
theorem v55_real (i : S1x1024.Idx) : val_main_v55 (F := Ideal) x0 x1 x2 x3 x4 i = ((dw A B X T W (i 1) : ℝ) : EReal) := by
  have h0 : (i 0 : ℕ) = 0 := by have : (i 0 : ℕ) < 1 := (i 0).isLt; omega
  have hi : (⟨(i 0 : ℕ) * 1024 + (i 1 : ℕ), by rw [h0]; have : (i 1 : ℕ) < 1024 := (i 1).isLt; omega⟩ : Fin 1024) = i 1 :=
    Fin.ext (by show (i 0 : ℕ) * 1024 + (i 1 : ℕ) = (i 1 : ℕ); omega)
  rw [val_main_v55_apply, val_main_v38_apply]
  simp only [val_main_v35_apply, val_main_v34_apply, val_main_v33_apply, v14_real x0 x1 x2 hA hB hX, v32_real x0 x1 x2 x3 x4 hA hB hX hT hW,
    val_main_cst_11_apply, val_main_cst_12_apply]
  simp only [Fin.sum_univ_one, Ideal.mulf_def, Ideal.addf_def, Ideal.ofBits_def, zero_word, ← EReal.coe_mul, sum_real, ← EReal.coe_add, zero_add]
  refine congrArg _ ?_
  unfold dw
  refine Finset.sum_congr rfl fun s _ => ?_
  rw [mul_comm]
  have e : (⟨0 * 1024 + ((i 0 : ℕ) * 1024 + (i 1 : ℕ)), by rw [h0]; have : (i 1 : ℕ) < 1024 := (i 1).isLt; omega⟩ : Fin 1024) = i 1 :=
    Fin.ext (by show 0 * 1024 + ((i 0 : ℕ) * 1024 + (i 1 : ℕ)) = (i 1 : ℕ); omega)
  rw [← e]
  rfl

/-- The loss. -/
theorem v53_real (i : S1x128.Idx) : val_main_v53 (F := Ideal) x0 x1 x2 x3 x4 i = ((loss A B X T W : ℝ) : EReal) := by
  rw [val_main_v53_apply, val_main_v26_apply, val_main_v25_apply]
  have h : ∀ j, val_main_v24 (F := Ideal) x0 x1 x2 x3 x4 j = (((∑ d, err A B X T W (j 0) d * err A B X T W (j 0) d) / 1024 : ℝ) : EReal) := by
    intro j
    rw [val_main_v24_apply, val_main_v22_apply, val_main_v23_apply]
    simp only [val_main_v19_apply, v18_real x0 x1 x2 x3 x4 hA hB hX hT hW, val_main_cst_4_apply, val_main_cst_5_apply]
    simp only [Ideal.mulf_def, Ideal.hostDivf_def, Ideal.ofBits_def, zero_word, n1024_word, ← EReal.coe_mul, sum_real, ← EReal.coe_add, zero_add]
    rw [div_real _ _ (by norm_num)]
    rfl
  simp only [h, val_main_cst_6_apply, val_main_cst_7_apply]
  simp only [Ideal.mulf_def, Ideal.ofBits_def, zero_word, half_word, sum_real, ← EReal.coe_add, zero_add, ← EReal.coe_mul]
  refine congrArg _ ?_
  unfold loss
  exact congrArg (1 / 2 * ·) <| sum_vec (fun s : Fin 8192 => (∑ d, err A B X T W s d * err A B X T W s d) / 1024)

end Cert.LossRefReal

end
-- ==== Proof.LossClaim.lean ====
/- The claims about the loss kernel: where its arguments are finite its four results are those of the reference. -/
module

public import proofs.«01_k».proof.Defs
public import proofs.«01_k».proof.Proof.Gen.Loss
public import proofs.«01_k».proof.Proof.Gen.Loss.Frame
public import proofs.«01_k».proof.Proof.LossArrays
public import proofs.«01_k».proof.Proof.LossRefReal
public import proofs.«01_k».proof.Proof.Gen.LossRefIdeal.Run
public import proofs.«01_k».proof.Proof.Gen.Pre_loss_finite
public import Idealize.ShloMosaic.Lib.Quiescent

@[expose] public section

set_option maxRecDepth 16384

noncomputable section

namespace Cert.LossClaim

open Idealize.ShloMosaic Idealize.ShloMosaic.TcCoe Idealize.SL.Sem Cert.Reals Cert.LossMath

attribute [local instance] Cert.Loss.Gen.facts Cert.LossIdeal.Gen.facts Cert.LossRefIdeal.Gen.facts Cert.Pre_loss_finite.Gen.facts

/-- The precondition, decoded: the five arguments are arrays of real numbers. -/
theorem real_args (x0 : FVec Ideal ⟨2, ![8192, 2816]⟩ .f32) (x1 : FVec Ideal ⟨2, ![2816, 1024]⟩ .f32) (x2 x3 : FVec Ideal ⟨2, ![8192, 1024]⟩ .f32)
    (x4 : FVec Ideal ⟨1, ![1024]⟩ .f32) (h : Cert.Pre_loss_finite.fn (F := Ideal) x0 x1 x2 x3 x4 = fun _ => 1#1) :
    ∃ (A : Fin 8192 → Fin 2816 → ℝ) (B : Fin 2816 → Fin 1024 → ℝ) (X T : Fin 8192 → Fin 1024 → ℝ) (W : Fin 1024 → ℝ),
      (∀ i, x0 i = ((A (i 0) (i 1) : ℝ) : EReal)) ∧ (∀ i, x1 i = ((B (i 0) (i 1) : ℝ) : EReal)) ∧ (∀ i, x2 i = ((X (i 0) (i 1) : ℝ) : EReal))
      ∧ (∀ i, x3 i = ((T (i 0) (i 1) : ℝ) : EReal)) ∧ (∀ i, x4 i = ((W (i 0) : ℝ) : EReal)) := by
  have e := congrFun h (fun a => a.elim0)
  unfold Cert.Pre_loss_finite.fn Cert.Pre_loss_finite.fn_part1 at e
  dsimp only at e
  obtain ⟨e, e4⟩ := andi_one _ _ _ e
  obtain ⟨e, e3⟩ := andi_one _ _ _ e
  obtain ⟨e, e2⟩ := andi_one _ _ _ e
  obtain ⟨e0, e1⟩ := andi_one _ _ _ e
  obtain ⟨A, hA⟩ := mat_of_real (real_of_fin x0 _ _ _ _ _ e0)
  obtain ⟨B, hB⟩ := mat_of_real (real_of_fin x1 _ _ _ _ _ e1)
  obtain ⟨X, hX⟩ := mat_of_real (real_of_fin x2 _ _ _ _ _ e2)
  obtain ⟨T, hT⟩ := mat_of_real (real_of_fin x3 _ _ _ _ _ e3)
  obtain ⟨W, hW⟩ := vec_of_real (real_of_fin x4 _ _ _ _ _ e4)
  exact ⟨A, B, X, T, W, hA, hB, hX, hT, hW⟩

theorem frame_kernel : Cert.quiescent_Loss := fun m ρ _ => Cert.Loss.Gen.frame m ρ
theorem frame_ideal : Cert.quiescent_LossIdeal := fun m ρ _ => Cert.LossIdeal.Gen.frame m ρ
theorem frame_ideal_pre : Cert.quiescent_LossIdeal_pre_loss_finite := fun m ρ _ => Cert.LossIdeal.Gen.frame m ρ
theorem frame_ref : Cert.quiescent_LossRefIdeal := fun m ρ _ =>
  (θ_run Cert.LossRefIdeal.defs _ _).mono (fun r h => ⟨fun c => (h c).2.2.2.2, sem_eq_zero_of_no_sems (by decide) r.2⟩) (Cert.LossRefIdeal.Value.run (F := Ideal) m ρ)
theorem frame_ref_pre : Cert.quiescent_LossRefIdeal_pre_loss_finite := fun m ρ _ => frame_ref m ρ trivial

/-- Both programs end with the loss and the gradients over the real numbers. -/
theorem value : Cert.algebraic_LossIdeal_LossRefIdeal_pre_loss_finite := by
  intro m ρ m' ρ' hpre hag
  choose A B X T W hA hB hX hT hW using fun c => real_args _ _ _ _ _ (hpre c)
  refine ⟨_, _, _, _, Cert.LossIdeal.Value.run_blocks m ρ, (θ_run Cert.LossRefIdeal.defs _ _).mono (fun r h c => ?_) (Cert.LossRefIdeal.Value.run (F := Ideal) m' ρ')⟩
  obtain ⟨g0, g1, g2, g3, g4⟩ := hag c
  obtain ⟨h0, h1, h2, h3, hk⟩ := h c
  have kA := fun i => (congrFun g0 i).trans (hA c i)
  have kB := fun i => (congrFun g1 i).trans (hB c i)
  have kX := fun i => (congrFun g2 i).trans (hX c i)
  have kT := fun i => (congrFun g3 i).trans (hT c i)
  have kW := fun i => (congrFun g4 i).trans (hW c i)
  refine ⟨h0.trans ?_, h1.trans ?_, h2.trans ?_, h3.trans ?_, hk⟩
  · rw [LossArrays.final5 m c (hA c) (hB c) (hX c) (hT c) (hW c)]
    exact (Cert.LossRefIdeal.Read.val_main_v53_eq ..).trans (funext fun i => LossRefReal.v53_real _ _ _ _ _ kA kB kX kT kW i)
  · rw [LossArrays.final6 m c (hA c) (hB c) (hX c) (hT c) (hW c)]
    exact (Cert.LossRefIdeal.Read.val_main_v52_eq m' c).trans (funext fun i => LossRefReal.v52_real _ _ _ _ _ kA kB kX kT kW i)
  · rw [LossArrays.final7 m c (hA c) (hB c) (hX c) (hT c) (hW c)]
    exact (Cert.LossRefIdeal.Read.val_main_v54_eq m' c).trans (funext fun i => LossRefReal.v54_real _ _ _ _ _ kA kB kX kT kW i)
  · rw [LossArrays.final8 m c (hA c) (hB c) (hX c) (hT c) (hW c)]
    exact (Cert.LossRefIdeal.Read.val_main_v55_eq ..).trans (funext fun i => LossRefReal.v55_real _ _ _ _ _ kA kB kX kT kW i)

end Cert.LossClaim

end
-- ==== Proof.MlaMath.lean ====
/- Causal attention of eight heads and its gradient, over the real numbers: the row sums of the exponentials, the
   weights, and the gradients of queries, keys and values for a cotangent of the output. -/
module

public import proofs.«01_k».proof.Proof.Reals

@[expose] public section

noncomputable section

namespace Cert.MlaMath

open Cert.Reals

variable (Q K : Fin 8192 → Fin 8 → Fin 96 → ℝ) (U D : Fin 8192 → Fin 8 → Fin 64 → ℝ)

/-- The score of query `i` and key `j`. -/
def sc (h : Fin 8) (i j : Fin 8192) : ℝ := ∑ a, Q i h a * K j h a

/-- A query's sum of the exponentials of the scores of the keys up to it. -/
def Z (h : Fin 8) (i : Fin 8192) : ℝ := ∑ j, if j ≤ i then Real.exp (sc Q K h i j) else 0

/-- The weight of key `j` for query `i`. -/
def P (h : Fin 8) (i j : Fin 8192) : ℝ := if j ≤ i then Real.exp (sc Q K h i j) / Z Q K h i else 0

/-- The cotangent of the weight. -/
def gp (h : Fin 8) (i j : Fin 8192) : ℝ := ∑ e, D i h e * U j h e

/-- A query's sum of cotangent times output. -/
def del (h : Fin 8) (i : Fin 8192) : ℝ := ∑ j, P Q K h i j * gp U D h i j

/-- The gradient of the score. -/
def ds (h : Fin 8) (i j : Fin 8192) : ℝ := P Q K h i j * (gp U D h i j - del Q K U D h i)

def dq (i : Fin 8192) (h : Fin 8) (a : Fin 96) : ℝ := ∑ j, ds Q K U D h i j * K j h a
def dk (j : Fin 8192) (h : Fin 8) (a : Fin 96) : ℝ := ∑ i, ds Q K U D h i j * Q i h a
def dv (j : Fin 8192) (h : Fin 8) (e : Fin 64) : ℝ := ∑ i, D i h e * P Q K h i j

theorem Z_pos (h : Fin 8) (i : Fin 8192) : 0 < Z Q K h i := by
  unfold Z
  refine Finset.sum_pos' (fun j _ => ?_) ⟨i, Finset.mem_univ _, ?_⟩
  · split
    · exact (Real.exp_pos _).le
    · exact le_rfl
  · rw [if_pos le_rfl]
    exact Real.exp_pos _

/-- The exponential of a score less `M`, where the key is visible. -/
def ex (M : ℝ) (h : Fin 8) (i j : Fin 8192) : ℝ := if j ≤ i then Real.exp (sc Q K h i j - M) else 0

theorem ex_eq (M : ℝ) (h : Fin 8) (i j : Fin 8192) : ex Q K M h i j = (if j ≤ i then Real.exp (sc Q K h i j) else 0) / Real.exp M := by
  unfold ex
  split
  · exact Real.exp_sub _ _
  · rw [zero_div]

theorem sum_ex (M : ℝ) (h : Fin 8) (i : Fin 8192) : ∑ j, ex Q K M h i j = Z Q K h i / Real.exp M := by
  simp only [ex_eq]
  rw [← Finset.sum_div]
  rfl

theorem sum_ex_pos (M : ℝ) (h : Fin 8) (i : Fin 8192) : 0 < ∑ j, ex Q K M h i j := by
  rw [sum_ex]
  exact div_pos (Z_pos Q K h i) (Real.exp_pos _)

/-- The weights do not depend on `M`. -/
theorem ex_div (M : ℝ) (h : Fin 8) (i j : Fin 8192) : ex Q K M h i j / ∑ j, ex Q K M h i j = P Q K h i j := by
  rw [sum_ex, ex_eq, div_div_div_cancel_right₀ (Real.exp_pos M).ne']
  unfold P
  split
  · rfl
  · rw [zero_div]

/-- Nor does the logarithm of the sum. -/
theorem log_sum_ex (M : ℝ) (h : Fin 8) (i : Fin 8192) : M + Real.log (∑ j, ex Q K M h i j) = Real.log (Z Q K h i) := by
  rw [sum_ex, Real.log_div (Z_pos Q K h i).ne' (Real.exp_pos M).ne', Real.log_exp]
  ring

/-- The weight from the logarithm of the sum. -/
theorem P_eq (h : Fin 8) (i j : Fin 8192) : P Q K h i j = if j ≤ i then Real.exp (sc Q K h i j - Real.log (Z Q K h i)) else 0 := by
  unfold P
  rw [Real.exp_sub, Real.exp_log (Z_pos Q K h i)]

/-- The gradient of the score as the quotient rule writes it. -/
theorem ds_eq (M : ℝ) (h : Fin 8) (i j : Fin 8192) :
    (gp U D h i j / (∑ j, ex Q K M h i j) + -∑ l, gp U D h i l * (1 / ((∑ j, ex Q K M h i j) * ∑ j, ex Q K M h i j)) * ex Q K M h i l) * ex Q K M h i j
      = ds Q K U D h i j := by
  have hL := (sum_ex_pos Q K M h i).ne'
  have hd : ∑ l, gp U D h i l * (1 / ((∑ j, ex Q K M h i j) * ∑ j, ex Q K M h i j)) * ex Q K M h i l
      = del Q K U D h i / ∑ j, ex Q K M h i j := by
    unfold del
    rw [Finset.sum_div]
    refine Finset.sum_congr rfl fun l _ => ?_
    rw [← ex_div Q K M]
    field_simp
  rw [hd]
  unfold ds
  rw [← ex_div Q K M h i j]
  field_simp
  ring

theorem ds_hidden (h : Fin 8) (i j : Fin 8192) (hij : ¬j ≤ i) : ds Q K U D h i j = 0 := by
  unfold ds P
  rw [if_neg hij, zero_mul]

/-- A head's row of 96 numbers in 128 lanes, the others zero. -/
def lane (f : Fin 96 → ℝ) (a : Fin 128) : ℝ := if h : a.val < 96 then f ⟨a.val, h⟩ else 0

/-- Row `r` of the block `t` of 512 rows. -/
def row (t : ℕ) (r : Fin 512) : Fin 8192 := ⟨(512 * t + r) % 8192, Nat.mod_lt _ (by norm_num)⟩

theorem row_val {t : ℕ} (h : t < 16) (r : Fin 512) : (row t r : ℕ) = 512 * t + r := by
  show (512 * t + (r : ℕ)) % 8192 = _
  have := r.isLt
  omega

/-- A sum over a head's 128 lanes is one over its 96 numbers. -/
theorem sum_lane (f g : Fin 96 → ℝ) : ∑ a, lane f a * lane g a = ∑ a, f a * g a := by
  have h := Fin.sum_univ_add (a := 96) (b := 32) fun a : Fin (96 + 32) => lane f a * lane g a
  refine h.trans ?_
  have h1 : ∀ a : Fin 96, lane f (Fin.castAdd 32 a) = f a := fun a => dif_pos a.isLt
  have h1' : ∀ a : Fin 96, lane g (Fin.castAdd 32 a) = g a := fun a => dif_pos a.isLt
  have h2 : ∀ a : Fin 32, lane f (Fin.natAdd 96 a) = 0 := fun a => dif_neg (by simp)
  simp only [h1, h1', h2, zero_mul, Finset.sum_const_zero, add_zero]

/-- The head of the lane `l` of pair `p`. -/
def headOf (p : Fin 4) (l : Fin 256) : Fin 8 := ⟨2 * p.val + l.val / 128, by omega⟩

theorem pos64 : 0 < 64 := by norm_num
theorem pos128 : 0 < 128 := by norm_num

/-- The head and the number within it of a lane out of `b` for each head. -/
def hd (b : ℕ) {n : ℕ} (hn : n = 8 * b) (i : Fin n) : Fin 8 := ⟨i.val / b, Nat.div_lt_of_lt_mul (by have := i.isLt; rw [Nat.mul_comm]; omega)⟩
def ln (b : ℕ) (hb : 0 < b) {n : ℕ} (i : Fin n) : Fin b := ⟨i.val % b, Nat.mod_lt _ hb⟩

/-- The greatest of finitely many extended reals that are reals or `-∞`, one of them a real, is a real. -/
theorem fold_max_real {ι : Type} (s : Finset ι) (f : ι → EReal) (h : ∀ i ∈ s, f i ≠ ⊤) (i : ι) (hi : i ∈ s) (hr : f i ≠ ⊥) :
    ∃ M : ℝ, s.fold max ⊥ f = (M : EReal) := by
  have h1 : s.fold max ⊥ f ≠ ⊤ := by
    refine ne_of_lt ?_
    rw [Finset.fold_max_lt]
    exact ⟨bot_lt_top, fun x hx => lt_top_iff_ne_top.mpr (h x hx)⟩
  have h2 : s.fold max ⊥ f ≠ ⊥ := by
    refine ne_of_gt ?_
    rw [Finset.lt_fold_max]
    exact .inr ⟨i, hi, bot_lt_iff_ne_bot.mpr hr⟩
  exact ⟨_, (EReal.coe_toReal h1 h2).symm⟩

end Cert.MlaMath

end
-- ==== Proof.Words.lean ====
/- Comparisons of small numbers as 32-bit words, and a choice by such a comparison. -/
module

public import Idealize.ShloMosaic.Lib.Pointwise

@[expose] public section

namespace Cert.Words

open Idealize.ShloMosaic

theorem toInt_small {a : ℕ} (h : a < 2 ^ 31) : (BitVec.ofNat 32 a).toInt = (a : ℤ) := by
  rw [BitVec.toInt_eq_toNat_of_lt (by rw [BitVec.toNat_ofNat]; omega), BitVec.toNat_ofNat, Nat.mod_eq_of_lt (by omega)]

theorem sle_small {a b : ℕ} (ha : a < 2 ^ 31) (hb : b < 2 ^ 31) :
    IntOp.cmpi .sle (BitVec.ofNat 32 a) (BitVec.ofNat 32 b) = if a ≤ b then 1#1 else 0#1 := by
  unfold IntOp.cmpi
  simp only [BitVec.sle, toInt_small ha, toInt_small hb, Int.ofNat_le]
  split <;> simp [*]

theorem slt_small {a b : ℕ} (ha : a < 2 ^ 31) (hb : b < 2 ^ 31) :
    IntOp.cmpi .slt (BitVec.ofNat 32 a) (BitVec.ofNat 32 b) = if a < b then 1#1 else 0#1 := by
  unfold IntOp.cmpi
  simp only [BitVec.slt, toInt_small ha, toInt_small hb, Int.ofNat_lt]
  split <;> simp [*]

theorem select_if {α : Type} (p : Prop) [Decidable p] (a b : α) : Scalar.select (if p then 1#1 else 0#1) a b = if p then a else b := by
  unfold Scalar.select
  split <;> simp [*]

end Cert.Words
-- ==== Proof.MlaOff.lean ====
/- Where the attention's backward kernel reads and writes. The kernel's query loops address their blocks by words; here
   each such address is stated as plain numbers: the block of queries that the trip is at, counted from the key block. -/
module

public import proofs.«01_k».proof.Proof.Gen.MlaIdeal.Frame
public import proofs.«01_k».proof.Proof.Gen.MlaIdeal.Loops

@[expose] public section

namespace Cert.MlaOff

open Cert.MlaIdeal Cert.MlaIdeal.Gen
open Idealize.ShloMosaic Idealize.ShloMosaic.TcCoe Idealize.ShloMosaic.Tactic

/-! ## The loop of three query blocks a trip -/

theorem trips1 : ∀ i : grid0.Coords, (k0_t1_loop i).trips = (15 - (i 1).val) / 3 := by decide +kernel

theorem off8 : ∀ (i : grid0.Coords) (k : Fin (k0_t1_loop i).trips) (r : Fin 3),
    k0_off8 i k (BitVec.ofNat 32 r.val) = ![512 * ((i 1).val + 1 + 3 * k.val + r.val), 0] := by decide +kernel
theorem off9 : ∀ (i : grid0.Coords) (k : Fin (k0_t1_loop i).trips) (r : Fin 3),
    k0_off9 i k (BitVec.ofNat 32 r.val) = ![512 * ((i 1).val + 1 + 3 * k.val + r.val), 0] := by decide +kernel
theorem off10 : ∀ (i : grid0.Coords) (k : Fin (k0_t1_loop i).trips) (r : Fin 3),
    k0_off10 i k (BitVec.ofNat 32 r.val) = ![0, (i 1).val + 1 + 3 * k.val + r.val, 0, 0] := by decide +kernel
theorem off11 : ∀ (i : grid0.Coords) (k : Fin (k0_t1_loop i).trips) (r : Fin 3),
    k0_off11 i k (BitVec.ofNat 32 r.val) = ![0, (i 1).val + 1 + 3 * k.val + r.val, 0, 0] := by decide +kernel
theorem off12 : ∀ (i : grid0.Coords) (k : Fin (k0_t1_loop i).trips) (r : Fin 3),
    k0_off12 i k (BitVec.ofNat 32 r.val) = ![512 * ((i 1).val + 1 + 3 * k.val + r.val), 128] := by decide +kernel
theorem off13 : ∀ (i : grid0.Coords) (k : Fin (k0_t1_loop i).trips) (r : Fin 3),
    k0_off13 i k (BitVec.ofNat 32 r.val) = ![1, (i 1).val + 1 + 3 * k.val + r.val, 0, 0] := by decide +kernel
theorem off14 : ∀ (i : grid0.Coords) (k : Fin (k0_t1_loop i).trips) (r : Fin 3),
    k0_off14 i k (BitVec.ofNat 32 r.val) = ![0, (i 1).val + 1 + 3 * k.val + r.val, 128, 0] := by decide +kernel

variable (i : grid0.Coords)

instance off11_0 (k : Fin (k0_t1_loop i).trips) : ClosedOff (k0_off11 i k 0#32) := ⟨_, off11 i k 0⟩
instance off11_1 (k : Fin (k0_t1_loop i).trips) : ClosedOff (k0_off11 i k 1#32) := ⟨_, off11 i k 1⟩
instance off11_2 (k : Fin (k0_t1_loop i).trips) : ClosedOff (k0_off11 i k 2#32) := ⟨_, off11 i k 2⟩
instance off14_0 (k : Fin (k0_t1_loop i).trips) : ClosedOff (k0_off14 i k 0#32) := ⟨_, off14 i k 0⟩
instance off14_1 (k : Fin (k0_t1_loop i).trips) : ClosedOff (k0_off14 i k 1#32) := ⟨_, off14 i k 1⟩
instance off14_2 (k : Fin (k0_t1_loop i).trips) : ClosedOff (k0_off14 i k 2#32) := ⟨_, off14 i k 2⟩

/-! ## The loop of one query block a trip, over what is left -/

theorem trips3 : ∀ i : grid0.Coords, (k0_t3_loop i).trips = (15 - (i 1).val) % 3 := by decide +kernel

theorem off22 : ∀ (i : grid0.Coords) (k : Fin (k0_t3_loop i).trips),
    k0_off22 i k = ![512 * ((i 1).val + 1 + 3 * (k0_t1_loop i).trips + k.val), 0] := by decide +kernel
theorem off23 : ∀ (i : grid0.Coords) (k : Fin (k0_t3_loop i).trips),
    k0_off23 i k = ![512 * ((i 1).val + 1 + 3 * (k0_t1_loop i).trips + k.val), 0] := by decide +kernel
theorem off24 : ∀ (i : grid0.Coords) (k : Fin (k0_t3_loop i).trips),
    k0_off24 i k = ![0, (i 1).val + 1 + 3 * (k0_t1_loop i).trips + k.val, 0, 0] := by decide +kernel
theorem off25 : ∀ (i : grid0.Coords) (k : Fin (k0_t3_loop i).trips),
    k0_off25 i k = ![0, (i 1).val + 1 + 3 * (k0_t1_loop i).trips + k.val, 0, 0] := by decide +kernel
theorem off26 : ∀ (i : grid0.Coords) (k : Fin (k0_t3_loop i).trips),
    k0_off26 i k = ![512 * ((i 1).val + 1 + 3 * (k0_t1_loop i).trips + k.val), 128] := by decide +kernel
theorem off27 : ∀ (i : grid0.Coords) (k : Fin (k0_t3_loop i).trips),
    k0_off27 i k = ![1, (i 1).val + 1 + 3 * (k0_t1_loop i).trips + k.val, 0, 0] := by decide +kernel
theorem off28 : ∀ (i : grid0.Coords) (k : Fin (k0_t3_loop i).trips),
    k0_off28 i k = ![0, (i 1).val + 1 + 3 * (k0_t1_loop i).trips + k.val, 128, 0] := by decide +kernel

instance off25_c (k : Fin (k0_t3_loop i).trips) : ClosedOff (k0_off25 i k) := ⟨_, off25 i k⟩
instance off28_c (k : Fin (k0_t3_loop i).trips) : ClosedOff (k0_off28 i k) := ⟨_, off28 i k⟩

end Cert.MlaOff
-- ==== Proof.MlaStep.lean ====
/- One block of queries against one block of keys, in the attention's backward kernel: what it adds to the gradients of
   the keys and of the values, which the kernel carries, and to the gradient of the queries, which it keeps in an array.
   All of it is stated as plain functions of the arrays that the kernel reads, with no memory in it. -/
module

public import proofs.«01_k».proof.Proof.MlaOff
public import Idealize.ShloMosaic.Lib.VecWindow

@[expose] public section

noncomputable section

namespace Cert.MlaStep

open Cert.MlaIdeal Cert.MlaIdeal.Gen
open Idealize.ShloMosaic Idealize.ShloMosaic.TcCoe

variable {F : FTy → Type} [FloatOps F]

/-- What the kernel reads at one grid point: the queries and the output's cotangent of two heads, one block of keys and
    values, each row's log-sum and each row's sum of cotangent times output. -/
structure Arrays (F : FTy → Type) [FloatOps F] where
  q : Vec F S8192x256 .bf16
  k : Vec F S512x256 .bf16
  v : Vec F S512x256 .bf16
  go : Vec F S8192x128 .bf16
  lse : Vec F S2x16x1x512 .f32
  del : Vec F S2x16x1x512 .f32

/-- The gradients carried through the query blocks: of the keys of each of the two heads, and of the values of both. -/
abbrev Acc (F : FTy → Type) [FloatOps F] := FVec F S512x128 .f32 × FVec F S512x128 .f32 × FVec F S512x128 .f32

/-- The gradient of the queries of two heads, transposed, by blocks of queries. -/
abbrev Dq (F : FTy → Type) [FloatOps F] := Vec F S1x16x256x512 .f32

theorem in_q : ∀ n : Fin 16, ∀ a, (![512 * n.val, 0] : Fin 2 → ℕ) a + S512x128.size a ≤ S8192x256.size a := by decide +kernel
theorem in_q' : ∀ n : Fin 16, ∀ a, (![512 * n.val, 128] : Fin 2 → ℕ) a + S512x128.size a ≤ S8192x256.size a := by decide +kernel
theorem in_go : ∀ n : Fin 16, ∀ a, (![512 * n.val, 0] : Fin 2 → ℕ) a + S512x128.size a ≤ S8192x128.size a := by decide +kernel
theorem in_row : ∀ n : Fin 16, ∀ a, (![0, n.val, 0, 0] : Fin 4 → ℕ) a + S1x1x1x512.size a ≤ S2x16x1x512.size a := by decide +kernel
theorem in_row' : ∀ n : Fin 16, ∀ a, (![1, n.val, 0, 0] : Fin 4 → ℕ) a + S1x1x1x512.size a ≤ S2x16x1x512.size a := by decide +kernel
theorem in_dq : ∀ n : Fin 16, ∀ a, (![0, n.val, 0, 0] : Fin 4 → ℕ) a + S1x1x128x512.size a ≤ S1x16x256x512.size a := by decide +kernel
theorem in_dq' : ∀ n : Fin 16, ∀ a, (![0, n.val, 128, 0] : Fin 4 → ℕ) a + S1x1x128x512.size a ≤ S1x16x256x512.size a := by decide +kernel

namespace Arrays

variable (o : Arrays F) (n : Fin 16)

def q0 : Vec F S512x128 .bf16 := VecWindow.window o.q ![512 * n.val, 0] S512x128.size (in_q n)
def q1 : Vec F S512x128 .bf16 := VecWindow.window o.q ![512 * n.val, 128] S512x128.size (in_q' n)
def go0 : Vec F S512x128 .bf16 := VecWindow.window o.go ![512 * n.val, 0] S512x128.size (in_go n)
def k0 : Vec F S512x128 .bf16 := VecWindow.window o.k ![0, 0] S512x128.size inb_S512x256_S512x128_0_0
def k1 : Vec F S512x128 .bf16 := VecWindow.window o.k ![0, 128] S512x128.size inb_S512x256_S512x128_0_128
def v0 : FVec F S512x128 .bf16 := k0_pay143 (VecWindow.window o.v ![0, 0] S512x128.size inb_S512x256_S512x128_0_0)
def v1 : FVec F S512x128 .bf16 := k0_pay144 (VecWindow.window o.v ![0, 128] S512x128.size inb_S512x256_S512x128_0_128)
def lse0 : Vec F S1x1x1x512 .f32 := VecWindow.window o.lse ![0, n.val, 0, 0] S1x1x1x512.size (in_row n)
def lse1 : Vec F S1x1x1x512 .f32 := VecWindow.window o.lse ![1, n.val, 0, 0] S1x1x1x512.size (in_row' n)
def del0 : Vec F S1x1x1x512 .f32 := VecWindow.window o.del ![0, n.val, 0, 0] S1x1x1x512.size (in_row n)
def del1 : Vec F S1x1x1x512 .f32 := VecWindow.window o.del ![1, n.val, 0, 0] S1x1x1x512.size (in_row' n)

end Arrays

/-- The first head's block of the queries' gradient, and the second's. -/
def blk0 (x : Dq F) (n : Fin 16) : Vec F S1x1x128x512 .f32 := VecWindow.window x ![0, n.val, 0, 0] S1x1x128x512.size (in_dq n)
def blk1 (x : Dq F) (n : Fin 16) : Vec F S1x1x128x512 .f32 := VecWindow.window x ![0, n.val, 128, 0] S1x1x128x512.size (in_dq' n)

/-- Both heads' blocks of the queries' gradient replaced. -/
def putBoth (x : Dq F) (n : Fin 16) (a b : Vec F S1x1x128x512 .f32) : Dq F :=
  VecWindow.put (VecWindow.put x ![0, n.val, 0, 0] S1x1x128x512.size a) ![0, n.val, 128, 0] S1x1x128x512.size b

variable (o : Arrays F) (n : Fin 16)

/-- A block of queries that lies wholly after the keys: nothing is masked. -/
def step (s : Acc F × Dq F) : Acc F × Dq F :=
  ((k0_pay113 o.v0 s.1.1 (o.go0 n) o.k0 (o.q0 n) (o.lse0 n) (o.del0 n),
    k0_pay121 o.v1 s.1.2.1 (k0_pay106 (o.go0 n)) o.k1 (o.q1 n) (o.lse1 n) (o.del1 n),
    k0_pay119 k0_pay142 (k0_pay107 (o.go0 n)) (k0_pay111 k0_pay141 s.1.2.2 (o.go0 n) o.k0 (o.q0 n) (o.lse0 n)) o.k1 (o.q1 n) (o.lse1 n)),
   putBoth s.2 n (k0_pay115 (k0_pay114 o.v0 (o.go0 n) o.k0 (o.q0 n) (o.lse0 n) (o.del0 n) (blk0 s.2 n)))
    (k0_pay7 (k0_pay122 o.v1 (k0_pay106 (o.go0 n)) o.k1 (o.q1 n) (o.lse1 n) (o.del1 n) (blk1 s.2 n))))

/-- The numbers of rows and of columns, by which the block on the diagonal is masked. -/
abbrev rowNo : IVec S512x512 32 := iota .tc S512x512 32 [0] iota_S512x512_d0_w32
abbrev colNo : IVec S512x512 32 := iota .tc S512x512 32 [1] iota_S512x512_d1_w32

/-- The block of queries at the keys' own place, masked, from nothing carried. -/
def first (x : Dq F) : Acc F × Dq F :=
  ((k0_pay155 rowNo colNo o.v0 k0_pay145 (k0_pay146 (o.go0 n)) (k0_pay149 (o.q0 n)) (k0_pay150 o.k0 (o.q0 n)) (k0_pay151 (o.lse0 n)) (o.del0 n),
    k0_pay164 rowNo colNo o.v1 k0_pay145 (k0_pay146 (o.go0 n)) (k0_pay158 (o.q1 n)) (k0_pay159 o.k1 (o.q1 n)) (k0_pay160 (o.lse1 n)) (o.del1 n),
    k0_pay162 rowNo colNo k0_pay142 (k0_pay147 (o.go0 n))
      (k0_pay153 rowNo colNo k0_pay141 k0_pay145 (k0_pay147 (o.go0 n)) (k0_pay150 o.k0 (o.q0 n)) (k0_pay151 (o.lse0 n)))
      (k0_pay159 o.k1 (o.q1 n)) (k0_pay160 (o.lse1 n))),
   putBoth x n
    (k0_pay156 rowNo colNo o.v0 (k0_pay146 (o.go0 n)) (k0_pay148 o.k0) (k0_pay150 o.k0 (o.q0 n)) (k0_pay151 (o.lse0 n)) (o.del0 n) (blk0 x n))
    (k0_pay165 rowNo colNo o.v1 (k0_pay146 (o.go0 n)) (k0_pay157 o.k1) (k0_pay159 o.k1 (o.q1 n)) (k0_pay160 (o.lse1 n)) (o.del1 n) (blk1 x n)))

/-- `j` blocks of queries from block `a` on. -/
def runFrom (a : ℕ) (s : Acc F × Dq F) : ℕ → Acc F × Dq F
  | 0 => s
  | j + 1 => step o (Fin.ofNat 16 (a + j)) (runFrom a s j)

theorem runFrom_succ (a : ℕ) (s : Acc F × Dq F) (j : ℕ) : runFrom o a s (j + 1) = step o (Fin.ofNat 16 (a + j)) (runFrom o a s j) := rfl

/-- Blocks taken in two goes. -/
theorem runFrom_add (a : ℕ) (s : Acc F × Dq F) (j l : ℕ) : runFrom o a s (j + l) = runFrom o (a + j) (runFrom o a s j) l := by
  induction l with
  | zero => rfl
  | succ l ih => rw [← Nat.add_assoc, runFrom_succ, runFrom_succ, ih, Nat.add_assoc]

/-- What the kernel's body leaves at key block `n`, from the queries' gradient that it found. -/
def point (x : Dq F) : Acc F × Dq F := runFrom o (n.val + 1) (first o n x) (15 - n.val)

theorem blk1_put (x : Dq F) (a : Vec F S1x1x128x512 .f32) :
    VecWindow.window (VecWindow.put x ![0, n.val, 0, 0] S1x1x128x512.size a) ![0, n.val, 128, 0] S1x1x128x512.size (in_dq' n) = blk1 x n :=
  VecWindow.window_put_of_disjoint _ _ _ _ _ _ _ (2 : Fin 4) (.inr (le_refl 128))

/-- The blocks of the queries' gradient at different places are not in each other's way. -/
theorem blk0_putBoth {m : Fin 16} (hm : n.val < m.val) (x : Dq F) (a b : Vec F S1x1x128x512 .f32) : blk0 (putBoth x n a b) m = blk0 x m :=
  (VecWindow.window_put_of_disjoint _ _ _ _ _ (in_dq m) _ (1 : Fin 4) (.inr hm)).trans
    (VecWindow.window_put_of_disjoint _ _ _ _ _ (in_dq m) _ (1 : Fin 4) (.inr hm))
theorem blk1_putBoth {m : Fin 16} (hm : n.val < m.val) (x : Dq F) (a b : Vec F S1x1x128x512 .f32) : blk1 (putBoth x n a b) m = blk1 x m :=
  (VecWindow.window_put_of_disjoint _ _ _ _ _ (in_dq' m) _ (1 : Fin 4) (.inr hm)).trans
    (VecWindow.window_put_of_disjoint _ _ _ _ _ (in_dq' m) _ (1 : Fin 4) (.inr hm))

/-- A step, with the blocks of the queries' gradient that it adds to given beside it. -/
def stepOn (s : Acc F × Dq F) (a b : Vec F S1x1x128x512 .f32) : Acc F × Dq F :=
  ((k0_pay113 o.v0 s.1.1 (o.go0 n) o.k0 (o.q0 n) (o.lse0 n) (o.del0 n),
    k0_pay121 o.v1 s.1.2.1 (k0_pay106 (o.go0 n)) o.k1 (o.q1 n) (o.lse1 n) (o.del1 n),
    k0_pay119 k0_pay142 (k0_pay107 (o.go0 n)) (k0_pay111 k0_pay141 s.1.2.2 (o.go0 n) o.k0 (o.q0 n) (o.lse0 n)) o.k1 (o.q1 n) (o.lse1 n)),
   putBoth s.2 n (k0_pay115 (k0_pay114 o.v0 (o.go0 n) o.k0 (o.q0 n) (o.lse0 n) (o.del0 n) a))
    (k0_pay7 (k0_pay122 o.v1 (k0_pay106 (o.go0 n)) o.k1 (o.q1 n) (o.lse1 n) (o.del1 n) b)))

theorem step_eq (s : Acc F × Dq F) : step o n s = stepOn o n s (blk0 s.2 n) (blk1 s.2 n) := rfl
theorem stepOn_snd (s : Acc F × Dq F) (a b : Vec F S1x1x128x512 .f32) : ∃ a' b', (stepOn o n s a b).2 = putBoth s.2 n a' b' := ⟨_, _, rfl⟩

/-- Three steps at different places add each to the blocks found at the start. -/
theorem step3 {n₀ n₁ n₂ : Fin 16} (h₁ : n₀.val < n₁.val) (h₂ : n₁.val < n₂.val) (s : Acc F × Dq F) :
    step o n₂ (step o n₁ (step o n₀ s))
      = stepOn o n₂ (stepOn o n₁ (stepOn o n₀ s (blk0 s.2 n₀) (blk1 s.2 n₀)) (blk0 s.2 n₁) (blk1 s.2 n₁)) (blk0 s.2 n₂) (blk1 s.2 n₂) := by
  rw [step_eq o n₀, step_eq o n₁, step_eq o n₂]
  have h0 : ∀ s a b, blk0 (stepOn o n₀ s a b).2 n₁ = blk0 s.2 n₁ := fun s a b => blk0_putBoth n₀ h₁ _ _ _
  have h0' : ∀ s a b, blk1 (stepOn o n₀ s a b).2 n₁ = blk1 s.2 n₁ := fun s a b => blk1_putBoth n₀ h₁ _ _ _
  have h1 : ∀ s a b, blk0 (stepOn o n₁ s a b).2 n₂ = blk0 s.2 n₂ := fun s a b => blk0_putBoth n₁ h₂ _ _ _
  have h1' : ∀ s a b, blk1 (stepOn o n₁ s a b).2 n₂ = blk1 s.2 n₂ := fun s a b => blk1_putBoth n₁ h₂ _ _ _
  have h2 : ∀ s a b, blk0 (stepOn o n₀ s a b).2 n₂ = blk0 s.2 n₂ := fun s a b => blk0_putBoth n₀ (h₁.trans h₂) _ _ _
  have h2' : ∀ s a b, blk1 (stepOn o n₀ s a b).2 n₂ = blk1 s.2 n₂ := fun s a b => blk1_putBoth n₀ (h₁.trans h₂) _ _ _
  rw [h1, h1', h0, h0', h2, h2']

end Cert.MlaStep

end
-- ==== Proof.MlaPay.lean ====
/- One block of queries against one block of keys at finite arguments: each payload of the attention's backward kernel as
   a real expression. The second head's payloads are the first head's at the second head's arrays, and the block on the
   diagonal differs by its mask alone. -/
module

public import proofs.«01_k».proof.Proof.Words
public import proofs.«01_k».proof.Proof.Reals
public import proofs.«01_k».proof.Proof.MlaStep
public import Idealize.ShloMosaic.Lib.Pointwise

@[expose] public section

set_option maxRecDepth 16384

noncomputable section

namespace Cert.MlaPay

open Cert.MlaIdeal Cert.MlaIdeal.Gen Cert.MlaStep Cert.Reals
open Idealize.ShloMosaic

/-- A block's weights: keys' rows against queries' columns, zero where the mask hides the key. -/
def bp (vis : Fin 512 → Fin 512 → Prop) [∀ r c, Decidable (vis r c)] (k q : Fin 512 → Fin 128 → ℝ) (ls : Fin 512 → ℝ) (r c : Fin 512) : ℝ :=
  if vis r c then Real.exp ((∑ a, k r a * q c a) - ls c) else 0

/-- The gradient of a block's scores. -/
def bds (vis : Fin 512 → Fin 512 → Prop) [∀ r c, Decidable (vis r c)] (v g k q : Fin 512 → Fin 128 → ℝ) (ls dl : Fin 512 → ℝ) (r c : Fin 512) : ℝ :=
  bp vis k q ls r c * ((∑ e, v r e * g c e) - dl c)

abbrev all : Fin 512 → Fin 512 → Prop := fun _ _ => True
abbrev low : Fin 512 → Fin 512 → Prop := fun r c => r ≤ c

/-! ## The second head's payloads are the first head's -/

section
variable {F : FTy → Type} [FloatOps F] (v acc8 : FVec F S512x128 .bf16) (acc m : FVec F S512x128 .f32) (go k q : Vec F S512x128 .bf16)
  (l d : Vec F S1x1x1x512 .f32) (b : Vec F S1x1x128x512 .f32)

theorem pay121_eq : k0_pay121 v acc (k0_pay106 go) k q l d = k0_pay113 v acc go k q l d := rfl
theorem pay119_eq : k0_pay119 m (k0_pay107 go) acc k q l = k0_pay111 m acc go k q l := rfl
theorem pay122_eq : k0_pay7 (k0_pay122 v (k0_pay106 go) k q l d b) = k0_pay115 (k0_pay114 v go k q l d b) := rfl
theorem pay164_eq : k0_pay164 rowNo colNo v acc (k0_pay146 go) (k0_pay158 q) (k0_pay159 k q) (k0_pay160 l) d
    = k0_pay155 rowNo colNo v acc (k0_pay146 go) (k0_pay149 q) (k0_pay150 k q) (k0_pay151 l) d := rfl
theorem pay162_eq : k0_pay162 rowNo colNo m (k0_pay147 go) acc (k0_pay159 k q) (k0_pay160 l)
    = k0_pay153 rowNo colNo m acc (k0_pay147 go) (k0_pay150 k q) (k0_pay151 l) := rfl
theorem pay165_eq : k0_pay165 rowNo colNo v (k0_pay146 go) (k0_pay157 k) (k0_pay159 k q) (k0_pay160 l) d b
    = k0_pay156 rowNo colNo v (k0_pay146 go) (k0_pay148 k) (k0_pay150 k q) (k0_pay151 l) d b := rfl
end

/-! ## The lanes of the two heads -/

/-- One on the lanes of the first head, and one on those of the second. -/
def m0 (l : Fin 128) : ℝ := if l.val < 64 then 1 else 0
def m1 (l : Fin 128) : ℝ := 1 - m0 l

theorem pay141_real (r : Fin 512) (l : Fin 128) : k0_pay141 (F := Ideal) (ix2 r l) = ((m0 l : ℝ) : EReal) := by
  pointwise [k0_pay141]
  have hl : (l : ℕ) < 2 ^ 31 := lt_trans l.isLt (by norm_num)
  refine (congrArg (fun w : BitVec 1 => FloatOps.sitofp (F := Ideal) FTy.f32 (BitVec.setWidth 32 w)) (Words.slt_small hl (b := 64) (by norm_num))).trans ?_
  unfold m0
  split
  · show (((BitVec.setWidth 32 1#1).toInt : ℝ) : EReal) = ((1 : ℝ) : EReal)
    norm_num
  · show (((BitVec.setWidth 32 0#1).toInt : ℝ) : EReal) = ((0 : ℝ) : EReal)
    norm_num

theorem pay142_real (r : Fin 512) (l : Fin 128) : k0_pay142 (F := Ideal) (ix2 r l) = ((m1 l : ℝ) : EReal) := by
  pointwise [k0_pay142]
  rw [pay141_real, ← EReal.coe_one, ← EReal.coe_sub]
  rfl

/-! ## An unmasked block -/

section
variable {v : FVec Ideal S512x128 .bf16} {acc m : FVec Ideal S512x128 .f32} {go k q : Vec Ideal S512x128 .bf16}
  {l d : Vec Ideal S1x1x1x512 .f32} {b : Vec Ideal S1x1x128x512 .f32}
variable {vR gR kR qR aR : Fin 512 → Fin 128 → ℝ} {lR dR : Fin 512 → ℝ} {mR : Fin 128 → ℝ} {bR : Fin 128 → Fin 512 → ℝ}
variable (hk : ∀ r a, k (ix2 r a) = ((kR r a : ℝ) : EReal)) (hq : ∀ r a, q (ix2 r a) = ((qR r a : ℝ) : EReal))
  (hl : ∀ x y z c, l (ix4 x y z c) = ((lR c : ℝ) : EReal))
include hk hq hl

theorem pay110_real (r c : Fin 512) : k0_pay110 k q l (ix2 r c) = ((bp all kR qR lR r c : ℝ) : EReal) := by
  pointwise [k0_pay110, k0_pay108, k0_pay109]
  simp only [hk, hq, hl, zero_word, ← EReal.coe_mul, sum_real, ← EReal.coe_add, zero_add, ← EReal.coe_sub]
  exact (Ideal.exp_coe _).trans (congrArg _ (if_pos trivial).symm)

theorem pay152_real (r c : Fin 512) : k0_pay152 rowNo colNo (k0_pay150 k q) (k0_pay151 l) (ix2 r c) = ((bp low kR qR lR r c : ℝ) : EReal) := by
  pointwise [k0_pay152, k0_pay150, k0_pay151, k0_pay148, k0_pay149]
  simp only [hk, hq, hl, zero_word, ← EReal.coe_mul, sum_real, ← EReal.coe_add, zero_add, ← EReal.coe_sub]
  refine (congrArg (fun w => Scalar.select w _ _) (Words.sle_small (lt_trans r.isLt (by norm_num)) (lt_trans c.isLt (by norm_num)))).trans ?_
  refine (Words.select_if _ _ _).trans ?_
  unfold bp
  by_cases h : r ≤ c
  · exact (if_pos h).trans ((Ideal.exp_coe _).trans (congrArg _ (if_pos h).symm))
  · exact (if_neg h).trans (congrArg Real.toEReal (if_neg h).symm)

variable (hg : ∀ r a, go (ix2 r a) = ((gR r a : ℝ) : EReal))
include hg

theorem pay111_real (hm : ∀ r a, m (ix2 r a) = ((mR a : ℝ) : EReal)) (ha : ∀ r a, acc (ix2 r a) = ((aR r a : ℝ) : EReal)) (r : Fin 512) (a : Fin 128) :
    k0_pay111 m acc go k q l (ix2 r a) = ((aR r a + ∑ c, bp all kR qR lR r c * (gR c a * mR a) : ℝ) : EReal) := by
  pointwise [k0_pay111, k0_pay107, k0_pay106]
  simp only [pay110_real hk hq hl, hm, ha, hg, zero_word, ← EReal.coe_mul, sum_real, ← EReal.coe_add, zero_add]

theorem pay153_real (hm : ∀ r a, m (ix2 r a) = ((mR a : ℝ) : EReal)) (ha : ∀ r a, acc (ix2 r a) = ((aR r a : ℝ) : EReal)) (r : Fin 512) (a : Fin 128) :
    k0_pay153 rowNo colNo m acc (k0_pay147 go) (k0_pay150 k q) (k0_pay151 l) (ix2 r a)
      = ((aR r a + ∑ c, bp low kR qR lR r c * (gR c a * mR a) : ℝ) : EReal) := by
  pointwise [k0_pay153, k0_pay147, k0_pay146]
  simp only [pay152_real hk hq hl, hm, ha, hg, zero_word, ← EReal.coe_mul, sum_real, ← EReal.coe_add, zero_add]

variable (hv : ∀ r a, v (ix2 r a) = ((vR r a : ℝ) : EReal)) (hd : ∀ x y z c, d (ix4 x y z c) = ((dR c : ℝ) : EReal))
include hv hd

theorem pay112_real (r c : Fin 512) : k0_pay112 v go k q l d (ix2 r c) = ((bds all vR gR kR qR lR dR r c : ℝ) : EReal) := by
  pointwise [k0_pay112, k0_pay106]
  simp only [pay110_real hk hq hl, hv, hg, hd, zero_word, ← EReal.coe_mul, sum_real, ← EReal.coe_add, zero_add, ← EReal.coe_sub]
  rfl

theorem pay154_real (r c : Fin 512) : k0_pay154 rowNo colNo v (k0_pay146 go) (k0_pay150 k q) (k0_pay151 l) d (ix2 r c)
    = ((bds low vR gR kR qR lR dR r c : ℝ) : EReal) := by
  pointwise [k0_pay154, k0_pay146]
  simp only [pay152_real hk hq hl, hv, hg, hd, zero_word, ← EReal.coe_mul, sum_real, ← EReal.coe_add, zero_add, ← EReal.coe_sub]
  rfl

theorem pay113_real (ha : ∀ r a, acc (ix2 r a) = ((aR r a : ℝ) : EReal)) (r : Fin 512) (a : Fin 128) :
    k0_pay113 v acc go k q l d (ix2 r a) = ((aR r a + ∑ c, bds all vR gR kR qR lR dR r c * qR c a : ℝ) : EReal) := by
  pointwise [k0_pay113, k0_pay109]
  simp only [pay112_real hk hq hl hg hv hd, ha, hq, zero_word, ← EReal.coe_mul, sum_real, ← EReal.coe_add, zero_add]

theorem pay155_real (ha : ∀ r a, acc (ix2 r a) = ((aR r a : ℝ) : EReal)) (r : Fin 512) (a : Fin 128) :
    k0_pay155 rowNo colNo v acc (k0_pay146 go) (k0_pay149 q) (k0_pay150 k q) (k0_pay151 l) d (ix2 r a)
      = ((aR r a + ∑ c, bds low vR gR kR qR lR dR r c * qR c a : ℝ) : EReal) := by
  pointwise [k0_pay155, k0_pay149]
  simp only [pay154_real hk hq hl hg hv hd, ha, hq, zero_word, ← EReal.coe_mul, sum_real, ← EReal.coe_add, zero_add]

theorem pay115_real (hb : ∀ x y a c, b (ix4 x y a c) = ((bR a c : ℝ) : EReal)) (x y : Fin 1) (a : Fin 128) (c : Fin 512) :
    k0_pay115 (k0_pay114 v go k q l d b) (ix4 x y a c) = ((bR a c + ∑ r, kR r a * bds all vR gR kR qR lR dR r c : ℝ) : EReal) := by
  pointwise [k0_pay115, k0_pay114, k0_pay108]
  simp only [pay112_real hk hq hl hg hv hd, hb, hk, zero_word, ← EReal.coe_mul, sum_real, ← EReal.coe_add, zero_add]

theorem pay156_real (hb : ∀ x y a c, b (ix4 x y a c) = ((bR a c : ℝ) : EReal)) (x y : Fin 1) (a : Fin 128) (c : Fin 512) :
    k0_pay156 rowNo colNo v (k0_pay146 go) (k0_pay148 k) (k0_pay150 k q) (k0_pay151 l) d b (ix4 x y a c)
      = ((bR a c + ∑ r, kR r a * bds low vR gR kR qR lR dR r c : ℝ) : EReal) := by
  pointwise [k0_pay156, k0_pay148]
  simp only [pay154_real hk hq hl hg hv hd, hb, hk, zero_word, ← EReal.coe_mul, sum_real, ← EReal.coe_add, zero_add]

end

end Cert.MlaPay

end
-- ==== Proof.MlaPoint.lean ====
/- One grid point of the attention's backward kernel at finite arguments: the blocks of queries from the keys' own block on
   add up to the gradients of the keys and of the values, and each adds its part to the gradient of the queries. -/
module

public import proofs.«01_k».proof.Proof.MlaMath
public import proofs.«01_k».proof.Proof.MlaPay

@[expose] public section

set_option maxRecDepth 16384

noncomputable section

namespace Cert.MlaPoint

open Cert.MlaIdeal Cert.MlaIdeal.Gen Cert.MlaStep Cert.MlaPay Cert.Reals Cert.MlaMath
open Idealize.ShloMosaic

/-- The two heads of a pair. -/
def hA (p : Fin 4) : Fin 8 := ⟨2 * p.val, by omega⟩
def hB (p : Fin 4) : Fin 8 := ⟨2 * p.val + 1, by omega⟩

variable (Q K : Fin 8192 → Fin 8 → Fin 96 → ℝ) (U D : Fin 8192 → Fin 8 → Fin 64 → ℝ)

/-- A head's block of keys or of queries, in 128 lanes. -/
def xR (h : Fin 8) (n : ℕ) (r : Fin 512) (a : Fin 128) : ℝ := lane (Q (row n r) h) a

/-- The two heads' values, each on its own half of the lanes, and the output's cotangent of both. -/
def vA (p : Fin 4) (n : ℕ) (r : Fin 512) (e : Fin 128) : ℝ := if h : e.val < 64 then U (row n r) (hA p) ⟨e.val, h⟩ else 0
def vB (p : Fin 4) (n : ℕ) (r : Fin 512) (e : Fin 128) : ℝ := if h : e.val < 64 then 0 else U (row n r) (hB p) ⟨e.val - 64, by omega⟩
def gR (p : Fin 4) (n : ℕ) (r : Fin 512) (e : Fin 128) : ℝ :=
  if h : e.val < 64 then D (row n r) (hA p) ⟨e.val, h⟩ else D (row n r) (hB p) ⟨e.val - 64, by omega⟩
def lR (h : Fin 8) (n : ℕ) (c : Fin 512) : ℝ := Real.log (Z Q K h (row n c))
def dR (h : Fin 8) (n : ℕ) (c : Fin 512) : ℝ := del Q K U D h (row n c)

/-- What the queries of block `b` add to the gradients of the keys of block `n`, of the queries and of the values. -/
def cdk (h : Fin 8) (n b : ℕ) (r : Fin 512) (a : Fin 128) : ℝ := ∑ c, ds Q K U D h (row b c) (row n r) * xR Q h b c a
def cdq (h : Fin 8) (n b : ℕ) (a : Fin 128) (c : Fin 512) : ℝ := ∑ r, xR K h n r a * ds Q K U D h (row b c) (row n r)
def cdv (p : Fin 4) (n b : ℕ) (r : Fin 512) (l : Fin 128) : ℝ :=
  (∑ c, P Q K (hA p) (row b c) (row n r) * (gR D p b c l * m0 l)) + ∑ c, P Q K (hB p) (row b c) (row n r) * (gR D p b c l * m1 l)

variable {Q K U D}

theorem sum_halves (f : Fin 128 → ℝ) : ∑ e, f e = ∑ e : Fin 64, f ⟨e.val, by omega⟩ + ∑ e : Fin 64, f ⟨64 + e.val, by omega⟩ :=
  Fin.sum_univ_add (a := 64) (b := 64) f

theorem gpA (p : Fin 4) (n b : ℕ) (r c : Fin 512) : ∑ e, vA U p n r e * gR D p b c e = gp U D (hA p) (row b c) (row n r) := by
  rw [sum_halves]
  have h0 : ∀ e : Fin 64, vA U p n r ⟨64 + e.val, by omega⟩ = 0 := fun e => dif_neg (by simp)
  have h1 : ∀ e : Fin 64, vA U p n r ⟨e.val, by omega⟩ = U (row n r) (hA p) e := fun e => dif_pos e.isLt
  have h2 : ∀ e : Fin 64, gR D p b c ⟨e.val, by omega⟩ = D (row b c) (hA p) e := fun e => dif_pos e.isLt
  simp only [h0, h1, h2, zero_mul, Finset.sum_const_zero, add_zero]
  exact Finset.sum_congr rfl fun e _ => mul_comm _ _

theorem gpB (p : Fin 4) (n b : ℕ) (r c : Fin 512) : ∑ e, vB U p n r e * gR D p b c e = gp U D (hB p) (row b c) (row n r) := by
  rw [sum_halves]
  have h0 : ∀ e : Fin 64, vB U p n r ⟨e.val, by omega⟩ = 0 := fun e => dif_pos e.isLt
  have h1 : ∀ e : Fin 64, vB U p n r ⟨64 + e.val, by omega⟩ = U (row n r) (hB p) e := fun e => by
    refine (dif_neg (by simp)).trans (congrArg _ (Fin.ext ?_)); show 64 + e.val - 64 = e.val; omega
  have h2 : ∀ e : Fin 64, gR D p b c ⟨64 + e.val, by omega⟩ = D (row b c) (hB p) e := fun e => by
    refine (dif_neg (by simp)).trans (congrArg _ (Fin.ext ?_)); show 64 + e.val - 64 = e.val; omega
  simp only [h0, h1, h2, zero_mul, Finset.sum_const_zero, zero_add]
  exact Finset.sum_congr rfl fun e _ => mul_comm _ _

section
variable {vis : Fin 512 → Fin 512 → Prop} [∀ r c, Decidable (vis r c)] {n b : ℕ} (hv : ∀ r c, vis r c ↔ row n r ≤ row b c)
include hv

/-- A block's weights are the attention's, -/
theorem bp_eq (h : Fin 8) (r c : Fin 512) : bp vis (xR K h n) (xR Q h b) (lR Q K h b) r c = P Q K h (row b c) (row n r) := by
  rw [P_eq]
  unfold bp
  have hs : ∑ a, xR K h n r a * xR Q h b c a = sc Q K h (row b c) (row n r) :=
    (sum_lane _ _).trans (Finset.sum_congr rfl fun a _ => mul_comm _ _)
  rw [hs]
  by_cases hh : vis r c
  · rw [if_pos hh, if_pos ((hv r c).mp hh)]; rfl
  · rw [if_neg hh, if_neg fun h' => hh ((hv r c).mpr h')]

/-- and so are its scores' gradients. -/
theorem bdsA (p : Fin 4) (r c : Fin 512) : bds vis (vA U p n) (gR D p b) (xR K (hA p) n) (xR Q (hA p) b) (lR Q K (hA p) b) (dR Q K U D (hA p) b) r c
    = ds Q K U D (hA p) (row b c) (row n r) := by
  unfold bds; rw [bp_eq hv, gpA]; rfl
theorem bdsB (p : Fin 4) (r c : Fin 512) : bds vis (vB U p n) (gR D p b) (xR K (hB p) n) (xR Q (hB p) b) (lR Q K (hB p) b) (dR Q K U D (hB p) b) r c
    = ds Q K U D (hB p) (row b c) (row n r) := by
  unfold bds; rw [bp_eq hv, gpB]; rfl
end

theorem vis_all {n b : ℕ} (hnb : n < b) (hb : b < 16) (r c : Fin 512) : all r c ↔ row n r ≤ row b c :=
  iff_of_true trivial (Fin.le_def.mpr (by rw [row_val (hnb.trans hb), row_val hb]; omega))
theorem vis_low {n : ℕ} (hn : n < 16) (r c : Fin 512) : low r c ↔ row n r ≤ row n c := by
  rw [Fin.le_def, row_val hn, row_val hn, Nat.add_le_add_iff_left]; exact Iff.rfl

variable (Q K U D) in
/-- The arrays that a grid point reads are those of head pair `p` and key block `n`. -/
structure Of (o : Arrays Ideal) (p : Fin 4) (n : Fin 16) : Prop where
  q0 : ∀ b r a, o.q0 b (ix2 r a) = ((xR Q (hA p) b r a : ℝ) : EReal)
  q1 : ∀ b r a, o.q1 b (ix2 r a) = ((xR Q (hB p) b r a : ℝ) : EReal)
  k0 : ∀ r a, o.k0 (ix2 r a) = ((xR K (hA p) n r a : ℝ) : EReal)
  k1 : ∀ r a, o.k1 (ix2 r a) = ((xR K (hB p) n r a : ℝ) : EReal)
  v0 : ∀ r a, o.v0 (ix2 r a) = ((vA U p n r a : ℝ) : EReal)
  v1 : ∀ r a, o.v1 (ix2 r a) = ((vB U p n r a : ℝ) : EReal)
  go : ∀ b r a, o.go0 b (ix2 r a) = ((gR D p b r a : ℝ) : EReal)
  lse0 : ∀ b x y z c, o.lse0 b (ix4 x y z c) = ((lR Q K (hA p) b c : ℝ) : EReal)
  lse1 : ∀ b x y z c, o.lse1 b (ix4 x y z c) = ((lR Q K (hB p) b c : ℝ) : EReal)
  del0 : ∀ b x y z c, o.del0 b (ix4 x y z c) = ((dR Q K U D (hA p) b c : ℝ) : EReal)
  del1 : ∀ b x y z c, o.del1 b (ix4 x y z c) = ((dR Q K U D (hB p) b c : ℝ) : EReal)

/-- What is carried, and the gradient of the queries, are real. -/
structure Is (s : Acc Ideal × Dq Ideal) (A B V : Fin 512 → Fin 128 → ℝ) (G H : Fin 16 → Fin 128 → Fin 512 → ℝ) : Prop where
  a : ∀ r l, s.1.1 (ix2 r l) = ((A r l : ℝ) : EReal)
  b : ∀ r l, s.1.2.1 (ix2 r l) = ((B r l : ℝ) : EReal)
  v : ∀ r l, s.1.2.2 (ix2 r l) = ((V r l : ℝ) : EReal)
  g : ∀ m x y l c, blk0 s.2 m (ix4 x y l c) = ((G m l c : ℝ) : EReal)
  h : ∀ m x y l c, blk1 s.2 m (ix4 x y l c) = ((H m l c : ℝ) : EReal)

theorem blk0_same (x : Dq Ideal) (n : Fin 16) (a b : Vec Ideal S1x1x128x512 .f32) : blk0 (putBoth x n a b) n = a :=
  (VecWindow.window_put_of_disjoint _ _ _ _ _ (in_dq n) _ (2 : Fin 4) (.inl (le_refl 128))).trans (VecWindow.window_put_same _ _ _ _ _)
theorem blk1_same (x : Dq Ideal) (n : Fin 16) (a b : Vec Ideal S1x1x128x512 .f32) : blk1 (putBoth x n a b) n = b :=
  VecWindow.window_put_same _ _ _ _ _
theorem blk0_other {n m : Fin 16} (h : m ≠ n) (x : Dq Ideal) (a b : Vec Ideal S1x1x128x512 .f32) : blk0 (putBoth x n a b) m = blk0 x m := by
  rcases lt_or_gt_of_ne (Fin.val_ne_of_ne h) with h | h
  · exact (VecWindow.window_put_of_disjoint _ _ _ _ _ (in_dq m) _ (1 : Fin 4) (.inl h)).trans
      (VecWindow.window_put_of_disjoint _ _ _ _ _ (in_dq m) _ (1 : Fin 4) (.inl h))
  · exact blk0_putBoth n h x a b
theorem blk1_other {n m : Fin 16} (h : m ≠ n) (x : Dq Ideal) (a b : Vec Ideal S1x1x128x512 .f32) : blk1 (putBoth x n a b) m = blk1 x m := by
  rcases lt_or_gt_of_ne (Fin.val_ne_of_ne h) with h | h
  · exact (VecWindow.window_put_of_disjoint _ _ _ _ _ (in_dq' m) _ (1 : Fin 4) (.inl h)).trans
      (VecWindow.window_put_of_disjoint _ _ _ _ _ (in_dq' m) _ (1 : Fin 4) (.inl h))
  · exact blk1_putBoth n h x a b

variable {o : Arrays Ideal} {p : Fin 4} {n : Fin 16} (ho : Of Q K U D o p n)
include ho

theorem is_step {b : Fin 16} (hb : n.val < b.val) {s : Acc Ideal × Dq Ideal} {A B V : Fin 512 → Fin 128 → ℝ} {G H : Fin 16 → Fin 128 → Fin 512 → ℝ}
    (hs : Is s A B V G H) : Is (step o b s)
      (fun r l => A r l + cdk Q K U D (hA p) n b r l) (fun r l => B r l + cdk Q K U D (hB p) n b r l) (fun r l => V r l + cdv Q K D p n b r l)
      (fun m l c => G m l c + if m = b then cdq Q K U D (hA p) n m l c else 0) (fun m l c => H m l c + if m = b then cdq Q K U D (hB p) n m l c else 0) := by
  have hv := vis_all hb b.isLt
  refine ⟨fun r l => ?_, fun r l => ?_, fun r l => ?_, fun m x y l c => ?_, fun m x y l c => ?_⟩
  · refine (pay113_real ho.k0 (ho.q0 b) (ho.lse0 b) (ho.go b) ho.v0 (ho.del0 b) hs.a r l).trans ?_
    simp only [bdsA hv]; rfl
  · refine (congrFun (pay121_eq _ _ _ _ _ _ _) _).trans ((pay113_real ho.k1 (ho.q1 b) (ho.lse1 b) (ho.go b) ho.v1 (ho.del1 b) hs.b r l).trans ?_)
    simp only [bdsB hv]; rfl
  · refine (congrFun (pay119_eq _ _ _ _ _ _) _).trans ((pay111_real ho.k1 (ho.q1 b) (ho.lse1 b) (ho.go b) pay142_real
      (pay111_real ho.k0 (ho.q0 b) (ho.lse0 b) (ho.go b) pay141_real hs.v) r l).trans ?_)
    simp only [bp_eq hv, add_assoc]; rfl
  · by_cases h : m = b
    · subst h
      refine (congrFun (blk0_same _ _ _ _) _).trans ((pay115_real ho.k0 (ho.q0 m) (ho.lse0 m) (ho.go m) ho.v0 (ho.del0 m) (hs.g m) x y l c).trans ?_)
      simp only [bdsA hv, if_pos]; rfl
    · refine (congrFun (blk0_other h _ _ _) _).trans ((hs.g m x y l c).trans ?_)
      rw [if_neg h, add_zero]
  · by_cases h : m = b
    · subst h
      refine (congrFun (blk1_same _ _ _ _) _).trans ((congrFun (pay122_eq _ _ _ _ _ _ _) _).trans
        ((pay115_real ho.k1 (ho.q1 m) (ho.lse1 m) (ho.go m) ho.v1 (ho.del1 m) (hs.h m) x y l c).trans ?_))
      simp only [bdsB hv, if_pos]; rfl
    · refine (congrFun (blk1_other h _ _ _) _).trans ((hs.h m x y l c).trans ?_)
      rw [if_neg h, add_zero]

theorem is_first {x : Dq Ideal} {G H : Fin 16 → Fin 128 → Fin 512 → ℝ} (hg : ∀ m x' y l c, blk0 x m (ix4 x' y l c) = ((G m l c : ℝ) : EReal))
    (hh : ∀ m x' y l c, blk1 x m (ix4 x' y l c) = ((H m l c : ℝ) : EReal)) : Is (first o n x)
      (fun r l => cdk Q K U D (hA p) n n r l) (fun r l => cdk Q K U D (hB p) n n r l) (fun r l => cdv Q K D p n n r l)
      (fun m l c => G m l c + if m = n then cdq Q K U D (hA p) n m l c else 0) (fun m l c => H m l c + if m = n then cdq Q K U D (hB p) n m l c else 0) := by
  have hv := vis_low n.isLt
  have hz : ∀ r l, k0_pay145 (F := Ideal) (ix2 r l) = ((0 : ℝ) : EReal) := fun r l => by pointwise [k0_pay145]; rfl
  refine ⟨fun r l => ?_, fun r l => ?_, fun r l => ?_, fun m x' y l c => ?_, fun m x' y l c => ?_⟩
  · refine (pay155_real ho.k0 (ho.q0 n) (ho.lse0 n) (ho.go n) ho.v0 (ho.del0 n) (aR := fun _ _ => 0) hz r l).trans ?_
    simp only [bdsA hv, zero_add]; rfl
  · refine (congrFun (pay164_eq _ _ _ _ _ _ _) _).trans ((pay155_real ho.k1 (ho.q1 n) (ho.lse1 n) (ho.go n) ho.v1 (ho.del1 n) (aR := fun _ _ => 0) hz r l).trans ?_)
    simp only [bdsB hv, zero_add]; rfl
  · refine (congrFun (pay162_eq _ _ _ _ _ _) _).trans ((pay153_real ho.k1 (ho.q1 n) (ho.lse1 n) (ho.go n) pay142_real
      (pay153_real ho.k0 (ho.q0 n) (ho.lse0 n) (ho.go n) pay141_real (aR := fun _ _ => 0) hz) r l).trans ?_)
    simp only [bp_eq hv, zero_add]; rfl
  · by_cases h : m = n
    · subst h
      refine (congrFun (blk0_same _ _ _ _) _).trans ((pay156_real ho.k0 (ho.q0 m) (ho.lse0 m) (ho.go m) ho.v0 (ho.del0 m) (hg m) x' y l c).trans ?_)
      simp only [bdsA hv, if_pos]; rfl
    · refine (congrFun (blk0_other h _ _ _) _).trans ((hg m x' y l c).trans ?_)
      rw [if_neg h, add_zero]
  · by_cases h : m = n
    · subst h
      refine (congrFun (blk1_same _ _ _ _) _).trans ((congrFun (pay165_eq _ _ _ _ _ _ _) _).trans
        ((pay156_real ho.k1 (ho.q1 m) (ho.lse1 m) (ho.go m) ho.v1 (ho.del1 m) (hh m) x' y l c).trans ?_))
      simp only [bdsB hv, if_pos]; rfl
    · refine (congrFun (blk1_other h _ _ _) _).trans ((hh m x' y l c).trans ?_)
      rw [if_neg h, add_zero]

/-- After `j` more blocks of queries. -/
theorem is_run {x : Dq Ideal} {G H : Fin 16 → Fin 128 → Fin 512 → ℝ} (hg : ∀ m x' y l c, blk0 x m (ix4 x' y l c) = ((G m l c : ℝ) : EReal))
    (hh : ∀ m x' y l c, blk1 x m (ix4 x' y l c) = ((H m l c : ℝ) : EReal)) (j : ℕ) (hj : n.val + j < 16) :
    Is (runFrom o (n.val + 1) (first o n x) j)
      (fun r l => ∑ i ∈ Finset.range (j + 1), cdk Q K U D (hA p) n (n + i) r l) (fun r l => ∑ i ∈ Finset.range (j + 1), cdk Q K U D (hB p) n (n + i) r l)
      (fun r l => ∑ i ∈ Finset.range (j + 1), cdv Q K D p n (n + i) r l)
      (fun m l c => G m l c + if n.val ≤ m.val ∧ m.val ≤ n.val + j then cdq Q K U D (hA p) n m l c else 0)
      (fun m l c => H m l c + if n.val ≤ m.val ∧ m.val ≤ n.val + j then cdq Q K U D (hB p) n m l c else 0) := by
  induction j with
  | zero =>
    have h := is_first ho hg hh
    have e : ∀ m : Fin 16, (n.val ≤ m.val ∧ m.val ≤ n.val) ↔ m = n := fun m => by rw [Fin.ext_iff]; omega
    simp only [e, zero_add, Finset.sum_range_one, add_zero]
    exact h
  | succ j ih =>
    have hb : (Fin.ofNat 16 (n.val + 1 + j)).val = n.val + (j + 1) := by show (n.val + 1 + j) % 16 = _; omega
    rw [runFrom_succ]
    generalize Fin.ofNat 16 (n.val + 1 + j) = b at hb ⊢
    have h := is_step ho (b := b) (by omega) (ih (by omega))
    have e : ∀ m : Fin 16, m = b ↔ m.val = n.val + (j + 1) := fun m => by rw [Fin.ext_iff, hb]
    have split : ∀ (m : Fin 16) (z : ℝ), ((if n.val ≤ m.val ∧ m.val ≤ n.val + j then z else 0) + if m.val = n.val + (j + 1) then z else 0)
        = if n.val ≤ m.val ∧ m.val ≤ n.val + (j + 1) then z else 0 := fun m z => by
      by_cases h1 : m.val = n.val + (j + 1)
      · rw [if_pos h1, if_neg (by omega), if_pos (by omega), zero_add]
      · rw [if_neg h1, add_zero]; congr 1; exact propext (by omega)
    simp only [hb, e, add_assoc, split] at h
    simp only [Finset.sum_range_succ _ (j + 1)]
    exact h

/-! ## The sums of the parts -/

omit ho in
theorem ds_later {n b : ℕ} (h : b < n) (hn : n < 16) (hd : Fin 8) (c r : Fin 512) : ds Q K U D hd (row b c) (row n r) = 0 :=
  ds_hidden Q K U D _ _ _ (by rw [Fin.le_def, row_val hn, row_val (h.trans hn)]; omega)

omit ho in
theorem P_later {n b : ℕ} (h : b < n) (hn : n < 16) (hd : Fin 8) (c r : Fin 512) : P Q K hd (row b c) (row n r) = 0 :=
  if_neg (by rw [Fin.le_def, row_val hn, row_val (h.trans hn)]; omega)

omit ho in
/-- A sum from block `n` on of parts that are zero before it. -/
theorem sum_from (n : ℕ) (hn : n < 16) (f : ℕ → ℝ) (hf : ∀ b < n, f b = 0) : ∑ i ∈ Finset.range (15 - n + 1), f (n + i) = ∑ b ∈ Finset.range 16, f b := by
  rw [show 15 - n + 1 = 16 - n by omega, ← Finset.sum_Ico_eq_sum_range, ← Finset.sum_range_add_sum_Ico f (by omega : n ≤ 16),
    Finset.sum_eq_zero fun b hb => hf b (Finset.mem_range.mp hb), zero_add]

omit ho in
theorem dk_sum (n : ℕ) (hn : n < 16) (h : Fin 8) (r : Fin 512) (a : Fin 128) :
    ∑ i ∈ Finset.range (15 - n + 1), cdk Q K U D h n (n + i) r a = lane (dk Q K U D (row n r) h) a := by
  rw [sum_from n hn (fun b => cdk Q K U D h n b r a) fun b hb => Finset.sum_eq_zero fun c _ => by rw [ds_later hb hn, zero_mul]]
  unfold cdk xR
  rw [sum_blocks (b := 512) 16 (by norm_num) (fun i => ds Q K U D h i (row n r) * lane (Q i h) a) row fun t h r => row_val h r]
  unfold lane dk
  split
  · rfl
  · simp only [mul_zero, Finset.sum_const_zero]

omit ho in
theorem dq_sum (b : ℕ) (h : Fin 8) (c : Fin 512) (a : Fin 128) :
    ∑ n ∈ Finset.range 16, cdq Q K U D h n b a c = lane (dq Q K U D (row b c) h) a := by
  unfold cdq xR
  rw [sum_blocks (b := 512) 16 (by norm_num) (fun j => lane (K j h) a * ds Q K U D h (row b c) j) row fun t h r => row_val h r]
  unfold lane dq
  split
  · exact Finset.sum_congr rfl fun j _ => mul_comm _ _
  · simp only [zero_mul, Finset.sum_const_zero]

omit ho in
theorem dv_sum (n : ℕ) (hn : n < 16) (p : Fin 4) (r : Fin 512) (l : Fin 128) :
    ∑ i ∈ Finset.range (15 - n + 1), cdv Q K D p n (n + i) r l
      = if h : l.val < 64 then dv Q K D (row n r) (hA p) ⟨l.val, h⟩ else dv Q K D (row n r) (hB p) ⟨l.val - 64, by omega⟩ := by
  rw [sum_from n hn (fun b => cdv Q K D p n b r l) fun b hb => by
    unfold cdv; simp only [P_later hb hn, zero_mul, Finset.sum_const_zero, add_zero]]
  unfold cdv gR m1 m0 dv
  by_cases h : l.val < 64
  · simp only [h, dif_pos, if_true, mul_one, sub_self, mul_zero, Finset.sum_const_zero, add_zero]
    rw [sum_blocks (b := 512) 16 (by norm_num) (fun i => P Q K (hA p) i (row n r) * D i (hA p) ⟨l.val, h⟩) row fun t h r => row_val h r]
    exact Finset.sum_congr rfl fun j _ => mul_comm _ _
  · simp only [h, dif_neg, if_false, mul_zero, sub_zero, mul_one, Finset.sum_const_zero, zero_add, not_false_eq_true]
    rw [sum_blocks (b := 512) 16 (by norm_num) (fun i => P Q K (hB p) i (row n r) * D i (hB p) ⟨l.val - 64, by omega⟩) row fun t h r => row_val h r]
    exact Finset.sum_congr rfl fun j _ => mul_comm _ _

/-- What a grid point leaves: the gradients of its keys and values, and the queries' gradient with its part added. -/
theorem is_point {x : Dq Ideal} {G H : Fin 16 → Fin 128 → Fin 512 → ℝ} (hg : ∀ m x' y l c, blk0 x m (ix4 x' y l c) = ((G m l c : ℝ) : EReal))
    (hh : ∀ m x' y l c, blk1 x m (ix4 x' y l c) = ((H m l c : ℝ) : EReal)) :
    Is (point o n x) (fun r => lane (dk Q K U D (row n r) (hA p))) (fun r => lane (dk Q K U D (row n r) (hB p)))
      (fun r l => if h : l.val < 64 then dv Q K D (row n r) (hA p) ⟨l.val, h⟩ else dv Q K D (row n r) (hB p) ⟨l.val - 64, by omega⟩)
      (fun m l c => G m l c + cdq Q K U D (hA p) n m l c) (fun m l c => H m l c + cdq Q K U D (hB p) n m l c) := by
  have h := is_run ho hg hh (15 - n.val) (by omega)
  have hq : ∀ (hd : Fin 8) (m : Fin 16) l c, (if n.val ≤ m.val ∧ m.val ≤ n.val + (15 - n.val) then cdq Q K U D hd n m l c else 0) = cdq Q K U D hd n m l c :=
    fun hd m l c => by
      by_cases hm : n.val ≤ m.val
      · exact if_pos ⟨hm, by omega⟩
      · rw [if_neg fun h' => hm h'.1]
        exact (Finset.sum_eq_zero fun r _ => by rw [ds_later (by omega) n.isLt, mul_zero]).symm
  simp only [dk_sum n.val n.isLt, dv_sum n.val n.isLt, hq] at h
  exact h

end Cert.MlaPoint

end
-- ==== Proof.MlaLoops.lean ====
/- The two loops over query blocks in the attention's backward kernel, one trip at a time: each trip of the first takes
   three blocks, each trip of the second one; what a trip leaves is the plain function of MlaStep.lean. -/
module

public import proofs.«01_k».proof.Proof.MlaStep

@[expose] public section

set_option maxRecDepth 8192
set_option maxHeartbeats 4000000

noncomputable section

namespace Cert.MlaLoops

open Cert.MlaIdeal Cert.MlaIdeal.Gen Cert.MlaOff Cert.MlaStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg2 : Memref sig .tc .vmem S8192x256 .bf16) (harg2 : arg2.IsWhole) (arg3 : Memref sig .tc .vmem S512x256 .bf16) (harg3 : arg3.IsWhole)
  (arg4 : Memref sig .tc .vmem S512x256 .bf16) (harg4 : arg4.IsWhole) (arg5 : Memref sig .tc .vmem S8192x128 .bf16) (harg5 : arg5.IsWhole)
  (arg6 : Memref sig .tc .vmem S2x16x1x512 .f32) (harg6 : arg6.IsWhole) (arg7 : Memref sig .tc .vmem S2x16x1x512 .f32) (harg7 : arg7.IsWhole)
  (arg8 : Memref sig .tc .vmem S1x16x256x512 .f32) (harg8 : arg8.IsWhole) (arg9 : Memref sig .tc .vmem S512x256 .f32) (harg9 : arg9.IsWhole)
  (arg10 : Memref sig .tc .vmem S512x128 .bf16) (harg10 : arg10.IsWhole)

/-- The buffers that the loops only read, at their contents. -/
abbrev Reads (X2 : BufTy.Contents (Elt F) arg2.view.ty) (X3 : BufTy.Contents (Elt F) arg3.view.ty) (X5 : BufTy.Contents (Elt F) arg5.view.ty)
    (X6 : BufTy.Contents (Elt F) arg6.view.ty) (X7 : BufTy.Contents (Elt F) arg7.view.ty) : sProp 𝕄 :=
  iprop((arg2.view.loc (c : Thread nD τ) ↦[arg2.view.set]{fullShare} X2) ∗ (arg3.view.loc (c : Thread nD τ) ↦[arg3.view.set]{fullShare} X3)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7))

/-- The buffer of the queries' gradient. -/
abbrev Acc8 (f : BufTy.Contents (Elt F) arg8.view.ty) : sProp 𝕄 :=
  iprop(arg8.view.loc (c : Thread nD τ) ↦[arg8.view.set]{fullShare} f)

variable (o : Arrays F)
  (X2 : BufTy.Contents (Elt F) arg2.view.ty) (X3 : BufTy.Contents (Elt F) arg3.view.ty) (X5 : BufTy.Contents (Elt F) arg5.view.ty)
  (X6 : BufTy.Contents (Elt F) arg6.view.ty) (X7 : BufTy.Contents (Elt F) arg7.view.ty)

/-- The contents are the plain arrays. -/
structure Holds : Prop where
  q : arg2.view.read (Elt F) X2 = o.q
  k : arg3.view.read (Elt F) X3 = o.k
  go : arg5.view.read (Elt F) X5 = o.go
  lse : arg6.view.read (Elt F) X6 = o.lse
  del : arg7.view.read (Elt F) X7 = o.del

variable {arg2 arg3 arg5 arg6 arg7 o X2 X3 X5 X6 X7}

/-! ### What a load reads, by the place it reads at -/

section Read

variable (h : Holds (F := F) arg2 arg3 arg5 arg6 arg7 o X2 X3 X5 X6 X7) (n : Fin 16)
include h

theorem rd_q0 {off : Fin 2 → ℕ} (inb : ∀ a, off a + S512x128.size a ≤ S8192x256.size a) (e : off = ![512 * n.val, 0]) :
    arg2.view.readAt (Elt F) (Rect.unit (s := S8192x256) off S512x128.size inb).toLoadRect X2 = o.q0 n := by
  rw [View.readAt_unit _ _ _ e (in_q n), h.q]; rfl
theorem rd_q1 {off : Fin 2 → ℕ} (inb : ∀ a, off a + S512x128.size a ≤ S8192x256.size a) (e : off = ![512 * n.val, 128]) :
    arg2.view.readAt (Elt F) (Rect.unit (s := S8192x256) off S512x128.size inb).toLoadRect X2 = o.q1 n := by
  rw [View.readAt_unit _ _ _ e (in_q' n), h.q]; rfl
theorem rd_k0 : arg3.view.readAt (Elt F) (Rect.unit (s := S512x256) ![0, 0] S512x128.size inb_S512x256_S512x128_0_0).toLoadRect X3 = o.k0 := by
  rw [View.readAt_unit _ _ _ rfl inb_S512x256_S512x128_0_0, h.k]; rfl
theorem rd_k1 : arg3.view.readAt (Elt F) (Rect.unit (s := S512x256) ![0, 128] S512x128.size inb_S512x256_S512x128_0_128).toLoadRect X3 = o.k1 := by
  rw [View.readAt_unit _ _ _ rfl inb_S512x256_S512x128_0_128, h.k]; rfl
theorem rd_go {off : Fin 2 → ℕ} (inb : ∀ a, off a + S512x128.size a ≤ S8192x128.size a) (e : off = ![512 * n.val, 0]) :
    arg5.view.readAt (Elt F) (Rect.unit (s := S8192x128) off S512x128.size inb).toLoadRect X5 = o.go0 n := by
  rw [View.readAt_unit _ _ _ e (in_go n), h.go]; rfl
theorem rd_lse0 {off : Fin 4 → ℕ} (inb : ∀ a, off a + S1x1x1x512.size a ≤ S2x16x1x512.size a) (e : off = ![0, n.val, 0, 0]) :
    arg6.view.readAt (Elt F) (Rect.unit (s := S2x16x1x512) off S1x1x1x512.size inb).toLoadRect X6 = o.lse0 n := by
  rw [View.readAt_unit _ _ _ e (in_row n), h.lse]; rfl
theorem rd_lse1 {off : Fin 4 → ℕ} (inb : ∀ a, off a + S1x1x1x512.size a ≤ S2x16x1x512.size a) (e : off = ![1, n.val, 0, 0]) :
    arg6.view.readAt (Elt F) (Rect.unit (s := S2x16x1x512) off S1x1x1x512.size inb).toLoadRect X6 = o.lse1 n := by
  rw [View.readAt_unit _ _ _ e (in_row' n), h.lse]; rfl
theorem rd_del0 {off : Fin 4 → ℕ} (inb : ∀ a, off a + S1x1x1x512.size a ≤ S2x16x1x512.size a) (e : off = ![0, n.val, 0, 0]) :
    arg7.view.readAt (Elt F) (Rect.unit (s := S2x16x1x512) off S1x1x1x512.size inb).toLoadRect X7 = o.del0 n := by
  rw [View.readAt_unit _ _ _ e (in_row n), h.del]; rfl
theorem rd_del1 {off : Fin 4 → ℕ} (inb : ∀ a, off a + S1x1x1x512.size a ≤ S2x16x1x512.size a) (e : off = ![1, n.val, 0, 0]) :
    arg7.view.readAt (Elt F) (Rect.unit (s := S2x16x1x512) off S1x1x1x512.size inb).toLoadRect X7 = o.del1 n := by
  rw [View.readAt_unit _ _ _ e (in_row' n), h.del]; rfl

end Read

theorem rd_blk0 (f : BufTy.Contents (Elt F) arg8.view.ty) (n : Fin 16) {off : Fin 4 → ℕ} (inb : ∀ a, off a + S1x1x128x512.size a ≤ S1x16x256x512.size a)
    (e : off = ![0, n.val, 0, 0]) :
    arg8.view.readAt (Elt F) (Rect.unit (s := S1x16x256x512) off S1x1x128x512.size inb).toLoadRect f = blk0 (arg8.view.read (Elt F) f) n :=
  View.readAt_unit _ _ _ e (in_dq n)
theorem rd_blk1 (f : BufTy.Contents (Elt F) arg8.view.ty) (n : Fin 16) {off : Fin 4 → ℕ} (inb : ∀ a, off a + S1x1x128x512.size a ≤ S1x16x256x512.size a)
    (e : off = ![0, n.val, 128, 0]) :
    arg8.view.readAt (Elt F) (Rect.unit (s := S1x16x256x512) off S1x1x128x512.size inb).toLoadRect f = blk1 (arg8.view.read (Elt F) f) n :=
  View.readAt_unit _ _ _ e (in_dq' n)

/-- The second head's block, read after the store of the first head's. -/
theorem rd_blk1_skip (f : BufTy.Contents (Elt F) arg8.view.ty) (n : Fin 16) {off off' : Fin 4 → ℕ}
    (inb : ∀ a, off a + S1x1x128x512.size a ≤ S1x16x256x512.size a) (inb' : ∀ a, off' a + S1x1x128x512.size a ≤ S1x16x256x512.size a)
    (e : off = ![0, n.val, 0, 0]) (e' : off' = ![0, n.val, 128, 0]) (a : Vec F S1x1x128x512 .f32) (L : List (View.Piece (Elt F) S1x16x256x512 .f32)) :
    arg8.view.readAt (Elt F) (Rect.unit (s := S1x16x256x512) off' S1x1x128x512.size inb').toLoadRect
        (arg8.view.writes (Elt F) f (⟨Rect.unit (s := S1x16x256x512) off S1x1x128x512.size inb, a⟩ :: L))
      = blk1 (arg8.view.read (Elt F) (arg8.view.writes (Elt F) f L)) n := by
  rw [View.readAt_unit _ _ _ e' (in_dq' n), View.read_writes_cons_put _ _ _ _ _ e]; exact blk1_put n _ _

/-- The two stores of one block of queries. -/
theorem rd_put (f : BufTy.Contents (Elt F) arg8.view.ty) (n : Fin 16) {off off' : Fin 4 → ℕ}
    (inb : ∀ a, off a + S1x1x128x512.size a ≤ S1x16x256x512.size a) (inb' : ∀ a, off' a + S1x1x128x512.size a ≤ S1x16x256x512.size a)
    (e : off = ![0, n.val, 0, 0]) (e' : off' = ![0, n.val, 128, 0]) (a b : Vec F S1x1x128x512 .f32) (L : List (View.Piece (Elt F) S1x16x256x512 .f32)) :
    arg8.view.read (Elt F) (arg8.view.writes (Elt F) f (⟨Rect.unit (s := S1x16x256x512) off' S1x1x128x512.size inb', b⟩
        :: ⟨Rect.unit (s := S1x16x256x512) off S1x1x128x512.size inb, a⟩ :: L))
      = putBoth (arg8.view.read (Elt F) (arg8.view.writes (Elt F) f L)) n a b := by
  rw [View.read_writes_cons_put _ _ _ _ _ e', View.read_writes_cons_put _ _ _ _ _ e]; rfl

variable (arg2 arg3 arg5 arg6 arg7 o X2 X3 X5 X6 X7)

/-! ### One block of queries a trip -/

theorem trip3 (h : Holds (F := F) arg2 arg3 arg5 arg6 arg7 o X2 X3 X5 X6 X7) (v134 : BitVec 32) (k : Fin (k0_t3_loop i).trips) (n : Fin 16)
    (hn : n.val = (i 1).val + 1 + 3 * (k0_t1_loop i).trips + k.val) (f : BufTy.Contents (Elt F) arg8.view.ty) (acc : Acc F) :
    iprop(Reads (F := F) c arg2 arg3 arg5 arg6 arg7 X2 X3 X5 X6 X7 ∗ Acc8 (F := F) c arg8 f)
      ⊢ wp frame (wpE (defs₀ (F := F)) 𝒱 (c : Thread nD τ) bd) E
          (k0_t3_body (F := F) i arg2 harg2 arg3 harg3 arg4 harg4 arg5 harg5 arg6 harg6 arg7 harg7 arg8 harg8 arg9 harg9 arg10 harg10
            k0_pay141 k0_pay142 o.v0 o.v1 v134 k acc)
          (fun yld => iprop(Reads (F := F) c arg2 arg3 arg5 arg6 arg7 X2 X3 X5 X6 X7
            ∗ ∃ f', Acc8 (F := F) c arg8 f' ∗ ⌜(yld, arg8.view.read (Elt F) f') = step o n (acc, arg8.view.read (Elt F) f)⌝)) := by
  unfold k0_t3_body
  iintro ⟨⟨H2, H3, H5, H6, H7⟩, H8⟩
  sl_exec
  sl_step
  isplitl [H2 H3 H5 H6 H7]
  · isplitl [H2]; · iexact H2
    isplitl [H3]; · iexact H3
    isplitl [H5]; · iexact H5
    isplitl [H6]; · iexact H6
    iexact H7
  iexists _
  isplitl [H8]; · iexact H8
  ipureintro
  have e22 := (off22 i k).trans (by rw [← hn])
  have e23 := (off23 i k).trans (by rw [← hn])
  have e24 := (off24 i k).trans (by rw [← hn])
  have e25 := (off25 i k).trans (by rw [← hn])
  have e26 := (off26 i k).trans (by rw [← hn])
  have e27 := (off27 i k).trans (by rw [← hn])
  have e28 := (off28 i k).trans (by rw [← hn])
  sl_unfold_run_names
  rw [rd_put arg8 f n _ _ e25 e28, rd_q0 h n _ e23, rd_q1 h n _ e26, rd_k0 h, rd_k1 h, rd_go h n _ e22, rd_lse0 h n _ e24, rd_del0 h n _ e24,
    rd_lse1 h n _ e27, rd_del1 h n _ e27, rd_blk0 arg8 f n _ e25, rd_blk1 arg8 f n _ e28]
  rfl

theorem trip1 (h : Holds (F := F) arg2 arg3 arg5 arg6 arg7 o X2 X3 X5 X6 X7) (arg1 : BitVec 32) (k : Fin (k0_t1_loop i).trips)
    (n : Fin 3 → Fin 16) (hn : ∀ r : Fin 3, (n r).val = (i 1).val + 1 + 3 * k.val + r.val) (f : BufTy.Contents (Elt F) arg8.view.ty) (acc : Acc F) :
    iprop(Reads (F := F) c arg2 arg3 arg5 arg6 arg7 X2 X3 X5 X6 X7 ∗ Acc8 (F := F) c arg8 f)
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10
            arg1 k0_pay141 k0_pay142 o.v0 o.v1 k acc)
          (fun yld => iprop(Reads (F := F) c arg2 arg3 arg5 arg6 arg7 X2 X3 X5 X6 X7
            ∗ ∃ f', Acc8 (F := F) c arg8 f' ∗ ⌜(yld, arg8.view.read (Elt F) f')
                = step o (n 2) (step o (n 1) (step o (n 0) (acc, arg8.view.read (Elt F) f)))⌝)) := by
  unfold k0_t1_body
  iintro ⟨⟨H2, H3, H5, H6, H7⟩, H8⟩
  sl_exec
  sl_step
  isplitl [H2 H3 H5 H6 H7]
  · isplitl [H2]; · iexact H2
    isplitl [H3]; · iexact H3
    isplitl [H5]; · iexact H5
    isplitl [H6]; · iexact H6
    iexact H7
  iexists _
  isplitl [H8]; · iexact H8
  ipureintro
  have e8_0 : k0_off8 i k 0#32 = _ := (off8 i k 0).trans (by rw [← hn 0])
  have e8_1 : k0_off8 i k 1#32 = _ := (off8 i k 1).trans (by rw [← hn 1])
  have e8_2 : k0_off8 i k 2#32 = _ := (off8 i k 2).trans (by rw [← hn 2])
  have e9_0 : k0_off9 i k 0#32 = _ := (off9 i k 0).trans (by rw [← hn 0])
  have e9_1 : k0_off9 i k 1#32 = _ := (off9 i k 1).trans (by rw [← hn 1])
  have e9_2 : k0_off9 i k 2#32 = _ := (off9 i k 2).trans (by rw [← hn 2])
  have e10_0 : k0_off10 i k 0#32 = _ := (off10 i k 0).trans (by rw [← hn 0])
  have e10_1 : k0_off10 i k 1#32 = _ := (off10 i k 1).trans (by rw [← hn 1])
  have e10_2 : k0_off10 i k 2#32 = _ := (off10 i k 2).trans (by rw [← hn 2])
  have e11_0 : k0_off11 i k 0#32 = _ := (off11 i k 0).trans (by rw [← hn 0])
  have e11_1 : k0_off11 i k 1#32 = _ := (off11 i k 1).trans (by rw [← hn 1])
  have e11_2 : k0_off11 i k 2#32 = _ := (off11 i k 2).trans (by rw [← hn 2])
  have e12_0 : k0_off12 i k 0#32 = _ := (off12 i k 0).trans (by rw [← hn 0])
  have e12_1 : k0_off12 i k 1#32 = _ := (off12 i k 1).trans (by rw [← hn 1])
  have e12_2 : k0_off12 i k 2#32 = _ := (off12 i k 2).trans (by rw [← hn 2])
  have e13_0 : k0_off13 i k 0#32 = _ := (off13 i k 0).trans (by rw [← hn 0])
  have e13_1 : k0_off13 i k 1#32 = _ := (off13 i k 1).trans (by rw [← hn 1])
  have e13_2 : k0_off13 i k 2#32 = _ := (off13 i k 2).trans (by rw [← hn 2])
  have e14_0 : k0_off14 i k 0#32 = _ := (off14 i k 0).trans (by rw [← hn 0])
  have e14_1 : k0_off14 i k 1#32 = _ := (off14 i k 1).trans (by rw [← hn 1])
  have e14_2 : k0_off14 i k 2#32 = _ := (off14 i k 2).trans (by rw [← hn 2])
  sl_unfold_run_names
  simp only [rd_k0 h, rd_k1 h, fun b => rd_q0 h (n 0) b e9_0, fun b => rd_q0 h (n 1) b e9_1, fun b => rd_q0 h (n 2) b e9_2,
    fun b => rd_q1 h (n 0) b e12_0, fun b => rd_q1 h (n 1) b e12_1, fun b => rd_q1 h (n 2) b e12_2,
    fun b => rd_go h (n 0) b e8_0, fun b => rd_go h (n 1) b e8_1, fun b => rd_go h (n 2) b e8_2,
    fun b => rd_lse0 h (n 0) b e10_0, fun b => rd_lse0 h (n 1) b e10_1, fun b => rd_lse0 h (n 2) b e10_2,
    fun b => rd_del0 h (n 0) b e10_0, fun b => rd_del0 h (n 1) b e10_1, fun b => rd_del0 h (n 2) b e10_2,
    fun b => rd_lse1 h (n 0) b e13_0, fun b => rd_lse1 h (n 1) b e13_1, fun b => rd_lse1 h (n 2) b e13_2,
    fun b => rd_del1 h (n 0) b e13_0, fun b => rd_del1 h (n 1) b e13_1, fun b => rd_del1 h (n 2) b e13_2,
    fun f b => rd_blk0 arg8 f (n 0) b e11_0, fun f b => rd_blk0 arg8 f (n 1) b e11_1, fun f b => rd_blk0 arg8 f (n 2) b e11_2,
    fun f b => rd_blk1 arg8 f (n 0) b e14_0, fun a b => rd_blk1_skip arg8 f (n 1) a b e11_1 e14_1,
    fun a b => rd_blk1_skip arg8 f (n 2) a b e11_2 e14_2,
    fun a b => rd_put arg8 f (n 0) a b e11_0 e14_0, fun a b => rd_put arg8 f (n 1) a b e11_1 e14_1,
    fun a b => rd_put arg8 f (n 2) a b e11_2 e14_2, View.writes_nil]
  unfold step
  rfl

/-! ### The loops' invariants -/

/-- After `j` blocks of queries from block `a` on, from the gradients `s`: what is carried is `acc`, and the buffer of the
    queries' gradient holds what these blocks leave. -/
abbrev Inv (o : Arrays F) (a : ℕ) (s : Acc F × Dq F) (j : ℕ) (acc : Acc F) : sProp 𝕄 :=
  iprop(Reads (F := F) c arg2 arg3 arg5 arg6 arg7 X2 X3 X5 X6 X7
    ∗ ∃ f, Acc8 (F := F) c arg8 f ∗ ⌜(acc, arg8.view.read (Elt F) f) = runFrom o a s j⌝)

theorem step3_inv (h : Holds (F := F) arg2 arg3 arg5 arg6 arg7 o X2 X3 X5 X6 X7) (v16 v21 : FVec F S512x128 .bf16) (h16 : v16 = o.v0) (h21 : v21 = o.v1)
    (v134 : BitVec 32) (s : Acc F × Dq F) (k : Fin (k0_t3_loop i).trips) (acc : Acc F) :
    Inv (F := F) c arg2 arg3 arg5 arg6 arg7 arg8 X2 X3 X5 X6 X7 o ((i 1).val + 1) s (3 * (k0_t1_loop i).trips + k.val) acc
      ⊢ wp frame (wpE (defs₀ (F := F)) 𝒱 (c : Thread nD τ) bd) E
          (k0_t3_body (F := F) i arg2 harg2 arg3 harg3 arg4 harg4 arg5 harg5 arg6 harg6 arg7 harg7 arg8 harg8 arg9 harg9 arg10 harg10
            k0_pay141 k0_pay142 v16 v21 v134 k acc)
          (Inv (F := F) c arg2 arg3 arg5 arg6 arg7 arg8 X2 X3 X5 X6 X7 o ((i 1).val + 1) s (3 * (k0_t1_loop i).trips + (k.val + 1))) := by
  subst h16; subst h21
  iintro ⟨HR, ⟨%f, H8, %e⟩⟩
  have ht := trips1 i
  have ht' := trips3 i
  have hk := k.isLt
  have hi : (i 1).val < 16 := (i 1).isLt
  have hlt : (i 1).val + 1 + 3 * (k0_t1_loop i).trips + k.val < 16 := by omega
  iapply (wp_wand_r Idealize.ShloMosaic.frame (wpE (defs₀ (F := F)) 𝒱 (c : Thread nD τ) bd) E)
  isplitl [HR H8]
  · iapply (trip3 𝒱 c bd E i arg2 harg2 arg3 harg3 arg4 harg4 arg5 harg5 arg6 harg6 arg7 harg7 arg8 harg8 arg9 harg9 arg10 harg10 o X2 X3 X5 X6 X7
      h v134 k (Fin.ofNat 16 ((i 1).val + 1 + (3 * (k0_t1_loop i).trips + k.val))) (by rw [Fin.val_ofNat, Nat.mod_eq_of_lt (by omega)]; omega) f acc)
    isplitl [HR]; · iexact HR
    iexact H8
  · iintro %yld ⟨HR, ⟨%f', H8, %e'⟩⟩
    isplitl [HR]; · iexact HR
    iexists f'
    isplitl [H8]; · iexact H8
    ipureintro
    rw [e', e]; rfl

theorem step1_inv (h : Holds (F := F) arg2 arg3 arg5 arg6 arg7 o X2 X3 X5 X6 X7) (v16 v21 : FVec F S512x128 .bf16) (h16 : v16 = o.v0) (h21 : v21 = o.v1)
    (arg1 : BitVec 32) (s : Acc F × Dq F) (k : Fin (k0_t1_loop i).trips) (acc : Acc F) :
    Inv (F := F) c arg2 arg3 arg5 arg6 arg7 arg8 X2 X3 X5 X6 X7 o ((i 1).val + 1) s (3 * k.val) acc
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10
            arg1 k0_pay141 k0_pay142 v16 v21 k acc)
          (Inv (F := F) c arg2 arg3 arg5 arg6 arg7 arg8 X2 X3 X5 X6 X7 o ((i 1).val + 1) s (3 * (k.val + 1))) := by
  subst h16; subst h21
  iintro ⟨HR, ⟨%f, H8, %e⟩⟩
  have ht := trips1 i
  have hk := k.isLt
  have hi : (i 1).val < 16 := (i 1).isLt
  have hlt : (i 1).val + 1 + 3 * k.val + 2 < 16 := by omega
  iapply (wp_wand_r Idealize.ShloMosaic.frame (wpE (defs₀ (F := F)) 𝒱 (c : Thread nD τ) bd) E)
  isplitl [HR H8]
  · iapply (trip1 𝒱 c bd E i arg2 harg2 arg3 harg3 arg4 harg4 arg5 harg5 arg6 harg6 arg7 harg7 arg8 harg8 arg9 harg9 arg10 harg10 o X2 X3 X5 X6 X7
      h arg1 k (fun r => Fin.ofNat 16 ((i 1).val + 1 + (3 * k.val + r.val)))
      (fun r => by have := r.isLt; rw [Fin.val_ofNat, Nat.mod_eq_of_lt (by omega)]; omega) f acc)
    isplitl [HR]; · iexact HR
    iexact H8
  · iintro %yld ⟨HR, ⟨%f', H8, %e'⟩⟩
    isplitl [HR]; · iexact HR
    iexists f'
    isplitl [H8]; · iexact H8
    ipureintro
    rw [e', e]; rfl

end Cert.MlaLoops

end
-- ==== Proof.MlaBody.lean ====
/- The attention's backward kernel at one grid point: from the arrays it reads, what its body leaves in the buffers of the
   three gradients is the plain function `point` of MlaStep.lean. -/
module

public import proofs.«01_k».proof.Proof.MlaLoops
public import Idealize.ShloMosaic.Lib.LoopRemainder
public import Idealize.ShloMosaic.Lib.Pointwise.Index

@[expose] public section

set_option maxRecDepth 16384
set_option maxHeartbeats 4000000

noncomputable section

namespace Cert.MlaBody

open Cert.MlaIdeal Cert.MlaIdeal.Gen Cert.MlaOff Cert.MlaStep Cert.MlaLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg2 : Memref sig .tc .vmem S8192x256 .bf16) (harg2 : arg2.IsWhole) (arg3 : Memref sig .tc .vmem S512x256 .bf16) (harg3 : arg3.IsWhole)
  (arg4 : Memref sig .tc .vmem S512x256 .bf16) (harg4 : arg4.IsWhole) (arg5 : Memref sig .tc .vmem S8192x128 .bf16) (harg5 : arg5.IsWhole)
  (arg6 : Memref sig .tc .vmem S2x16x1x512 .f32) (harg6 : arg6.IsWhole) (arg7 : Memref sig .tc .vmem S2x16x1x512 .f32) (harg7 : arg7.IsWhole)
  (arg8 : Memref sig .tc .vmem S1x16x256x512 .f32) (harg8 : arg8.IsWhole) (arg9 : Memref sig .tc .vmem S512x256 .f32) (harg9 : arg9.IsWhole)
  (arg10 : Memref sig .tc .vmem S512x128 .bf16) (harg10 : arg10.IsWhole)

/-- The point is the first of its pair of heads. -/
abbrev isFirst (i : grid0.Coords) : Prop := (Scalar.cmpi .ne (Scalar.extui (Scalar.cmpi .eq (BitVec.ofNat 32 (i 1).val) 0#32)) 0#32) = 1#1

/-- The gradients of two heads' keys, side by side. -/
def joinK (a b : FVec F S512x128 .f32) : Vec F S512x256 .f32 := fun y =>
  if h : (y 1).val < 128 then a (ix2 (y 0) ⟨(y 1).val, h⟩)
  else b (ix2 (y 0) ⟨(y 1).val - 128, by have h1 : (y 1).val < 256 := (y 1).isLt; omega⟩)

theorem put_joinK (a b : FVec F S512x128 .f32) (x : Vec F S512x256 .f32) :
    VecWindow.put (VecWindow.put x ![0, 0] S512x128.size a) ![0, 128] S512x128.size b = joinK a b := by
  funext y
  have h0 : (y 0).val < 512 := (y 0).isLt
  have h1 : (y 1).val < 256 := (y 1).isLt
  unfold joinK VecWindow.put
  by_cases h : (y 1).val < 128
  · have hn : ¬ ∀ a : Fin 2, (![0, 128] : Fin 2 → ℕ) a ≤ (y a).val ∧ (y a).val < (![0, 128] : Fin 2 → ℕ) a + S512x128.size a :=
      fun hh => absurd (hh 1).1 (by show ¬ 128 ≤ (y 1).val; omega)
    have hp : ∀ a : Fin 2, (![0, 0] : Fin 2 → ℕ) a ≤ (y a).val ∧ (y a).val < (![0, 0] : Fin 2 → ℕ) a + S512x128.size a := by
      intro a; fin_cases a
      · show 0 ≤ (y 0).val ∧ (y 0).val < 0 + 512; omega
      · show 0 ≤ (y 1).val ∧ (y 1).val < 0 + 128; omega
    rw [dif_neg hn, dif_pos hp, dif_pos h]
    refine congrArg a (funext fun e => ?_)
    fin_cases e <;> exact Fin.ext (Nat.sub_zero _)
  · have hp : ∀ a : Fin 2, (![0, 128] : Fin 2 → ℕ) a ≤ (y a).val ∧ (y a).val < (![0, 128] : Fin 2 → ℕ) a + S512x128.size a := by
      intro a; fin_cases a
      · show 0 ≤ (y 0).val ∧ (y 0).val < 0 + 512; omega
      · show 128 ≤ (y 1).val ∧ (y 1).val < 128 + 128; omega
    rw [dif_pos hp, dif_neg h]
    refine congrArg b (funext fun e => ?_)
    fin_cases e
    · exact Fin.ext (Nat.sub_zero _)
    · exact Fin.ext rfl

variable (o : Arrays F)

/-- What the buffer of the queries' gradient counts as holding when the body begins: nothing at the first block of keys. -/
def start (i : grid0.Coords) (x : Dq F) : Dq F := if isFirst i then k0_pay140 else x

theorem body_run (n : Fin 16) (hn : n.val = (i 1).val) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (X9 : BufTy.Contents (Elt F) arg9.view.ty)
    (X10 : BufTy.Contents (Elt F) arg10.view.ty) (h : Holds (F := F) arg2 arg3 arg5 arg6 arg7 o X2 X3 X5 X6 X7) (h4 : arg4.view.read (Elt F) X4 = o.v) :
    iprop(Reads (F := F) c arg2 arg3 arg5 arg6 arg7 X2 X3 X5 X6 X7 ∗ (arg4.view.loc (c : Thread nD τ) ↦[arg4.view.set]{fullShare} X4)
        ∗ Acc8 (F := F) c arg8 X8 ∗ (arg9.view.loc (c : Thread nD τ) ↦[arg9.view.set]{fullShare} X9)
        ∗ (arg10.view.loc (c : Thread nD τ) ↦[arg10.view.set]{fullShare} X10))
      ⊢ wp frame (wpE (defs₀ (F := F)) 𝒱 (c : Thread nD τ) bd) E
          (cc0_mla_attn_bwd (F := F) i arg2 harg2 arg3 harg3 arg4 harg4 arg5 harg5 arg6 harg6 arg7 harg7 arg8 harg8 arg9 harg9 arg10 harg10)
          (fun _ => iprop(∃ f8 f9 f10, Reads (F := F) c arg2 arg3 arg5 arg6 arg7 X2 X3 X5 X6 X7
            ∗ (arg4.view.loc (c : Thread nD τ) ↦[arg4.view.set]{fullShare} X4)
            ∗ Acc8 (F := F) c arg8 f8 ∗ (arg9.view.loc (c : Thread nD τ) ↦[arg9.view.set]{fullShare} f9)
            ∗ (arg10.view.loc (c : Thread nD τ) ↦[arg10.view.set]{fullShare} f10)
            ∗ ⌜arg8.view.read (Elt F) f8 = (point o n (start i (arg8.view.read (Elt F) X8))).2
              ∧ arg9.view.read (Elt F) f9 = joinK (point o n (start i (arg8.view.read (Elt F) X8))).1.1 (point o n (start i (arg8.view.read (Elt F) X8))).1.2.1
              ∧ arg10.view.read (Elt F) f10 = k0_pay9 (point o n (start i (arg8.view.read (Elt F) X8))).1.2.2⌝)) := by
  have e1 := (k0_off1_eq i).trans (by rw [← hn])
  have e2 := (k0_off2_eq i).trans (by rw [← hn])
  have e3 := (k0_off3_eq i).trans (by rw [← hn])
  have e4 := (k0_off4_eq i).trans (by rw [← hn])
  have e5 := (k0_off5_eq i).trans (by rw [← hn])
  have e6 := (k0_off6_eq i).trans (by rw [← hn])
  have e7 := (k0_off7_eq i).trans (by rw [← hn])
  simp only [cc0_mla_attn_bwd_eq_skeleton]; unfold cc0_mla_attn_bwd_skel
  simp only [k0_part17_eq_skeleton, k0_part18_eq_skeleton, k0_part19_eq_skeleton]
  have ev0 : k0_pay143 (arg4.view.readAt (Elt F) (Rect.unit (s := S512x256) ![0, 0] S512x128.size inb_S512x256_S512x128_0_0).toLoadRect X4) = o.v0 := by
    rw [View.readAt_unit _ _ _ rfl inb_S512x256_S512x128_0_0, h4]; rfl
  have ev1 : k0_pay144 (arg4.view.readAt (Elt F) (Rect.unit (s := S512x256) ![0, 128] S512x128.size inb_S512x256_S512x128_0_128).toLoadRect X4) = o.v1 := by
    rw [View.readAt_unit _ _ _ rfl inb_S512x256_S512x128_0_128, h4]; rfl
  have et : 3 * (k0_t1_loop i).trips + (k0_t3_loop i).trips = 15 - n.val := by rw [trips1, trips3, hn]; omega
  by_cases hc : isFirst i
  all_goals
    iintro ⟨⟨H2, H3, H5, H6, H7⟩, H4, H8, H9, H10⟩
    sl_exec
    sl_for (fun k acc => Inv (F := F) c arg2 arg3 arg5 arg6 arg7 arg8 X2 X3 X5 X6 X7 o ((i 1).val + 1) (first o n (start i (arg8.view.read (Elt F) X8))) (3 * k) acc)
      $$ [H2 H3 H5 H6 H7 H8]
    case region =>
      intro k a
      exact step1_inv 𝒱 c bd E i arg2 harg2 arg3 harg3 arg4 harg4 arg5 harg5 arg6 harg6 arg7 harg7 arg8 harg8 arg9 harg9 arg10 harg10 o X2 X3 X5 X6 X7
        h _ _ ev0 ev1 _ _ k a
    · isplitl [H2 H3 H5 H6 H7]
      · isplitl [H2]; · iexact H2
        isplitl [H3]; · iexact H3
        isplitl [H5]; · iexact H5
        isplitl [H6]; · iexact H6
        iexact H7
      iexists _
      isplitl [H8]; · iexact H8
      ipureintro
      sl_unfold_run_names
      simp only [rd_k0 h, rd_k1 h, fun b => rd_q0 h n b e2, fun b => rd_q1 h n b e5, fun b => rd_go h n b e1, fun b => rd_lse0 h n b e3,
        fun b => rd_del0 h n b e3, fun b => rd_lse1 h n b e6, fun b => rd_del1 h n b e6, fun f b b' => rd_blk1_skip arg8 f n b b' e4 e7,
        fun f b => rd_blk0 arg8 f n b e4, fun f a b => rd_put arg8 f n a b e4 e7, ev0, ev1]
      simp only [View.writes_nil, fun f b w L => View.read_writes_full (Val := Elt F) arg8.view f (off := ![0, 0, 0, 0]) b w L, fun f b => rd_blk1 arg8 f n b e7]
      unfold start
      first | rw [if_pos hc] | rw [if_neg hc]
      rfl
    iintro %acc HI
    sl_exec
    sl_for (fun k acc => Inv (F := F) c arg2 arg3 arg5 arg6 arg7 arg8 X2 X3 X5 X6 X7 o ((i 1).val + 1) (first o n (start i (arg8.view.read (Elt F) X8)))
      (3 * (k0_t1_loop i).trips + k) acc) $$ [HI]
    case region =>
      intro k a
      exact step3_inv 𝒱 c bd E i arg2 harg2 arg3 harg3 arg4 harg4 arg5 harg5 arg6 harg6 arg7 harg7 arg8 harg8 arg9 harg9 arg10 harg10 o X2 X3 X5 X6 X7
        h _ _ ev0 ev1 _ _ k a
    · iexact HI
    iintro %acc2 HI
    rw [et]
    icases HI with ⟨HR, %f8, H8, %hf⟩
    sl_exec
    sl_step
    iexists f8; iexists _; iexists _
    isplitl [HR]; · iexact HR
    isplitl [H4]; · iexact H4
    isplitl [H8]; · iexact H8
    isplitl [H9]; · iexact H9
    isplitl [H10]; · iexact H10
    ipureintro
    have hp : (acc2, arg8.view.read (Elt F) f8) = point o n (start i (arg8.view.read (Elt F) X8)) := by unfold point; rw [hn]; exact (hf.trans (by rw [hn]))
    rw [← hp]
    refine ⟨rfl, ?_, ?_⟩
    · rw [View.read_writes_cons_put _ _ _ _ _ rfl, View.read_writes_cons_put _ _ _ _ _ rfl]; exact put_joinK _ _ _
    · rw [View.read_writes_full]

end Cert.MlaBody

end
-- ==== Proof.MlaFrame.lean ====
/- The frame of the attention's backward call: at every grid point the three gradients' buffers hold what `point` of
   MlaStep.lean says, the queries' gradient running through the sixteen blocks of keys of its two heads. -/
module

public import proofs.«01_k».proof.Proof.MlaBody
public import proofs.«01_k».proof.Proof.Gen.MlaIdeal.Frame
public import Idealize.ShloMosaic.Lib.Claim

@[expose] public section

set_option maxRecDepth 16384

noncomputable section

namespace Cert.MlaFrame

open Cert.MlaIdeal Cert.MlaIdeal.Gen Cert.MlaStep Cert.MlaLoops Cert.MlaBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run, stated of the values its buffers read as, with what follows it. -/
theorem body_owns (c : Dev nD) (i : grid0.Coords)
    (arg2 : Memref sig .tc .vmem S8192x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S8192x128 .bf16) (harg5 : arg5.IsWhole)
    (arg6 : Memref sig .tc .vmem S2x16x1x512 .f32) (harg6 : arg6.IsWhole) (arg7 : Memref sig .tc .vmem S2x16x1x512 .f32) (harg7 : arg7.IsWhole)
    (arg8 : Memref sig .tc .vmem S1x16x256x512 .f32) (harg8 : arg8.IsWhole) (arg9 : Memref sig .tc .vmem S512x256 .f32) (harg9 : arg9.IsWhole)
    (arg10 : Memref sig .tc .vmem S512x128 .bf16) (harg10 : arg10.IsWhole) (o : Arrays F) (n : Fin 16) (hn : n.val = (i 1).val) (x : Dq F)
    (K : PUnit → sProp 𝕄) :
    iprop(owns (c : Thread nD τ) arg2 fullShare o.q ∗ owns (c : Thread nD τ) arg3 fullShare o.k ∗ owns (c : Thread nD τ) arg4 fullShare o.v
        ∗ owns (c : Thread nD τ) arg5 fullShare o.go ∗ owns (c : Thread nD τ) arg6 fullShare o.lse ∗ owns (c : Thread nD τ) arg7 fullShare o.del
        ∗ owns (c : Thread nD τ) arg8 fullShare x ∗ (∃ d, owns (c : Thread nD τ) arg9 fullShare d) ∗ (∃ d, owns (c : Thread nD τ) arg10 fullShare d)
        ∗ (iprop(owns (c : Thread nD τ) arg2 fullShare o.q ∗ owns (c : Thread nD τ) arg3 fullShare o.k ∗ owns (c : Thread nD τ) arg4 fullShare o.v
            ∗ owns (c : Thread nD τ) arg5 fullShare o.go ∗ owns (c : Thread nD τ) arg6 fullShare o.lse ∗ owns (c : Thread nD τ) arg7 fullShare o.del
            ∗ owns (c : Thread nD τ) arg8 fullShare (point o n (start i x)).2
            ∗ owns (c : Thread nD τ) arg9 fullShare (joinK (point o n (start i x)).1.1 (point o n (start i x)).1.2.1)
            ∗ owns (c : Thread nD τ) arg10 fullShare (k0_pay9 (point o n (start i x)).1.2.2)) -∗ K PUnit.unit))
      ⊢ wp frame (wpE (defs₀ (F := F)) Variants.none (c : Thread nD τ) none) Set.univ
          (cc0_mla_attn_bwd (F := F) i arg2 harg2 arg3 harg3 arg4 harg4 arg5 harg5 arg6 harg6 arg7 harg7 arg8 harg8 arg9 harg9 arg10 harg10) K := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%d9, %X9, -, H9⟩, ⟨%d10, %X10, -, H10⟩, HK⟩
  subst h8
  iapply (wp_wand_r _ _ _)
  isplitr [HK]
  · iapply (body_run Variants.none c none Set.univ i arg2 harg2 arg3 harg3 arg4 harg4 arg5 harg5 arg6 harg6 arg7 harg7 arg8 harg8 arg9 harg9 arg10 harg10
      o n hn X2 X3 X4 X5 X6 X7 X8 X9 X10 ⟨h2, h3, h5, h6, h7⟩ h4)
    isplitl [H2 H3 H5 H6 H7]
    · isplitl [H2]; · iexact H2
      isplitl [H3]; · iexact H3
      isplitl [H5]; · iexact H5
      isplitl [H6]; · iexact H6
      iexact H7
    isplitl [H4]; · iexact H4
    isplitl [H8]; · iexact H8
    isplitl [H9]; · iexact H9
    iexact H10
  · iintro %u ⟨%f8, %f9, %f10, ⟨H2, H3, H5, H6, H7⟩, H4, H8, H9, H10, %hf⟩
    obtain ⟨hf8, hf9, hf10⟩ := hf
    iapply HK
    isplitl [H2]; · iexists X2; isplitr; · ipureintro; exact h2
                    iexact H2
    isplitl [H3]; · iexists X3; isplitr; · ipureintro; exact h3
                    iexact H3
    isplitl [H4]; · iexists X4; isplitr; · ipureintro; exact h4
                    iexact H4
    isplitl [H5]; · iexists X5; isplitr; · ipureintro; exact h5
                    iexact H5
    isplitl [H6]; · iexists X6; isplitr; · ipureintro; exact h6
                    iexact H6
    isplitl [H7]; · iexists X7; isplitr; · ipureintro; exact h7
                    iexact H7
    isplitl [H8]; · iexists f8; isplitr; · ipureintro; exact hf8
                    iexact H8
    isplitl [H9]; · iexists f9; isplitr; · ipureintro; exact hf9
                    iexact H9
    iexists f10; isplitr; · ipureintro; exact hf10
    iexact H10

variable (m : (ℓ : Loc nD τ sig) → Buf (Elt F) ℓ) (ρ : Dev nD → PrngReg)

/-- The number of the block of keys at a grid point. -/
def blkNo (t : Fin cfg0.N) : Fin 16 := ⟨((grid0.coords t) 1).val, ((grid0.coords t) 1).isLt⟩

/-- The blocks that the point reads. -/
def arr (c : Dev nD) (t : Fin cfg0.N) : Arrays F := ⟨iblk m c 0 t, iblk m c 1 t, iblk m c 2 t, iblk m c 3 t, iblk m c 4 t, iblk m c 5 t⟩

theorem first_iff : ∀ t : Fin cfg0.N, isFirst (grid0.coords t) ↔ t.val % 16 = 0 :=
  (by decide +kernel : ∀ t : Fin grid0.N, isFirst (grid0.coords t) ↔ t.val % 16 = 0)

/-- The gradient of the queries after each point. -/
def dqAt (c : Dev nD) : (n : ℕ) → n < cfg0.N → Dq F
  | 0, h => (point (arr m c ⟨0, h⟩) (blkNo ⟨0, h⟩) (start (grid0.coords ⟨0, h⟩) k0_pay140)).2
  | n + 1, h => (point (arr m c ⟨n + 1, h⟩) (blkNo ⟨n + 1, h⟩) (start (grid0.coords ⟨n + 1, h⟩) (dqAt c n (by omega)))).2

/-- What the body counts as finding there: nothing at the first of sixteen points, elsewhere what the point before left. -/
def found (c : Dev nD) (t : Fin cfg0.N) : Dq F :=
  if h : t.val % 16 = 0 then k0_pay140 else dqAt m c (t.val - 1) (lt_of_le_of_lt (Nat.sub_le _ _) t.isLt)

theorem start_first {t : Fin cfg0.N} (h : t.val % 16 = 0) (x : Dq F) : start (grid0.coords t) x = k0_pay140 := if_pos ((first_iff t).mpr h)
theorem start_later {t : Fin cfg0.N} (h : ¬ t.val % 16 = 0) (x : Dq F) : start (grid0.coords t) x = x := if_neg fun hf => h ((first_iff t).mp hf)

theorem found_start (c : Dev nD) (t : Fin cfg0.N) : start (grid0.coords t) (found m c t) = found m c t := by
  by_cases h : t.val % 16 = 0
  · rw [start_first h]; unfold found; rw [dif_pos h]
  · exact start_later h _

theorem dqAt_eq (c : Dev nD) (t : Fin cfg0.N) : dqAt m c t.val t.isLt = (point (arr m c t) (blkNo t) (found m c t)).2 := by
  obtain ⟨n, hn⟩ := t
  cases n with
  | zero => rw [dqAt, start_first (Nat.zero_mod _)]; unfold found; rw [dif_pos (Nat.zero_mod _)]
  | succ n =>
    rw [dqAt]
    by_cases h : (n + 1) % 16 = 0
    · rw [start_first h]; unfold found; rw [dif_pos h]
    · rw [start_later h]; unfold found; rw [dif_neg h]; rfl

/-- What the body leaves at a point. -/
def left (c : Dev nD) (t : Fin cfg0.N) : Acc F × Dq F := point (arr m c t) (blkNo t) (found m c t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t).2
    | ⟨7, _⟩ => joinK (left m c t).1.1 (left m c t).1.2.1
    | ⟨8, _⟩ => k0_pay9 (left m c t).1.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (left m c t).2 := by dsimp only [dats]
theorem after0_7 (c : Dev nD) (t : Fin cfg0.N) : (dats m 0 c).after 7 t = joinK (left m c t).1.1 (left m c t).1.2.1 := by dsimp only [dats]
theorem after0_8 (c : Dev nD) (t : Fin cfg0.N) : (dats m 0 c).after 8 t = k0_pay9 (left m c t).1.2.2 := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- The queries' gradient before a point: where it counts, what the point before left. -/
theorem before0_6 (c : Dev nD) (t : Fin cfg0.N) (d) : start (grid0.coords t) ((dats m 0 c).before 6 t d) = found m c t := by
  by_cases h : t.val % 16 = 0
  · rw [start_first h]; unfold found; rw [dif_pos h]
  · rw [start_later h]
    have hz : t.val ≠ 0 := fun e => h (by rw [e])
    have hlt : t.val - 1 < cfg0.N := lt_of_le_of_lt (Nat.sub_le _ _) t.isLt
    have hf : (cfg0.win 6).flush ⟨t.val - 1, hlt⟩ = false := by
      rw [Bool.eq_false_iff]; intro hh
      have := (flush0_6 ⟨t.val - 1, hlt⟩).mp hh
      simp only at this; omega
    refine ((dats m 0 c).before_out_kept 6 rfl t hz hf (fun _ => rfl) (fun _ _ => rfl) d).trans ?_
    rw [after0_6]; unfold found; rw [dif_neg h]; exact (dqAt_eq m c ⟨t.val - 1, hlt⟩).symm

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, show (dats m 0 c).Φ t.succ = (dats m 0 c).Φ t.castSucc from rfl,
    after0_0, after0_1, after0_2, after0_3, after0_4, after0_5, after0_6, after0_7, after0_8]
  unfold left
  iintro ⟨HF, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← before0_6 m c t d6]
  iapply (body_owns c (grid0.coords t) _ _ _ _ _ _ _ _ _ _ _ _ _ _ _ _ _ _ (arr m c t) (blkNo t) rfl ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HF]; · iexact HF
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays as the proof data says and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- Every run ends with the arguments unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.MlaFrame

end
-- ==== Proof.MlaWindows.lean ====
/- What the windows of the attention's backward call read at a grid point, entry by entry. -/
module

public import proofs.«01_k».proof.Proof.MlaPoint
public import proofs.«01_k».proof.Proof.MlaFrame
public import Idealize.ShloMosaic.Lib.Pipeline.ValueKit

@[expose] public section

set_option maxRecDepth 16384

noncomputable section

namespace Cert.MlaWindows

open Cert.MlaIdeal Cert.MlaIdeal.Gen Cert.MlaStep Cert.MlaBody Cert.MlaFrame Cert.MlaPoint Cert.MlaPay Cert.Reals Cert.MlaMath
open Idealize.ShloMosaic Idealize.ShloMosaic.TcCoe Idealize.SL.Sem

/-- The pair of heads at a grid point. -/
def pair (t : Fin cfg0.N) : Fin 4 := ⟨t.val / 16, by have : t.val < 64 := t.isLt; omega⟩

theorem blkNo_val : ∀ t : Fin cfg0.N, (blkNo t).val = t.val % 16 := (by decide +kernel : ∀ t : Fin grid0.N, ((grid0.coords t) 1).val = t.val % 16)

/-- The block indices of the nine windows at every point. -/
theorem idx : ∀ t : Fin cfg0.N, win0_0.index t = ![0, t.val / 16] ∧ win0_1.index t = ![t.val % 16, t.val / 16] ∧ win0_2.index t = ![t.val % 16, t.val / 16]
    ∧ win0_3.index t = ![0, t.val / 16] ∧ win0_4.index t = ![t.val / 16, 0, 0, 0] ∧ win0_5.index t = ![t.val / 16, 0, 0, 0]
    ∧ win0_6.index t = ![t.val / 16, 0, 0, 0] ∧ win0_7.index t = ![t.val % 16, t.val / 16] ∧ win0_8.index t = ![t.val % 16, t.val / 16] :=
  (by decide +kernel : ∀ t : Fin grid0.N, _)

theorem lane_congr {f : Fin 8192 → Fin 8 → Fin 96 → ℝ} {i i' : Fin 8192} {h h' : Fin 8} {a a' : Fin 128} (e0 : i = i') (e1 : h = h') (e2 : a = a') :
    lane (f i h) a = lane (f i' h') a' := by rw [e0, e1, e2]

/-- The head that the lane `l` of a pair's 256 lanes belongs to. -/
def hp (t : Fin cfg0.N) (l : Fin 256) : Fin 8 := ⟨2 * (t.val / 16) + l.val / 128, by have : t.val < 64 := t.isLt; omega⟩

/-! ## The windows within a block -/

section
variable (o : Arrays Ideal) (b : Fin 16)

theorem q0_at (r : Fin 512) (a : Fin 128) : o.q0 b (ix2 r a) = o.q (ix2 (row b r) ⟨a.val, by omega⟩) :=
  congrArg o.q ((eq_ix2 _).trans (congrArg₂ ix2
    (Fin.ext (by rw [row_val b.isLt]; show 512 * b.val + 1 * r.val = _; omega)) (Fin.ext (by show 0 + 1 * a.val = a.val; omega))))
theorem q1_at (r : Fin 512) (a : Fin 128) : o.q1 b (ix2 r a) = o.q (ix2 (row b r) ⟨128 + a.val, by omega⟩) :=
  congrArg o.q ((eq_ix2 _).trans (congrArg₂ ix2
    (Fin.ext (by rw [row_val b.isLt]; show 512 * b.val + 1 * r.val = _; omega)) (Fin.ext (by show 128 + 1 * a.val = 128 + a.val; omega))))
theorem go0_at (r : Fin 512) (a : Fin 128) : o.go0 b (ix2 r a) = o.go (ix2 (row b r) a) :=
  congrArg o.go ((eq_ix2 _).trans (congrArg₂ ix2
    (Fin.ext (by rw [row_val b.isLt]; show 512 * b.val + 1 * r.val = _; omega)) (Fin.ext (by show 0 + 1 * a.val = a.val; omega))))
theorem k0_at (r : Fin 512) (a : Fin 128) : o.k0 (ix2 r a) = o.k (ix2 r ⟨a.val, by omega⟩) :=
  congrArg o.k ((eq_ix2 _).trans (congrArg₂ ix2
    (Fin.ext (by show 0 + 1 * r.val = _; omega)) (Fin.ext (by show 0 + 1 * a.val = a.val; omega))))
theorem k1_at (r : Fin 512) (a : Fin 128) : o.k1 (ix2 r a) = o.k (ix2 r ⟨128 + a.val, by omega⟩) :=
  congrArg o.k ((eq_ix2 _).trans (congrArg₂ ix2
    (Fin.ext (by show 0 + 1 * r.val = _; omega)) (Fin.ext (by show 128 + 1 * a.val = 128 + a.val; omega))))
theorem v0_at (r : Fin 512) (a : Fin 128) : o.v0 (ix2 r a) = o.v (ix2 r ⟨a.val, by omega⟩) * ((m0 a : ℝ) : EReal) := by
  have e : VecWindow.window o.v ![0, 0] S512x128.size inb_S512x256_S512x128_0_0 (ix2 r a) = o.v (ix2 r ⟨a.val, by omega⟩) :=
    congrArg o.v ((eq_ix2 _).trans (congrArg₂ ix2 (Fin.ext (by show 0 + 1 * r.val = _; omega)) (Fin.ext (by show 0 + 1 * a.val = a.val; omega))))
  unfold Arrays.v0
  generalize VecWindow.window o.v ![0, 0] S512x128.size inb_S512x256_S512x128_0_0 = w at e ⊢
  pointwise [k0_pay143]
  rw [pay141_real, e]
theorem v1_at (r : Fin 512) (a : Fin 128) : o.v1 (ix2 r a) = o.v (ix2 r ⟨128 + a.val, by omega⟩) * ((m1 a : ℝ) : EReal) := by
  have e : VecWindow.window o.v ![0, 128] S512x128.size inb_S512x256_S512x128_0_128 (ix2 r a) = o.v (ix2 r ⟨128 + a.val, by omega⟩) :=
    congrArg o.v ((eq_ix2 _).trans (congrArg₂ ix2 (Fin.ext (by show 0 + 1 * r.val = _; omega)) (Fin.ext (by show 128 + 1 * a.val = 128 + a.val; omega))))
  unfold Arrays.v1
  generalize VecWindow.window o.v ![0, 128] S512x128.size inb_S512x256_S512x128_0_128 = w at e ⊢
  pointwise [k0_pay144]
  rw [pay142_real, e]

/-- A row of a block of log-sums or of sums, of the first head and of the second. -/
theorem row0_at (x : Vec Ideal S2x16x1x512 .f32) (y0 y1 z : Fin 1) (c : Fin 512) :
    VecWindow.window x ![0, b.val, 0, 0] S1x1x1x512.size (in_row b) (ix4 y0 y1 z c) = x (ix4 0 b 0 c) :=
  congrArg x (funext fun e => Fin.ext (by
    have := y0.isLt; have := y1.isLt; have := z.isLt
    fin_cases e
    · show 0 + 1 * y0.val = 0; omega
    · show b.val + 1 * y1.val = b.val; omega
    · show 0 + 1 * z.val = 0; omega
    · show 0 + 1 * c.val = c.val; omega))
theorem row1_at (x : Vec Ideal S2x16x1x512 .f32) (y0 y1 z : Fin 1) (c : Fin 512) :
    VecWindow.window x ![1, b.val, 0, 0] S1x1x1x512.size (in_row' b) (ix4 y0 y1 z c) = x (ix4 1 b 0 c) :=
  congrArg x (funext fun e => Fin.ext (by
    have := y0.isLt; have := y1.isLt; have := z.isLt
    fin_cases e
    · show 1 + 1 * y0.val = 1; omega
    · show b.val + 1 * y1.val = b.val; omega
    · show 0 + 1 * z.val = 0; omega
    · show 0 + 1 * c.val = c.val; omega))
end

end Cert.MlaWindows

end
-- ==== Proof.MlaHost.lean ====
/- The host lines before the attention's backward call, one stage at a time: each buffer as the operation that writes it
   of the buffers before it. -/
module

public import proofs.«01_k».proof.Proof.Reals
public import proofs.«01_k».proof.Proof.Gen.MlaIdeal.Frame
public import proofs.«01_k».proof.Proof.Gen.MlaRefIdeal.Read
public import Idealize.ShloMosaic.Lib.StableHlo.ReadAt

@[expose] public section

set_option maxRecDepth 16384

noncomputable section

namespace Cert.MlaHost

open Cert.MlaIdeal Cert.MlaIdeal.Gen Cert.Reals
open Idealize.ShloMosaic Idealize.ShloMosaic.TcCoe Idealize.SL.Sem

variable (m : (ℓ : Loc nD τ sig) → Buf (Elt Ideal) ℓ) (c : Dev nD)

/-- What a host buffer holds when the kernel is called. -/
abbrev at₀ (r : Ref sig .tc) := m ((c : Thread nD τ).loc r)

theorem V_v2 : V m c main_v2 = Cert.MlaRefIdeal.Read.val_main_v2 (F := Ideal) (at₀ m c main_arg0) (at₀ m c main_arg1) := by
  unfold V; after_reads_simp; rfl
theorem V_v5 : V m c main_v5 = Cert.MlaRefIdeal.Read.val_main_v5 (F := Ideal) (at₀ m c main_arg2) (at₀ m c main_arg3) := by
  unfold V; after_reads_simp; rfl
theorem V_v6 : V m c main_v6 = Cert.MlaRefIdeal.Read.val_main_v6 (F := Ideal) (at₀ m c main_arg0) (at₀ m c main_arg1) (at₀ m c main_arg2) (at₀ m c main_arg3) := by
  unfold V; after_reads_simp; rfl
theorem V_v12 : V m c main_v12 = Cert.MlaRefIdeal.Read.val_main_v12 := by
  unfold V; after_reads_simp; rfl
theorem V_v13 : V m c main_v13 = Cert.MlaRefIdeal.Read.val_main_v13_0 (F := Ideal) (at₀ m c main_arg0) (at₀ m c main_arg1) (at₀ m c main_arg2) (at₀ m c main_arg3) := by
  unfold V; after_reads_simp; rfl
theorem V_v14 : V m c main_v14 = Cert.MlaRefIdeal.Read.val_main_v14 (F := Ideal) (at₀ m c main_arg0) (at₀ m c main_arg1) (at₀ m c main_arg2) (at₀ m c main_arg3) := by
  unfold V; after_reads_simp; rfl
theorem V_v18 : (V m c main_v18 : Vec Ideal S8x8192x8192 .f32)
    = Host.exp (F := Ideal) (φ := .f32) (subf (V m c main_v13) (broadcastInDim S8x8192x8192 ![0, 1, 2] bcast_S8x8192x1_S8x8192x8192_0_1_2
      (broadcastInDim S8x8192x1 ![0, 1] bcast_S8x8192_S8x8192x1_0_1 (V m c main_v14)))) := by
  unfold V; after_reads_simp
theorem V_v19 : (V m c main_v19 : Vec Ideal S8x8192 .f32)
    = Host.reduceAdd (φ := .f32) (V m c main_v18) (constant (F := Ideal) S_ .f32 0x00000000#32) reducesTo_S8x8192x8192_S8x8192_d2 h_S_ := by
  unfold V; after_reads_simp
theorem V_v23 : (V m c main_v23 : Vec Ideal S8x16x1x512 .f32)
    = shapeCast S8x16x1x512 (addf (F := Ideal) (φ := .f32) (broadcastInDim S8x8192x1 ![0, 1] bcast_S8x8192_S8x8192x1_0_1 (V m c main_v14))
      (Host.log (F := Ideal) (φ := .f32) (broadcastInDim S8x8192x1 ![0, 1] bcast_S8x8192_S8x8192x1_0_1 (V m c main_v19)))) shapeCasts_S8x8192x1_S8x16x1x512 := by
  unfold V; after_reads_simp; rfl
theorem V_v25 : (V m c main_v25 : Vec Ideal S8x8192x8192 .f32)
    = Host.divf (F := Ideal) (φ := .f32) (V m c main_v18) (broadcastInDim S8x8192x8192 ![0, 1, 2] bcast_S8x8192x1_S8x8192x8192_0_1_2
      (broadcastInDim S8x8192x1 ![0, 1] bcast_S8x8192_S8x8192x1_0_1 (V m c main_v19))) := by
  unfold V; after_reads_simp
theorem V_v26 : (V m c main_v26 : Vec Ideal S8x8192x64 .f32)
    = Host.dotGeneral (F := Ideal) (φ₁ := .f32) (φ₂ := .f32) dot_S8x8192x8192_S8192x8x64_S8x8192x64_2_0_1_2_0_1 none (V m c main_v25) (at₀ m c main_arg4) := by
  unfold V; after_reads_simp
theorem V_v28 : (V m c main_v28 : Vec Ideal S8x8192x64 .f32)
    = transpose S8x8192x64 [1, 0, 2] (shapeCast S8192x8x64 (at₀ m c main_arg5) shapeCasts_S8192x512_S8192x8x64) transposes_S8192x8x64_S8x8192x64_1_0_2 := by
  unfold V; after_reads_simp; rfl
theorem V_v30 : (V m c main_v30 : Vec Ideal S8x8192 .f32)
    = Host.reduceAdd (φ := .f32) (mulf (F := Ideal) (φ := .f32) (V m c main_v28) (V m c main_v26)) (constant (F := Ideal) S_ .f32 0x00000000#32) reducesTo_S8x8192x64_S8x8192_d2 h_S_ := by
  unfold V; after_reads_simp
theorem V_v31 : (V m c main_v31 : Vec Ideal S8x16x1x512 .f32) = shapeCast S8x16x1x512 (V m c main_v30) shapeCasts_S8x8192_S8x16x1x512 := by
  unfold V; after_reads_simp; rfl
theorem V_v39 : (V m c main_v39 : Vec Ideal S8192x1024 .bf16) = truncf .bf16 (φ := .f32) (shapeCast S8192x1024
    (pad S8192x8x128 ![0, 0, 0] ![0, 0, 32] ![0, 0, 0] (V m c main_v2) (sitofp (F := Ideal) .f32 (constantI S_ 32 0#32)) pads_S8192x8x96_S8192x8x128_000_000_0320 h_S_)
      shapeCasts_S8192x8x128_S8192x1024) bitsLt_bf16_f32 := by
  unfold V; after_reads_simp; rfl
theorem V_v42 : (V m c main_v42 : Vec Ideal S8192x1024 .bf16) = truncf .bf16 (φ := .f32) (shapeCast S8192x1024
    (pad S8192x8x128 ![0, 0, 0] ![0, 0, 32] ![0, 0, 0] (V m c main_v5) (sitofp (F := Ideal) .f32 (constantI S_ 32 0#32)) pads_S8192x8x96_S8192x8x128_000_000_0320 h_S_)
      shapeCasts_S8192x8x128_S8192x1024) bitsLt_bf16_f32 := by
  unfold V; after_reads_simp; rfl

/-- A value of two heads' pair block of values: the even head's, then two heads' widths of ones, then the odd head's. -/
def pairs (x : Vec Ideal S8192x8x64 .f32) (i : S8192x1024.Idx) : EReal :=
  if h : (i 1).val % 256 < 64 then x (ix3 (i 0) ⟨2 * ((i 1).val / 256), by have : (i 1).val < 1024 := (i 1).isLt; omega⟩ ⟨(i 1).val % 256, h⟩)
  else if h' : (i 1).val % 256 < 192 then 1
  else x (ix3 (i 0) ⟨2 * ((i 1).val / 256) + 1, by have : (i 1).val < 1024 := (i 1).isLt; omega⟩ ⟨(i 1).val % 256 - 192, by omega⟩)

theorem V_v43 (i : S8192x1024.Idx) : V m c main_v43 i = pairs (at₀ m c main_arg4) i := by
  unfold V; after_reads_at
  after_reads_at
  have key : ∀ a : ℕ, a - 64 - 64 - 64 = a - 192 := fun a => by omega
  have out : ∀ a : ℕ, ¬a - 64 - 64 < 64 → ¬a < 192 := fun a h => by omega
  have in₁ : ∀ a : ℕ, a - 64 < 64 → a < 192 := fun a h => by omega
  have in₂ : ∀ a : ℕ, a - 64 - 64 < 64 → a < 192 := fun a h => by omega
  unfold pairs
  by_cases h1 : (i 1).val % 256 < 64
  · simp only [dif_pos h1]
  simp only [dif_neg h1]
  by_cases h2 : (i 1).val % 256 - 64 < 64
  · simp only [dif_pos h2, dif_pos (in₁ _ h2)]
  simp only [dif_neg h2]
  by_cases h3 : (i 1).val % 256 - 64 - 64 < 64
  · simp only [dif_pos h3, dif_pos (in₂ _ h3)]
  simp only [dif_neg h3, dif_neg (out _ h3)]
  exact congrArg _ (congrArg₂ (ix3 (i 0)) (Fin.ext (Nat.add_comm _ _)) (Fin.ext (key _)))
theorem V_v44 (i : S8192x512.Idx) : V m c main_v44 i = at₀ m c main_arg5 i := by
  unfold V; after_reads_at

end Cert.MlaHost

end
-- ==== Proof.MlaRefReal.lean ====
/- What the reference of the attention's gradient computes at finite arguments: each of its stages, read at an index, is
   the coercion of a real expression of `MlaMath`. -/
module

public import proofs.«01_k».proof.Proof.Words
public import proofs.«01_k».proof.Proof.MlaMath
public import proofs.«01_k».proof.Proof.Gen.MlaRefIdeal.Read
public import Idealize.ShloMosaic.Lib.Pointwise

@[expose] public section

set_option maxRecDepth 16384

noncomputable section

namespace Cert.MlaRefReal

open Cert.MlaRefIdeal Cert.MlaRefIdeal.Gen Cert.MlaRefIdeal.Read Cert.Reals Cert.MlaMath
open Idealize.ShloMosaic

theorem neg_inf_word : Ideal.ofBits .f32 0xFF800000#32 = (⊥ : EReal) := by
  simp [Ideal.ofBits, Ideal.ieee]

theorem mask_real (i : S8192x8192.Idx) : val_main_v12 (F := Ideal) i = if (i 1 : Fin 8192) ≤ i 0 then 1#1 else 0#1 := by
  rw [val_main_v12_apply, val_main_v10_apply, val_main_v11_apply, val_main_v8_apply, val_main_v9_apply, val_main_v7_apply, val_main_v7_apply]
  exact Words.sle_small (lt_trans (i 1).isLt (by norm_num)) (lt_trans (i 0).isLt (by norm_num))

variable (x0 : (⟨S8192x8x64, .f32⟩ : BufTy).Contents (Elt Ideal)) (x1 : (⟨S8192x8x32, .f32⟩ : BufTy).Contents (Elt Ideal))
  (x2 : (⟨S8192x8x64, .f32⟩ : BufTy).Contents (Elt Ideal)) (x3 : (⟨S8192x32, .f32⟩ : BufTy).Contents (Elt Ideal))
  (x4 : (⟨S8192x8x64, .f32⟩ : BufTy).Contents (Elt Ideal)) (x5 : (⟨S8192x512, .f32⟩ : BufTy).Contents (Elt Ideal))
variable {Q K : Fin 8192 → Fin 8 → Fin 96 → ℝ} {U D : Fin 8192 → Fin 8 → Fin 64 → ℝ} {M : Fin 8 → Fin 8192 → ℝ}
variable (hQ : ∀ i, val_main_v2 (F := Ideal) x0 x1 i = ((Q (i 0) (i 1) (i 2) : ℝ) : EReal))
  (hK : ∀ i, val_main_v5 (F := Ideal) x2 x3 i = ((K (i 0) (i 1) (i 2) : ℝ) : EReal))
  (hU : ∀ i, x4 i = ((U (i 0) (i 1) (i 2) : ℝ) : EReal))
  (hD : ∀ i, x5 i = ((D (i 0) (hd 64 rfl (i 1)) (ln 64 pos64 (i 1)) : ℝ) : EReal))

include hQ hK

theorem v6_real (i : S8x8192x8192.Idx) : val_main_v6 (F := Ideal) x0 x1 x2 x3 i = ((sc Q K (i 0) (i 1) (i 2) : ℝ) : EReal) := by
  rw [val_main_v6_apply]
  simp only [hQ, hK, ← EReal.coe_mul, sum_real]
  rfl

theorem v13_real (i : S8x8192x8192.Idx) : val_main_v13_0 (F := Ideal) x0 x1 x2 x3 i
    = if (i 2 : Fin 8192) ≤ i 1 then ((sc Q K (i 0) (i 1) (i 2) : ℝ) : EReal) else ⊥ := by
  rw [val_main_v13_0_apply, val_main_v13_1_apply, mask_real, Words.select_if, v6_real x0 x1 x2 x3 hQ hK, val_main_call0_v2_apply, val_main_call0_v0_apply,
    val_main_cst_0_apply, Ideal.ofBits_def, neg_inf_word]
  rfl

/-- Every row has a real maximum. -/
theorem v14_real : ∃ M : Fin 8 → Fin 8192 → ℝ, ∀ i, val_main_v14 (F := Ideal) x0 x1 x2 x3 i = ((M (i 0) (i 1) : ℝ) : EReal) := by
  have key : ∀ (h : Fin 8) (i : Fin 8192), ∃ M : ℝ, val_main_v14 (F := Ideal) x0 x1 x2 x3 (ix2 h i) = (M : EReal) := fun h i => by
    have e : val_main_v14 (F := Ideal) x0 x1 x2 x3 (ix2 h i)
        = Finset.univ.fold max ⊥ fun k : Fin 8192 => val_main_v13_0 (F := Ideal) x0 x1 x2 x3 (ix3 h i k) := by
      unfold val_main_v14
      generalize val_main_v13_0 (F := Ideal) x0 x1 x2 x3 = y
      pointwise
      rw [← neg_inf_word]
      rfl
    rw [e]
    refine fold_max_real _ _ (fun k _ => ?_) i (Finset.mem_univ _) ?_
    · rw [v13_real x0 x1 x2 x3 hQ hK]
      split
      · exact EReal.coe_ne_top _
      · exact bot_ne_top
    · rw [v13_real x0 x1 x2 x3 hQ hK]
      exact ne_of_eq_of_ne (if_pos le_rfl) (EReal.coe_ne_bot _)
  choose M hM using key
  exact ⟨M, fun i => (congrArg _ (eq_ix2 i)).trans (hM _ _)⟩

variable (hM : ∀ i, val_main_v14 (F := Ideal) x0 x1 x2 x3 i = ((M (i 0) (i 1) : ℝ) : EReal))
include hM

theorem v34_real (i : S8x8192x8192.Idx) : val_main_v34 (F := Ideal) x0 x1 x2 x3 i = ((ex Q K (M (i 0) (i 1)) (i 0) (i 1) (i 2) : ℝ) : EReal) := by
  rw [val_main_v34_apply, val_main_v33_apply, v13_real x0 x1 x2 x3 hQ hK, val_main_v32_apply, val_main_v31_apply, val_main_v21_apply, hM,
    val_main_v20_apply, val_main_cst_3_apply]
  simp only [Ideal.ofBits_def, neg_inf_word, Ideal.subf_def, Ideal.maximumf_eq_max, Ideal.hostUnary_exp_def, bot_le, sup_of_le_right]
  unfold ex
  split
  · rw [← EReal.coe_sub]
    exact (Ideal.exp_coe _).trans (congrArg _ (if_pos ‹_›).symm)
  · exact (Ideal.exp_bot).trans (congrArg Real.toEReal (if_neg ‹_›).symm)

theorem v35_real (i : S8x8192.Idx) : val_main_v35 (F := Ideal) x0 x1 x2 x3 i = ((∑ j, ex Q K (M (i 0) (i 1)) (i 0) (i 1) j : ℝ) : EReal) := by
  rw [val_main_v35_apply]
  simp only [v34_real x0 x1 x2 x3 hQ hK hM, val_main_cst_9_apply, Ideal.ofBits_def, zero_word, sum_real, ← EReal.coe_add, zero_add]
  rfl

theorem v38_real (i : S8x8192x8192.Idx) : val_main_v38 (F := Ideal) x0 x1 x2 x3 i = ((P Q K (i 0) (i 1) (i 2) : ℝ) : EReal) := by
  rw [val_main_v38_apply, v34_real x0 x1 x2 x3 hQ hK hM, val_main_v37_apply, val_main_v36_apply, v35_real x0 x1 x2 x3 hQ hK hM]
  exact (div_real _ _ (sum_ex_pos Q K (M (i 0) (i 1)) (i 0) (i 1)).ne').trans (congrArg _ (ex_div Q K _ _ _ _))

theorem v41_real (i : S8x8192x1.Idx) : val_main_v41 (F := Ideal) x0 x1 x2 x3 i
    = ((1 / ((∑ j, ex Q K (M (i 0) (i 1)) (i 0) (i 1) j) * ∑ j, ex Q K (M (i 0) (i 1)) (i 0) (i 1) j) : ℝ) : EReal) := by
  rw [val_main_v41_apply, val_main_v40_apply, val_main_v39_apply, val_main_v36_apply, v35_real x0 x1 x2 x3 hQ hK hM, val_main_cst_10_apply]
  simp only [Ideal.ofBits_def, one_word, Ideal.mulf_def, Ideal.hostDivf_def, ← EReal.coe_mul]
  exact div_real _ _ (mul_pos (sum_ex_pos Q K _ _ _) (sum_ex_pos Q K _ _ _)).ne'

omit hQ hK hM
include hD

theorem v46_real (i : S8x64x8192.Idx) : val_main_v46 (F := Ideal) x5 i = ((D (i 2) (i 0) (i 1) : ℝ) : EReal) := by
  rw [val_main_v46_apply, val_main_v45_apply, hD]
  have h0 : (i 0).val < 8 := (i 0).isLt
  have h1 : (i 1).val < 64 := (i 1).isLt
  have h2 : (i 2).val < 8192 := (i 2).isLt
  refine congrArg _ ?_
  have e0 : idx_main_v45 (idx_main_v46 i) 0 = i 2 := Fin.ext (by show (((i 2).val * 8 + (i 0).val) * 64 + (i 1).val) / 512 = (i 2).val; omega)
  have e1 : hd 64 rfl (idx_main_v45 (idx_main_v46 i) 1) = i 0 := Fin.ext (by
    show (((i 2).val * 8 + (i 0).val) * 64 + (i 1).val) % 512 / 64 = (i 0).val; omega)
  have e2 : ln 64 pos64 (idx_main_v45 (idx_main_v46 i) 1) = i 1 := Fin.ext (by
    show (((i 2).val * 8 + (i 0).val) * 64 + (i 1).val) % 512 % 64 = (i 1).val; omega)
  rw [e0, e1, e2]

include hU

theorem v47_real (i : S8x8192x8192.Idx) : val_main_v47 (F := Ideal) x4 x5 i = ((gp U D (i 0) (i 1) (i 2) : ℝ) : EReal) := by
  rw [val_main_v47_apply]
  simp only [v46_real x5 hD, hU, ← EReal.coe_mul, sum_real]
  rfl

include hQ hK hM

theorem v53_real (i : S8x8192.Idx) : val_main_v53 (F := Ideal) x0 x1 x2 x3 x4 x5 i
    = ((∑ l, gp U D (i 0) (i 1) l * (1 / ((∑ j, ex Q K (M (i 0) (i 1)) (i 0) (i 1) j) * ∑ j, ex Q K (M (i 0) (i 1)) (i 0) (i 1) j))
        * ex Q K (M (i 0) (i 1)) (i 0) (i 1) l : ℝ) : EReal) := by
  rw [val_main_v53_apply]
  simp only [val_main_v52_apply, val_main_v51_apply, val_main_v50_apply, v47_real x4 x5 hU hD, v41_real x0 x1 x2 x3 hQ hK hM, v34_real x0 x1 x2 x3 hQ hK hM,
    val_main_cst_11_apply, Ideal.ofBits_def, zero_word, Ideal.mulf_def, ← EReal.coe_mul, sum_real, ← EReal.coe_add, zero_add]
  rfl

theorem v58_real (i : S8x8192.Idx) : val_main_v58 (F := Ideal) x0 x1 x2 x3 x4 x5 i
    = ((-∑ l, gp U D (i 0) (i 1) l * (1 / ((∑ j, ex Q K (M (i 0) (i 1)) (i 0) (i 1) j) * ∑ j, ex Q K (M (i 0) (i 1)) (i 0) (i 1) j))
        * ex Q K (M (i 0) (i 1)) (i 0) (i 1) l : ℝ) : EReal) := by
  rw [val_main_v58_apply, Fin.sum_univ_one, val_main_v55_apply, val_main_v54_apply, v53_real x0 x1 x2 x3 x4 x5 hQ hK hU hD hM, val_main_cst_12_apply]
  have h0 : (i 0).val < 8 := (i 0).isLt
  have h1 : (i 1).val < 8192 := (i 1).isLt
  have e0 : idx_main_v54 (idx_main_v58 i 0) 0 = i 0 := Fin.ext (by show (((i 0).val * 8192 + (i 1).val) * 1 + 0) / 8192 = (i 0).val; omega)
  have e1 : idx_main_v54 (idx_main_v58 i 0) 1 = i 1 := Fin.ext (by show (((i 0).val * 8192 + (i 1).val) * 1 + 0) % 8192 = (i 1).val; omega)
  rw [e0, e1]
  simp only [Ideal.ofBits_def, zero_word, Ideal.hostNegf_def, Ideal.negf_def, ← EReal.coe_neg, ← EReal.coe_add, zero_add]

theorem v62_real (i : S8x8192x8192.Idx) : val_main_v62 (F := Ideal) x0 x1 x2 x3 x4 x5 i = ((ds Q K U D (i 0) (i 1) (i 2) : ℝ) : EReal) := by
  rw [val_main_v62_apply, val_main_v13_1_apply, mask_real, Words.select_if, val_main_v61_apply, val_main_v60_apply, val_main_v57_apply, val_main_v56_apply,
    val_main_v59_apply, val_main_v36_apply, v58_real x0 x1 x2 x3 x4 x5 hQ hK hU hD hM, v47_real x4 x5 hU hD, v34_real x0 x1 x2 x3 hQ hK hM,
    v35_real x0 x1 x2 x3 hQ hK hM, val_main_call1_v0_apply, val_main_call1_cst_apply]
  by_cases h : (i 2 : Fin 8192) ≤ i 1
  · refine (if_pos h).trans ?_
    simp only [Ideal.addf_def, Ideal.mulf_def, Ideal.hostDivf_def]
    refine (congrArg (· * _) (congrArg (· + _) (div_real _ _ (sum_ex_pos Q K (M (i 0) (i 1)) (i 0) (i 1)).ne'))).trans ?_
    refine (congrArg (· * _) (EReal.coe_add _ _).symm).trans ((EReal.coe_mul _ _).symm.trans ?_)
    exact congrArg _ (ds_eq Q K U D (M (i 0) (i 1)) (i 0) (i 1) (i 2))
  · refine (if_neg h).trans ?_
    rw [ds_hidden Q K U D (i 0) (i 1) (i 2) h, Ideal.ofBits_def, zero_word]

theorem v64_real (i : S8192x8x96.Idx) : val_main_v64 (F := Ideal) x0 x1 x2 x3 x4 x5 i = ((dk Q K U D (i 0) (i 1) (i 2) : ℝ) : EReal) := by
  rw [val_main_v64_apply, val_main_v63_apply]
  simp only [v62_real x0 x1 x2 x3 x4 x5 hQ hK hU hD hM, hQ, ← EReal.coe_mul, sum_real]
  rfl

theorem v66_real (i : S8192x8x96.Idx) : val_main_v66 (F := Ideal) x0 x1 x2 x3 x4 x5 i = ((dq Q K U D (i 0) (i 1) (i 2) : ℝ) : EReal) := by
  rw [val_main_v66_apply, val_main_v65_apply]
  simp only [v62_real x0 x1 x2 x3 x4 x5 hQ hK hU hD hM, hK, ← EReal.coe_mul, sum_real]
  rfl

/-- The gradient of the values. -/
theorem v73_real (i : S8192x512.Idx) : val_main_v73 (F := Ideal) x0 x1 x2 x3 x5 i
    = ((dv Q K D (i 0) (hd 64 rfl (i 1)) (ln 64 pos64 (i 1)) : ℝ) : EReal) := by
  rw [val_main_v73_apply, val_main_v72_apply, val_main_v49_apply, val_main_v48_apply]
  simp only [v46_real x5 hD, v38_real x0 x1 x2 x3 hQ hK hM, ← EReal.coe_mul, sum_real]
  have h0 : (i 0).val < 8192 := (i 0).isLt
  have h1 : (i 1).val < 512 := (i 1).isLt
  have e0 : (idx_main_v72 i 0 : Fin 8192) = i 0 := Fin.ext (by show ((i 0).val * 512 + (i 1).val) / 512 = (i 0).val; omega)
  have e1 : (idx_main_v72 i 1 : Fin 8) = hd 64 rfl (i 1) := Fin.ext (by show ((i 0).val * 512 + (i 1).val) / 64 % 8 = (i 1).val / 64; omega)
  have e2 : (idx_main_v72 i 2 : Fin 64) = ln 64 pos64 (i 1) := Fin.ext (by
    show ((i 0).val * 512 + (i 1).val) % 64 = (i 1).val % 64; omega)
  rw [← e0, ← e1, ← e2]
  rfl

omit hQ hK hU hD hM in
/-- A row of 96 padded to 128 lanes. -/
theorem pad_real (y : Vec Ideal S8192x8x96 .f32) (z : Vec Ideal S_ .f32) (hz : ∀ i, z i = 0) {f : Fin 8192 → Fin 8 → Fin 96 → ℝ}
    (hy : ∀ i, y i = ((f (i 0) (i 1) (i 2) : ℝ) : EReal)) (i : S8192x8x128.Idx) :
    pad S8192x8x128 ![0, 0, 0] ![0, 0, 32] ![0, 0, 0] y z pads_S8192x8x96_S8192x8x128_000_000_0320 h_S_ i = ((lane (f (i 0) (i 1)) (i 2) : ℝ) : EReal) := by
  pointwise
  unfold lane
  simp only [hy, hz]
  split
  · rfl
  · rfl

end Cert.MlaRefReal

end
-- ==== Proof.MlaHostReal.lean ====
/- What the attention's backward call is given at finite arguments: the scaled queries and the keys in 128 lanes a head, the
   values in pair blocks, each row's log-sum of its weights and each row's sum of cotangent times output. -/
module

public import proofs.«01_k».proof.Proof.MlaHost
public import proofs.«01_k».proof.Proof.MlaRefReal
public import Idealize.ShloMosaic.Lib.Pointwise

@[expose] public section

set_option maxRecDepth 16384

noncomputable section

namespace Cert.MlaHost

open Cert.MlaIdeal Cert.MlaIdeal.Gen Cert.Reals Cert.MlaMath Cert.MlaRefReal
open Idealize.ShloMosaic Idealize.ShloMosaic.TcCoe Idealize.SL.Sem

variable (m : (ℓ : Loc nD τ sig) → Buf (Elt Ideal) ℓ) (c : Dev nD)
variable {Q K : Fin 8192 → Fin 8 → Fin 96 → ℝ} {U D : Fin 8192 → Fin 8 → Fin 64 → ℝ} {M : Fin 8 → Fin 8192 → ℝ}
variable (hQ : ∀ i, Cert.MlaRefIdeal.Read.val_main_v2 (F := Ideal) (at₀ m c main_arg0) (at₀ m c main_arg1) i = ((Q (i 0) (i 1) (i 2) : ℝ) : EReal))
  (hK : ∀ i, Cert.MlaRefIdeal.Read.val_main_v5 (F := Ideal) (at₀ m c main_arg2) (at₀ m c main_arg3) i = ((K (i 0) (i 1) (i 2) : ℝ) : EReal))
  (hU : ∀ i, at₀ m c main_arg4 i = ((U (i 0) (i 1) (i 2) : ℝ) : EReal))
  (hD : ∀ i, at₀ m c main_arg5 i = ((D (i 0) (hd 64 rfl (i 1)) (ln 64 pos64 (i 1)) : ℝ) : EReal))

/-- A head's rows, padded, side by side. -/
theorem lanes_real (y : Vec Ideal S8192x8x96 .f32) {f : Fin 8192 → Fin 8 → Fin 96 → ℝ} (hy : ∀ i, y i = ((f (i 0) (i 1) (i 2) : ℝ) : EReal))
    (i : Fin 8192) (l : Fin 1024) :
    truncf .bf16 (φ := .f32) (shapeCast S8192x1024 (pad S8192x8x128 ![0, 0, 0] ![0, 0, 32] ![0, 0, 0] y
      (sitofp (F := Ideal) .f32 (constantI S_ 32 0#32)) pads_S8192x8x96_S8192x8x128_000_000_0320 h_S_) shapeCasts_S8192x8x128_S8192x1024) bitsLt_bf16_f32 (ix2 i l)
      = ((lane (f i (hd 128 rfl l)) (ln 128 pos128 l) : ℝ) : EReal) := by
  pointwise
  by_cases h : l.val % 128 < 96
  · rw [dif_pos ⟨by have := l.isLt; omega, h⟩, hy]
    refine congrArg Real.toEReal ?_
    unfold lane
    rw [dif_pos (show (ln 128 pos128 l).val < 96 from h)]
    rfl
  · rw [dif_neg fun h' => h h'.2]
    refine Eq.trans ?_ (congrArg Real.toEReal (dif_neg (c := (ln 128 pos128 l).val < 96) h)).symm
    show (((0#32 : BitVec 32).toInt : ℝ) : EReal) = ((0 : ℝ) : EReal)
    norm_num

include hQ in
theorem q_real (i : Fin 8192) (l : Fin 1024) : (V m c main_v39 : Vec Ideal S8192x1024 .bf16) (ix2 i l)
    = ((lane (Q i (hd 128 rfl l)) (ln 128 pos128 l) : ℝ) : EReal) := by
  rw [V_v39, V_v2]
  exact lanes_real _ hQ i l

include hQ in
theorem q_real' (i : S8192x1024.Idx) : V m c main_v39 i = ((lane (Q (i 0) (hd 128 rfl (i 1))) (ln 128 pos128 (i 1)) : ℝ) : EReal) :=
  (congrArg _ (eq_ix2 i)).trans (q_real m c hQ (i 0) (i 1))

include hK in
theorem k_real (i : Fin 8192) (l : Fin 1024) : (V m c main_v42 : Vec Ideal S8192x1024 .bf16) (ix2 i l)
    = ((lane (K i (hd 128 rfl l)) (ln 128 pos128 l) : ℝ) : EReal) := by
  rw [V_v42, V_v5]
  exact lanes_real _ hK i l

include hK in
theorem k_real' (i : S8192x1024.Idx) : V m c main_v42 i = ((lane (K (i 0) (hd 128 rfl (i 1))) (ln 128 pos128 (i 1)) : ℝ) : EReal) :=
  (congrArg _ (eq_ix2 i)).trans (k_real m c hK (i 0) (i 1))

include hQ hK

theorem max_real : ∃ M : Fin 8 → Fin 8192 → ℝ, ∀ i, (V m c main_v14 : Vec Ideal S8x8192 .f32) i = ((M (i 0) (i 1) : ℝ) : EReal) := by
  rw [V_v14]
  exact v14_real _ _ _ _ hQ hK

variable (hM : ∀ i, (V m c main_v14 : Vec Ideal S8x8192 .f32) i = ((M (i 0) (i 1) : ℝ) : EReal))
include hM

theorem ex_real (h : Fin 8) (i j : Fin 8192) : (V m c main_v18 : Vec Ideal S8x8192x8192 .f32) (ix3 h i j) = ((ex Q K (M h i) h i j : ℝ) : EReal) := by
  rw [V_v18, V_v13]
  have e := v13_real _ _ _ _ hQ hK (ix3 h i j)
  generalize Cert.MlaRefIdeal.Read.val_main_v13_0 (F := Ideal) (at₀ m c main_arg0) (at₀ m c main_arg1) (at₀ m c main_arg2) (at₀ m c main_arg3) = y at e ⊢
  generalize V m c main_v14 = z at hM ⊢
  pointwise
  rw [e, hM]
  unfold ex
  show Ideal.exp ((if j ≤ i then ((sc Q K h i j : ℝ) : EReal) else ⊥) - ((M h i : ℝ) : EReal)) = _
  by_cases hj : j ≤ i
  · rw [if_pos hj, if_pos hj, ← EReal.coe_sub]; exact Ideal.exp_coe _
  · rw [if_neg hj, if_neg hj]; exact Ideal.exp_bot

theorem sum_real' (h : Fin 8) (i : Fin 8192) : (V m c main_v19 : Vec Ideal S8x8192 .f32) (ix2 h i) = ((∑ j, ex Q K (M h i) h i j : ℝ) : EReal) := by
  rw [V_v19]
  have e := ex_real m c hQ hK hM h i
  generalize V m c main_v18 = y at e ⊢
  pointwise
  simp only [e, sum_real]

omit hQ hK hM in
theorem lse_at (x y : Vec Ideal S8x8192 .f32) (h : Fin 8) (b : Fin 16) (z : Fin 1) (r : Fin 512) :
    shapeCast S8x16x1x512 (addf (F := Ideal) (φ := .f32) (broadcastInDim S8x8192x1 ![0, 1] bcast_S8x8192_S8x8192x1_0_1 x)
      (Host.log (F := Ideal) (φ := .f32) (broadcastInDim S8x8192x1 ![0, 1] bcast_S8x8192_S8x8192x1_0_1 y))) shapeCasts_S8x8192x1_S8x16x1x512 (ix4 h b z r)
    = x (ix2 h (row b r)) + Ideal.log (y (ix2 h (row b r))) := by
  have hr : ∀ h', (⟨b.val * 512 + r.val, h'⟩ : Fin 8192) = row b r := fun _ => Fin.ext (by rw [row_val b.isLt]; show b.val * 512 + r.val = _; omega)
  pointwise
  rw [hr]

/-- Each row's log-sum. -/
theorem lse_real (h : Fin 8) (b : Fin 16) (z : Fin 1) (r : Fin 512) : (V m c main_v23 : Vec Ideal S8x16x1x512 .f32) (ix4 h b z r)
    = ((Real.log (Z Q K h (row b r)) : ℝ) : EReal) := by
  refine (congrFun (V_v23 m c) _).trans ((lse_at _ _ h b z r).trans ?_)
  refine (congrArg₂ (fun a b : EReal => a + Ideal.log b) (hM (ix2 h (row b r))) (sum_real' m c hQ hK hM h (row b r))).trans ?_
  refine (congrArg (fun a : EReal => _ + a) (log_real _ (sum_ex_pos Q K (M h (row b r)) h (row b r)))).trans ?_
  exact (EReal.coe_add _ _).symm.trans (congrArg _ (log_sum_ex Q K _ _ _))

omit hM in
theorem lse_all (i : S8x16x1x512.Idx) : V m c main_v23 i = ((Real.log (Z Q K (i 0) (row (i 1 : Fin 16) (i 3))) : ℝ) : EReal) := by
  obtain ⟨M, hM⟩ := max_real m c hQ hK
  exact (congrArg _ (eq_ix4 i)).trans (lse_real m c hQ hK hM (i 0) (i 1) (i 2) (i 3))

theorem P_real (h : Fin 8) (i j : Fin 8192) : (V m c main_v25 : Vec Ideal S8x8192x8192 .f32) (ix3 h i j) = ((P Q K h i j : ℝ) : EReal) := by
  rw [V_v25]
  have e := ex_real m c hQ hK hM h i j
  have e' := sum_real' m c hQ hK hM h i
  generalize V m c main_v18 = y at e ⊢
  generalize V m c main_v19 = x at e' ⊢
  pointwise
  rw [e, e', div_real _ _ (sum_ex_pos Q K _ _ _).ne']
  exact congrArg _ (ex_div Q K _ _ _ _)

include hU in
theorem out_real (h : Fin 8) (i : Fin 8192) (a : Fin 64) : (V m c main_v26 : Vec Ideal S8x8192x64 .f32) (ix3 h i a) = ((∑ j, P Q K h i j * U j h a : ℝ) : EReal) := by
  rw [V_v26]
  have e := P_real m c hQ hK hM h i
  generalize V m c main_v25 = y at e ⊢
  generalize at₀ m c main_arg4 = x at hU ⊢
  pointwise
  simp only [e, hU, ← EReal.coe_mul, sum_real]
  rfl

omit hQ hK hM in
include hD in
theorem do_real (h : Fin 8) (i : Fin 8192) (a : Fin 64) : (V m c main_v28 : Vec Ideal S8x8192x64 .f32) (ix3 h i a) = ((D i h a : ℝ) : EReal) := by
  rw [V_v28]
  generalize at₀ m c main_arg5 = x at hD ⊢
  pointwise
  refine (hD _).trans (congrArg _ ?_)
  have e1 : hd 64 rfl (⟨h.val * 64 + a.val, by omega⟩ : Fin 512) = h := Fin.ext (by show (h.val * 64 + a.val) / 64 = h.val; omega)
  have e2 : ln 64 pos64 (⟨h.val * 64 + a.val, by omega⟩ : Fin 512) = a := Fin.ext (by show (h.val * 64 + a.val) % 64 = a.val; omega)
  exact congrArg₂ (D i) e1 e2

include hU hD in
/-- Each row's sum of cotangent times output. -/
theorem del_real (h : Fin 8) (b : Fin 16) (z : Fin 1) (r : Fin 512) : (V m c main_v31 : Vec Ideal S8x16x1x512 .f32) (ix4 h b z r)
    = ((del Q K U D h (row b r) : ℝ) : EReal) := by
  rw [V_v31, V_v30]
  have e := out_real m c hQ hK hU hM h (row b r)
  have e' := do_real m c hD h (row b r)
  generalize V m c main_v28 = y at e' ⊢
  generalize V m c main_v26 = x at e ⊢
  pointwise
  have hr : ∀ h', (⟨b.val * 512 + r.val, h'⟩ : Fin 8192) = row b r := fun _ => Fin.ext (by rw [row_val b.isLt]; show b.val * 512 + r.val = _; omega)
  simp only [hr, e, e', ← EReal.coe_mul, sum_real]
  refine congrArg _ ?_
  unfold del gp
  simp only [Finset.mul_sum]
  rw [Finset.sum_comm]
  exact Finset.sum_congr rfl fun j _ => Finset.sum_congr rfl fun x _ => by ring

omit hM in
include hU hD in
theorem del_all (i : S8x16x1x512.Idx) : V m c main_v31 i = ((del Q K U D (i 0) (row (i 1 : Fin 16) (i 3)) : ℝ) : EReal) := by
  obtain ⟨M, hM⟩ := max_real m c hQ hK
  exact (congrArg _ (eq_ix4 i)).trans (del_real m c hQ hK hU hD hM (i 0) (i 1) (i 2) (i 3))

omit hQ hK hM in
/-- The lanes of a pair's block of values. -/
theorem pairs_real {x : Vec Ideal S8192x8x64 .f32} (hx : ∀ i, x i = ((U (i 0) (i 1) (i 2) : ℝ) : EReal)) {y : S8192x1024.Idx} {p : Fin 4} {i : Fin 8192} {l : Fin 256}
    (h0 : (y 0).val = i.val) (h1 : (y 1).val = 256 * p.val + l.val) : pairs x y
      = ((if h : l.val < 64 then U i ⟨2 * p.val, by omega⟩ ⟨l.val, h⟩
          else if h' : l.val < 192 then 1 else U i ⟨2 * p.val + 1, by omega⟩ ⟨l.val - 192, by omega⟩ : ℝ) : EReal) := by
  have h3 : ∀ {i i' : Fin 8192} {h h' : Fin 8} {a a' : Fin 64}, i = i' → h = h' → a = a' → U i h a = U i' h' a' := by rintro _ _ _ _ _ _ rfl rfl rfl; rfl
  have hl : (y 1).val % 256 = l.val := by omega
  have hp : (y 1).val / 256 = p.val := by omega
  unfold pairs
  by_cases c1 : l.val < 64
  · rw [dif_pos (show (y 1).val % 256 < 64 by omega), dif_pos c1]
    refine (hx _).trans (congrArg _ (h3 (Fin.ext h0) (Fin.ext ?_) (Fin.ext ?_)))
    · show 2 * ((y 1).val / 256) = 2 * p.val; omega
    · exact hl
  · rw [dif_neg (show ¬(y 1).val % 256 < 64 by omega), dif_neg c1]
    by_cases c2 : l.val < 192
    · rw [dif_pos (show (y 1).val % 256 < 192 by omega), dif_pos c2]; rfl
    · rw [dif_neg (show ¬(y 1).val % 256 < 192 by omega), dif_neg c2]
      refine (hx _).trans (congrArg _ (h3 (Fin.ext h0) (Fin.ext ?_) (Fin.ext ?_)))
      · show 2 * ((y 1).val / 256) + 1 = 2 * p.val + 1; omega
      · show (y 1).val % 256 - 192 = l.val - 192; omega

end Cert.MlaHost

end
-- ==== Proof.MlaBlocks.lean ====
/- The blocks that a grid point of the attention backward call reads, at finite arguments. -/
module

public import proofs.«01_k».proof.Proof.MlaWindows
public import proofs.«01_k».proof.Proof.MlaFrame
public import proofs.«01_k».proof.Proof.MlaHostReal
public import Idealize.ShloMosaic.Lib.Pipeline.ValueKit

@[expose] public section

set_option maxRecDepth 16384

noncomputable section

namespace Cert.MlaBlocks

open Cert.MlaIdeal Cert.MlaIdeal.Gen Cert.MlaStep Cert.MlaBody Cert.MlaFrame Cert.MlaWindows Cert.MlaHost Cert.MlaPoint Cert.MlaPay Cert.Reals Cert.MlaMath
open Idealize.ShloMosaic Idealize.ShloMosaic.TcCoe Idealize.SL.Sem

variable (m : (ℓ : Loc nD τ sig) → Buf (Elt Ideal) ℓ) (c : Dev nD)

variable {Q K : Fin 8192 → Fin 8 → Fin 96 → ℝ} {U D : Fin 8192 → Fin 8 → Fin 64 → ℝ}
variable (hQ : ∀ i, Cert.MlaRefIdeal.Read.val_main_v2 (F := Ideal) (at₀ m c main_arg0) (at₀ m c main_arg1) i = ((Q (i 0) (i 1) (i 2) : ℝ) : EReal))
  (hK : ∀ i, Cert.MlaRefIdeal.Read.val_main_v5 (F := Ideal) (at₀ m c main_arg2) (at₀ m c main_arg3) i = ((K (i 0) (i 1) (i 2) : ℝ) : EReal))
  (hU : ∀ i, at₀ m c main_arg4 i = ((U (i 0) (i 1) (i 2) : ℝ) : EReal))
  (hD : ∀ i, at₀ m c main_arg5 i = ((D (i 0) (hd 64 rfl (i 1)) (ln 64 pos64 (i 1)) : ℝ) : EReal))

/-! ## The blocks that a point reads -/

include hQ in
theorem blkQ (t : Fin cfg0.N) (i : Fin 8192) (l : Fin 256) :
    (iblk m c 0 t : Vec Ideal S8192x256 .bf16) (ix2 i l) = ((lane (Q i (hp t l)) (ln 128 pos128 l) : ℝ) : EReal) := by
  have ht : t.val < 64 := t.isLt
  blk_simp [iblk]
  refine (q_real' m c hQ _).trans (congrArg _ (lane_congr (Fin.ext ?_) (Fin.ext ?_) (Fin.ext ?_)))
  · blk_simp [idx t]
  · unfold hd hp; blk_simp [idx t]; show (t.val / 16 * 256 + l.val) / 128 = 2 * (t.val / 16) + l.val / 128; omega
  · unfold ln; blk_simp [idx t]; show (t.val / 16 * 256 + l.val) % 128 = l.val % 128; omega

include hK in
theorem blkK (t : Fin cfg0.N) (r : Fin 512) (l : Fin 256) :
    (iblk m c 1 t : Vec Ideal S512x256 .bf16) (ix2 r l) = ((lane (K (row (blkNo t) r) (hp t l)) (ln 128 pos128 l) : ℝ) : EReal) := by
  have ht : t.val < 64 := t.isLt
  blk_simp [iblk]
  refine (k_real' m c hK _).trans (congrArg _ (lane_congr (Fin.ext ?_) (Fin.ext ?_) (Fin.ext ?_)))
  · rw [row_val (blkNo t).isLt, blkNo_val]; blk_simp [idx t]; omega
  · unfold hd hp; blk_simp [idx t]; show (t.val / 16 * 256 + l.val) / 128 = 2 * (t.val / 16) + l.val / 128; omega
  · unfold ln; blk_simp [idx t]; show (t.val / 16 * 256 + l.val) % 128 = l.val % 128; omega

include hD in
theorem blkD (t : Fin cfg0.N) (i : Fin 8192) (l : Fin 128) :
    (iblk m c 3 t : Vec Ideal S8192x128 .bf16) (ix2 i l) = ((D i ⟨2 * (t.val / 16) + l.val / 64, by have : t.val < 64 := t.isLt; omega⟩ (ln 64 pos64 l) : ℝ) : EReal) := by
  have ht : t.val < 64 := t.isLt
  blk_simp [iblk]
  refine (V_v44 m c _).trans ((hD _).trans (congrArg _ ?_))
  have h3 : ∀ {i i' : Fin 8192} {h h' : Fin 8} {a a' : Fin 64}, i = i' → h = h' → a = a' → D i h a = D i' h' a' := by rintro _ _ _ _ _ _ rfl rfl rfl; rfl
  refine h3 (Fin.ext ?_) (Fin.ext ?_) (Fin.ext ?_)
  · blk_simp [idx t]
  · unfold hd; blk_simp [idx t]; show (t.val / 16 * 128 + l.val) / 64 = 2 * (t.val / 16) + l.val / 64; omega
  · unfold ln; blk_simp [idx t]; show (t.val / 16 * 128 + l.val) % 64 = l.val % 64; omega

include hU in
/-- The values' block of a pair: the even head's, ones, and the odd head's. -/
theorem blkV (t : Fin cfg0.N) (r : Fin 512) (l : Fin 256) : (iblk m c 2 t : Vec Ideal S512x256 .bf16) (ix2 r l)
    = ((if h : l.val < 64 then U (row (blkNo t) r) (hA (pair t)) ⟨l.val, h⟩
        else if h' : l.val < 192 then 1 else U (row (blkNo t) r) (hB (pair t)) ⟨l.val - 192, by omega⟩ : ℝ) : EReal) := by
  have ht : t.val < 64 := t.isLt
  blk_simp [iblk]
  refine (V_v43 m c _).trans ((pairs_real hU (p := pair t) (i := row (blkNo t) r) (l := l) ?_ ?_))
  · rw [row_val (blkNo t).isLt, blkNo_val]; blk_simp [idx t]; omega
  · blk_simp [idx t]; show t.val / 16 * 256 + l.val = 256 * (t.val / 16) + l.val; omega

theorem iblk4 (t : Fin cfg0.N) (y) : iblk m c 4 t y = V m c main_v23 ((win0_4.blk t).view.emb y) := by
  unfold iblk View.read
  generalize V m c = X
  rw [cast_eq]
theorem emb4 (t : Fin cfg0.N) (h : Fin 2) (b : Fin 16) (z : Fin 1) (r : Fin 512) :
    (win0_4.blk t).view.emb (ix4 h b z r) = ix4 ⟨2 * (t.val / 16) + h.val, by have : t.val < 64 := t.isLt; omega⟩ b z r := by
  have ht : t.val < 64 := t.isLt
  blk_ext [idx t]
/-- A row's number, from an array of them by heads and blocks of rows. -/
theorem blkL {g : Fin 8 → Fin 8192 → ℝ} (hg : ∀ i : S8x16x1x512.Idx, V m c main_v23 i = ((g (i 0) (row (i 1 : Fin 16) (i 3)) : ℝ) : EReal))
    (t : Fin cfg0.N) (h : Fin 2) (b : Fin 16) (z : Fin 1) (r : Fin 512) : (iblk m c 4 t : Vec Ideal S2x16x1x512 .f32) (ix4 h b z r)
    = ((g ⟨2 * (t.val / 16) + h.val, by have : t.val < 64 := t.isLt; omega⟩ (row b r) : ℝ) : EReal) :=
  (iblk4 m c t _).trans ((congrArg (V m c main_v23) (emb4 t h b z r)).trans (hg _))

theorem iblk5 (t : Fin cfg0.N) (y) : iblk m c 5 t y = V m c main_v31 ((win0_5.blk t).view.emb y) := by
  unfold iblk View.read
  generalize V m c = X
  rw [cast_eq]
theorem emb5 (t : Fin cfg0.N) (h : Fin 2) (b : Fin 16) (z : Fin 1) (r : Fin 512) :
    (win0_5.blk t).view.emb (ix4 h b z r) = ix4 ⟨2 * (t.val / 16) + h.val, by have : t.val < 64 := t.isLt; omega⟩ b z r := by
  have ht : t.val < 64 := t.isLt
  blk_ext [idx t]
/-- A row's number, from an array of them by heads and blocks of rows. -/
theorem blkS {g : Fin 8 → Fin 8192 → ℝ} (hg : ∀ i : S8x16x1x512.Idx, V m c main_v31 i = ((g (i 0) (row (i 1 : Fin 16) (i 3)) : ℝ) : EReal))
    (t : Fin cfg0.N) (h : Fin 2) (b : Fin 16) (z : Fin 1) (r : Fin 512) : (iblk m c 5 t : Vec Ideal S2x16x1x512 .f32) (ix4 h b z r)
    = ((g ⟨2 * (t.val / 16) + h.val, by have : t.val < 64 := t.isLt; omega⟩ (row b r) : ℝ) : EReal) :=
  (iblk5 m c t _).trans ((congrArg (V m c main_v31) (emb5 t h b z r)).trans (hg _))

end Cert.MlaBlocks

end
-- ==== Proof.MlaArrays.lean ====
/- The three result arrays of the attention's backward call at finite arguments. -/
module

public import proofs.«01_k».proof.Proof.MlaBlocks

@[expose] public section

set_option maxRecDepth 16384

noncomputable section

namespace Cert.MlaArrays

open Cert.MlaIdeal Cert.MlaIdeal.Gen Cert.MlaStep Cert.MlaBody Cert.MlaFrame Cert.MlaWindows Cert.MlaBlocks Cert.MlaHost Cert.MlaPoint Cert.MlaPay Cert.Reals Cert.MlaMath
open Idealize.ShloMosaic Idealize.ShloMosaic.TcCoe Idealize.SL.Sem

variable (m : (ℓ : Loc nD τ sig) → Buf (Elt Ideal) ℓ) (c : Dev nD)

variable {Q K : Fin 8192 → Fin 8 → Fin 96 → ℝ} {U D : Fin 8192 → Fin 8 → Fin 64 → ℝ}
variable (hQ : ∀ i, Cert.MlaRefIdeal.Read.val_main_v2 (F := Ideal) (at₀ m c main_arg0) (at₀ m c main_arg1) i = ((Q (i 0) (i 1) (i 2) : ℝ) : EReal))
  (hK : ∀ i, Cert.MlaRefIdeal.Read.val_main_v5 (F := Ideal) (at₀ m c main_arg2) (at₀ m c main_arg3) i = ((K (i 0) (i 1) (i 2) : ℝ) : EReal))
  (hU : ∀ i, at₀ m c main_arg4 i = ((U (i 0) (i 1) (i 2) : ℝ) : EReal))
  (hD : ∀ i, at₀ m c main_arg5 i = ((D (i 0) (hd 64 rfl (i 1)) (ln 64 pos64 (i 1)) : ℝ) : EReal))

theorem hp_lo (t : Fin cfg0.N) (a : Fin 128) : hp t ⟨a.val, by omega⟩ = hA (pair t) := Fin.ext (by
  show 2 * (t.val / 16) + a.val / 128 = 2 * (t.val / 16); omega)
theorem hp_hi (t : Fin cfg0.N) (a : Fin 128) : hp t ⟨128 + a.val, by omega⟩ = hB (pair t) := Fin.ext (by
  show 2 * (t.val / 16) + (128 + a.val) / 128 = 2 * (t.val / 16) + 1; omega)
theorem ln_lo (a : Fin 128) : ln 128 pos128 (⟨a.val, by omega⟩ : Fin 256) = a := Fin.ext (by
  show a.val % 128 = a.val; omega)
theorem ln_hi (a : Fin 128) : ln 128 pos128 (⟨128 + a.val, by omega⟩ : Fin 256) = a := Fin.ext (by
  show (128 + a.val) % 128 = a.val; omega)

variable (t : Fin cfg0.N)

/-! What a grid point reads, as numbers. -/

include hQ in
theorem at_q0 (b : Fin 16) (r : Fin 512) (a : Fin 128) : (arr m c t).q0 b (ix2 r a) = ((xR Q (hA (pair t)) b r a : ℝ) : EReal) := (q0_at (arr m c t) b r a).trans ((blkQ m c hQ t _ _).trans (congrArg _ (lane_congr rfl (hp_lo t a) (ln_lo a))))
include hQ in
theorem at_q1 (b : Fin 16) (r : Fin 512) (a : Fin 128) : (arr m c t).q1 b (ix2 r a) = ((xR Q (hB (pair t)) b r a : ℝ) : EReal) := (q1_at (arr m c t) b r a).trans ((blkQ m c hQ t _ _).trans (congrArg _ (lane_congr rfl (hp_hi t a) (ln_hi a))))
include hK in
theorem at_k0 (r : Fin 512) (a : Fin 128) : (arr m c t).k0 (ix2 r a) = ((xR K (hA (pair t)) (blkNo t) r a : ℝ) : EReal) := (k0_at (arr m c t) r a).trans ((blkK m c hK t _ _).trans (congrArg _ (lane_congr rfl (hp_lo t a) (ln_lo a))))
include hK in
theorem at_k1 (r : Fin 512) (a : Fin 128) : (arr m c t).k1 (ix2 r a) = ((xR K (hB (pair t)) (blkNo t) r a : ℝ) : EReal) := (k1_at (arr m c t) r a).trans ((blkK m c hK t _ _).trans (congrArg _ (lane_congr rfl (hp_hi t a) (ln_hi a))))
include hU in
theorem at_v0 (r : Fin 512) (a : Fin 128) : (arr m c t).v0 (ix2 r a) = ((vA U (pair t) (blkNo t) r a : ℝ) : EReal) := by
    refine (v0_at (arr m c t) r a).trans ((congrArg (fun x : EReal => x * _) (blkV m c hU t _ _)).trans ((EReal.coe_mul _ _).symm.trans (congrArg _ ?_)))
    unfold vA m0
    by_cases h : a.val < 64
    · simp only [dif_pos h, if_pos h, mul_one]
    · simp only [dif_neg h, if_neg h, mul_zero]
include hU in
theorem at_v1 (r : Fin 512) (a : Fin 128) : (arr m c t).v1 (ix2 r a) = ((vB U (pair t) (blkNo t) r a : ℝ) : EReal) := by
    refine (v1_at (arr m c t) r a).trans ((congrArg (fun x : EReal => x * _) (blkV m c hU t _ _)).trans ((EReal.coe_mul _ _).symm.trans (congrArg _ ?_)))
    unfold vB m1 m0
    have h0 : ¬ 128 + a.val < 64 := by omega
    by_cases h : a.val < 64
    · simp only [dif_pos h, if_pos h, sub_self, mul_zero]
    · have h1 : ¬ 128 + a.val < 192 := by omega
      simp only [dif_neg h, if_neg h, dif_neg h0, dif_neg h1, sub_zero, mul_one]
      exact congrArg (U _ _) (Fin.ext (by show 128 + a.val - 192 = a.val - 64; omega))
include hD in
theorem at_go (b : Fin 16) (r : Fin 512) (a : Fin 128) : (arr m c t).go0 b (ix2 r a) = ((gR D (pair t) b r a : ℝ) : EReal) := by
    refine (go0_at (arr m c t) b r a).trans ((blkD m c hD t _ _).trans (congrArg _ ?_))
    have h3 : ∀ {h h' : Fin 8} {x x' : Fin 64}, h = h' → x = x' → D (row b r) h x = D (row b r) h' x' := by rintro _ _ _ _ rfl rfl; rfl
    unfold gR
    by_cases h : a.val < 64
    · rw [dif_pos h]
      exact h3 (Fin.ext (by show 2 * (t.val / 16) + a.val / 64 = 2 * (t.val / 16); omega)) (Fin.ext (by show a.val % 64 = a.val; omega))
    · rw [dif_neg h]
      exact h3 (Fin.ext (by show 2 * (t.val / 16) + a.val / 64 = 2 * (t.val / 16) + 1; omega)) (Fin.ext (by show a.val % 64 = a.val - 64; omega))
include hQ hK in
theorem at_lse0 (b : Fin 16) (x : Fin 1) (y : Fin 1) (z : Fin 1) (r : Fin 512) : (arr m c t).lse0 b (ix4 x y z r) = ((lR Q K (hA (pair t)) b r : ℝ) : EReal) := (row0_at b _ x y z r).trans (blkL m c (g := fun h i => Real.log (Z Q K h i)) (lse_all m c hQ hK) t 0 b 0 r)
include hQ hK in
theorem at_lse1 (b : Fin 16) (x : Fin 1) (y : Fin 1) (z : Fin 1) (r : Fin 512) : (arr m c t).lse1 b (ix4 x y z r) = ((lR Q K (hB (pair t)) b r : ℝ) : EReal) := (row1_at b _ x y z r).trans (blkL m c (g := fun h i => Real.log (Z Q K h i)) (lse_all m c hQ hK) t 1 b 0 r)
include hQ hK hU hD in
theorem at_del0 (b : Fin 16) (x : Fin 1) (y : Fin 1) (z : Fin 1) (r : Fin 512) : (arr m c t).del0 b (ix4 x y z r) = ((dR Q K U D (hA (pair t)) b r : ℝ) : EReal) := (row0_at b _ x y z r).trans (blkS m c (g := del Q K U D) (del_all m c hQ hK hU hD) t 0 b 0 r)
include hQ hK hU hD in
theorem at_del1 (b : Fin 16) (x : Fin 1) (y : Fin 1) (z : Fin 1) (r : Fin 512) : (arr m c t).del1 b (ix4 x y z r) = ((dR Q K U D (hB (pair t)) b r : ℝ) : EReal) := (row1_at b _ x y z r).trans (blkS m c (g := del Q K U D) (del_all m c hQ hK hU hD) t 1 b 0 r)

include hQ hK hU hD in
theorem of_arr : Of Q K U D (arr m c t) (pair t) (blkNo t) where
  q0 := at_q0 m c hQ t
  q1 := at_q1 m c hQ t
  k0 := at_k0 m c hK t
  k1 := at_k1 m c hK t
  v0 := at_v0 m c hU t
  v1 := at_v1 m c hU t
  go := at_go m c hD t
  lse0 := at_lse0 m c hQ hK t
  lse1 := at_lse1 m c hQ hK t
  del0 := at_del0 m c hQ hK hU hD t
  del1 := at_del1 m c hQ hK hU hD t

/-- A head's block of the queries' gradient, an entry of it. -/
theorem blk0_at (x : Dq Ideal) (n : Fin 16) (y0 y1 : Fin 1) (l : Fin 128) (r : Fin 512) :
    blk0 x n (ix4 y0 y1 l r) = x (ix4 0 n ⟨l.val, by omega⟩ r) :=
  congrArg x (funext fun e => Fin.ext (by
    have := y0.isLt; have := y1.isLt
    fin_cases e
    · show 0 + 1 * y0.val = 0; omega
    · show n.val + 1 * y1.val = n.val; omega
    · show 0 + 1 * l.val = l.val; omega
    · show 0 + 1 * r.val = r.val; omega))
theorem blk1_at (x : Dq Ideal) (n : Fin 16) (y0 y1 : Fin 1) (l : Fin 128) (r : Fin 512) :
    blk1 x n (ix4 y0 y1 l r) = x (ix4 0 n ⟨128 + l.val, by omega⟩ r) :=
  congrArg x (funext fun e => Fin.ext (by
    have := y0.isLt; have := y1.isLt
    fin_cases e
    · show 0 + 1 * y0.val = 0; omega
    · show n.val + 1 * y1.val = n.val; omega
    · show 128 + 1 * l.val = 128 + l.val; omega
    · show 0 + 1 * r.val = r.val; omega))

theorem zero_real (i : S1x16x256x512.Idx) : k0_pay140 (F := Ideal) i = ((0 : ℝ) : EReal) := by
  rw [show i = ix4 (i 0) (i 1) (i 2) (i 3) from eq_ix4 i]
  generalize i 0 = a; generalize i 1 = b; generalize i 2 = d; generalize i 3 = e
  pointwise [k0_pay140]
  exact EReal.coe_zero.symm

section
variable (Q K U D)

/-- The sum of what the first blocks of keys add to a head's queries' gradient. -/
def part (h : Fin 8) (k : ℕ) (b : Fin 16) (l : Fin 128) (r : Fin 512) : ℝ := ∑ n ∈ Finset.range k, cdq Q K U D h n b l r

end

include hQ hK hU hD in
/-- What a point finds: the sums over the blocks of keys before it. -/
theorem found_real (n : ℕ) (hn : n < cfg0.N) :
    (∀ b x y l r, blk0 (found m c ⟨n, hn⟩) b (ix4 x y l r) = ((part Q K U D (hA (pair ⟨n, hn⟩)) (n % 16) b l r : ℝ) : EReal))
    ∧ (∀ b x y l r, blk1 (found m c ⟨n, hn⟩) b (ix4 x y l r) = ((part Q K U D (hB (pair ⟨n, hn⟩)) (n % 16) b l r : ℝ) : EReal)) := by
  induction n with
  | zero =>
    have e : found m c ⟨0, hn⟩ = k0_pay140 (F := Ideal) := by unfold found; exact dif_pos (Nat.zero_mod _)
    rw [e]
    refine ⟨fun b x y l r => (blk0_at _ b x y l r).trans ((zero_real _).trans ?_), fun b x y l r => (blk1_at _ b x y l r).trans ((zero_real _).trans ?_)⟩ <;>
      unfold part <;> rw [Nat.zero_mod, Finset.sum_range_zero]
  | succ n ih =>
    by_cases h : (n + 1) % 16 = 0
    · have e : found m c ⟨n + 1, hn⟩ = k0_pay140 (F := Ideal) := by unfold found; exact dif_pos h
      rw [e]
      refine ⟨fun b x y l r => (blk0_at _ b x y l r).trans ((zero_real _).trans ?_), fun b x y l r => (blk1_at _ b x y l r).trans ((zero_real _).trans ?_)⟩ <;>
        unfold part <;> rw [h, Finset.sum_range_zero]
    · have hn' : n < cfg0.N := by omega
      obtain ⟨i0, i1⟩ := ih hn'
      have e : found m c ⟨n + 1, hn⟩ = (point (arr m c ⟨n, hn'⟩) (blkNo ⟨n, hn'⟩) (found m c ⟨n, hn'⟩)).2 := by
        refine Eq.trans ?_ (dqAt_eq m c ⟨n, hn'⟩)
        unfold found; exact dif_neg h
      have hI := is_point (of_arr m c hQ hK hU hD ⟨n, hn'⟩) i0 i1
      have hp : pair ⟨n + 1, hn⟩ = pair ⟨n, hn'⟩ := Fin.ext (by show (n + 1) / 16 = n / 16; omega)
      have hm : (n + 1) % 16 = n % 16 + 1 := by omega
      have hb : (blkNo ⟨n, hn'⟩).val = n % 16 := blkNo_val ⟨n, hn'⟩
      rw [e, hp, hm]
      refine ⟨fun b x y l r => (hI.g b x y l r).trans (congrArg _ ?_), fun b x y l r => (hI.h b x y l r).trans (congrArg _ ?_)⟩ <;>
        unfold part <;> rw [Finset.sum_range_succ, hb]

include hQ hK hU hD in
theorem left_real :
    Is (left m c t) (fun r => lane (dk Q K U D (row (blkNo t) r) (hA (pair t)))) (fun r => lane (dk Q K U D (row (blkNo t) r) (hB (pair t))))
      (fun r l => if h : l.val < 64 then dv Q K D (row (blkNo t) r) (hA (pair t)) ⟨l.val, h⟩ else dv Q K D (row (blkNo t) r) (hB (pair t)) ⟨l.val - 64, by omega⟩)
      (fun b l r => part Q K U D (hA (pair t)) (t.val % 16) b l r + cdq Q K U D (hA (pair t)) (blkNo t) b l r)
      (fun b l r => part Q K U D (hB (pair t)) (t.val % 16) b l r + cdq Q K U D (hB (pair t)) (blkNo t) b l r) :=
  is_point (of_arr m c hQ hK hU hD t) (found_real m c hQ hK hU hD t.val t.isLt).1 (found_real m c hQ hK hU hD t.val t.isLt).2

theorem part_all (h : Fin 8) (ht : t.val % 16 = 15) (b : Fin 16) (l : Fin 128) (r : Fin 512) :
    part Q K U D h (t.val % 16) b l r + cdq Q K U D h (blkNo t) b l r = lane (dq Q K U D (row b r) h) l := by
  rw [← dq_sum]
  unfold part
  rw [blkNo_val, ht, ← Finset.sum_range_succ]

end Cert.MlaArrays

end
-- ==== Proof.MlaResults.lean ====
/- The attention's backward call at finite arguments: what its three result arrays hold in the end. -/
module

public import proofs.«01_k».proof.Proof.MlaArrays

@[expose] public section

set_option maxRecDepth 16384

noncomputable section

namespace Cert.MlaResults

open Cert.MlaIdeal Cert.MlaIdeal.Gen Cert.MlaStep Cert.MlaBody Cert.MlaFrame Cert.MlaWindows Cert.MlaArrays Cert.MlaHost Cert.MlaPoint Cert.MlaPay Cert.Reals Cert.MlaMath
open Idealize.ShloMosaic Idealize.ShloMosaic.TcCoe Idealize.SL.Sem

variable (m : (ℓ : Loc nD τ sig) → Buf (Elt Ideal) ℓ) (c : Dev nD)

variable {Q K : Fin 8192 → Fin 8 → Fin 96 → ℝ} {U D : Fin 8192 → Fin 8 → Fin 64 → ℝ}
variable (hQ : ∀ i, Cert.MlaRefIdeal.Read.val_main_v2 (F := Ideal) (at₀ m c main_arg0) (at₀ m c main_arg1) i = ((Q (i 0) (i 1) (i 2) : ℝ) : EReal))
  (hK : ∀ i, Cert.MlaRefIdeal.Read.val_main_v5 (F := Ideal) (at₀ m c main_arg2) (at₀ m c main_arg3) i = ((K (i 0) (i 1) (i 2) : ℝ) : EReal))
  (hU : ∀ i, at₀ m c main_arg4 i = ((U (i 0) (i 1) (i 2) : ℝ) : EReal))
  (hD : ∀ i, at₀ m c main_arg5 i = ((D (i 0) (hd 64 rfl (i 1)) (ln 64 pos64 (i 1)) : ℝ) : EReal))

section
variable (t : Fin cfg0.N)

theorem head_lo (l : Fin 256) (h : l.val < 128) : hA (pair t) = headOf (pair t) l := Fin.ext (by
  show 2 * (t.val / 16) = 2 * (t.val / 16) + l.val / 128; omega)
theorem head_hi (l : Fin 256) (h : ¬ l.val < 128) : hB (pair t) = headOf (pair t) l := Fin.ext (by
  show 2 * (t.val / 16) + 1 = 2 * (t.val / 16) + l.val / 128; omega)
theorem lane_lo (l : Fin 256) (h : l.val < 128) : (⟨l.val, h⟩ : Fin 128) = ln 128 pos128 l := Fin.ext (by
  show l.val = l.val % 128; omega)
theorem lane_hi (l : Fin 256) (h : ¬ l.val < 128) : (⟨l.val - 128, by omega⟩ : Fin 128) = ln 128 pos128 l := Fin.ext (by
  show l.val - 128 = l.val % 128; omega)

include hQ hK hU hD in
/-- The queries' gradient that the last point of a pair leaves. -/
theorem left_dq (ht : t.val % 16 = 15) (y0 : Fin 1) (b : Fin 16) (l : Fin 256) (r : Fin 512) :
    (left m c t).2 (ix4 y0 b l r) = ((lane (dq Q K U D (row b r) (headOf (pair t) l)) (ln 128 pos128 l) : ℝ) : EReal) := by
  have hI := left_real m c hQ hK hU hD t
  obtain rfl : y0 = 0 := Subsingleton.elim _ _
  by_cases h : l.val < 128
  · refine ((blk0_at _ b 0 0 ⟨l.val, h⟩ r).symm.trans (hI.g b 0 0 _ r)).trans (congrArg _ ((part_all t (hA (pair t)) ht b _ r).trans ?_))
    exact lane_congr rfl (head_lo t l h) (lane_lo l h)
  · have e : l = ⟨128 + (⟨l.val - 128, by omega⟩ : Fin 128).val, by show 128 + (l.val - 128) < 256; omega⟩ :=
      Fin.ext (by show l.val = 128 + (l.val - 128); omega)
    refine (congrArg (fun l => (left m c t).2 (ix4 0 b l r)) e).trans ?_
    refine ((blk1_at _ b 0 0 ⟨l.val - 128, by omega⟩ r).symm.trans (hI.h b 0 0 _ r)).trans (congrArg _ ((part_all t (hB (pair t)) ht b _ r).trans ?_))
    exact lane_congr rfl (head_hi t l h) (lane_hi l h)

include hQ hK hU hD in
theorem left_dk (r : Fin 512) (l : Fin 256) :
    joinK (left m c t).1.1 (left m c t).1.2.1 (ix2 r l) = ((lane (dk Q K U D (row (blkNo t) r) (headOf (pair t) l)) (ln 128 pos128 l) : ℝ) : EReal) := by
  have hI := left_real m c hQ hK hU hD t
  unfold joinK
  by_cases h : l.val < 128
  · refine (dif_pos (show ((ix2 r l : S512x256.Idx) 1).val < 128 from h)).trans ((hI.a r ⟨l.val, h⟩).trans (congrArg _ ?_))
    exact lane_congr rfl (head_lo t l h) (lane_lo l h)
  · refine (dif_neg (show ¬ ((ix2 r l : S512x256.Idx) 1).val < 128 from h)).trans ((hI.b r ⟨l.val - 128, by omega⟩).trans (congrArg _ ?_))
    exact lane_congr rfl (head_hi t l h) (lane_hi l h)

include hQ hK hU hD in
theorem left_dv (r : Fin 512) (l : Fin 128) :
    k0_pay9 (left m c t).1.2.2 (ix2 r l) = ((dv Q K D (row (blkNo t) r) ⟨2 * (pair t).val + l.val / 64, by omega⟩ (ln 64 pos64 l) : ℝ) : EReal) := by
  have hI := left_real m c hQ hK hU hD t
  have h3 : ∀ {h h' : Fin 8} {x x' : Fin 64}, h = h' → x = x' → dv Q K D (row (blkNo t) r) h x = dv Q K D (row (blkNo t) r) h' x' := by rintro _ _ _ _ rfl rfl; rfl
  refine Eq.trans ?_ ((hI.v r l).trans (congrArg _ ?_))
  · generalize (left m c t).1.2.2 = a
    pointwise [k0_pay9]
  · by_cases h : l.val < 64
    · refine (dif_pos h).trans (h3 (Fin.ext ?_) (Fin.ext ?_))
      · show 2 * (t.val / 16) = 2 * (t.val / 16) + l.val / 64; omega
      · show l.val = l.val % 64; omega
    · refine (dif_neg h).trans (h3 (Fin.ext ?_) (Fin.ext ?_))
      · show 2 * (t.val / 16) + 1 = 2 * (t.val / 16) + l.val / 64; omega
      · show l.val - 64 = l.val % 64; omega

end

include hQ hK hU hD in
theorem final7 : (dats m 0 c).arrAt 7 cfg0.N
    = (fun i => ((lane (dk Q K U D (i 0) (hd 128 rfl (i 1))) (ln 128 pos128 (i 1)) : ℝ) : EReal) : Vec Ideal S8192x1024 .f32) := by
  refine (dats m 0 c).arrAt_eq_of_covers 7 _ (by decide +kernel) fun t hf y => ?_
  have ht : t.val < 64 := t.isLt
  blk_simp
  rw [after0_7]
  refine (congrArg (joinK (left m c t).1.1 (left m c t).1.2.1) (eq_ix2 y)).trans ((left_dk m c hQ hK hU hD t _ _).trans ?_)
  refine congrArg _ (lane_congr (Fin.ext ?_) (Fin.ext ?_) (Fin.ext ?_))
  · refine (row_val (blkNo t).isLt _).trans ?_; rw [blkNo_val]; blk_simp [idx t]; omega
  · unfold hd headOf; blk_simp [idx t]; show 2 * (t.val / 16) + (y 1).val / 128 = (t.val / 16 * 256 + (y 1).val) / 128; omega
  · unfold ln; blk_simp [idx t]; show (y 1).val % 128 = (t.val / 16 * 256 + (y 1).val) % 128; omega

include hQ hK hU hD in
theorem final8 : (dats m 0 c).arrAt 8 cfg0.N
    = (fun i => ((dv Q K D (i 0) (hd 64 rfl (i 1)) (ln 64 pos64 (i 1)) : ℝ) : EReal) : Vec Ideal S8192x512 .bf16) := by
  refine (dats m 0 c).arrAt_eq_of_covers 8 _ (by decide +kernel) fun t hf y => ?_
  have ht : t.val < 64 := t.isLt
  blk_simp
  rw [after0_8]
  refine (congrArg (k0_pay9 (left m c t).1.2.2) (eq_ix2 y)).trans ((left_dv m c hQ hK hU hD t _ _).trans ?_)
  have h3 : ∀ {i i' : Fin 8192} {h h' : Fin 8} {x x' : Fin 64}, i = i' → h = h' → x = x' → dv Q K D i h x = dv Q K D i' h' x' := by rintro _ _ _ _ _ _ rfl rfl rfl; rfl
  refine congrArg _ (h3 (Fin.ext ?_) (Fin.ext ?_) (Fin.ext ?_))
  · refine (row_val (blkNo t).isLt _).trans ?_; rw [blkNo_val]; blk_simp [idx t]; omega
  · unfold hd; blk_simp [idx t]; show 2 * (t.val / 16) + (y 1).val / 64 = (t.val / 16 * 128 + (y 1).val) / 64; omega
  · unfold ln; blk_simp [idx t]; show (y 1).val % 64 = (t.val / 16 * 128 + (y 1).val) % 64; omega

include hQ hK hU hD in
theorem final6 : (dats m 0 c).arrAt 6 cfg0.N
    = (fun i => ((lane (dq Q K U D (row (i 1 : Fin 16) (i 3)) (headOf (i 0) (i 2))) (ln 128 pos128 (i 2)) : ℝ) : EReal) : Vec Ideal S4x16x256x512 .f32) := by
  refine (dats m 0 c).arrAt_eq_of_covers 6 _ (by decide +kernel) fun t hf y => ?_
  have ht : t.val < 64 := t.isLt
  have hl : t.val % 16 = 15 := (flush0_6 t).mp hf
  blk_simp
  rw [after0_6]
  refine (congrArg (left m c t).2 (eq_ix4 y)).trans ((left_dq m c hQ hK hU hD t hl _ _ _ _).trans ?_)
  refine congrArg _ (lane_congr (congrArg₂ row ?_ (Fin.ext ?_)) (Fin.ext ?_) (Fin.ext ?_))
  · blk_simp [idx t]
  · blk_simp [idx t]
  · unfold headOf; blk_simp [idx t]; rfl
  · unfold ln; blk_simp [idx t]

end Cert.MlaResults

end
-- ==== Proof.MlaRefResults.lean ====
/- The reference of the attention's gradient at finite arguments: its results in the layout in which the kernel writes them. -/
module

public import proofs.«01_k».proof.Proof.MlaRefReal

@[expose] public section

set_option maxRecDepth 16384

noncomputable section

namespace Cert.MlaRefResults

open Cert.MlaRefIdeal Cert.MlaRefIdeal.Gen Cert.MlaRefIdeal.Read Cert.Reals Cert.MlaMath Cert.MlaRefReal
open Idealize.ShloMosaic

variable (x0 : (⟨S8192x8x64, .f32⟩ : BufTy).Contents (Elt Ideal)) (x1 : (⟨S8192x8x32, .f32⟩ : BufTy).Contents (Elt Ideal))
  (x2 : (⟨S8192x8x64, .f32⟩ : BufTy).Contents (Elt Ideal)) (x3 : (⟨S8192x32, .f32⟩ : BufTy).Contents (Elt Ideal))
  (x4 : (⟨S8192x8x64, .f32⟩ : BufTy).Contents (Elt Ideal)) (x5 : (⟨S8192x512, .f32⟩ : BufTy).Contents (Elt Ideal))
variable {Q K : Fin 8192 → Fin 8 → Fin 96 → ℝ} {U D : Fin 8192 → Fin 8 → Fin 64 → ℝ}
variable (hQ : ∀ i, val_main_v2 (F := Ideal) x0 x1 i = ((Q (i 0) (i 1) (i 2) : ℝ) : EReal))
  (hK : ∀ i, val_main_v5 (F := Ideal) x2 x3 i = ((K (i 0) (i 1) (i 2) : ℝ) : EReal))
  (hU : ∀ i, x4 i = ((U (i 0) (i 1) (i 2) : ℝ) : EReal))
  (hD : ∀ i, x5 i = ((D (i 0) (hd 64 rfl (i 1)) (ln 64 pos64 (i 1)) : ℝ) : EReal))

theorem lanes_congr {f : Fin 8192 → Fin 8 → Fin 96 → ℝ} {i i' : Fin 8192} {h h' : Fin 8} {a a' : Fin 128} (e0 : i = i') (e1 : h = h') (e2 : a = a') :
    lane (f i h) a = lane (f i' h') a' := by rw [e0, e1, e2]

theorem zero_int : (FloatOps.sitofp (F := Ideal) .f32 0#32 : Ideal .f32) = (0 : EReal) := by
  show (((0#32 : BitVec 32).toInt : ℝ) : EReal) = 0
  norm_num

include hQ hK hU hD

theorem v67_real (i : S8192x8x128.Idx) : val_main_v67 (F := Ideal) x0 x1 x2 x3 x4 x5 i = ((lane (dq Q K U D (i 0) (i 1)) (i 2) : ℝ) : EReal) := by
  obtain ⟨M, hM⟩ := v14_real x0 x1 x2 x3 hQ hK
  unfold val_main_v67
  exact pad_real _ _ (fun i => by rw [val_main_call2_v0_apply, val_main_c_apply]; exact zero_int) (v66_real x0 x1 x2 x3 x4 x5 hQ hK hU hD hM) i

theorem v68_real (i : S8192x8x128.Idx) : val_main_v68 (F := Ideal) x0 x1 x2 x3 x4 x5 i = ((lane (dk Q K U D (i 0) (i 1)) (i 2) : ℝ) : EReal) := by
  obtain ⟨M, hM⟩ := v14_real x0 x1 x2 x3 hQ hK
  unfold val_main_v68
  exact pad_real _ _ (fun i => by rw [val_main_call3_v0_apply, val_main_c_13_apply]; exact zero_int) (v64_real x0 x1 x2 x3 x4 x5 hQ hK hU hD hM) i

/-- The gradient of the keys, 128 lanes for each head. -/
theorem v71_real (i : S8192x1024.Idx) : val_main_v71 (F := Ideal) x0 x1 x2 x3 x4 x5 i
    = ((lane (dk Q K U D (i 0) (hd 128 rfl (i 1))) (ln 128 pos128 (i 1)) : ℝ) : EReal) := by
  refine (val_main_v71_apply x0 x1 x2 x3 x4 x5 i).trans ((v68_real x0 x1 x2 x3 x4 x5 hQ hK hU hD _).trans (congrArg _ (lanes_congr (Fin.ext ?_) (Fin.ext ?_) (Fin.ext ?_))))
  · have h1 : (i 1).val < 1024 := (i 1).isLt
    show ((i 0).val * 1024 + (i 1).val) / 1024 = (i 0).val; omega
  · have h1 : (i 1).val < 1024 := (i 1).isLt
    show ((i 0).val * 1024 + (i 1).val) / 128 % 8 = (i 1).val / 128; omega
  · show ((i 0).val * 1024 + (i 1).val) % 128 = (i 1).val % 128; omega

/-- The gradient of the queries: by pairs of heads and blocks of rows, the lanes before the rows. -/
theorem v70_real (i : S4x16x256x512.Idx) : val_main_v70 (F := Ideal) x0 x1 x2 x3 x4 x5 i
    = ((lane (dq Q K U D (row (i 1 : Fin 16) (i 3)) (headOf (i 0) (i 2))) (ln 128 pos128 (i 2)) : ℝ) : EReal) := by
  refine (val_main_v70_apply x0 x1 x2 x3 x4 x5 i).trans ((val_main_v69_apply x0 x1 x2 x3 x4 x5 _).trans ((v67_real x0 x1 x2 x3 x4 x5 hQ hK hU hD _).trans
    (congrArg _ (lanes_congr (Fin.ext ?_) (Fin.ext ?_) (Fin.ext ?_)))))
  · have h0 : (i 0).val < 4 := (i 0).isLt
    have h2 : (i 2).val < 256 := (i 2).isLt
    refine Eq.trans ?_ (row_val (i 1 : Fin 16).isLt (i 3)).symm
    show ((((i 1).val * 512 + (i 3).val) * 4 + (i 0).val) * 256 + (i 2).val) / 1024 = 512 * (i 1).val + (i 3).val; omega
  · have h0 : (i 0).val < 4 := (i 0).isLt
    have h2 : (i 2).val < 256 := (i 2).isLt
    show ((((i 1).val * 512 + (i 3).val) * 4 + (i 0).val) * 256 + (i 2).val) / 128 % 8 = 2 * (i 0).val + (i 2).val / 128; omega
  · show ((((i 1).val * 512 + (i 3).val) * 4 + (i 0).val) * 256 + (i 2).val) % 128 = (i 2).val % 128; omega

theorem v73_real' (i : S8192x512.Idx) : val_main_v73 (F := Ideal) x0 x1 x2 x3 x5 i
    = ((dv Q K D (i 0) (hd 64 rfl (i 1)) (ln 64 pos64 (i 1)) : ℝ) : EReal) := by
  obtain ⟨M, hM⟩ := v14_real x0 x1 x2 x3 hQ hK
  exact v73_real x0 x1 x2 x3 x4 x5 hQ hK hU hD hM i

end Cert.MlaRefResults

end
-- ==== Proof.MlaClaim.lean ====
/- The claims about the attention's backward call: where its arguments are finite its three results are those of the reference. -/
module

public import proofs.«01_k».proof.Defs
public import proofs.«01_k».proof.Proof.MlaResults
public import proofs.«01_k».proof.Proof.MlaRefResults
public import proofs.«01_k».proof.Proof.Gen.Mla
public import proofs.«01_k».proof.Proof.Gen.MlaRefIdeal.Run
public import proofs.«01_k».proof.Proof.Gen.Pre_mla_finite
public import Idealize.ShloMosaic.Lib.Quiescent

@[expose] public section

set_option maxRecDepth 16384

noncomputable section

namespace Cert.MlaClaim

open Idealize.ShloMosaic Idealize.ShloMosaic.TcCoe Idealize.SL.Sem Cert.Reals Cert.MlaMath

attribute [local instance] Cert.Mla.Gen.facts Cert.MlaIdeal.Gen.facts Cert.MlaRefIdeal.Gen.facts Cert.Pre_mla_finite.Gen.facts

/-- A three-dimensional array of real elements is one of real numbers. -/
theorem ten_of_real {a b d : ℕ} {x : (⟨3, ![a, b, d]⟩ : Shape).Idx → EReal} (h : ∀ i, ∃ r : ℝ, x i = (r : EReal)) :
    ∃ A : Fin a → Fin b → Fin d → ℝ, ∀ i, x i = ((A (i 0) (i 1) (i 2) : ℝ) : EReal) := by
  have k : ∀ i, x i = ((x i).toReal : EReal) := fun i => by obtain ⟨r, e⟩ := h i; rw [e]; rfl
  exact ⟨fun s f g => (x (ix3 s f g)).toReal, fun i => (k i).trans (congrArg (fun j => ((x j).toReal : EReal)) (eq_ix3 i))⟩

/-- The precondition, decoded: the six arguments have real elements. -/
theorem real_args (x0 : FVec Ideal ⟨3, ![8192, 8, 64]⟩ .f32) (x1 : FVec Ideal ⟨3, ![8192, 8, 32]⟩ .f32) (x2 : FVec Ideal ⟨3, ![8192, 8, 64]⟩ .f32)
    (x3 : FVec Ideal ⟨2, ![8192, 32]⟩ .f32) (x4 : FVec Ideal ⟨3, ![8192, 8, 64]⟩ .f32) (x5 : FVec Ideal ⟨2, ![8192, 512]⟩ .f32)
    (h : Cert.Pre_mla_finite.fn (F := Ideal) x0 x1 x2 x3 x4 x5 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal)) := by
  have e := congrFun h (fun a => a.elim0)
  unfold Cert.Pre_mla_finite.fn Cert.Pre_mla_finite.fn_part1 at e
  dsimp only at e
  obtain ⟨e, e5⟩ := andi_one _ _ _ e
  obtain ⟨e, e4⟩ := andi_one _ _ _ e
  obtain ⟨e, e3⟩ := andi_one _ _ _ e
  obtain ⟨e, e2⟩ := andi_one _ _ _ e
  obtain ⟨e0, e1⟩ := andi_one _ _ _ e
  exact ⟨real_of_fin x0 _ _ _ _ _ e0, real_of_fin x1 _ _ _ _ _ e1, real_of_fin x2 _ _ _ _ _ e2, real_of_fin x3 _ _ _ _ _ e3,
    real_of_fin x4 _ _ _ _ _ e4, real_of_fin x5 _ _ _ _ _ e5⟩

section
open Cert.MlaRefIdeal Cert.MlaRefIdeal.Gen Cert.MlaRefIdeal.Read

/-- Two arrays of real elements side by side have real elements. -/
theorem cat_real (y : Vec Ideal S8192x8x64 .f32) (z : Vec Ideal S8192x8x32 .f32) (hy : ∀ i, ∃ r : ℝ, y i = (r : EReal)) (hz : ∀ i, ∃ r : ℝ, z i = (r : EReal))
    (i : S8192x8x96.Idx) : ∃ r : ℝ, (concatenate S8192x8x96 2 [⟨S8192x8x64, y⟩, ⟨S8192x8x32, z⟩] concatenates_S8192x8x64_S8192x8x32_S8192x8x96_d2 : Vec Ideal S8192x8x96 .f32) i = (r : EReal) := by
  pointwise
  split
  · exact hy _
  · exact hz _

/-- The scaled queries and the keys of finite arguments. -/
theorem q_args {x0 : Vec Ideal S8192x8x64 .f32} {x1 : Vec Ideal S8192x8x32 .f32} (h0 : ∀ i, x0 i = ((x0 i).toReal : EReal)) (h1 : ∀ i, x1 i = ((x1 i).toReal : EReal)) :
    ∃ Q : Fin 8192 → Fin 8 → Fin 96 → ℝ, ∀ i, val_main_v2 (F := Ideal) x0 x1 i = ((Q (i 0) (i 1) (i 2) : ℝ) : EReal) :=
  ten_of_real fun i => by
    obtain ⟨r, e⟩ := cat_real x0 x1 (fun i => ⟨_, h0 i⟩) (fun i => ⟨_, h1 i⟩) i
    obtain ⟨s, hs⟩ : ∃ s : ℝ, Ideal.ofBits .f32 0x3DD105EC#32 = (s : EReal) := ⟨_, rfl⟩
    refine ⟨r * s, ?_⟩
    rw [val_main_v2_apply, val_main_v1_apply, val_main_cst_apply, Ideal.ofBits_def, hs, Ideal.mulf_def, EReal.coe_mul]
    exact congrArg (fun x : EReal => x * (s : EReal)) e

theorem k_args {x2 : Vec Ideal S8192x8x64 .f32} {x3 : Vec Ideal S8192x32 .f32} (h2 : ∀ i, x2 i = ((x2 i).toReal : EReal)) (h3 : ∀ i, x3 i = ((x3 i).toReal : EReal)) :
    ∃ K : Fin 8192 → Fin 8 → Fin 96 → ℝ, ∀ i, val_main_v5 (F := Ideal) x2 x3 i = ((K (i 0) (i 1) (i 2) : ℝ) : EReal) :=
  ten_of_real (cat_real x2 _ (fun i => ⟨_, h2 i⟩) (fun i => ⟨_, by rw [val_main_v4_apply, val_main_v3_apply]; exact h3 _⟩))

/-- The output's cotangent of finite arguments, by heads. -/
theorem d_args {x5 : Vec Ideal S8192x512 .f32} (h5 : ∀ i, x5 i = ((x5 i).toReal : EReal)) :
    ∃ D : Fin 8192 → Fin 8 → Fin 64 → ℝ, ∀ i, x5 i = ((D (i 0) (hd 64 rfl (i 1)) (ln 64 pos64 (i 1)) : ℝ) : EReal) := by
  refine ⟨fun s h a => (x5 (ix2 s ⟨64 * h.val + a.val, by omega⟩)).toReal, fun i => (h5 i).trans (congrArg (fun j => ((x5 j).toReal : EReal)) ?_)⟩
  refine (eq_ix2 i).trans (congrArg (ix2 (i 0)) (Fin.ext ?_))
  show (i 1).val = 64 * ((i 1).val / 64) + (i 1).val % 64
  omega

end

theorem frame_kernel : Cert.quiescent_Mla := fun m ρ _ => by
  refine cast ?_ (MlaFrame.frame_main (F := Bits) m ρ)
  sl_kernel_rfl
theorem frame_ideal : Cert.quiescent_MlaIdeal := fun m ρ _ => MlaFrame.frame_main (F := Ideal) m ρ
theorem frame_ideal_pre : Cert.quiescent_MlaIdeal_pre_mla_finite := fun m ρ _ => MlaFrame.frame_main (F := Ideal) m ρ
theorem frame_ref : Cert.quiescent_MlaRefIdeal := fun m ρ _ =>
  (θ_run Cert.MlaRefIdeal.defs _ _).mono (fun r h => ⟨fun c => (h c).2.2.2, sem_eq_zero_of_no_sems (by decide) r.2⟩) (Cert.MlaRefIdeal.Value.run (F := Ideal) m ρ)
theorem frame_ref_pre : Cert.quiescent_MlaRefIdeal_pre_mla_finite := fun m ρ _ => frame_ref m ρ trivial

section
open Cert.MlaIdeal Cert.MlaIdeal.Gen Cert.MlaFrame

/-- The kernel's run with its three result arrays named, the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45_0) = (dats m 0 c).arrAt 6 cfg0.N
      ∧ r.2.mem ((c.tc : Thread nD τ).loc main_v45_1) = (dats m 0 c).arrAt 7 cfg0.N
      ∧ r.2.mem ((c.tc : Thread nD τ).loc main_v45_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1.1 c).1 6, (h.1.1 c).1 7, (h.1.1 c).1 8, h.2.1 c⟩) (θ_run_and (run_main m ρ) (frame_main m ρ))

end

/-- Both programs end with the three gradients over the real numbers. -/
theorem value : Cert.algebraic_MlaIdeal_MlaRefIdeal_pre_mla_finite := by
  intro m ρ m' ρ' hpre hag
  have args := fun c => real_args _ _ _ _ _ _ (hpre c)
  choose Q hQ using fun c => q_args (args c).1 (args c).2.1
  choose K hK using fun c => k_args (args c).2.2.1 (args c).2.2.2.1
  choose U hU using fun c => ten_of_real fun i => ⟨_, (args c).2.2.2.2.1 i⟩
  choose D hD using fun c => d_args (args c).2.2.2.2.2
  refine ⟨_, _, _, run_arrays m ρ, (θ_run Cert.MlaRefIdeal.defs _ _).mono (fun r h c => ?_) (Cert.MlaRefIdeal.Value.run (F := Ideal) m' ρ')⟩
  obtain ⟨g0, g1, g2, g3, g4, g5⟩ := hag c
  obtain ⟨h0, h1, h2, hk⟩ := h c
  have kQ := fun i => (congrFun (congrArg₂ (Cert.MlaRefIdeal.Read.val_main_v2 (F := Ideal)) g0 g1) i).trans (hQ c i)
  have kK := fun i => (congrFun (congrArg₂ (Cert.MlaRefIdeal.Read.val_main_v5 (F := Ideal)) g2 g3) i).trans (hK c i)
  have kU := fun i => (congrFun g4 i).trans (hU c i)
  have kD := fun i => (congrFun g5 i).trans (hD c i)
  refine ⟨h0.trans ?_, h1.trans ?_, h2.trans ?_, hk⟩
  · rw [MlaResults.final6 m c (hQ c) (hK c) (hU c) (hD c)]
    exact (Cert.MlaRefIdeal.Read.val_main_v70_eq m' c).trans (funext fun i => MlaRefResults.v70_real _ _ _ _ _ _ kQ kK kU kD i)
  · rw [MlaResults.final7 m c (hQ c) (hK c) (hU c) (hD c)]
    exact (Cert.MlaRefIdeal.Read.val_main_v71_eq m' c).trans (funext fun i => MlaRefResults.v71_real _ _ _ _ _ _ kQ kK kU kD i)
  · rw [MlaResults.final8 m c (hQ c) (hK c) (hU c) (hD c)]
    exact (Cert.MlaRefIdeal.Read.val_main_v73_eq m' c).trans (funext fun i => MlaRefResults.v73_real' _ _ _ _ _ _ kQ kK kU kD i)

end Cert.MlaClaim

end
-- ==== Proof.NormMath.lean ====
/- The gradient through a root-mean-square norm into the residual stream, over the real numbers, row by row: `D` is the
   cotangent of the normalised row (the product that comes before the norm), `R` the cotangent that bypasses it, which need not be
   finite. -/
module

public import proofs.«01_k».proof.Proof.RmsMath

@[expose] public section

noncomputable section

namespace Cert.NormMath

open Cert.Reals Idealize.ShloMosaic

variable {n : ℕ} (D X : Fin n → Fin 1024 → ℝ) (R : Fin n → Fin 1024 → EReal) (W : Fin 1024 → ℝ)

/-- The normalised row. -/
def xh (s : Fin n) (d : Fin 1024) : ℝ := X s d * Rms.ri (X s) 1024

/-- The gradient of the residual stream. -/
def dx (s : Fin n) (d : Fin 1024) : EReal := R s d + ((Rms.back (X s) (fun d => D s d * W d) 1024 d : ℝ) : EReal)

/-- The gradient of the norm's weight. -/
def dw (d : Fin 1024) : ℝ := ∑ s, D s d * xh X s d

/-- The gradient of the residual stream as the chain rule gives it. -/
theorem dx_chain (s : Fin n) (d : Fin 1024) (q : ℝ)
    (hq : q = (∑ k, X s k * (D s k * W k)) * (-(1 / 2) * (Rms.ri (X s) 1024 / Rms.ms (X s) 1024)) / 1024) :
    R s d + ((D s d * W d * Rms.ri (X s) 1024 : ℝ) : EReal) + ((X s d * q : ℝ) : EReal) + ((q * X s d : ℝ) : EReal) = dx D X R W s d := by
  unfold dx
  rw [← Rms.back_eq _ _ _ (by norm_num), hq, add_assoc, add_assoc, ← EReal.coe_add, ← EReal.coe_add]
  refine congrArg (fun z : ℝ => R s d + (z : EReal)) ?_
  ring

/-- A sum block by block is the whole sum, its terms finite or not. -/
theorem sum_blocks_ext {b n : ℕ} (a : ℕ) (h : n = a * b) (g : Fin n → EReal) (row : ℕ → Fin b → Fin n)
    (hrow : ∀ t, t < a → ∀ r, (row t r : ℕ) = b * t + r) : ∑ t ∈ Finset.range a, ∑ r : Fin b, g (row t r) = ∑ s, g s := by
  let f : ℕ → EReal := fun s => if hs : s < n then g ⟨s, hs⟩ else 0
  have e1 : ∑ s, g s = ∑ s ∈ Finset.range n, f s := by
    rw [Finset.sum_range]; exact Finset.sum_congr rfl fun s _ => by simp [f]
  have e2 : ∀ a : ℕ, ∑ t ∈ Finset.range a, ∑ r ∈ Finset.range b, f (b * t + r) = ∑ s ∈ Finset.range (a * b), f s := by
    intro a
    induction a with
    | zero => simp
    | succ a ih => rw [Finset.sum_range_succ, ih, Nat.succ_mul, Finset.sum_range_add, Nat.mul_comm b a]
  rw [e1, h, ← e2]
  refine Finset.sum_congr rfl fun t ht => ?_
  rw [Finset.sum_range]
  refine Finset.sum_congr rfl fun r _ => ?_
  have hr := hrow t (Finset.mem_range.mp ht) r
  have hlt : b * t + (r : ℕ) < n := hr ▸ (row t r).isLt
  simp only [f, dif_pos hlt]
  exact congrArg g (Fin.ext hr)

/-- A matrix, finite or not, by its two coordinates. -/
theorem mat_ext {a b : ℕ} (x : (⟨2, ![a, b]⟩ : Shape).Idx → EReal) : ∃ A : Fin a → Fin b → EReal, ∀ i, x i = A (i 0) (i 1) :=
  ⟨fun s f => x (ix2 s f), fun i => congrArg x (eq_ix2 i)⟩

/-- The place of column `f` of the interleaved layout in the plain one: the halves of the two parts alternate. -/
def unzip (f : Fin 5632) : Fin 5632 :=
  ⟨if f.val < 1408 then f.val else if f.val < 2816 then f.val + 1408 else if f.val < 4224 then f.val - 1408 else f.val,
    by have := f.isLt; split_ifs <;> omega⟩

theorem unzip_unzip (f : Fin 5632) : unzip (unzip f) = f := by
  apply Fin.ext
  unfold unzip
  dsimp only
  have := f.isLt
  split_ifs <;> omega

/-- A sum over the interleaved columns is the sum over the plain ones. -/
theorem sum_unzip (g : Fin 5632 → ℝ) : ∑ f, g (unzip f) = ∑ f, g f :=
  Fintype.sum_equiv ⟨unzip, unzip, unzip_unzip, unzip_unzip⟩ _ _ fun _ => rfl

/-- The cotangent of the normalised rows: that of the projection times the weights. -/
def dh {n K : ℕ} (U : Fin 1024 → Fin K → ℝ) (G : Fin n → Fin K → ℝ) (s : Fin n) (d : Fin 1024) : ℝ := ∑ f, G s f * U d f

/-- Two rows of 512 side by side. -/
def beside (p q : Fin 512 → ℝ) (k : Fin 1024) : ℝ := if h : k.val < 512 then p ⟨k, h⟩ else q ⟨k.val - 512, by omega⟩

/-- The residual stream after the mixers: their outputs side by side, times the output projection, added to it. -/
def mixed (X0 : Fin n → Fin 1024 → ℝ) (P Q : Fin n → Fin 512 → ℝ) (O : Fin 1024 → Fin 1024 → ℝ) (s : Fin n) (d : Fin 1024) : ℝ :=
  X0 s d + ∑ k, beside (P s) (Q s) k * O k d

/-- The gradient of the output projection: the mixers' outputs against the gradient of the residual stream. -/
def gw (P Q : Fin n → Fin 512 → ℝ) (k d : Fin 1024) : EReal := ∑ s, (beside (P s) (Q s) k : EReal) * dx D X R W s d

end Cert.NormMath

end
-- ==== Proof.FfnPoint.lean ====
/- What one grid point of the feed-forward norm's backward kernel leaves in its three output buffers, from the seven input blocks
   and, from the second point on, from what the point before left in the two
   accumulators. -/
module

public import proofs.«01_k».proof.Proof.Gen.FfnIdeal.Value

@[expose] public section

set_option maxRecDepth 16384

noncomputable section

namespace Cert.FfnPoint

open Cert.FfnIdeal Cert.FfnIdeal.Gen Idealize.ShloMosaic Idealize.ShloMosaic.TcCoe Idealize.SL.Sem

variable {F : FTy → Type} [FloatOps F]
variable (c : Dev nD) (i : grid0.Coords) (a1 : Memref sig .tc .vmem S256x5632 .bf16) (h1 : a1.IsWhole)
  (a2 : Memref sig .tc .vmem S5632x1024 .bf16) (h2 : a2.IsWhole) (a3 : Memref sig .tc .vmem S256x1024 .f32) (h3 : a3.IsWhole)
  (a4 : Memref sig .tc .vmem S1x1024 .f32) (h4 : a4.IsWhole) (a5 : Memref sig .tc .vmem S256x1024 .f32) (h5 : a5.IsWhole)
  (a6 : Memref sig .tc .vmem S256x512 .bf16) (h6 : a6.IsWhole) (a7 : Memref sig .tc .vmem S256x512 .bf16) (h7 : a7.IsWhole)
  (a8 : Memref sig .tc .vmem S256x1024 .f32) (h8 : a8.IsWhole) (a9 : Memref sig .tc .vmem S1x1024 .f32) (h9 : a9.IsWhole)
  (a10 : Memref sig .tc .vmem S1024x1024 .f32) (h10 : a10.IsWhole)
  (x0 : Vec F S256x5632 .bf16) (x1 : Vec F S5632x1024 .bf16) (x2 : Vec F S256x1024 .f32) (x3 : Vec F S1x1024 .f32)
  (x4 : Vec F S256x1024 .f32) (x5 x6 : Vec F S256x512 .bf16) (y8 : Vec F S1x1024 .f32) (y9 : Vec F S1024x1024 .f32)

theorem hz : (![0, 0] : Fin 2 → Nat) = fun _ => 0 := funext fun a => by fin_cases a <;> rfl

/-- The rows of the gradient of the residual stream. -/
abbrev dxOf : Vec F S256x1024 .f32 := k0_pay9 x0 x1 x2 x3 x4
/-- The accumulator of the norm weight's gradient after the point. -/
abbrev dwOf (acc : Vec F S1x1024 .f32) : Vec F S1x1024 .f32 := k0_pay1 (k0_pay5 x0 x1) (k0_pay8 x2) acc
/-- The accumulator of the output projection's gradient after the point. -/
abbrev gwOf (acc : Vec F S1024x1024 .f32) : Vec F S1024x1024 .f32 := k0_pay2 (dxOf x0 x1 x2 x3 x4) acc x5 x6

theorem out_B_7 (hc : ¬cond0_0 i) : out0_B_7 c i a1 h1 a2 h2 a3 h3 a4 h4 a5 h5 a6 h6 a7 h7 a8 h8 a9 h9 a10 h10 hc x0 x1 x2 x3 x4 x5 x6 y8 y9 = dxOf x0 x1 x2 x3 x4 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 y8 y9)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h9.read_unread, h10.read_unread, View.ld_unit_zero (S := S256x5632) hz, View.ld_unit_zero (S := S5632x1024) hz, View.ld_unit_zero (S := S256x1024) hz,
    View.ld_unit_zero (S := S1x1024) hz, View.ld_unit_zero (S := S256x512) hz, View.ld_unit_zero (S := S1024x1024) hz]

theorem out_B_8 (hc : ¬cond0_0 i) : out0_B_8 c i a1 h1 a2 h2 a3 h3 a4 h4 a5 h5 a6 h6 a7 h7 a8 h8 a9 h9 a10 h10 hc x0 x1 x2 x3 x4 x5 x6 y8 y9 = dwOf x0 x1 x2 y8 := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 y8 y9)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h9.read_unread, h10.read_unread, View.ld_unit_zero (S := S256x5632) hz, View.ld_unit_zero (S := S5632x1024) hz, View.ld_unit_zero (S := S256x1024) hz,
    View.ld_unit_zero (S := S1x1024) hz, View.ld_unit_zero (S := S256x512) hz, View.ld_unit_zero (S := S1024x1024) hz]

theorem out_B_9 (hc : ¬cond0_0 i) : out0_B_9 c i a1 h1 a2 h2 a3 h3 a4 h4 a5 h5 a6 h6 a7 h7 a8 h8 a9 h9 a10 h10 hc x0 x1 x2 x3 x4 x5 x6 y8 y9 = gwOf x0 x1 x2 x3 x4 x5 x6 y9 := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 y8 y9)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h9.read_unread, h10.read_unread, View.ld_unit_zero (S := S256x5632) hz, View.ld_unit_zero (S := S5632x1024) hz, View.ld_unit_zero (S := S256x1024) hz,
    View.ld_unit_zero (S := S1x1024) hz, View.ld_unit_zero (S := S256x512) hz, View.ld_unit_zero (S := S1024x1024) hz]

theorem out_A_7 (hc : cond0_0 i) : out0_A_7 c i a1 h1 a2 h2 a3 h3 a4 h4 a5 h5 a6 h6 a7 h7 a8 h8 a9 h9 a10 h10 hc x0 x1 x2 x3 x4 x5 x6 = dxOf x0 x1 x2 x3 x4 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    h9.read_unread, h10.read_unread, View.ld_unit_zero (S := S256x5632) hz, View.ld_unit_zero (S := S5632x1024) hz, View.ld_unit_zero (S := S256x1024) hz,
    View.ld_unit_zero (S := S1x1024) hz, View.ld_unit_zero (S := S256x512) hz, View.ld_unit_zero (S := S1024x1024) hz]

theorem out_A_8 (hc : cond0_0 i) : out0_A_8 c i a1 h1 a2 h2 a3 h3 a4 h4 a5 h5 a6 h6 a7 h7 a8 h8 a9 h9 a10 h10 hc x0 x1 x2 x3 x4 x5 x6 = dwOf x0 x1 x2 k0_pay3 := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread, h7.read_unread,
    h9.read_unread, h10.read_unread, View.ld_unit_zero (S := S256x5632) hz, View.ld_unit_zero (S := S5632x1024) hz, View.ld_unit_zero (S := S256x1024) hz,
    View.ld_unit_zero (S := S1x1024) hz, View.ld_unit_zero (S := S256x512) hz, View.ld_unit_zero (S := S1024x1024) hz]

theorem out_A_9 (hc : cond0_0 i) : out0_A_9 c i a1 h1 a2 h2 a3 h3 a4 h4 a5 h5 a6 h6 a7 h7 a8 h8 a9 h9 a10 h10 hc x0 x1 x2 x3 x4 x5 x6 = gwOf x0 x1 x2 x3 x4 x5 x6 k0_pay4 := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread, h7.read_unread,
    h9.read_unread, h10.read_unread, View.ld_unit_zero (S := S256x5632) hz, View.ld_unit_zero (S := S5632x1024) hz, View.ld_unit_zero (S := S256x1024) hz,
    View.ld_unit_zero (S := S1x1024) hz, View.ld_unit_zero (S := S256x512) hz, View.ld_unit_zero (S := S1024x1024) hz]

end Cert.FfnPoint

end
-- ==== Proof.FfnPay.lean ====
/- The values of one grid point of the feed-forward norm's backward kernel at finite blocks, as real expressions of `NormMath` on
   the block's 256 rows. -/
module

public import proofs.«01_k».proof.Proof.NormMath
public import proofs.«01_k».proof.Proof.FfnPoint

@[expose] public section

set_option maxRecDepth 16384

noncomputable section

namespace Cert.FfnPay

open Cert.FfnIdeal Cert.FfnIdeal.Gen Cert.FfnPoint Cert.Reals Cert.NormMath Idealize.ShloMosaic

variable {x5 x6 : Vec Ideal S256x512 .bf16} {x0 : Vec Ideal S256x5632 .bf16} {x1 : Vec Ideal S5632x1024 .bf16} {x2 x4 : Vec Ideal S256x1024 .f32} {x3 : Vec Ideal S1x1024 .f32}
variable {A : Fin 256 → Fin 5632 → ℝ} {B : Fin 5632 → Fin 1024 → ℝ} {X : Fin 256 → Fin 1024 → ℝ} {R : Fin 256 → Fin 1024 → EReal} {W : Fin 1024 → ℝ}
variable {P Q : Fin 256 → Fin 512 → ℝ}
variable (hA : ∀ s f, x0 (ix2 s f) = ((A s f : ℝ) : EReal)) (hB : ∀ f d, x1 (ix2 f d) = ((B f d : ℝ) : EReal))
  (hX : ∀ s d, x2 (ix2 s d) = ((X s d : ℝ) : EReal)) (hR : ∀ s d, x4 (ix2 s d) = R s d)
  (hW : ∀ z d, x3 (ix2 z d) = ((W d : ℝ) : EReal))

variable (A B) in
/-- The product of the block. -/
def prod (s : Fin 256) (d : Fin 1024) : ℝ := ∑ f, A s f * B f d

include hA hB in
theorem pay5_real (s : Fin 256) (d : Fin 1024) : k0_pay5 x0 x1 (ix2 s d) = ((prod A B s d : ℝ) : EReal) := by
  pointwise [k0_pay5]
  simp only [hA, hB, zero_word, ← EReal.coe_mul, sum_real, ← EReal.coe_add, zero_add]
  rfl

include hX in
theorem pay7_real (s : Fin 256) (z : Fin 1) : k0_pay7 x2 (ix2 s z) = ((Rms.ri (X s) 1024 : ℝ) : EReal) := by
  pointwise [k0_pay7, k0_pay6]
  simp only [hX, zero_word, n1024_word, eps_word, ← EReal.coe_mul, sum_real, ← EReal.coe_add, zero_add]
  rw [div_real _ _ (by norm_num), ← EReal.coe_add]
  exact rsqrt_real _ (Rms.ms_pos _ _ (by norm_num))

include hX in
theorem pay8_real (s : Fin 256) (d : Fin 1024) : k0_pay8 x2 (ix2 s d) = ((xh X s d : ℝ) : EReal) := by
  pointwise [k0_pay8, k0_pay6]
  simp only [hX, pay7_real hX, ← EReal.coe_mul]
  rfl

include hA hB hX

include hR hW in
theorem dx_real (s : Fin 256) (d : Fin 1024) : dxOf x0 x1 x2 x3 x4 (ix2 s d) = dx (prod A B) X R W s d := by
  pointwise [dxOf, k0_pay9]
  simp only [pay5_real hA hB, pay8_real hX, pay7_real hX, hW, hR, zero_word, n1024_word, ← EReal.coe_mul, sum_real, ← EReal.coe_add, zero_add]
  simp only [div_real _ _ (show (1024 : ℝ) ≠ 0 by norm_num), ← EReal.coe_mul, ← EReal.coe_sub, ← EReal.coe_add]
  rfl

/-- What the point adds to the gradient of the weight. -/
theorem dw_real (acc : Vec Ideal S1x1024 .f32) (z : Fin 1) (d : Fin 1024) :
    dwOf x0 x1 x2 acc (ix2 z d) = acc (ix2 z d) + ((dw (prod A B) X d : ℝ) : EReal) := by
  pointwise [dwOf, k0_pay1]
  simp only [pay5_real hA hB, pay8_real hX, zero_word, ← EReal.coe_mul, sum_real, ← EReal.coe_add, zero_add]
  rfl

include hW hR in
/-- What the point adds to the gradient of the output projection. -/
theorem gw_real (hP : ∀ s k, x5 (ix2 s k) = ((P s k : ℝ) : EReal)) (hQ : ∀ s k, x6 (ix2 s k) = ((Q s k : ℝ) : EReal))
    (acc : Vec Ideal S1024x1024 .f32) (k d : Fin 1024) :
    gwOf x0 x1 x2 x3 x4 x5 x6 acc (ix2 k d) = acc (ix2 k d) + gw (prod A B) X R W P Q k d := by
  have hb : ∀ s : Fin 256, (if h : (k : ℕ) < 512 then x5 (ix2 s ⟨k, h⟩) else x6 (ix2 s ⟨k.val - 512, by omega⟩)) = ((beside (P s) (Q s) k : ℝ) : EReal) := by
    intro s
    unfold beside
    by_cases h : (k : ℕ) < 512
    · simp only [dif_pos h]
      exact hP _ _
    · simp only [dif_neg h]
      exact hQ _ _
  pointwise [gwOf, k0_pay2]
  simp only [hb, dx_real hA hB hX hR hW, zero_word, zero_add]
  rfl

end Cert.FfnPay

end
-- ==== Proof.FfnRefReal.lean ====
/- What the reference of the feed-forward norm's backward pass computes at finite arguments: each stage, read at an index, is
   the coercion of a real expression of `NormMath`. The rows that are normalised are given by `hX`. -/
module

public import proofs.«01_k».proof.Proof.NormMath
public import proofs.«01_k».proof.Proof.Gen.FfnRefIdeal.Read
public import Idealize.ShloMosaic.Lib.Pipeline.ValueKit

@[expose] public section

set_option maxRecDepth 16384

noncomputable section

namespace Cert.FfnRefReal

open Cert.FfnRefIdeal Cert.FfnRefIdeal.Gen Cert.FfnRefIdeal.Read Cert.Reals Cert.NormMath
open Idealize.ShloMosaic

variable (x0 : (⟨S8192x1024, .f32⟩ : BufTy).Contents (Elt Ideal)) (x1 x2 : (⟨S8192x512, .f32⟩ : BufTy).Contents (Elt Ideal))
  (x3 : (⟨S1024x1024, .f32⟩ : BufTy).Contents (Elt Ideal)) (x4 : (⟨S1024, .f32⟩ : BufTy).Contents (Elt Ideal))
  (x5 : (⟨S1024x5632, .f32⟩ : BufTy).Contents (Elt Ideal)) (x6 : (⟨S8192x5632, .f32⟩ : BufTy).Contents (Elt Ideal))
  (x7 : (⟨S8192x1024, .f32⟩ : BufTy).Contents (Elt Ideal))
variable {X0 X : Fin 8192 → Fin 1024 → ℝ} {R : Fin 8192 → Fin 1024 → EReal} {P Q : Fin 8192 → Fin 512 → ℝ} {O : Fin 1024 → Fin 1024 → ℝ} {W : Fin 1024 → ℝ}
  {U : Fin 1024 → Fin 5632 → ℝ} {G : Fin 8192 → Fin 5632 → ℝ}

/-- The two mixers' outputs, concatenated. -/
theorem v0_real (hP : ∀ i, x1 i = ((P (i 0) (i 1) : ℝ) : EReal)) (hQ : ∀ i, x2 i = ((Q (i 0) (i 1) : ℝ) : EReal))
    (i : S8192x1024.Idx) : val_main_v0 (F := Ideal) x1 x2 i = ((beside (P (i 0)) (Q (i 0)) (i 1) : ℝ) : EReal) := by
  obtain ⟨s, k, rfl⟩ : ∃ (s : Fin 8192) (k : Fin 1024), i = ix2 s k := ⟨i 0, i 1, eq_ix2 i⟩
  pointwise [val_main_v0]
  show _ = ((beside (P s) (Q s) k : ℝ) : EReal)
  unfold beside
  by_cases h : (k : ℕ) < 512
  · simp only [dif_pos h]
    exact hP _
  · simp only [dif_neg h]
    exact hQ _

/-- The residual stream before the norm. -/
theorem v2_real (hX : ∀ i, x0 i = ((X0 (i 0) (i 1) : ℝ) : EReal)) (hP : ∀ i, x1 i = ((P (i 0) (i 1) : ℝ) : EReal))
    (hQ : ∀ i, x2 i = ((Q (i 0) (i 1) : ℝ) : EReal)) (hO : ∀ i, x3 i = ((O (i 0) (i 1) : ℝ) : EReal)) (i : S8192x1024.Idx) :
    val_main_v2 (F := Ideal) x0 x1 x2 x3 i = ((mixed X0 P Q O (i 0) (i 1) : ℝ) : EReal) := by
  rw [val_main_v2_apply, val_main_v1_apply, hX]
  simp only [v0_real x1 x2 hP hQ, hO, ← EReal.coe_mul, sum_real, Ideal.addf_def, ← EReal.coe_add]
  rfl

variable (hX : ∀ i, val_main_v2 (F := Ideal) x0 x1 x2 x3 i = ((X (i 0) (i 1) : ℝ) : EReal)) (hW : ∀ i, x4 i = ((W (i 0) : ℝ) : EReal))
  (hU : ∀ i, x5 i = ((U (i 0) (i 1) : ℝ) : EReal)) (hG : ∀ i, x6 i = ((G (i 0) (i 1) : ℝ) : EReal))
  (hR : ∀ i, x7 i = R (i 0) (i 1))

include hX

theorem v9_real (i : S8192x1.Idx) : val_main_v9 (F := Ideal) x0 x1 x2 x3 i = ((Rms.ms (X (i 0)) 1024 : ℝ) : EReal) := by
  rw [val_main_v9_apply, val_main_v7_apply, val_main_v6_apply, val_main_v8_apply, val_main_v5_apply, val_main_v4_apply]
  simp only [val_main_v3_apply, hX, val_main_cst_apply, val_main_cst_0_apply, val_main_cst_1_apply]
  simp only [Ideal.mulf_def, Ideal.addf_def, Ideal.hostDivf_def, Ideal.ofBits_def, zero_word, n1024_word, eps_word, ← EReal.coe_mul, sum_real,
    ← EReal.coe_add, zero_add]
  rw [div_real _ _ (by norm_num), ← EReal.coe_add]
  rfl

theorem v10_real (i : S8192x1.Idx) : val_main_v10 (F := Ideal) x0 x1 x2 x3 i = ((Rms.ri (X (i 0)) 1024 : ℝ) : EReal) := by
  rw [val_main_v10_apply, v9_real x0 x1 x2 x3 hX]
  exact rsqrt_real _ (Rms.ms_pos _ _ (by norm_num))

theorem v13_real (i : S8192x1.Idx) : val_main_v13 (F := Ideal) x0 x1 x2 x3 i
    = ((-(1 / 2) * (Rms.ri (X (i 0)) 1024 / Rms.ms (X (i 0)) 1024) : ℝ) : EReal) := by
  rw [val_main_v13_apply, val_main_v12_apply, val_main_v11_apply, v9_real x0 x1 x2 x3 hX, v10_real x0 x1 x2 x3 hX, val_main_cst_2_apply]
  simp only [Ideal.mulf_def, Ideal.hostDivf_def, Ideal.ofBits_def, neg_half_word]
  rw [div_real _ _ (Rms.ms_pos _ _ (by norm_num)).ne', ← EReal.coe_mul]

theorem v15_real (i : S8192x1024.Idx) : val_main_v15 (F := Ideal) x0 x1 x2 x3 i = ((xh X (i 0) (i 1) : ℝ) : EReal) := by
  rw [val_main_v15_apply, val_main_v14_apply, hX, v10_real x0 x1 x2 x3 hX]
  simp only [Ideal.mulf_def, ← EReal.coe_mul]
  rfl

omit hX
include hU hG

theorem v20_real (i : S8192x1024.Idx) : val_main_v20 (F := Ideal) x5 x6 i = ((dh U G (i 0) (i 1) : ℝ) : EReal) := by
  rw [val_main_v20_apply]
  simp only [hU, hG, ← EReal.coe_mul, sum_real]
  rfl

include hW

theorem v25_real (i : S8192x1024.Idx) : val_main_v25 (F := Ideal) x4 x5 x6 i = ((dh U G (i 0) (i 1) * W (i 1) : ℝ) : EReal) := by
  rw [val_main_v25_apply, val_main_v24_apply, val_main_v16_apply, v20_real x5 x6 hU hG, hW]
  simp only [Ideal.mulf_def, ← EReal.coe_mul]
  rfl

include hX

theorem v28_real (i : S8192.Idx) : val_main_v28 (F := Ideal) x0 x1 x2 x3 x4 x5 x6 i = ((∑ k, X (i 0) k * (dh U G (i 0) k * W k) : ℝ) : EReal) := by
  rw [val_main_v28_apply]
  simp only [val_main_v27_apply, hX, v25_real x4 x5 x6 hW hU hG, val_main_cst_5_apply]
  simp only [Ideal.mulf_def, Ideal.ofBits_def, zero_word, ← EReal.coe_mul, sum_real, ← EReal.coe_add, zero_add]
  rfl

theorem v29_real (i : S8192x1.Idx) : val_main_v29 (F := Ideal) x0 x1 x2 x3 x4 x5 x6 i = ((∑ k, X (i 0) k * (dh U G (i 0) k * W k) : ℝ) : EReal) := by
  have hi : idx_main_v29 i 0 = i 0 := Fin.ext (by
    show (i 0 : ℕ) * 1 + (i 1 : ℕ) = (i 0 : ℕ); have : (i 1 : ℕ) < 1 := (i 1).isLt; omega)
  rw [val_main_v29_apply, v28_real x0 x1 x2 x3 x4 x5 x6 hX hW hU hG]
  exact congrArg (fun s : Fin 8192 => ((∑ k, X s k * (dh U G s k * W k) : ℝ) : EReal)) hi

theorem v37_real (i : S8192x1024.Idx) : val_main_v37 (F := Ideal) x0 x1 x2 x3 x4 x5 x6 i
    = (((∑ k, X (i 0) k * (dh U G (i 0) k * W k)) * (-(1 / 2) * (Rms.ri (X (i 0)) 1024 / Rms.ms (X (i 0)) 1024)) / 1024 : ℝ) : EReal) := by
  rw [val_main_v37_apply, val_main_v36_apply]
  simp only [val_main_v35_apply, val_main_v34_apply, val_main_v33_apply,
    v29_real x0 x1 x2 x3 x4 x5 x6 hX hW hU hG, v13_real x0 x1 x2 x3 hX, val_main_cst_6_apply, val_main_cst_7_apply]
  simp only [Fin.sum_univ_one, Ideal.mulf_def, Ideal.addf_def, Ideal.hostDivf_def, Ideal.ofBits_def, zero_word, n1024_word, ← EReal.coe_mul, sum_real,
    ← EReal.coe_add, zero_add]
  rw [div_real _ _ (by norm_num), ← EReal.coe_add, zero_add]
  rfl

include hR

/-- The gradient of the residual stream. -/
theorem v41_real (i : S8192x1024.Idx) : val_main_v41 (F := Ideal) x0 x1 x2 x3 x4 x5 x6 x7 i = dx (dh U G) X R W (i 0) (i 1) := by
  rw [val_main_v41_apply, val_main_v40_apply, val_main_v39_apply, val_main_v38_apply, val_main_v32_apply, val_main_v31_apply, val_main_v30_apply,
    v37_real x0 x1 x2 x3 x4 x5 x6 hX hW hU hG, v25_real x4 x5 x6 hW hU hG, hX, hR, v10_real x0 x1 x2 x3 hX]
  simp only [Ideal.mulf_def, Ideal.addf_def, ← EReal.coe_mul, ← EReal.coe_add]
  exact dx_chain (dh U G) X R W (i 0) (i 1) _ rfl

omit hR hW

/-- The gradient of the norm's weight. -/
theorem v45_real (i : S1x1024.Idx) : val_main_v45 (F := Ideal) x0 x1 x2 x3 x5 x6 i = ((dw (dh U G) X (i 1) : ℝ) : EReal) := by
  have h0 : (i 0 : ℕ) = 0 := by have : (i 0 : ℕ) < 1 := (i 0).isLt; omega
  rw [val_main_v45_apply, val_main_v26_apply]
  simp only [val_main_v23_apply, val_main_v22_apply, val_main_v21_apply, v15_real x0 x1 x2 x3 hX, v20_real x5 x6 hU hG,
    val_main_cst_3_apply, val_main_cst_4_apply]
  simp only [Fin.sum_univ_one, Ideal.mulf_def, Ideal.addf_def, Ideal.ofBits_def, zero_word, ← EReal.coe_mul, sum_real, ← EReal.coe_add, zero_add]
  refine congrArg _ ?_
  unfold dw
  refine Finset.sum_congr rfl fun s _ => ?_
  rw [mul_comm]
  have e : (⟨0 * 1024 + ((i 0 : ℕ) * 1024 + (i 1 : ℕ)), by rw [h0]; have : (i 1 : ℕ) < 1024 := (i 1).isLt; omega⟩ : Fin 1024) = i 1 :=
    Fin.ext (by show 0 * 1024 + ((i 0 : ℕ) * 1024 + (i 1 : ℕ)) = (i 1 : ℕ); omega)
  rw [← e]
  rfl

include hW hR

/-- The gradient of the output projection's weights. -/
theorem v44_real (hP : ∀ i, x1 i = ((P (i 0) (i 1) : ℝ) : EReal)) (hQ : ∀ i, x2 i = ((Q (i 0) (i 1) : ℝ) : EReal)) (i : S1024x1024.Idx) :
    val_main_v44 (F := Ideal) x0 x1 x2 x3 x4 x5 x6 x7 i = gw (dh U G) X R W P Q (i 0) (i 1) := by
  rw [val_main_v44_apply, val_main_v43_apply]
  have e : ∀ j, idx_main_v42 j = j := fun j => by
    have h0 : (j 0).val < 8192 := (j 0).isLt
    have h1 : (j 1).val < 1024 := (j 1).isLt
    funext a
    fin_cases a
    · exact Fin.ext (show ((j 0).val * 1024 + (j 1).val) / 1024 = (j 0).val by omega)
    · exact Fin.ext (show ((j 0).val * 1024 + (j 1).val) % 1024 = (j 1).val by omega)
  simp only [val_main_v42_apply, e, v41_real x0 x1 x2 x3 x4 x5 x6 x7 hX hW hU hG hR, v0_real x1 x2 hP hQ]
  unfold gw
  refine Finset.sum_congr rfl fun s _ => ?_
  rw [mul_comm]
  rfl

end Cert.FfnRefReal

end
-- ==== Proof.FfnArrays.lean ====
/- The three result arrays of the feed-forward norm's backward kernel at finite arguments: the blocks side by side for the
   gradient of the residual stream, the sums of the parts of the thirty-two row blocks for the gradients of the weights. -/
module

public import proofs.«01_k».proof.Proof.FfnPay
public import proofs.«01_k».proof.Proof.FfnRefReal
public import Idealize.ShloMosaic.Lib.Pipeline.ValueKit
public import Idealize.ShloMosaic.Lib.StableHlo.ReadAt

@[expose] public section

set_option maxRecDepth 16384

noncomputable section

namespace Cert.FfnArrays

open Cert.FfnIdeal Cert.FfnIdeal.Gen Cert.FfnPoint Cert.FfnPay Cert.Reals Cert.NormMath
open Idealize.ShloMosaic Idealize.ShloMosaic.TcCoe Idealize.SL.Sem

variable (m : (ℓ : Loc nD τ sig) → Buf (Elt Ideal) ℓ) (c : Dev nD)

/-- Row `r` of row block `t`. -/
def row (t : ℕ) (r : Fin 256) : Fin 8192 := ⟨(256 * t + r) % 8192, Nat.mod_lt _ (by norm_num)⟩

theorem row_val {t : ℕ} (h : t < 32) (r : Fin 256) : (row t r : ℕ) = 256 * t + r := by
  show (256 * t + (r : ℕ)) % 8192 = _
  have := r.isLt
  omega

theorem V_n (z : Fin 1) (d : Fin 1024) : V m c main_v22 (ix2 z d) = m ((c : Thread nD τ).loc main_arg4) (ix1 d) := by
  unfold V; after_reads_at
theorem V_p (s : Fin 8192) (k : Fin 512) : V m c main_v20 (ix2 s k) = m ((c : Thread nD τ).loc main_arg1) (ix2 s k) := by
  unfold V; after_reads_at
theorem V_q (s : Fin 8192) (k : Fin 512) : V m c main_v21 (ix2 s k) = m ((c : Thread nD τ).loc main_arg2) (ix2 s k) := by
  unfold V; after_reads_at
theorem V_x : V m c main_v2 = Cert.FfnRefIdeal.Read.val_main_v2 (F := Ideal) (m ((c : Thread nD τ).loc main_arg0)) (m ((c : Thread nD τ).loc main_arg1))
    (m ((c : Thread nD τ).loc main_arg2)) (m ((c : Thread nD τ).loc main_arg3)) := by
  unfold V; after_reads_simp; rfl

/-- The block indices of the ten windows at every point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![t.val, 0] ∧ win0_8.index t = ![0, 0]
    ∧ win0_9.index t = ![0, 0] ∧ t.val < 32 :=
  (by decide +kernel : ∀ t : Fin grid0.N, _)

theorem lt32 (t : Fin cfg0.N) : t.val < 32 := (idx t).2.2.2.2.2.2.2.2.2.2

variable {X0 X : Fin 8192 → Fin 1024 → ℝ} {R : Fin 8192 → Fin 1024 → EReal} {P Q : Fin 8192 → Fin 512 → ℝ} {O : Fin 1024 → Fin 1024 → ℝ} {W : Fin 1024 → ℝ}
  {U : Fin 1024 → Fin 5632 → ℝ} {G : Fin 8192 → Fin 5632 → ℝ}
  (hX : ∀ i : S8192x1024.Idx, V m c main_v2 i = ((X (i 0) (i 1) : ℝ) : EReal))
  (hP : ∀ i, m ((c : Thread nD τ).loc main_arg1) i = ((P (i 0) (i 1) : ℝ) : EReal))
  (hQ : ∀ i, m ((c : Thread nD τ).loc main_arg2) i = ((Q (i 0) (i 1) : ℝ) : EReal))
  (hW : ∀ i, m ((c : Thread nD τ).loc main_arg4) i = ((W (i 0) : ℝ) : EReal))
  (hU : ∀ i, m ((c : Thread nD τ).loc main_arg5) i = ((U (i 0) (i 1) : ℝ) : EReal))
  (hG : ∀ i, m ((c : Thread nD τ).loc main_arg6) i = ((G (i 0) (i 1) : ℝ) : EReal))
  (hR : ∀ i, m ((c : Thread nD τ).loc main_arg7) i = R (i 0) (i 1))

include hG in
theorem V_a (s : Fin 8192) (j : Fin 5632) : V m c main_v10 (ix2 s j) = ((G s (unzip j) : ℝ) : EReal) := by
  unfold V; after_reads_at
  unfold unzip
  by_cases h1 : (j : ℕ) < 1408
  · simp only [dif_pos h1, if_pos h1]; after_reads_at; exact (hG _).trans (congrArg _ (congrArg (G s) (Fin.ext rfl)))
  by_cases h2 : (j : ℕ) < 2816
  · simp only [dif_neg h1, if_neg h1, dif_pos (show (j : ℕ) - 1408 < 1408 by omega), if_pos h2]; after_reads_at
    exact (hG _).trans (congrArg _ (congrArg (G s) (Fin.ext (by show 2816 + ((j : ℕ) - 1408) = j + 1408; omega))))
  by_cases h3 : (j : ℕ) < 4224
  · simp only [dif_neg h1, if_neg h1, dif_neg (show ¬(j : ℕ) - 1408 < 1408 by omega), if_neg h2, dif_pos (show (j : ℕ) - 1408 - 1408 < 1408 by omega), if_pos h3]
    after_reads_at
    exact (hG _).trans (congrArg _ (congrArg (G s) (Fin.ext (by show 1408 + ((j : ℕ) - 1408 - 1408) = j - 1408; omega))))
  · simp only [dif_neg h1, if_neg h1, dif_neg (show ¬(j : ℕ) - 1408 < 1408 by omega), if_neg h2, dif_neg (show ¬(j : ℕ) - 1408 - 1408 < 1408 by omega), if_neg h3]
    after_reads_at
    exact (hG _).trans (congrArg _ (congrArg (G s) (Fin.ext (by show 2816 + (1408 + ((j : ℕ) - 1408 - 1408 - 1408)) = j; omega))))

include hU in
theorem V_b (j : Fin 5632) (d : Fin 1024) : V m c main_v19 (ix2 j d) = ((U d (unzip j) : ℝ) : EReal) := by
  unfold V; after_reads_at
  unfold unzip
  by_cases h1 : (j : ℕ) < 1408
  · simp only [dif_pos h1, if_pos h1]; after_reads_at; exact (hU _).trans (congrArg _ (congrArg (U d) (Fin.ext rfl)))
  by_cases h2 : (j : ℕ) < 2816
  · simp only [dif_neg h1, if_neg h1, dif_pos (show (j : ℕ) - 1408 < 1408 by omega), if_pos h2]; after_reads_at
    exact (hU _).trans (congrArg _ (congrArg (U d) (Fin.ext (by show 2816 + ((j : ℕ) - 1408) = j + 1408; omega))))
  by_cases h3 : (j : ℕ) < 4224
  · simp only [dif_neg h1, if_neg h1, dif_neg (show ¬(j : ℕ) - 1408 < 1408 by omega), if_neg h2, dif_pos (show (j : ℕ) - 1408 - 1408 < 1408 by omega), if_pos h3]
    after_reads_at
    exact (hU _).trans (congrArg _ (congrArg (U d) (Fin.ext (by show 1408 + ((j : ℕ) - 1408 - 1408) = j - 1408; omega))))
  · simp only [dif_neg h1, if_neg h1, dif_neg (show ¬(j : ℕ) - 1408 < 1408 by omega), if_neg h2, dif_neg (show ¬(j : ℕ) - 1408 - 1408 < 1408 by omega), if_neg h3]
    after_reads_at
    exact (hU _).trans (congrArg _ (congrArg (U d) (Fin.ext (by show 2816 + (1408 + ((j : ℕ) - 1408 - 1408 - 1408)) = j; omega))))

include hG in
theorem blk0 (t : Fin cfg0.N) (r : Fin 256) (d : Fin 5632) : (iblk m c 0 t : Vec Ideal S256x5632 .bf16) (ix2 r d) = ((G (row t r) (unzip d) : ℝ) : EReal) := by
  blk_simp [iblk]
  refine (congrArg (V m c main_v10) (?_ : _ = ix2 (row t r) d)).trans (V_a m c hG _ _)
  have := row_val (lt32 t) r
  blk_ext [idx t]
  all_goals omega

include hU in
theorem blk1 (t : Fin cfg0.N) (f : Fin 5632) (d : Fin 1024) : (iblk m c 1 t : Vec Ideal S5632x1024 .bf16) (ix2 f d) = ((U d (unzip f) : ℝ) : EReal) := by
  blk_simp [iblk]
  refine (congrArg (V m c main_v19) (?_ : _ = ix2 f d)).trans (V_b m c hU _ _)
  blk_ext [idx t]

include hX in
theorem blk2 (t : Fin cfg0.N) (r : Fin 256) (d : Fin 1024) : (iblk m c 2 t : Vec Ideal S256x1024 .f32) (ix2 r d) = ((X (row t r) d : ℝ) : EReal) := by
  blk_simp [iblk]
  refine (congrArg (V m c main_v2) (?_ : _ = ix2 (row t r) d)).trans (hX _)
  have := row_val (lt32 t) r
  blk_ext [idx t]
  all_goals omega

include hW in
theorem blk3 (t : Fin cfg0.N) (z : Fin 1) (d : Fin 1024) : (iblk m c 3 t : Vec Ideal S1x1024 .f32) (ix2 z d) = ((W d : ℝ) : EReal) := by
  blk_simp [iblk]
  rw [show (win0_3.blk t).view.emb (ix2 z d) = ix2 z d by blk_ext [idx t]]
  exact (V_n m c z d).trans (hW _)

include hR in
theorem blk4 (t : Fin cfg0.N) (r : Fin 256) (d : Fin 1024) : (iblk m c 4 t : Vec Ideal S256x1024 .f32) (ix2 r d) = R (row t r) d := by
  blk_simp [iblk]
  refine (congrArg (V m c main_arg7) (?_ : _ = ix2 (row t r) d)).trans ((congrFun (V_main_arg7 m c) _).trans (hR _))
  have := row_val (lt32 t) r
  blk_ext [idx t]
  all_goals omega

include hP in
theorem blk5 (t : Fin cfg0.N) (r : Fin 256) (d : Fin 512) : (iblk m c 5 t : Vec Ideal S256x512 .bf16) (ix2 r d) = ((P (row t r) d : ℝ) : EReal) := by
  blk_simp [iblk]
  refine (congrArg (V m c main_v20) (?_ : _ = ix2 (row t r) d)).trans ((V_p m c _ _).trans (hP _))
  have := row_val (lt32 t) r
  blk_ext [idx t]
  all_goals omega

include hQ in
theorem blk6 (t : Fin cfg0.N) (r : Fin 256) (d : Fin 512) : (iblk m c 6 t : Vec Ideal S256x512 .bf16) (ix2 r d) = ((Q (row t r) d : ℝ) : EReal) := by
  blk_simp [iblk]
  refine (congrArg (V m c main_v21) (?_ : _ = ix2 (row t r) d)).trans ((V_q m c _ _).trans (hQ _))
  have := row_val (lt32 t) r
  blk_ext [idx t]
  all_goals omega

/-- The product over the interleaved columns is the product over the plain ones. -/
theorem prod_row (t : ℕ) : prod (fun r f => G (row t r) (unzip f)) (fun f d => U d (unzip f)) = fun r d => dh U G (row t r) d := by
  funext r d
  unfold prod dh
  exact sum_unzip fun f => G (row t r) f * U d f

variable (U G X) in
/-- The part of the norm weight's gradient of row block `t`. -/
def dwAt (t : ℕ) (d : Fin 1024) : ℝ := dw (fun r d => dh U G (row t r) d) (fun r => X (row t r)) d

variable (U G X R W P Q) in
/-- The part of the output projection's gradient of row block `t`. -/
def gwAt (t : ℕ) (k d : Fin 1024) : EReal :=
  gw (fun r d => dh U G (row t r) d) (fun r => X (row t r)) (fun r => R (row t r)) W (fun r => P (row t r)) (fun r => Q (row t r)) k d

theorem dw_sum (d : Fin 1024) : ∑ t ∈ Finset.range 32, dwAt X U G t d = dw (dh U G) X d := by
  unfold dwAt dw xh
  rw [sum_blocks (b := 256) 32 (by norm_num) (fun s => dh U G s d * (X s d * Rms.ri (X s) 1024)) row fun t h r => row_val h r]

theorem gw_sum (k d : Fin 1024) : ∑ t ∈ Finset.range 32, gwAt X R P Q W U G t k d = gw (dh U G) X R W P Q k d := by
  unfold gwAt gw
  exact sum_blocks_ext (b := 256) 32 (by norm_num) (fun s => (beside (P s) (Q s) k : EReal) * dx (dh U G) X R W s d) row fun t h r => row_val h r

include hG hU hX

theorem dw_step (t : Fin cfg0.N) (acc : Vec Ideal S1x1024 .f32) (z : Fin 1) (d : Fin 1024) :
    dwOf (iblk m c 0 t) (iblk m c 1 t) (iblk m c 2 t) acc (ix2 z d) = acc (ix2 z d) + ((dwAt X U G t.val d : ℝ) : EReal) := by
  rw [dw_real (blk0 m c hG t) (blk1 m c hU t) (blk2 m c hX t), prod_row]
  rw [dwAt]

include hW hR hP hQ

theorem gw_step (t : Fin cfg0.N) (acc : Vec Ideal S1024x1024 .f32) (k d : Fin 1024) :
    gwOf (iblk m c 0 t) (iblk m c 1 t) (iblk m c 2 t) (iblk m c 3 t) (iblk m c 4 t) (iblk m c 5 t) (iblk m c 6 t) acc (ix2 k d)
      = acc (ix2 k d) + gwAt X R P Q W U G t.val k d := by
  rw [gw_real (blk0 m c hG t) (blk1 m c hU t) (blk2 m c hX t) (blk4 m c hR t) (blk3 m c hW t) (blk5 m c hP t) (blk6 m c hQ t), prod_row]
  rw [gwAt]

/-- The accumulators after point `n`: the parts of the points so far, added up. -/
theorem acc_real : ∀ (n : ℕ) (h : n < cfg0.N),
    (∀ z d, (outsAt0 m c n h).2.1 (ix2 z d) = ((∑ t ∈ Finset.range (n + 1), dwAt X U G t d : ℝ) : EReal))
    ∧ ∀ k d, (outsAt0 m c n h).2.2 (ix2 k d) = ∑ t ∈ Finset.range (n + 1), gwAt X R P Q W U G t k d
  | 0, h => by
    rw [outsAt0_A m c ⟨0, h⟩ rfl]
    dsimp only
    rw [out_A_8, out_A_9]
    refine ⟨fun z d => ?_, fun k d => ?_⟩
    · rw [dw_step m c hX hU hG, Finset.sum_range_one]
      rw [show (k0_pay3 (F := Ideal)) (ix2 z d) = 0 from zero_word, zero_add]
    · rw [gw_step m c hX hP hQ hW hU hG hR, Finset.sum_range_one]
      rw [show (k0_pay4 (F := Ideal)) (ix2 k d) = 0 from zero_word, zero_add]
  | n + 1, h => by
    have hB' : ¬(⟨n + 1, h⟩ : Fin cfg0.N).val % 32 = 0 := by
      have : n + 1 < 32 := lt32 ⟨n + 1, h⟩
      dsimp only
      omega
    obtain ⟨i1, i2⟩ := acc_real n (Nat.lt_of_succ_lt h)
    rw [outsAt0_B m c ⟨n + 1, h⟩ hB']
    dsimp only
    rw [out_B_8, out_B_9]
    refine ⟨fun z d => ?_, fun k d => ?_⟩
    · rw [dw_step m c hX hU hG, Finset.sum_range_succ, EReal.coe_add]
      exact congrArg (· + _) (i1 z d)
    · rw [gw_step m c hX hP hQ hW hU hG hR, Finset.sum_range_succ]
      exact congrArg (· + _) (i2 k d)

omit hP hQ in
/-- The rows every point leaves. -/
theorem rows_real (t : Fin cfg0.N) (r : Fin 256) (d : Fin 1024) :
    (outsAt0 m c t.val t.isLt).1 (ix2 r d) = dx (dh U G) X R W (row t r) d := by
  have h := dx_real (blk0 m c hG t) (blk1 m c hU t) (blk2 m c hX t) (blk4 m c hR t) (blk3 m c hW t) r d
  rw [prod_row] at h
  by_cases h0 : t.val % 32 = 0
  · rw [outsAt0_A m c t h0]
    dsimp only
    rw [out_A_7]
    exact h
  · rw [outsAt0_B m c t h0]
    dsimp only
    rw [out_B_7]
    exact h

omit hP hQ in
theorem final7 : (dats m 0 c).arrAt 7 cfg0.N = (fun i => dx (dh U G) X R W (i 0) (i 1) : Vec Ideal S8192x1024 .f32) := by
  refine (dats m 0 c).arrAt_eq_of_covers 7 _ (by decide +kernel) fun t hf y => ?_
  blk_simp
  rw [after0_7]
  refine (congrArg (outsAt0 m c t.val t.isLt).1 (eq_ix2 y)).trans ((rows_real m c hX hW hU hG hR t _ _).trans ?_)
  refine congrArg₂ (dx (dh U G) X R W) (Fin.ext ?_) (Fin.ext ?_)
  · refine (row_val (lt32 t) _).trans ?_; blk_simp [idx t]; omega
  · blk_simp [idx t]

theorem final8 : (dats m 0 c).arrAt 8 cfg0.N = (fun i => ((dw (dh U G) X (i 1) : ℝ) : EReal) : Vec Ideal S1x1024 .f32) := by
  refine (dats m 0 c).arrAt_eq_of_covers 8 _ (by decide +kernel) fun t hf y => ?_
  have ht : t.val = 31 := by have := (flush0_8 t).mp hf; have := lt32 t; omega
  blk_simp
  rw [after0_8]
  refine (congrArg (outsAt0 m c t.val t.isLt).2.1 (eq_ix2 y)).trans (((acc_real m c hX hP hQ hW hU hG hR t.val t.isLt).1 _ _).trans ?_)
  rw [ht]
  refine (congrArg _ (dw_sum _)).trans ?_
  refine congrArg _ (congrArg (dw (dh U G) X) (Fin.ext ?_))
  blk_simp [idx t]

theorem final9 : (dats m 0 c).arrAt 9 cfg0.N = (fun i => gw (dh U G) X R W P Q (i 0) (i 1) : Vec Ideal S1024x1024 .f32) := by
  refine (dats m 0 c).arrAt_eq_of_covers 9 _ (by decide +kernel) fun t hf y => ?_
  have ht : t.val = 31 := by have := (flush0_9 t).mp hf; have := lt32 t; omega
  blk_simp
  rw [after0_9]
  refine (congrArg (outsAt0 m c t.val t.isLt).2.2 (eq_ix2 y)).trans (((acc_real m c hX hP hQ hW hU hG hR t.val t.isLt).2 _ _).trans ?_)
  rw [ht]
  refine (gw_sum _ _).trans ?_
  refine congrArg₂ (gw (dh U G) X R W P Q) (Fin.ext ?_) (Fin.ext ?_) <;> blk_simp [idx t]

end Cert.FfnArrays

end
-- ==== Proof.FfnClaim.lean ====
/- The claims about the feed-forward norm's backward kernel: where its arguments are finite its three results are those of the
   reference. -/
module

public import proofs.«01_k».proof.Defs
public import proofs.«01_k».proof.Proof.Gen.Ffn
public import proofs.«01_k».proof.Proof.Gen.Ffn.Frame
public import proofs.«01_k».proof.Proof.FfnArrays
public import proofs.«01_k».proof.Proof.FfnRefReal
public import proofs.«01_k».proof.Proof.Gen.FfnRefIdeal.Run
public import proofs.«01_k».proof.Proof.Gen.Pre_ffn_finite
public import Idealize.ShloMosaic.Lib.Quiescent

@[expose] public section

set_option maxRecDepth 16384

noncomputable section

namespace Cert.FfnClaim

open Idealize.ShloMosaic Idealize.ShloMosaic.TcCoe Idealize.SL.Sem Cert.Reals Cert.NormMath

attribute [local instance] Cert.Ffn.Gen.facts Cert.FfnIdeal.Gen.facts Cert.FfnRefIdeal.Gen.facts Cert.Pre_ffn_finite.Gen.facts

/-- The precondition, decoded: all arguments but the last are arrays of real numbers. -/
theorem real_args (x0 x7 : FVec Ideal ⟨2, ![8192, 1024]⟩ .f32) (x1 x2 : FVec Ideal ⟨2, ![8192, 512]⟩ .f32) (x3 : FVec Ideal ⟨2, ![1024, 1024]⟩ .f32)
    (x4 : FVec Ideal ⟨1, ![1024]⟩ .f32) (x5 : FVec Ideal ⟨2, ![1024, 5632]⟩ .f32) (x6 : FVec Ideal ⟨2, ![8192, 5632]⟩ .f32)
    (h : Cert.Pre_ffn_finite.fn (F := Ideal) x0 x1 x2 x3 x4 x5 x6 x7 = fun _ => 1#1) :
    ∃ (X : Fin 8192 → Fin 1024 → ℝ) (P Q : Fin 8192 → Fin 512 → ℝ) (O : Fin 1024 → Fin 1024 → ℝ) (W : Fin 1024 → ℝ)
      (U : Fin 1024 → Fin 5632 → ℝ) (G : Fin 8192 → Fin 5632 → ℝ) (R : Fin 8192 → Fin 1024 → EReal),
      (∀ i, x0 i = ((X (i 0) (i 1) : ℝ) : EReal)) ∧ (∀ i, x1 i = ((P (i 0) (i 1) : ℝ) : EReal)) ∧ (∀ i, x2 i = ((Q (i 0) (i 1) : ℝ) : EReal))
      ∧ (∀ i, x3 i = ((O (i 0) (i 1) : ℝ) : EReal)) ∧ (∀ i, x4 i = ((W (i 0) : ℝ) : EReal)) ∧ (∀ i, x5 i = ((U (i 0) (i 1) : ℝ) : EReal))
      ∧ (∀ i, x6 i = ((G (i 0) (i 1) : ℝ) : EReal)) ∧ (∀ i, x7 i = R (i 0) (i 1)) := by
  have e := congrFun h (fun a => a.elim0)
  unfold Cert.Pre_ffn_finite.fn Cert.Pre_ffn_finite.fn_part1 at e
  dsimp only at e
  obtain ⟨e, e6⟩ := andi_one _ _ _ e
  obtain ⟨e, e5⟩ := andi_one _ _ _ e
  obtain ⟨e, e4⟩ := andi_one _ _ _ e
  obtain ⟨e, e3⟩ := andi_one _ _ _ e
  obtain ⟨e, e2⟩ := andi_one _ _ _ e
  obtain ⟨e0, e1⟩ := andi_one _ _ _ e
  obtain ⟨X, hX⟩ := mat_of_real (real_of_fin x0 _ _ _ _ _ e0)
  obtain ⟨P, hP⟩ := mat_of_real (real_of_fin x1 _ _ _ _ _ e1)
  obtain ⟨Q, hQ⟩ := mat_of_real (real_of_fin x2 _ _ _ _ _ e2)
  obtain ⟨O, hO⟩ := mat_of_real (real_of_fin x3 _ _ _ _ _ e3)
  obtain ⟨W, hW⟩ := vec_of_real (real_of_fin x4 _ _ _ _ _ e4)
  obtain ⟨U, hU⟩ := mat_of_real (real_of_fin x5 _ _ _ _ _ e5)
  obtain ⟨G, hG⟩ := mat_of_real (real_of_fin x6 _ _ _ _ _ e6)
  obtain ⟨R, hR⟩ := mat_ext x7
  exact ⟨X, P, Q, O, W, U, G, R, hX, hP, hQ, hO, hW, hU, hG, hR⟩

theorem frame_kernel : Cert.quiescent_Ffn := fun m ρ _ => Cert.Ffn.Gen.frame m ρ
theorem frame_ideal : Cert.quiescent_FfnIdeal := fun m ρ _ => Cert.FfnIdeal.Gen.frame m ρ
theorem frame_ideal_pre : Cert.quiescent_FfnIdeal_pre_ffn_finite := fun m ρ _ => Cert.FfnIdeal.Gen.frame m ρ
theorem frame_ref : Cert.quiescent_FfnRefIdeal := fun m ρ _ =>
  (θ_run Cert.FfnRefIdeal.defs _ _).mono (fun r h => ⟨fun c => (h c).2.2.2, sem_eq_zero_of_no_sems (by decide) r.2⟩) (Cert.FfnRefIdeal.Value.run (F := Ideal) m ρ)
theorem frame_ref_pre : Cert.quiescent_FfnRefIdeal_pre_ffn_finite := fun m ρ _ => frame_ref m ρ trivial

/-- Both programs end with the gradients over the real numbers. -/
theorem value : Cert.algebraic_FfnIdeal_FfnRefIdeal_pre_ffn_finite := by
  intro m ρ m' ρ' hpre hag
  choose X0 P Q O W U G R hX0 hP hQ hO hW hU hG hR using fun c => real_args _ _ _ _ _ _ _ _ (hpre c)
  refine ⟨_, _, _, Cert.FfnIdeal.Value.run_blocks m ρ, (θ_run Cert.FfnRefIdeal.defs _ _).mono (fun r h c => ?_) (Cert.FfnRefIdeal.Value.run (F := Ideal) m' ρ')⟩
  obtain ⟨g0, g1, g2, g3, g4, g5, g6, g7⟩ := hag c
  obtain ⟨h0, h1, h2, hk⟩ := h c
  have hX := fun i => (congrFun (FfnArrays.V_x m c) i).trans (FfnRefReal.v2_real _ _ _ _ (hX0 c) (hP c) (hQ c) (hO c) i)
  have kX0 := fun i => (congrFun g0 i).trans (hX0 c i)
  have kP := fun i => (congrFun g1 i).trans (hP c i)
  have kQ := fun i => (congrFun g2 i).trans (hQ c i)
  have kO := fun i => (congrFun g3 i).trans (hO c i)
  have kW := fun i => (congrFun g4 i).trans (hW c i)
  have kU := fun i => (congrFun g5 i).trans (hU c i)
  have kG := fun i => (congrFun g6 i).trans (hG c i)
  have kR := fun i => (congrFun g7 i).trans (hR c i)
  have kX := FfnRefReal.v2_real _ _ _ _ kX0 kP kQ kO
  refine ⟨h0.trans ?_, h1.trans ?_, h2.trans ?_, hk⟩
  · rw [FfnArrays.final7 m c hX (hW c) (hU c) (hG c) (hR c)]
    exact (Cert.FfnRefIdeal.Read.val_main_v41_eq m' c).trans (funext fun i => FfnRefReal.v41_real _ _ _ _ _ _ _ _ kX kW kU kG kR i)
  · rw [FfnArrays.final8 m c hX (hP c) (hQ c) (hW c) (hU c) (hG c) (hR c)]
    exact (Cert.FfnRefIdeal.Read.val_main_v45_eq ..).trans (funext fun i => FfnRefReal.v45_real _ _ _ _ _ _ kX kU kG i)
  · rw [FfnArrays.final9 m c hX (hP c) (hQ c) (hW c) (hU c) (hG c) (hR c)]
    exact (Cert.FfnRefIdeal.Read.val_main_v44_eq m' c).trans (funext fun i => FfnRefReal.v44_real _ _ _ _ _ _ _ _ kX kW kU kG kR kP kQ i)

end Cert.FfnClaim

end
-- ==== Proof.AttnPoint.lean ====
/- What one grid point of the attention norm's backward kernel leaves in its two output buffers, from the five input blocks
   and, from the second point on, from what the point before left in the accumulator. -/
module

public import proofs.«01_k».proof.Proof.Gen.AttnIdeal.Value

@[expose] public section

set_option maxRecDepth 16384

noncomputable section

namespace Cert.AttnPoint

open Cert.AttnIdeal Cert.AttnIdeal.Gen Idealize.ShloMosaic Idealize.ShloMosaic.TcCoe Idealize.SL.Sem

variable {F : FTy → Type} [FloatOps F]
variable (c : Dev nD) (i : grid0.Coords) (a1 : Memref sig .tc .vmem S512x2560 .bf16) (h1 : a1.IsWhole)
  (a2 : Memref sig .tc .vmem S2560x1024 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (x0 : Vec F S512x2560 .bf16) (x1 : Vec F S2560x1024 .bf16) (x2 : Vec F S512x1024 .f32) (x3 : Vec F S1x1024 .f32)
  (x4 : Vec F S512x1024 .f32) (y6 : Vec F S1x1024 .f32)

theorem hz : (![0, 0] : Fin 2 → Nat) = fun _ => 0 := funext fun a => by fin_cases a <;> rfl

/-- The rows of the gradient of the residual stream. -/
abbrev dxOf : Vec F S512x1024 .f32 := k0_pay6 x0 x1 x2 x3 x4
/-- The accumulator of the weight's gradient after the point. -/
abbrev dwOf (acc : Vec F S1x1024 .f32) : Vec F S1x1024 .f32 := k0_pay1 (k0_pay3 x0 x1) (k0_pay5 x2) acc

theorem out_B_5 (hc : ¬cond0_0 i) : out0_B_5 c i a1 h1 a2 h2 a3 h3 a4 h4 a5 h5 a6 h6 a7 h7 hc x0 x1 x2 x3 x4 y6 = dxOf x0 x1 x2 x3 x4 := by
  unfold out0_B_5
  rw [View.read_writes_eq_canon _ _ _ (cover0_B_5 c i a1 h1 a2 h2 a3 h3 a4 h4 a5 h5 a6 h6 a7 h7 hc x0 x1 x2 x3 x4 y6)]
  unfold kernelRun0_B
  dsimp only
  sl_unfold_words
  rw [View.canon_unit_zero hz]
  simp only [View.readAt_eq_ld, h1.read_unread, h2.read_unread, h3.read_unread, h4.read_unread, h5.read_unread, View.ld_unit_zero (S := S512x2560) hz,
    View.ld_unit_zero (S := S2560x1024) hz, View.ld_unit_zero (S := S512x1024) hz, View.ld_unit_zero (S := S1x1024) hz]

theorem out_B_6 (hc : ¬cond0_0 i) : out0_B_6 c i a1 h1 a2 h2 a3 h3 a4 h4 a5 h5 a6 h6 a7 h7 hc x0 x1 x2 x3 x4 y6 = dwOf x0 x1 x2 y6 := by
  unfold out0_B_6
  rw [View.read_writes_eq_canon _ _ _ (cover0_B_6 c i a1 h1 a2 h2 a3 h3 a4 h4 a5 h5 a6 h6 a7 h7 hc x0 x1 x2 x3 x4 y6)]
  unfold kernelRun0_B
  dsimp only
  sl_unfold_words
  rw [View.canon_unit_zero hz]
  simp only [View.readAt_eq_ld, h1.read_unread, h2.read_unread, h3.read_unread, h7.read_unread, View.ld_unit_zero (S := S512x2560) hz,
    View.ld_unit_zero (S := S2560x1024) hz, View.ld_unit_zero (S := S512x1024) hz, View.ld_unit_zero (S := S1x1024) hz]

theorem out_A_5 (hc : cond0_0 i) : out0_A_5 c i a1 h1 a2 h2 a3 h3 a4 h4 a5 h5 a6 h6 a7 h7 hc x0 x1 x2 x3 x4 = dxOf x0 x1 x2 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x2560) hz,
    View.ld_unit_zero (S := S2560x1024) hz, View.ld_unit_zero (S := S512x1024) hz, View.ld_unit_zero (S := S1x1024) hz]

theorem out_A_6 (hc : cond0_0 i) : out0_A_6 c i a1 h1 a2 h2 a3 h3 a4 h4 a5 h5 a6 h6 a7 h7 hc x0 x1 x2 x3 x4 = dwOf x0 x1 x2 k0_pay2 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero hz, View.readCov_unit_zero _ hz]
  simp only [View.readAt_eq_ld, h1.read_unread, h2.read_unread, h3.read_unread, View.ld_unit_zero (S := S512x2560) hz,
    View.ld_unit_zero (S := S2560x1024) hz, View.ld_unit_zero (S := S512x1024) hz, View.ld_unit_zero (S := S1x1024) hz]

end Cert.AttnPoint

end
-- ==== Proof.AttnPay.lean ====
/- The values of one grid point of the attention norm's backward kernel at finite blocks, as real expressions of `NormMath` on
   the block's 512 rows. -/
module

public import proofs.«01_k».proof.Proof.NormMath
public import proofs.«01_k».proof.Proof.AttnPoint

@[expose] public section

set_option maxRecDepth 16384

noncomputable section

namespace Cert.AttnPay

open Cert.AttnIdeal Cert.AttnIdeal.Gen Cert.AttnPoint Cert.Reals Cert.NormMath Idealize.ShloMosaic

variable {x0 : Vec Ideal S512x2560 .bf16} {x1 : Vec Ideal S2560x1024 .bf16} {x2 x4 : Vec Ideal S512x1024 .f32} {x3 : Vec Ideal S1x1024 .f32}
variable {A : Fin 512 → Fin 2560 → ℝ} {B : Fin 2560 → Fin 1024 → ℝ} {X : Fin 512 → Fin 1024 → ℝ} {R : Fin 512 → Fin 1024 → EReal} {W : Fin 1024 → ℝ}
variable (hA : ∀ s f, x0 (ix2 s f) = ((A s f : ℝ) : EReal)) (hB : ∀ f d, x1 (ix2 f d) = ((B f d : ℝ) : EReal))
  (hX : ∀ s d, x2 (ix2 s d) = ((X s d : ℝ) : EReal)) (hR : ∀ s d, x4 (ix2 s d) = R s d)
  (hW : ∀ z d, x3 (ix2 z d) = ((W d : ℝ) : EReal))

variable (A B) in
/-- The product of the block. -/
def prod (s : Fin 512) (d : Fin 1024) : ℝ := ∑ f, A s f * B f d

include hA hB in
theorem pay3_real (s : Fin 512) (d : Fin 1024) : k0_pay3 x0 x1 (ix2 s d) = ((prod A B s d : ℝ) : EReal) := by
  pointwise [k0_pay3]
  simp only [hA, hB, zero_word, ← EReal.coe_mul, sum_real, ← EReal.coe_add, zero_add]
  rfl

include hX in
theorem pay4_real (s : Fin 512) (z : Fin 1) : k0_pay4 x2 (ix2 s z) = ((Rms.ri (X s) 1024 : ℝ) : EReal) := by
  pointwise [k0_pay4]
  simp only [hX, zero_word, n1024_word, eps_word, ← EReal.coe_mul, sum_real, ← EReal.coe_add, zero_add]
  rw [div_real _ _ (by norm_num), ← EReal.coe_add]
  exact rsqrt_real _ (Rms.ms_pos _ _ (by norm_num))

include hX in
theorem pay5_real (s : Fin 512) (d : Fin 1024) : k0_pay5 x2 (ix2 s d) = ((xh X s d : ℝ) : EReal) := by
  pointwise [k0_pay5]
  simp only [hX, pay4_real hX, ← EReal.coe_mul]
  rfl

include hA hB hX

include hR hW in
theorem dx_real (s : Fin 512) (d : Fin 1024) : dxOf x0 x1 x2 x3 x4 (ix2 s d) = dx (prod A B) X R W s d := by
  pointwise [dxOf, k0_pay6]
  simp only [pay3_real hA hB, pay5_real hX, pay4_real hX, hW, hR, zero_word, n1024_word, ← EReal.coe_mul, sum_real, ← EReal.coe_add, zero_add]
  simp only [div_real _ _ (show (1024 : ℝ) ≠ 0 by norm_num), ← EReal.coe_mul, ← EReal.coe_sub, ← EReal.coe_add]
  rfl

/-- What the point adds to the gradient of the weight. -/
theorem dw_real (acc : Vec Ideal S1x1024 .f32) (z : Fin 1) (d : Fin 1024) :
    dwOf x0 x1 x2 acc (ix2 z d) = acc (ix2 z d) + ((dw (prod A B) X d : ℝ) : EReal) := by
  pointwise [dwOf, k0_pay1]
  simp only [pay3_real hA hB, pay5_real hX, zero_word, ← EReal.coe_mul, sum_real, ← EReal.coe_add, zero_add]
  rfl

end Cert.AttnPay

end
-- ==== Proof.AttnArrays.lean ====
/- The two result arrays of the attention norm's backward kernel at finite arguments: the blocks side by side for the gradient
   of the residual stream, the sum of the parts of the sixteen row blocks for the gradient of the weight. -/
module

public import proofs.«01_k».proof.Proof.AttnPay
public import Idealize.ShloMosaic.Lib.Pipeline.ValueKit
public import Idealize.ShloMosaic.Lib.StableHlo.ReadAt

@[expose] public section

set_option maxRecDepth 16384

noncomputable section

namespace Cert.AttnArrays

open Cert.AttnIdeal Cert.AttnIdeal.Gen Cert.AttnPoint Cert.AttnPay Cert.Reals Cert.NormMath
open Idealize.ShloMosaic Idealize.ShloMosaic.TcCoe Idealize.SL.Sem

variable (m : (ℓ : Loc nD τ sig) → Buf (Elt Ideal) ℓ) (c : Dev nD)

/-- Row `r` of row block `t`. -/
def row (t : ℕ) (r : Fin 512) : Fin 8192 := ⟨(512 * t + r) % 8192, Nat.mod_lt _ (by norm_num)⟩

theorem row_val {t : ℕ} (h : t < 16) (r : Fin 512) : (row t r : ℕ) = 512 * t + r := by
  show (512 * t + (r : ℕ)) % 8192 = _
  have := r.isLt
  omega

/-- The padded columns: gaps of zeros before and after the last 32. -/
def wide (g : Fin 2464 → ℝ) (j : Fin 2560) : ℝ :=
  if h : j.val < 2432 then g ⟨j.val, by omega⟩
  else if h1 : j.val < 2496 then 0
  else if h2 : j.val < 2528 then g ⟨j.val - 64, by omega⟩ else 0

theorem wide_mul (g h : Fin 2464 → ℝ) (j : Fin 2560) : wide g j * wide h j = wide (fun f => g f * h f) j := by
  unfold wide
  split_ifs <;> simp

theorem sum_wide (g : Fin 2464 → ℝ) : ∑ j, wide g j = ∑ f, g f := by
  let k : ℕ → ℝ := fun f => if h : f < 2464 then g ⟨f, h⟩ else 0
  let w : ℕ → ℝ := fun j => if j < 2432 then k j else if j < 2496 then 0 else if j < 2528 then k (j - 64) else 0
  have e1 : ∑ j, wide g j = ∑ j ∈ Finset.range (2432 + 64 + 32 + 32), w j := by
    rw [Finset.sum_range]
    refine Finset.sum_congr rfl fun j _ => ?_
    have := j.isLt
    simp only [wide, w, k]
    split_ifs <;> first | rfl | omega
  have e2 : ∑ f, g f = ∑ f ∈ Finset.range (2432 + 32), k f := by
    rw [Finset.sum_range]
    exact Finset.sum_congr rfl fun f _ => by simp [k]
  rw [e1, e2, Finset.sum_range_add, Finset.sum_range_add, Finset.sum_range_add, Finset.sum_range_add]
  have z1 : ∑ x ∈ Finset.range 64, w (2432 + x) = 0 := Finset.sum_eq_zero fun x hx => by
    have := Finset.mem_range.mp hx
    simp only [w]
    rw [if_neg (by omega), if_pos (by omega)]
  have z2 : ∑ x ∈ Finset.range 32, w (2432 + 64 + 32 + x) = 0 := Finset.sum_eq_zero fun x hx => by
    simp only [w]
    rw [if_neg (by omega), if_neg (by omega), if_neg (by omega)]
  have z3 : ∑ x ∈ Finset.range 32, w (2432 + 64 + x) = ∑ x ∈ Finset.range 32, k (2432 + x) := Finset.sum_congr rfl fun x hx => by
    have := Finset.mem_range.mp hx
    simp only [w]
    rw [if_neg (by omega), if_neg (by omega), if_pos (by omega)]
    exact congrArg k (by omega)
  have z4 : ∑ x ∈ Finset.range 2432, w x = ∑ x ∈ Finset.range 2432, k x := Finset.sum_congr rfl fun x hx => by
    simp only [w]
    rw [if_pos (Finset.mem_range.mp hx)]
  rw [z1, z2, z3, z4, add_zero, add_zero]

theorem V_n (z : Fin 1) (d : Fin 1024) : V m c main_v13 (ix2 z d) = m ((c : Thread nD τ).loc main_arg1) (ix1 d) := by
  unfold V; after_reads_at

/-- The block indices of the seven windows at every point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ t.val < 16 :=
  (by decide +kernel : ∀ t : Fin grid0.N, _)

theorem lt16 (t : Fin cfg0.N) : t.val < 16 := (idx t).2.2.2.2.2.2.2

variable {X : Fin 8192 → Fin 1024 → ℝ} {R : Fin 8192 → Fin 1024 → EReal} {W : Fin 1024 → ℝ} {U : Fin 1024 → Fin 2464 → ℝ} {G : Fin 8192 → Fin 2464 → ℝ}
  (hX : ∀ i, m ((c : Thread nD τ).loc main_arg0) i = ((X (i 0) (i 1) : ℝ) : EReal))
  (hW : ∀ i, m ((c : Thread nD τ).loc main_arg1) i = ((W (i 0) : ℝ) : EReal))
  (hU : ∀ i, m ((c : Thread nD τ).loc main_arg2) i = ((U (i 0) (i 1) : ℝ) : EReal))
  (hG : ∀ i, m ((c : Thread nD τ).loc main_arg3) i = ((G (i 0) (i 1) : ℝ) : EReal))
  (hR : ∀ i, m ((c : Thread nD τ).loc main_arg4) i = R (i 0) (i 1))

include hG in
theorem V_a (s : Fin 8192) (j : Fin 2560) : V m c main_v5 (ix2 s j) = ((wide (G s) j : ℝ) : EReal) := by
  unfold V; after_reads_at
  unfold wide
  by_cases h1 : (j : ℕ) < 2432
  · simp only [dif_pos h1]; after_reads_at; exact hG _
  by_cases h2 : (j : ℕ) < 2496
  · simp only [dif_neg h1, dif_pos (show (j : ℕ) - 2432 < 64 by omega), dif_pos h2]; after_reads_at; exact EReal.coe_zero.symm
  by_cases h3 : (j : ℕ) < 2528
  · simp only [dif_neg h1, dif_neg (show ¬(j : ℕ) - 2432 < 64 by omega), dif_pos (show (j : ℕ) - 2432 - 64 < 32 by omega), dif_neg h2, dif_pos h3]
    after_reads_at
    exact (hG _).trans (congrArg _ (congrArg (G _) (Fin.ext (by show 2432 + ((j : ℕ) - 2432 - 64) = j - 64; omega))))
  · simp only [dif_neg h1, dif_neg (show ¬(j : ℕ) - 2432 < 64 by omega), dif_neg (show ¬(j : ℕ) - 2432 - 64 < 32 by omega), dif_neg h2, dif_neg h3]
    after_reads_at; exact EReal.coe_zero.symm

include hU in
theorem V_b (j : Fin 2560) (d : Fin 1024) : V m c main_v12 (ix2 j d) = ((wide (U d) j : ℝ) : EReal) := by
  unfold V; after_reads_at
  unfold wide
  by_cases h1 : (j : ℕ) < 2432
  · simp only [dif_pos h1]; after_reads_at; exact hU _
  by_cases h2 : (j : ℕ) < 2496
  · simp only [dif_neg h1, dif_pos (show (j : ℕ) - 2432 < 64 by omega), dif_pos h2]; after_reads_at; exact EReal.coe_zero.symm
  by_cases h3 : (j : ℕ) < 2528
  · simp only [dif_neg h1, dif_neg (show ¬(j : ℕ) - 2432 < 64 by omega), dif_pos (show (j : ℕ) - 2432 - 64 < 32 by omega), dif_neg h2, dif_pos h3]
    after_reads_at
    exact (hU _).trans (congrArg _ (congrArg (U _) (Fin.ext (by show 2432 + ((j : ℕ) - 2432 - 64) = j - 64; omega))))
  · simp only [dif_neg h1, dif_neg (show ¬(j : ℕ) - 2432 < 64 by omega), dif_neg (show ¬(j : ℕ) - 2432 - 64 < 32 by omega), dif_neg h2, dif_neg h3]
    after_reads_at; exact EReal.coe_zero.symm

include hG in
theorem blk0 (t : Fin cfg0.N) (r : Fin 512) (f : Fin 2560) : (iblk m c 0 t : Vec Ideal S512x2560 .bf16) (ix2 r f) = ((wide (G (row t r)) f : ℝ) : EReal) := by
  blk_simp [iblk]
  refine (congrArg (V m c main_v5) (?_ : _ = ix2 (row t r) f)).trans (V_a m c hG _ _)
  have := row_val (lt16 t) r
  blk_ext [idx t]
  all_goals omega

include hU in
theorem blk1 (t : Fin cfg0.N) (f : Fin 2560) (d : Fin 1024) : (iblk m c 1 t : Vec Ideal S2560x1024 .bf16) (ix2 f d) = ((wide (U d) f : ℝ) : EReal) := by
  blk_simp [iblk]
  refine (congrArg (V m c main_v12) (?_ : _ = ix2 f d)).trans (V_b m c hU _ _)
  blk_ext [idx t]

include hX in
theorem blk2 (t : Fin cfg0.N) (r : Fin 512) (d : Fin 1024) : (iblk m c 2 t : Vec Ideal S512x1024 .f32) (ix2 r d) = ((X (row t r) d : ℝ) : EReal) := by
  blk_simp [iblk]
  refine (congrFun (V_main_arg0 m c) _).trans ((hX _).trans (congrArg _ (congrArg₂ X (Fin.ext ?_) (Fin.ext ?_))))
  · rw [row_val (lt16 t)]; blk_simp [idx t]; omega
  · blk_simp [idx t]

include hW in
theorem blk3 (t : Fin cfg0.N) (z : Fin 1) (d : Fin 1024) : (iblk m c 3 t : Vec Ideal S1x1024 .f32) (ix2 z d) = ((W d : ℝ) : EReal) := by
  blk_simp [iblk]
  rw [show (win0_3.blk t).view.emb (ix2 z d) = ix2 z d by blk_ext [idx t]]
  exact (V_n m c z d).trans (hW _)

include hR in
theorem blk4 (t : Fin cfg0.N) (r : Fin 512) (d : Fin 1024) : (iblk m c 4 t : Vec Ideal S512x1024 .f32) (ix2 r d) = R (row t r) d := by
  blk_simp [iblk]
  refine (congrFun (V_main_arg4 m c) _).trans ((hR _).trans (congrArg₂ R (Fin.ext ?_) (Fin.ext ?_)))
  · rw [row_val (lt16 t)]; blk_simp [idx t]; omega
  · blk_simp [idx t]

/-- The product over the padded columns is the product over the plain ones. -/
theorem prod_row (t : ℕ) : prod (fun r => wide (G (row t r))) (fun f d => wide (U d) f) = fun r d => dh U G (row t r) d := by
  funext r d
  unfold prod dh
  simp only [wide_mul]
  exact sum_wide _

variable (U G X) in
/-- The part of the weight's gradient of row block `t`. -/
def dwAt (t : ℕ) (d : Fin 1024) : ℝ := dw (fun r d => dh U G (row t r) d) (fun r => X (row t r)) d

include hG hU hX

theorem dw_step (t : Fin cfg0.N) (acc : Vec Ideal S1x1024 .f32) (z : Fin 1) (d : Fin 1024) :
    dwOf (iblk m c 0 t) (iblk m c 1 t) (iblk m c 2 t) acc (ix2 z d) = acc (ix2 z d) + ((dwAt X U G t.val d : ℝ) : EReal) := by
  rw [dw_real (blk0 m c hG t) (blk1 m c hU t) (blk2 m c hX t), prod_row]
  rw [dwAt]

/-- The accumulator after point `n`: the parts of the points so far, added up. -/
theorem acc_real : ∀ (n : ℕ) (h : n < cfg0.N),
    ∀ z d, (outsAt0 m c n h).2 (ix2 z d) = ((∑ t ∈ Finset.range (n + 1), dwAt X U G t d : ℝ) : EReal)
  | 0, h => fun z d => by
    rw [outsAt0_A m c ⟨0, h⟩ rfl]
    dsimp only
    rw [out_A_6, dw_step m c hX hU hG, Finset.sum_range_one]
    rw [show (k0_pay2 (F := Ideal)) (ix2 z d) = 0 from zero_word, zero_add]
  | n + 1, h => fun z d => by
    have hB' : ¬(⟨n + 1, h⟩ : Fin cfg0.N).val % 16 = 0 := by
      have : n + 1 < 16 := lt16 ⟨n + 1, h⟩
      dsimp only
      omega
    rw [outsAt0_B m c ⟨n + 1, h⟩ hB']
    dsimp only
    rw [out_B_6, dw_step m c hX hU hG, Finset.sum_range_succ, EReal.coe_add]
    exact congrArg (· + _) (acc_real n (Nat.lt_of_succ_lt h) z d)

include hW hR in
/-- The rows every point leaves. -/
theorem rows_real (t : Fin cfg0.N) (r : Fin 512) (d : Fin 1024) :
    (outsAt0 m c t.val t.isLt).1 (ix2 r d) = dx (dh U G) X R W (row t r) d := by
  have h := dx_real (blk0 m c hG t) (blk1 m c hU t) (blk2 m c hX t) (blk4 m c hR t) (blk3 m c hW t) r d
  rw [prod_row] at h
  by_cases h0 : t.val % 16 = 0
  · rw [outsAt0_A m c t h0]
    dsimp only
    rw [out_A_5]
    exact h
  · rw [outsAt0_B m c t h0]
    dsimp only
    rw [out_B_5]
    exact h

omit hG hU hX in
theorem dw_sum (d : Fin 1024) : ∑ t ∈ Finset.range 16, dwAt X U G t d = dw (dh U G) X d := by
  unfold dwAt dw xh
  rw [sum_blocks (b := 512) 16 (by norm_num) (fun s => dh U G s d * (X s d * Rms.ri (X s) 1024)) row fun t h r => row_val h r]

include hW hR in
theorem final5 : (dats m 0 c).arrAt 5 cfg0.N = (fun i => dx (dh U G) X R W (i 0) (i 1) : Vec Ideal S8192x1024 .f32) := by
  refine (dats m 0 c).arrAt_eq_of_covers 5 _ (by decide +kernel) fun t hf y => ?_
  blk_simp
  rw [after0_5]
  refine (congrArg (outsAt0 m c t.val t.isLt).1 (eq_ix2 y)).trans ((rows_real m c hX hW hU hG hR t _ _).trans ?_)
  refine congrArg₂ (dx (dh U G) X R W) (Fin.ext ?_) (Fin.ext ?_)
  · refine (row_val (lt16 t) _).trans ?_; blk_simp [idx t]; omega
  · blk_simp [idx t]

theorem final6 : (dats m 0 c).arrAt 6 cfg0.N = (fun i => ((dw (dh U G) X (i 1) : ℝ) : EReal) : Vec Ideal S1x1024 .f32) := by
  refine (dats m 0 c).arrAt_eq_of_covers 6 _ (by decide +kernel) fun t hf y => ?_
  have ht : t.val = 15 := by have := (flush0_6 t).mp hf; have := lt16 t; omega
  blk_simp
  rw [after0_6]
  refine (congrArg (outsAt0 m c t.val t.isLt).2 (eq_ix2 y)).trans ((acc_real m c hX hU hG t.val t.isLt _ _).trans ?_)
  rw [ht]
  refine (congrArg _ (dw_sum _)).trans ?_
  refine congrArg _ (congrArg (dw (dh U G) X) (Fin.ext ?_))
  blk_simp [idx t]

end Cert.AttnArrays

end
-- ==== Proof.AttnRefReal.lean ====
/- What the reference of the attention norm's backward pass computes at finite arguments: each stage, read at an index, is
   the coercion of a real expression of `NormMath`. -/
module

public import proofs.«01_k».proof.Proof.NormMath
public import proofs.«01_k».proof.Proof.Gen.AttnRefIdeal.Read

@[expose] public section

set_option maxRecDepth 16384

noncomputable section

namespace Cert.AttnRefReal

open Cert.AttnRefIdeal Cert.AttnRefIdeal.Gen Cert.AttnRefIdeal.Read Cert.Reals Cert.NormMath
open Idealize.ShloMosaic

variable (x0 : (⟨S8192x1024, .f32⟩ : BufTy).Contents (Elt Ideal)) (x1 : (⟨S1024, .f32⟩ : BufTy).Contents (Elt Ideal))
  (x2 : (⟨S1024x2464, .f32⟩ : BufTy).Contents (Elt Ideal)) (x3 : (⟨S8192x2464, .f32⟩ : BufTy).Contents (Elt Ideal))
  (x4 : (⟨S8192x1024, .f32⟩ : BufTy).Contents (Elt Ideal))
variable {X : Fin 8192 → Fin 1024 → ℝ} {R : Fin 8192 → Fin 1024 → EReal} {W : Fin 1024 → ℝ} {U : Fin 1024 → Fin 2464 → ℝ} {G : Fin 8192 → Fin 2464 → ℝ}
variable (hX : ∀ i, x0 i = ((X (i 0) (i 1) : ℝ) : EReal)) (hW : ∀ i, x1 i = ((W (i 0) : ℝ) : EReal))
  (hU : ∀ i, x2 i = ((U (i 0) (i 1) : ℝ) : EReal)) (hG : ∀ i, x3 i = ((G (i 0) (i 1) : ℝ) : EReal))
  (hR : ∀ i, x4 i = R (i 0) (i 1))

include hX

theorem v6_real (i : S8192x1.Idx) : val_main_v6 (F := Ideal) x0 i = ((Rms.ms (X (i 0)) 1024 : ℝ) : EReal) := by
  rw [val_main_v6_apply, val_main_v4_apply, val_main_v3_apply, val_main_v5_apply, val_main_v2_apply, val_main_v1_apply]
  simp only [val_main_v0_apply, hX, val_main_cst_apply, val_main_cst_0_apply, val_main_cst_1_apply]
  simp only [Ideal.mulf_def, Ideal.addf_def, Ideal.hostDivf_def, Ideal.ofBits_def, zero_word, n1024_word, eps_word, ← EReal.coe_mul, sum_real,
    ← EReal.coe_add, zero_add]
  rw [div_real _ _ (by norm_num), ← EReal.coe_add]
  rfl

theorem v7_real (i : S8192x1.Idx) : val_main_v7 (F := Ideal) x0 i = ((Rms.ri (X (i 0)) 1024 : ℝ) : EReal) := by
  rw [val_main_v7_apply, v6_real x0 hX]
  exact rsqrt_real _ (Rms.ms_pos _ _ (by norm_num))

theorem v10_real (i : S8192x1.Idx) : val_main_v10 (F := Ideal) x0 i
    = ((-(1 / 2) * (Rms.ri (X (i 0)) 1024 / Rms.ms (X (i 0)) 1024) : ℝ) : EReal) := by
  rw [val_main_v10_apply, val_main_v9_apply, val_main_v8_apply, v6_real x0 hX, v7_real x0 hX, val_main_cst_2_apply]
  simp only [Ideal.mulf_def, Ideal.hostDivf_def, Ideal.ofBits_def, neg_half_word]
  rw [div_real _ _ (Rms.ms_pos _ _ (by norm_num)).ne', ← EReal.coe_mul]

theorem v12_real (i : S8192x1024.Idx) : val_main_v12 (F := Ideal) x0 i = ((xh X (i 0) (i 1) : ℝ) : EReal) := by
  rw [val_main_v12_apply, val_main_v11_apply, hX, v7_real x0 hX]
  simp only [Ideal.mulf_def, ← EReal.coe_mul]
  rfl

omit hX
include hU hG

theorem v17_real (i : S8192x1024.Idx) : val_main_v17 (F := Ideal) x2 x3 i = ((dh U G (i 0) (i 1) : ℝ) : EReal) := by
  rw [val_main_v17_apply]
  simp only [hU, hG, ← EReal.coe_mul, sum_real]
  rfl

include hW

theorem v22_real (i : S8192x1024.Idx) : val_main_v22 (F := Ideal) x1 x2 x3 i = ((dh U G (i 0) (i 1) * W (i 1) : ℝ) : EReal) := by
  rw [val_main_v22_apply, val_main_v21_apply, val_main_v13_apply, v17_real x2 x3 hU hG, hW]
  simp only [Ideal.mulf_def, ← EReal.coe_mul]
  rfl

include hX

theorem v25_real (i : S8192.Idx) : val_main_v25 (F := Ideal) x0 x1 x2 x3 i = ((∑ k, X (i 0) k * (dh U G (i 0) k * W k) : ℝ) : EReal) := by
  rw [val_main_v25_apply]
  simp only [val_main_v24_apply, hX, v22_real x1 x2 x3 hW hU hG, val_main_cst_5_apply]
  simp only [Ideal.mulf_def, Ideal.ofBits_def, zero_word, ← EReal.coe_mul, sum_real, ← EReal.coe_add, zero_add]
  rfl

theorem v26_real (i : S8192x1.Idx) : val_main_v26 (F := Ideal) x0 x1 x2 x3 i = ((∑ k, X (i 0) k * (dh U G (i 0) k * W k) : ℝ) : EReal) := by
  have hi : idx_main_v26 i 0 = i 0 := Fin.ext (by
    show (i 0 : ℕ) * 1 + (i 1 : ℕ) = (i 0 : ℕ); have : (i 1 : ℕ) < 1 := (i 1).isLt; omega)
  rw [val_main_v26_apply, v25_real x0 x1 x2 x3 hX hW hU hG]
  exact congrArg (fun s : Fin 8192 => ((∑ k, X s k * (dh U G s k * W k) : ℝ) : EReal)) hi

theorem v34_real (i : S8192x1024.Idx) : val_main_v34 (F := Ideal) x0 x1 x2 x3 i
    = (((∑ k, X (i 0) k * (dh U G (i 0) k * W k)) * (-(1 / 2) * (Rms.ri (X (i 0)) 1024 / Rms.ms (X (i 0)) 1024)) / 1024 : ℝ) : EReal) := by
  rw [val_main_v34_apply, val_main_v33_apply]
  simp only [val_main_v32_apply, val_main_v31_apply, val_main_v30_apply,
    v26_real x0 x1 x2 x3 hX hW hU hG, v10_real x0 hX, val_main_cst_6_apply, val_main_cst_7_apply]
  simp only [Fin.sum_univ_one, Ideal.mulf_def, Ideal.addf_def, Ideal.hostDivf_def, Ideal.ofBits_def, zero_word, n1024_word, ← EReal.coe_mul, sum_real,
    ← EReal.coe_add, zero_add]
  rw [div_real _ _ (by norm_num), ← EReal.coe_add, zero_add]
  rfl

include hR

/-- The gradient of the residual stream. -/
theorem v38_real (i : S8192x1024.Idx) : val_main_v38 (F := Ideal) x0 x1 x2 x3 x4 i = dx (dh U G) X R W (i 0) (i 1) := by
  rw [val_main_v38_apply, val_main_v37_apply, val_main_v36_apply, val_main_v35_apply, val_main_v29_apply, val_main_v28_apply, val_main_v27_apply,
    v34_real x0 x1 x2 x3 hX hW hU hG, v22_real x1 x2 x3 hW hU hG, hX, hR, v7_real x0 hX]
  simp only [Ideal.mulf_def, Ideal.addf_def, ← EReal.coe_mul, ← EReal.coe_add]
  exact dx_chain (dh U G) X R W (i 0) (i 1) _ rfl

omit hR hW

/-- The gradient of the norm's weight. -/
theorem v39_real (i : S1x1024.Idx) : val_main_v39 (F := Ideal) x0 x2 x3 i = ((dw (dh U G) X (i 1) : ℝ) : EReal) := by
  have h0 : (i 0 : ℕ) = 0 := by have : (i 0 : ℕ) < 1 := (i 0).isLt; omega
  rw [val_main_v39_apply, val_main_v23_apply]
  simp only [val_main_v20_apply, val_main_v19_apply, val_main_v18_apply, v12_real x0 hX, v17_real x2 x3 hU hG,
    val_main_cst_3_apply, val_main_cst_4_apply]
  simp only [Fin.sum_univ_one, Ideal.mulf_def, Ideal.addf_def, Ideal.ofBits_def, zero_word, ← EReal.coe_mul, sum_real, ← EReal.coe_add, zero_add]
  refine congrArg _ ?_
  unfold dw
  refine Finset.sum_congr rfl fun s _ => ?_
  rw [mul_comm]
  have e : (⟨0 * 1024 + ((i 0 : ℕ) * 1024 + (i 1 : ℕ)), by rw [h0]; have : (i 1 : ℕ) < 1024 := (i 1).isLt; omega⟩ : Fin 1024) = i 1 :=
    Fin.ext (by show 0 * 1024 + ((i 0 : ℕ) * 1024 + (i 1 : ℕ)) = (i 1 : ℕ); omega)
  rw [← e]
  rfl

end Cert.AttnRefReal

end
-- ==== Proof.AttnClaim.lean ====
/- The claims about the attention norm's backward kernel: where its arguments are finite its two results are those of the
   reference. -/
module

public import proofs.«01_k».proof.Defs
public import proofs.«01_k».proof.Proof.Gen.Attn
public import proofs.«01_k».proof.Proof.Gen.Attn.Frame
public import proofs.«01_k».proof.Proof.AttnArrays
public import proofs.«01_k».proof.Proof.AttnRefReal
public import proofs.«01_k».proof.Proof.Gen.AttnRefIdeal.Run
public import proofs.«01_k».proof.Proof.Gen.Pre_attn_finite
public import Idealize.ShloMosaic.Lib.Quiescent

@[expose] public section

set_option maxRecDepth 16384

noncomputable section

namespace Cert.AttnClaim

open Idealize.ShloMosaic Idealize.ShloMosaic.TcCoe Idealize.SL.Sem Cert.Reals Cert.NormMath

attribute [local instance] Cert.Attn.Gen.facts Cert.AttnIdeal.Gen.facts Cert.AttnRefIdeal.Gen.facts Cert.Pre_attn_finite.Gen.facts

/-- The precondition, decoded: all arguments but the last are arrays of real numbers. -/
theorem real_args (x0 x4 : FVec Ideal ⟨2, ![8192, 1024]⟩ .f32) (x1 : FVec Ideal ⟨1, ![1024]⟩ .f32) (x2 : FVec Ideal ⟨2, ![1024, 2464]⟩ .f32)
    (x3 : FVec Ideal ⟨2, ![8192, 2464]⟩ .f32) (h : Cert.Pre_attn_finite.fn (F := Ideal) x0 x1 x2 x3 x4 = fun _ => 1#1) :
    ∃ (X : Fin 8192 → Fin 1024 → ℝ) (R : Fin 8192 → Fin 1024 → EReal) (W : Fin 1024 → ℝ) (U : Fin 1024 → Fin 2464 → ℝ) (G : Fin 8192 → Fin 2464 → ℝ),
      (∀ i, x0 i = ((X (i 0) (i 1) : ℝ) : EReal)) ∧ (∀ i, x1 i = ((W (i 0) : ℝ) : EReal)) ∧ (∀ i, x2 i = ((U (i 0) (i 1) : ℝ) : EReal))
      ∧ (∀ i, x3 i = ((G (i 0) (i 1) : ℝ) : EReal)) ∧ (∀ i, x4 i = R (i 0) (i 1)) := by
  have e := congrFun h (fun a => a.elim0)
  unfold Cert.Pre_attn_finite.fn Cert.Pre_attn_finite.fn_part1 at e
  dsimp only at e
  obtain ⟨e, e3⟩ := andi_one _ _ _ e
  obtain ⟨e, e2⟩ := andi_one _ _ _ e
  obtain ⟨e0, e1⟩ := andi_one _ _ _ e
  obtain ⟨X, hX⟩ := mat_of_real (real_of_fin x0 _ _ _ _ _ e0)
  obtain ⟨W, hW⟩ := vec_of_real (real_of_fin x1 _ _ _ _ _ e1)
  obtain ⟨U, hU⟩ := mat_of_real (real_of_fin x2 _ _ _ _ _ e2)
  obtain ⟨G, hG⟩ := mat_of_real (real_of_fin x3 _ _ _ _ _ e3)
  obtain ⟨R, hR⟩ := mat_ext x4
  exact ⟨X, R, W, U, G, hX, hW, hU, hG, hR⟩

theorem frame_kernel : Cert.quiescent_Attn := fun m ρ _ => Cert.Attn.Gen.frame m ρ
theorem frame_ideal : Cert.quiescent_AttnIdeal := fun m ρ _ => Cert.AttnIdeal.Gen.frame m ρ
theorem frame_ideal_pre : Cert.quiescent_AttnIdeal_pre_attn_finite := fun m ρ _ => Cert.AttnIdeal.Gen.frame m ρ
theorem frame_ref : Cert.quiescent_AttnRefIdeal := fun m ρ _ =>
  (θ_run Cert.AttnRefIdeal.defs _ _).mono (fun r h => ⟨fun c => (h c).2.2, sem_eq_zero_of_no_sems (by decide) r.2⟩) (Cert.AttnRefIdeal.Value.run (F := Ideal) m ρ)
theorem frame_ref_pre : Cert.quiescent_AttnRefIdeal_pre_attn_finite := fun m ρ _ => frame_ref m ρ trivial

/-- Both programs end with the gradients over the real numbers. -/
theorem value : Cert.algebraic_AttnIdeal_AttnRefIdeal_pre_attn_finite := by
  intro m ρ m' ρ' hpre hag
  choose X R W U G hX hW hU hG hR using fun c => real_args _ _ _ _ _ (hpre c)
  refine ⟨_, _, Cert.AttnIdeal.Value.run_blocks m ρ, (θ_run Cert.AttnRefIdeal.defs _ _).mono (fun r h c => ?_) (Cert.AttnRefIdeal.Value.run (F := Ideal) m' ρ')⟩
  obtain ⟨g0, g1, g2, g3, g4⟩ := hag c
  obtain ⟨h0, h1, hk⟩ := h c
  have kX := fun i => (congrFun g0 i).trans (hX c i)
  have kW := fun i => (congrFun g1 i).trans (hW c i)
  have kU := fun i => (congrFun g2 i).trans (hU c i)
  have kG := fun i => (congrFun g3 i).trans (hG c i)
  have kR := fun i => (congrFun g4 i).trans (hR c i)
  refine ⟨h0.trans ?_, h1.trans ?_, hk⟩
  · rw [AttnArrays.final5 m c (hX c) (hW c) (hU c) (hG c) (hR c)]
    exact (Cert.AttnRefIdeal.Read.val_main_v38_eq m' c).trans (funext fun i => AttnRefReal.v38_real _ _ _ _ _ kX kW kU kG kR i)
  · rw [AttnArrays.final6 m c (hX c) (hU c) (hG c)]
    exact (Cert.AttnRefIdeal.Read.val_main_v39_eq ..).trans (funext fun i => AttnRefReal.v39_real _ _ _ kX kU kG i)

end Cert.AttnClaim

end
-- ==== Proof.ConvMath.lean ====
/- The real mathematics of the gate and the causal convolution of three taps, and of their gradients. Rows and columns are natural
   numbers: the rows of the convolution's input are counted from two rows of zeros on. -/
module

public import proofs.«01_k».proof.Proof.Reals

@[expose] public section

noncomputable section

namespace Cert.ConvMath

open Cert.Reals Idealize.ShloMosaic

/-- The sigmoid, by the hyperbolic tangent. -/
def sg (x : ℝ) : ℝ := 1 / 2 * Real.tanh (1 / 2 * x) + 1 / 2

theorem sg_eq (x : ℝ) : 1 / (1 + Real.exp (-x)) = sg x := by
  have hp : Real.exp (1 / 2 * x) * Real.exp (-(1 / 2 * x)) = 1 := by rw [← Real.exp_add]; simp
  have hx : Real.exp (-x) = Real.exp (-(1 / 2 * x)) * Real.exp (-(1 / 2 * x)) := by rw [← Real.exp_add]; congr 1; ring
  have h1 := Real.exp_pos (1 / 2 * x)
  have h2 := Real.exp_pos (-(1 / 2 * x))
  unfold sg
  rw [Real.tanh_eq_sinh_div_cosh, Real.sinh_eq, Real.cosh_eq, hx]
  generalize Real.exp (1 / 2 * x) = a at *
  generalize Real.exp (-(1 / 2 * x)) = b at *
  field_simp
  linear_combination (-2 * b) * hp

/-- The gradients of `silu g * v` in `g` and in `v`. -/
def dgate (a g v : ℝ) : ℝ := a * v * (sg g * (1 + g * (1 - sg g)))
def dval (a g : ℝ) : ℝ := a * (g * sg g)

variable (H : ℕ) (B W0 W1 W2 : ℕ → ℝ) (V A : ℕ → ℕ → ℝ)

/-- The convolution's output at row `n`. -/
def pre (n q : ℕ) : ℝ := B q + W0 q * V n q + W1 q * V (n + 1) q + W2 q * V (n + 2) q

/-- Its gradient: the first `H` columns are the gate, the next `H` the value. -/
def dup (n q : ℕ) : ℝ :=
  if q < H then dgate (A n q) (pre B W0 W1 W2 V n q) (pre B W0 W1 W2 V n (H + q))
  else dval (A n (q - H)) (pre B W0 W1 W2 V n (q - H))

/-- The gradient of the convolution's input from the gradient `D` of its output. -/
def du (D : ℕ → ℕ → ℝ) (n q : ℕ) : ℝ := W2 q * D n q + W1 q * D (n + 1) q + W0 q * D (n + 2) q

/-- The rows with two rows of zeros before them and zeros after them. -/
def up (U : ℕ → ℕ → ℝ) (n q : ℕ) : ℝ := if n < 2 ∨ 8194 ≤ n then 0 else U (n - 2) q

/-- The gradient of the output, zero after the last row. -/
def upto (D : ℕ → ℕ → ℝ) (n q : ℕ) : ℝ := if n < 8192 then D n q else 0

/-- The plain column of an interleaved one. -/
def plain (c : ℕ) : ℕ := c / 1408 % 2 * 2816 + c / 2816 * 1408 + c % 1408

theorem plain_lt {c : ℕ} (h : c < 5632) : plain c < 5632 := by unfold plain; omega

theorem at_row (f : ℕ → ℕ → ℝ) (q : ℕ) {m n : ℕ} (h : m = n) : ((f m q : ℝ) : EReal) = ((f n q : ℝ) : EReal) := by rw [h]

end Cert.ConvMath
-- ==== Proof.ConvPoint.lean ====
/- What one grid point of the gate and convolution's backward kernel leaves in its five output buffers, from the seven input
   blocks and, from the second row block of a column block on, from what the point before left in the four accumulators. -/
module

public import proofs.«01_k».proof.Proof.Gen.ConvIdeal.Value

@[expose] public section

set_option maxRecDepth 16384

noncomputable section

namespace Cert.ConvPoint

open Cert.ConvIdeal Cert.ConvIdeal.Gen Idealize.ShloMosaic Idealize.ShloMosaic.TcCoe Idealize.SL.Sem

variable {F : FTy → Type} [FloatOps F]
variable (c : Dev nD) (i : grid0.Coords)
  (a1 : Memref sig .tc .vmem S512x2816 .f32) (h1 : a1.IsWhole)
  (a2 : Memref sig .tc .vmem S8x2816 .f32) (h2 : a2.IsWhole)
  (a3 : Memref sig .tc .vmem S8x2816 .f32) (h3 : a3.IsWhole)
  (a4 : Memref sig .tc .vmem S512x1408 .f32) (h4 : a4.IsWhole)
  (a5 : Memref sig .tc .vmem S8x1408 .f32) (h5 : a5.IsWhole)
  (a6 : Memref sig .tc .vmem S3x2816 .f32) (h6 : a6.IsWhole)
  (a7 : Memref sig .tc .vmem S1x2816 .f32) (h7 : a7.IsWhole)
  (a8 : Memref sig .tc .vmem S512x2816 .bf16) (h8 : a8.IsWhole)
  (a9 : Memref sig .tc .vmem S1x2816 .f32) (h9 : a9.IsWhole)
  (a10 : Memref sig .tc .vmem S1x2816 .f32) (h10 : a10.IsWhole)
  (a11 : Memref sig .tc .vmem S1x2816 .f32) (h11 : a11.IsWhole)
  (a12 : Memref sig .tc .vmem S1x2816 .f32) (h12 : a12.IsWhole)
  (x0 : Vec F S512x2816 .f32) (x1 x2 : Vec F S8x2816 .f32) (x3 : Vec F S512x1408 .f32) (x4 : Vec F S8x1408 .f32)
  (x5 : Vec F S3x2816 .f32) (x6 : Vec F S1x2816 .f32) (y8 y9 y10 y11 : Vec F S1x2816 .f32)

theorem hz : (![0, 0] : Fin 2 → Nat) = fun _ => 0 := funext fun a => by fin_cases a <;> rfl

/-- The three taps of the filter. -/
abbrev tap0 : Vec F S1x2816 .f32 := View.ld x5 (Rect.unit (s := S3x2816) ![0, 0] S1x2816.size inb_S3x2816_S1x2816_0_0)
abbrev tap1 : Vec F S1x2816 .f32 := View.ld x5 (Rect.unit (s := S3x2816) ![1, 0] S1x2816.size inb_S3x2816_S1x2816_1_0)
abbrev tap2 : Vec F S1x2816 .f32 := View.ld x5 (Rect.unit (s := S3x2816) ![2, 0] S1x2816.size inb_S3x2816_S1x2816_2_0)

/-- The gradient of the convolution's output on the block's rows. -/
abbrev dupOf : Vec F S512x2816 .f32 :=
  k0_pay13 (k0_pay8 x0) x3 (k0_pay10 i x0 x1) (k0_pay12 i x0 x1 x6 (tap0 x5)) (tap1 x5) (tap2 x5)
/-- The same on the eight rows after the block. -/
abbrev dupnOf : Vec F S8x2816 .f32 :=
  k0_pay18 (k0_pay14 x2) (k0_pay15 (k0_pay8 x0)) x4 (k0_pay16 (k0_pay8 x0) x2) (k0_pay17 x2)
    (iota .tc S8x2816 32 [0] iota_S8x2816_d0_w32) 2#32 x6 (tap0 x5) (tap1 x5) (tap2 x5)
/-- The rows of the gradient of the convolution's input. -/
abbrev duOf : Vec F S512x2816 .bf16 :=
  k0_pay20 (dupOf i x0 x1 x3 x5 x6) (dupnOf x0 x2 x4 x5 x6) (Scalar.cmpi .slt (BitVec.ofNat 32 (i 1).val) 15#32) k0_pay19
    (tap2 x5) (tap1 x5) (tap0 x5)
/-- The four accumulators after the point. -/
abbrev acc8 (acc : Vec F S1x2816 .f32) : Vec F S1x2816 .f32 := k0_pay21 (k0_pay11 i x0 x1) (dupOf i x0 x1 x3 x5 x6) acc
abbrev acc9 (acc : Vec F S1x2816 .f32) : Vec F S1x2816 .f32 := k0_pay1 (k0_pay10 i x0 x1) (dupOf i x0 x1 x3 x5 x6) acc
abbrev acc10 (acc : Vec F S1x2816 .f32) : Vec F S1x2816 .f32 := k0_pay2 (k0_pay8 x0) (dupOf i x0 x1 x3 x5 x6) acc
abbrev acc11 (acc : Vec F S1x2816 .f32) : Vec F S1x2816 .f32 := k0_pay3 (dupOf i x0 x1 x3 x5 x6) acc

theorem out_B_7 (hc : ¬cond0_0 i) : out0_B_7 c i a1 h1 a2 h2 a3 h3 a4 h4 a5 h5 a6 h6 a7 h7 a8 h8 a9 h9 a10 h10 a11 h11 a12 h12 hc x0 x1 x2 x3 x4 x5 x6 y8 y9 y10 y11 = duOf i x0 x1 x2 x3 x4 x5 x6 := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 x5 x6 y8 y9 y10 y11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

theorem out_B_8 (hc : ¬cond0_0 i) : out0_B_8 c i a1 h1 a2 h2 a3 h3 a4 h4 a5 h5 a6 h6 a7 h7 a8 h8 a9 h9 a10 h10 a11 h11 a12 h12 hc x0 x1 x2 x3 x4 x5 x6 y8 y9 y10 y11 = acc8 i x0 x1 x3 x5 x6 y8 := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 x6 y8 y9 y10 y11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

theorem out_B_9 (hc : ¬cond0_0 i) : out0_B_9 c i a1 h1 a2 h2 a3 h3 a4 h4 a5 h5 a6 h6 a7 h7 a8 h8 a9 h9 a10 h10 a11 h11 a12 h12 hc x0 x1 x2 x3 x4 x5 x6 y8 y9 y10 y11 = acc9 i x0 x1 x3 x5 x6 y9 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 y8 y9 y10 y11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

theorem out_B_10 (hc : ¬cond0_0 i) : out0_B_10 c i a1 h1 a2 h2 a3 h3 a4 h4 a5 h5 a6 h6 a7 h7 a8 h8 a9 h9 a10 h10 a11 h11 a12 h12 hc x0 x1 x2 x3 x4 x5 x6 y8 y9 y10 y11 = acc10 i x0 x1 x3 x5 x6 y10 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 y8 y9 y10 y11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

theorem out_B_11 (hc : ¬cond0_0 i) : out0_B_11 c i a1 h1 a2 h2 a3 h3 a4 h4 a5 h5 a6 h6 a7 h7 a8 h8 a9 h9 a10 h10 a11 h11 a12 h12 hc x0 x1 x2 x3 x4 x5 x6 y8 y9 y10 y11 = acc11 i x0 x1 x3 x5 x6 y11 := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 y8 y9 y10 y11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

theorem out_A_7 (hc : cond0_0 i) : out0_A_7 c i a1 h1 a2 h2 a3 h3 a4 h4 a5 h5 a6 h6 a7 h7 a8 h8 a9 h9 a10 h10 a11 h11 a12 h12 hc x0 x1 x2 x3 x4 x5 x6 = duOf i x0 x1 x2 x3 x4 x5 x6 := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

theorem out_A_8 (hc : cond0_0 i) : out0_A_8 c i a1 h1 a2 h2 a3 h3 a4 h4 a5 h5 a6 h6 a7 h7 a8 h8 a9 h9 a10 h10 a11 h11 a12 h12 hc x0 x1 x2 x3 x4 x5 x6 = acc8 i x0 x1 x3 x5 x6 k0_pay4 := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

theorem out_A_9 (hc : cond0_0 i) : out0_A_9 c i a1 h1 a2 h2 a3 h3 a4 h4 a5 h5 a6 h6 a7 h7 a8 h8 a9 h9 a10 h10 a11 h11 a12 h12 hc x0 x1 x2 x3 x4 x5 x6 = acc9 i x0 x1 x3 x5 x6 k0_pay5 := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

theorem out_A_10 (hc : cond0_0 i) : out0_A_10 c i a1 h1 a2 h2 a3 h3 a4 h4 a5 h5 a6 h6 a7 h7 a8 h8 a9 h9 a10 h10 a11 h11 a12 h12 hc x0 x1 x2 x3 x4 x5 x6 = acc10 i x0 x1 x3 x5 x6 k0_pay6 := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

theorem out_A_11 (hc : cond0_0 i) : out0_A_11 c i a1 h1 a2 h2 a3 h3 a4 h4 a5 h5 a6 h6 a7 h7 a8 h8 a9 h9 a10 h10 a11 h11 a12 h12 hc x0 x1 x2 x3 x4 x5 x6 = acc11 i x0 x1 x3 x5 x6 k0_pay7 := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread, h7.read_unread, h9.read_unread, h10.read_unread, h11.read_unread, h12.read_unread,
    View.ld_unit_zero (S := S512x2816) hz, View.ld_unit_zero (S := S8x2816) hz, View.ld_unit_zero (S := S512x1408) hz,
    View.ld_unit_zero (S := S8x1408) hz, View.ld_unit_zero (S := S1x2816) hz]

end Cert.ConvPoint
-- ==== Proof.ConvPay.lean ====
/- The values of one grid point of the gate and convolution's backward kernel at finite blocks, as real expressions of `ConvMath`.
   Row 0 of the block is row 2 of `V`: the two rows before it come from the block before, those after row 513 from the block after. -/
module

public import proofs.«01_k».proof.Proof.ConvMath
public import proofs.«01_k».proof.Proof.ConvPoint

@[expose] public section

set_option maxRecDepth 16384

noncomputable section

namespace Cert.ConvPay

open Cert.ConvIdeal Cert.ConvIdeal.Gen Cert.ConvPoint Cert.Reals Cert.ConvMath Idealize.ShloMosaic

variable {i : grid0.Coords} {x0 : Vec Ideal S512x2816 .f32} {x1 x2 : Vec Ideal S8x2816 .f32} {x3 : Vec Ideal S512x1408 .f32}
  {x4 : Vec Ideal S8x1408 .f32} {x5 : Vec Ideal S3x2816 .f32} {x6 : Vec Ideal S1x2816 .f32}
variable {B W0 W1 W2 : ℕ → ℝ} {V A : ℕ → ℕ → ℝ}
variable (hu : ∀ r q, x0 (ix2 r q) = ((V (r.val + 2) q.val : ℝ) : EReal))
  (hp : ∀ r q, 6 ≤ r.val → k0_pay9 i x1 (ix2 r q) = ((V (r.val - 6) q.val : ℝ) : EReal))
  (hn : ∀ r q, x2 (ix2 r q) = ((V (r.val + 514) q.val : ℝ) : EReal))
  (ha : ∀ r q, x3 (ix2 r q) = ((A r.val q.val : ℝ) : EReal))
  (han : ∀ r q, x4 (ix2 r q) = ((A (r.val + 512) q.val : ℝ) : EReal))
  (hb : ∀ z q, x6 (ix2 z q) = ((B q.val : ℝ) : EReal))
  (h0 : ∀ q, x5 (ix2 0 q) = ((W0 q.val : ℝ) : EReal)) (h1 : ∀ q, x5 (ix2 1 q) = ((W1 q.val : ℝ) : EReal))
  (h2 : ∀ q, x5 (ix2 2 q) = ((W2 q.val : ℝ) : EReal))

theorem slt8 : ∀ r k : Fin 8, IntOp.cmpi .slt (BitVec.ofNat 32 r.val) (BitVec.ofNat 32 k.val) = if r.val < k.val then 1#1 else 0#1 := by decide
theorem sge8 : ∀ r k : Fin 8, IntOp.cmpi .sge (BitVec.ofNat 32 r.val) (BitVec.ofNat 32 k.val) = if k.val ≤ r.val then 1#1 else 0#1 := by decide

/-- A choice by whether a row number is below a bound, or not below it. -/
theorem pick_lt {α : Type} (r : ℕ) (hr : r < 8) (k : Fin 8) (a b : α) :
    Scalar.select (IntOp.cmpi .slt (BitVec.ofNat 32 r) (BitVec.ofNat 32 k.val)) a b = if r < k.val then a else b := by
  rw [slt8 ⟨r, hr⟩ k]
  by_cases h : r < k.val <;> simp [h, Scalar.select]
theorem pick_ge {α : Type} (r : ℕ) (hr : r < 8) (k : Fin 8) (a b : α) :
    Scalar.select (IntOp.cmpi .sge (BitVec.ofNat 32 r) (BitVec.ofNat 32 k.val)) a b = if k.val ≤ r then a else b := by
  rw [sge8 ⟨r, hr⟩ k]
  by_cases h : k.val ≤ r <;> simp [h, Scalar.select]

include h0 in
theorem tap0_real (z : Fin 1) (q : Fin 2816) : tap0 x5 (ix2 z q) = ((W0 q.val : ℝ) : EReal) := by
  pointwise [tap0]
  exact h0 q
include h1 in
theorem tap1_real (z : Fin 1) (q : Fin 2816) : tap1 x5 (ix2 z q) = ((W1 q.val : ℝ) : EReal) := by
  pointwise [tap1]
  exact h1 q
include h2 in
theorem tap2_real (z : Fin 1) (q : Fin 2816) : tap2 x5 (ix2 z q) = ((W2 q.val : ℝ) : EReal) := by
  pointwise [tap2]
  exact h2 q

include hu in
theorem pay8_real (r : Fin 512) (q : Fin 2816) : k0_pay8 x0 (ix2 r q) = ((V (r.val + 2) q.val : ℝ) : EReal) := by
  pointwise [k0_pay8]
  exact hu r q

include hu hp in
theorem pay10_real (r : Fin 512) (q : Fin 2816) : k0_pay10 i x0 x1 (ix2 r q) = ((V (r.val + 1) q.val : ℝ) : EReal) := by
  pointwise [k0_pay10, k0_pay8]
  by_cases hr : r.val < 8
  · rw [dif_pos hr]
    refine (pick_lt r.val hr 1 _ _).trans ?_
    by_cases hk : r.val < 1
    · exact (if_pos hk).trans ((hp _ _ (show 6 ≤ (r.val + 8 - 1) % 8 by omega)).trans (at_row V _ (show (r.val + 8 - 1) % 8 - 6 = _ by omega)))
    · exact (if_neg hk).trans ((hu _ _).trans (at_row V _ (show (r.val + 512 - 1) % 512 + 2 = _ by omega)))
  · rw [dif_neg hr]
    exact (hu _ _).trans (at_row V _ (show (8 + (r.val - 8) + 512 - 1) % 512 + 2 = _ by omega))

include hu hp in
theorem pay11_real (r : Fin 512) (q : Fin 2816) : k0_pay11 i x0 x1 (ix2 r q) = ((V r.val q.val : ℝ) : EReal) := by
  pointwise [k0_pay11, k0_pay8]
  by_cases hr : r.val < 8
  · rw [dif_pos hr]
    refine (pick_lt r.val hr 2 _ _).trans ?_
    by_cases hk : r.val < 2
    · exact (if_pos hk).trans ((hp _ _ (show 6 ≤ (r.val + 8 - 2) % 8 by omega)).trans (at_row V _ (show (r.val + 8 - 2) % 8 - 6 = _ by omega)))
    · exact (if_neg hk).trans ((hu _ _).trans (at_row V _ (show (r.val + 512 - 2) % 512 + 2 = _ by omega)))
  · rw [dif_neg hr]
    exact (hu _ _).trans (at_row V _ (show (8 + (r.val - 8) + 512 - 2) % 512 + 2 = _ by omega))

include hu hn in
theorem pay16_real (r : Fin 8) (q : Fin 2816) : k0_pay16 (k0_pay8 x0) x2 (ix2 r q) = ((V (r.val + 513) q.val : ℝ) : EReal) := by
  pointwise [k0_pay16, k0_pay8, k0_pay14, k0_pay15]
  refine (pick_lt r.val r.isLt 1 _ _).trans ?_
  by_cases hk : r.val < 1
  · exact (if_pos hk).trans ((hu _ _).trans (at_row V _ (show 504 + (r.val + 8 - 1) % 8 + 2 = _ by omega)))
  · exact (if_neg hk).trans ((hn _ _).trans (at_row V _ (show (r.val + 8 - 1) % 8 + 514 = _ by omega)))

include hu hn in
/-- The row two before row `r` of the block after. -/
theorem two_before (r : Fin 8) (q : Fin 2816) (hl : 504 + (r.val + 8 - 2) % 8 < 512) (hm : (r.val + 8 - 2) % 8 < 8) :
    Scalar.select (IntOp.cmpi .slt (BitVec.ofNat 32 r.val) 2#32) (k0_pay8 x0 (ix2 ⟨504 + (r.val + 8 - 2) % 8, hl⟩ q))
      (x2 (ix2 ⟨(r.val + 8 - 2) % 8, hm⟩ q)) = ((V (r.val + 512) q.val : ℝ) : EReal) := by
  refine (pick_lt r.val r.isLt 2 _ _).trans ?_
  by_cases hk : r.val < 2
  · exact (if_pos hk).trans ((pay8_real hu _ _).trans (at_row V _ (show 504 + (r.val + 8 - 2) % 8 + 2 = _ by omega)))
  · exact (if_neg hk).trans ((hn _ _).trans (at_row V _ (show (r.val + 8 - 2) % 8 + 514 = _ by omega)))

include hu hp ha hb h0 h1 h2 in
theorem dup_real (r : Fin 512) (q : Fin 2816) :
    dupOf i x0 x1 x3 x5 x6 (ix2 r q) = ((dup 1408 B W0 W1 W2 V A r.val q.val : ℝ) : EReal) := by
  pointwise [dupOf, k0_pay13, k0_pay12]
  simp only [pay8_real hu, pay10_real hu hp, pay11_real hu hp, ha, hb, tap0_real h0, tap1_real h1, tap2_real h2, half_word, one_real,
    Ideal.tanh_coe, ← EReal.coe_mul, ← EReal.coe_add, ← EReal.coe_sub]
  by_cases h : q.val < 1408
  · rw [dif_pos h, dup, if_pos h]; rfl
  · rw [dif_neg h, dup, if_neg h]; rfl

include hu hn han hb h0 h1 h2 in
theorem dupn_real (r : Fin 8) (q : Fin 2816) :
    dupnOf x0 x2 x4 x5 x6 (ix2 r q) = ((dup 1408 B W0 W1 W2 V A (r.val + 512) q.val : ℝ) : EReal) := by
  pointwise [dupnOf, k0_pay18, k0_pay14, k0_pay15, k0_pay17]
  simp only [two_before hu hn]
  simp only [pay16_real hu hn, hn, han, hb, tap0_real h0, tap1_real h1, tap2_real h2, half_word, one_real,
    Ideal.tanh_coe, ← EReal.coe_mul, ← EReal.coe_add, ← EReal.coe_sub]
  by_cases h : q.val < 1408
  · rw [dif_pos h, dup, if_pos h]; rfl
  · rw [dif_neg h, dup, if_neg h]; rfl

variable {D : ℕ → ℕ → ℝ} (hD : ∀ r q, dupOf i x0 x1 x3 x5 x6 (ix2 r q) = ((D r.val q.val : ℝ) : EReal))
  (hE : ∀ r q, Scalar.select (Scalar.cmpi .slt (BitVec.ofNat 32 (i 1).val) 15#32) (dupnOf x0 x2 x4 x5 x6 (ix2 r q)) 0
    = ((D (r.val + 512) q.val : ℝ) : EReal))

include hD hE h0 h1 h2 in
theorem du_real (r : Fin 512) (q : Fin 2816) :
    duOf i x0 x1 x2 x3 x4 x5 x6 (ix2 r q) = ((du W0 W1 W2 D r.val q.val : ℝ) : EReal) := by
  pointwise [duOf, k0_pay20, k0_pay19]
  simp only [hD, hE, tap0_real h0, tap1_real h1, tap2_real h2]
  by_cases hr : r.val < 504
  · rw [dif_pos hr, dif_pos hr, at_row D q (show (r.val + 512 - 511) % 512 = r.val + 1 by omega),
      at_row D q (show (r.val + 512 - 510) % 512 = r.val + 2 by omega)]
    simp only [← EReal.coe_mul, ← EReal.coe_add]
    rfl
  · rw [dif_neg hr, dif_neg hr]
    have e1 : Scalar.select (IntOp.cmpi .sge (BitVec.ofNat 32 (r.val - 504)) 7#32)
        ((D ((r.val - 504 + 8 - 7) % 8 + 512) q.val : ℝ) : EReal) ((D ((504 + (r.val - 504) + 512 - 511) % 512) q.val : ℝ) : EReal)
        = ((D (r.val + 1) q.val : ℝ) : EReal) := by
      refine (pick_ge (r.val - 504) (by omega) 7 _ _).trans ?_
      by_cases hk : 7 ≤ r.val - 504
      · exact (if_pos hk).trans (at_row D _ (by omega))
      · exact (if_neg hk).trans (at_row D _ (by change ¬7 ≤ r.val - 504 at hk; omega))
    have e2 : Scalar.select (IntOp.cmpi .sge (BitVec.ofNat 32 (r.val - 504)) 6#32)
        ((D ((r.val - 504 + 8 - 6) % 8 + 512) q.val : ℝ) : EReal) ((D ((504 + (r.val - 504) + 512 - 510) % 512) q.val : ℝ) : EReal)
        = ((D (r.val + 2) q.val : ℝ) : EReal) := by
      refine (pick_ge (r.val - 504) (by omega) 6 _ _).trans ?_
      by_cases hk : 6 ≤ r.val - 504
      · exact (if_pos hk).trans (at_row D _ (by omega))
      · exact (if_neg hk).trans (at_row D _ (by change ¬6 ≤ r.val - 504 at hk; omega))
    rw [e1, e2]
    simp only [← EReal.coe_mul, ← EReal.coe_add]
    rfl

include hD

include hu hp in
theorem acc8_real (acc : Vec Ideal S1x2816 .f32) (z : Fin 1) (q : Fin 2816) :
    acc8 i x0 x1 x3 x5 x6 acc (ix2 z q) = acc (ix2 z q) + ((∑ r : Fin 512, D r.val q.val * V r.val q.val : ℝ) : EReal) := by
  pointwise [acc8, k0_pay21]
  simp only [hD, pay11_real hu hp, ← EReal.coe_mul, sum_real]

include hu hp in
theorem acc9_real (acc : Vec Ideal S1x2816 .f32) (z : Fin 1) (q : Fin 2816) :
    acc9 i x0 x1 x3 x5 x6 acc (ix2 z q) = acc (ix2 z q) + ((∑ r : Fin 512, D r.val q.val * V (r.val + 1) q.val : ℝ) : EReal) := by
  pointwise [acc9, k0_pay1]
  simp only [hD, pay10_real hu hp, ← EReal.coe_mul, sum_real]

include hu in
theorem acc10_real (acc : Vec Ideal S1x2816 .f32) (z : Fin 1) (q : Fin 2816) :
    acc10 i x0 x1 x3 x5 x6 acc (ix2 z q) = acc (ix2 z q) + ((∑ r : Fin 512, D r.val q.val * V (r.val + 2) q.val : ℝ) : EReal) := by
  pointwise [acc10, k0_pay2]
  simp only [hD, pay8_real hu, ← EReal.coe_mul, sum_real]

theorem acc11_real (acc : Vec Ideal S1x2816 .f32) (z : Fin 1) (q : Fin 2816) :
    acc11 i x0 x1 x3 x5 x6 acc (ix2 z q) = acc (ix2 z q) + ((∑ r : Fin 512, D r.val q.val : ℝ) : EReal) := by
  pointwise [acc11, k0_pay3]
  simp only [hD, sum_real]

end Cert.ConvPay
-- ==== Proof.ConvArrays.lean ====
/- The five result arrays of the gate and convolution's backward kernel at finite arguments: the blocks side by side for the gradient
   of the convolution's input, the sums of the parts of the sixteen row blocks for the gradients of the taps and of the bias. -/
module

public import proofs.«01_k».proof.Proof.ConvPay
public import Idealize.ShloMosaic.Lib.Pipeline.ValueKit
public import Idealize.ShloMosaic.Lib.StableHlo.ReadAt

@[expose] public section

set_option maxRecDepth 16384

noncomputable section

namespace Cert.ConvArrays

open Cert.ConvIdeal Cert.ConvIdeal.Gen Cert.ConvPoint Cert.ConvPay Cert.Reals Cert.ConvMath
open Idealize.ShloMosaic Idealize.ShloMosaic.TcCoe Idealize.SL.Sem

variable (m : (ℓ : Loc nD τ sig) → Buf (Elt Ideal) ℓ) (c : Dev nD)

/-- The block indices of the windows at every point, and the point's place in the grid. -/
theorem idx : ∀ t : Fin cfg0.N, win0_0.index t = ![t.val % 16, t.val / 16] ∧ win0_1.index t = ![t.val % 16 * 64 - 1, t.val / 16]
    ∧ win0_2.index t = ![min (t.val % 16 * 64 + 64) 1023, t.val / 16] ∧ win0_3.index t = ![t.val % 16, t.val / 16]
    ∧ win0_4.index t = ![min (t.val % 16 * 64 + 64) 1023, t.val / 16] ∧ win0_5.index t = ![0, t.val / 16] ∧ win0_6.index t = ![0, t.val / 16]
    ∧ win0_7.index t = ![t.val % 16, t.val / 16] ∧ t.val < 32 ∧ ((grid0.coords t) 1).val = t.val % 16 :=
  (by decide +kernel : ∀ t : Fin grid0.N, _)

theorem idxs : ∀ t : Fin cfg0.N, win0_8.index t = ![0, t.val / 16] ∧ win0_9.index t = ![0, t.val / 16] ∧ win0_10.index t = ![0, t.val / 16]
    ∧ win0_11.index t = ![0, t.val / 16] :=
  (by decide +kernel : ∀ t : Fin grid0.N, _)

theorem lt32 (t : Fin cfg0.N) : t.val < 32 := (idx t).2.2.2.2.2.2.2.2.1
theorem coord (t : Fin cfg0.N) : ((grid0.coords t) 1).val = t.val % 16 := (idx t).2.2.2.2.2.2.2.2.2

variable {U A W : ℕ → ℕ → ℝ} {B : ℕ → ℝ}
  (hU : ∀ i, m ((c : Thread nD τ).loc main_arg0) i = ((U (i 0).val (i 1).val : ℝ) : EReal))
  (hW : ∀ i, m ((c : Thread nD τ).loc main_arg1) i = ((W (i 0).val (i 1).val : ℝ) : EReal))
  (hB : ∀ i, m ((c : Thread nD τ).loc main_arg2) i = ((B (i 0).val : ℝ) : EReal))
  (hA : ∀ i, m ((c : Thread nD τ).loc main_arg3) i = ((A (i 0).val (i 1).val : ℝ) : EReal))

include hU in
theorem V_u (s : Fin 8192) (e : Fin 5632) : V m c main_v6 (ix2 s e) = ((U s.val (plain e.val) : ℝ) : EReal) := by
  unfold V; after_reads_at
  have := e.isLt
  by_cases h1 : (e : ℕ) < 1408
  · simp only [dif_pos h1]; after_reads_at
    exact (hU _).trans (congrArg _ (congrArg (U _) (by show (e : ℕ) = plain e; unfold plain; omega)))
  by_cases h2 : (e : ℕ) < 2816
  · simp only [dif_neg h1, dif_pos (show (e : ℕ) - 1408 < 1408 by omega)]; after_reads_at
    exact (hU _).trans (congrArg _ (congrArg (U _) (by show 2816 + ((e : ℕ) - 1408) = plain e; unfold plain; omega)))
  by_cases h3 : (e : ℕ) < 4224
  · simp only [dif_neg h1, dif_neg (show ¬(e : ℕ) - 1408 < 1408 by omega), dif_pos (show (e : ℕ) - 1408 - 1408 < 1408 by omega)]; after_reads_at
    exact (hU _).trans (congrArg _ (congrArg (U _) (by show 1408 + ((e : ℕ) - 1408 - 1408) = plain e; unfold plain; omega)))
  · simp only [dif_neg h1, dif_neg (show ¬(e : ℕ) - 1408 < 1408 by omega), dif_neg (show ¬(e : ℕ) - 1408 - 1408 < 1408 by omega)]; after_reads_at
    exact (hU _).trans (congrArg _ (congrArg (U _) (by show 2816 + (1408 + ((e : ℕ) - 1408 - 1408 - 1408)) = plain e; unfold plain; omega)))

include hW in
theorem V_w (j : Fin 3) (e : Fin 5632) : V m c main_v13 (ix2 j e) = ((W j.val (plain e.val) : ℝ) : EReal) := by
  unfold V; after_reads_at
  have := e.isLt
  by_cases h1 : (e : ℕ) < 1408
  · simp only [dif_pos h1]; after_reads_at
    exact (hW _).trans (congrArg _ (congrArg (W _) (by show (e : ℕ) = plain e; unfold plain; omega)))
  by_cases h2 : (e : ℕ) < 2816
  · simp only [dif_neg h1, dif_pos (show (e : ℕ) - 1408 < 1408 by omega)]; after_reads_at
    exact (hW _).trans (congrArg _ (congrArg (W _) (by show 2816 + ((e : ℕ) - 1408) = plain e; unfold plain; omega)))
  by_cases h3 : (e : ℕ) < 4224
  · simp only [dif_neg h1, dif_neg (show ¬(e : ℕ) - 1408 < 1408 by omega), dif_pos (show (e : ℕ) - 1408 - 1408 < 1408 by omega)]; after_reads_at
    exact (hW _).trans (congrArg _ (congrArg (W _) (by show 1408 + ((e : ℕ) - 1408 - 1408) = plain e; unfold plain; omega)))
  · simp only [dif_neg h1, dif_neg (show ¬(e : ℕ) - 1408 < 1408 by omega), dif_neg (show ¬(e : ℕ) - 1408 - 1408 < 1408 by omega)]; after_reads_at
    exact (hW _).trans (congrArg _ (congrArg (W _) (by show 2816 + (1408 + ((e : ℕ) - 1408 - 1408 - 1408)) = plain e; unfold plain; omega)))

include hB in
theorem V_b (z : Fin 1) (e : Fin 5632) : V m c main_v21 (ix2 z e) = ((B (plain e.val) : ℝ) : EReal) := by
  unfold V; after_reads_at
  have := e.isLt
  by_cases h1 : (e : ℕ) < 1408
  · simp only [dif_pos h1]; after_reads_at
    exact (hB _).trans (congrArg _ (congrArg B (by show (e : ℕ) = plain e; unfold plain; omega)))
  by_cases h2 : (e : ℕ) < 2816
  · simp only [dif_neg h1, dif_pos (show (e : ℕ) - 1408 < 1408 by omega)]; after_reads_at
    exact (hB _).trans (congrArg _ (congrArg B (by show 2816 + ((e : ℕ) - 1408) = plain e; unfold plain; omega)))
  by_cases h3 : (e : ℕ) < 4224
  · simp only [dif_neg h1, dif_neg (show ¬(e : ℕ) - 1408 < 1408 by omega), dif_pos (show (e : ℕ) - 1408 - 1408 < 1408 by omega)]; after_reads_at
    exact (hB _).trans (congrArg _ (congrArg B (by show 1408 + ((e : ℕ) - 1408 - 1408) = plain e; unfold plain; omega)))
  · simp only [dif_neg h1, dif_neg (show ¬(e : ℕ) - 1408 < 1408 by omega), dif_neg (show ¬(e : ℕ) - 1408 - 1408 < 1408 by omega)]; after_reads_at
    exact (hB _).trans (congrArg _ (congrArg B (by show 2816 + (1408 + ((e : ℕ) - 1408 - 1408 - 1408)) = plain e; unfold plain; omega)))

include hU in
theorem blk0 (t : Fin cfg0.N) (r : Fin 512) (q : Fin 2816) : (iblk m c 0 t : Vec Ideal S512x2816 .f32) (ix2 r q)
    = ((U (512 * (t.val % 16) + r.val) (plain (2816 * (t.val / 16) + q.val)) : ℝ) : EReal) := by
  have := lt32 t
  blk_simp [iblk]
  refine (congrArg (V m c main_v6) (?_ : _ = ix2 ⟨512 * (t.val % 16) + r.val, by omega⟩ ⟨2816 * (t.val / 16) + q.val, by omega⟩)).trans (V_u m c hU _ _)
  blk_ext [idx t]
  all_goals omega

include hU in
theorem blk1 (t : Fin cfg0.N) (r : Fin 8) (q : Fin 2816) : (iblk m c 1 t : Vec Ideal S8x2816 .f32) (ix2 r q)
    = ((U (8 * (t.val % 16 * 64 - 1) + r.val) (plain (2816 * (t.val / 16) + q.val)) : ℝ) : EReal) := by
  have := lt32 t
  blk_simp [iblk]
  refine (congrArg (V m c main_v6) (?_ : _ = ix2 ⟨8 * (t.val % 16 * 64 - 1) + r.val, by omega⟩ ⟨2816 * (t.val / 16) + q.val, by omega⟩)).trans (V_u m c hU _ _)
  blk_ext [idx t]
  all_goals omega

include hU in
theorem blk2 (t : Fin cfg0.N) (r : Fin 8) (q : Fin 2816) : (iblk m c 2 t : Vec Ideal S8x2816 .f32) (ix2 r q)
    = ((U (8 * min (t.val % 16 * 64 + 64) 1023 + r.val) (plain (2816 * (t.val / 16) + q.val)) : ℝ) : EReal) := by
  have := lt32 t
  blk_simp [iblk]
  refine (congrArg (V m c main_v6) (?_ : _ = ix2 ⟨8 * min (t.val % 16 * 64 + 64) 1023 + r.val, by omega⟩ ⟨2816 * (t.val / 16) + q.val, by omega⟩)).trans
    (V_u m c hU _ _)
  blk_ext [idx t]
  all_goals omega

include hA in
theorem blk3 (t : Fin cfg0.N) (r : Fin 512) (q : Fin 1408) : (iblk m c 3 t : Vec Ideal S512x1408 .f32) (ix2 r q)
    = ((A (512 * (t.val % 16) + r.val) (1408 * (t.val / 16) + q.val) : ℝ) : EReal) := by
  blk_simp [iblk]
  refine (congrFun (V_main_arg3 m c) _).trans ((hA _).trans (congrArg _ (congrArg₂ A ?_ ?_)))
  · blk_simp [idx t]; omega
  · blk_simp [idx t]; omega

include hA in
theorem blk4 (t : Fin cfg0.N) (r : Fin 8) (q : Fin 1408) : (iblk m c 4 t : Vec Ideal S8x1408 .f32) (ix2 r q)
    = ((A (8 * min (t.val % 16 * 64 + 64) 1023 + r.val) (1408 * (t.val / 16) + q.val) : ℝ) : EReal) := by
  blk_simp [iblk]
  refine (congrFun (V_main_arg3 m c) _).trans ((hA _).trans (congrArg _ (congrArg₂ A ?_ ?_)))
  · blk_simp [idx t]; omega
  · blk_simp [idx t]; omega

include hW in
theorem blk5 (t : Fin cfg0.N) (j : Fin 3) (q : Fin 2816) : (iblk m c 5 t : Vec Ideal S3x2816 .f32) (ix2 j q)
    = ((W j.val (plain (2816 * (t.val / 16) + q.val)) : ℝ) : EReal) := by
  have := lt32 t
  blk_simp [iblk]
  refine (congrArg (V m c main_v13) (?_ : _ = ix2 j ⟨2816 * (t.val / 16) + q.val, by omega⟩)).trans (V_w m c hW _ _)
  blk_ext [idx t]
  all_goals omega

include hB in
theorem blk6 (t : Fin cfg0.N) (z : Fin 1) (q : Fin 2816) : (iblk m c 6 t : Vec Ideal S1x2816 .f32) (ix2 z q)
    = ((B (plain (2816 * (t.val / 16) + q.val)) : ℝ) : EReal) := by
  have := lt32 t
  blk_simp [iblk]
  refine (congrArg (V m c main_v21) (?_ : _ = ix2 z ⟨2816 * (t.val / 16) + q.val, by omega⟩)).trans (V_b m c hB _ _)
  blk_ext [idx t]
  all_goals omega

/-- A choice by whether a row block is the first, or not the last. -/
theorem pick_first {α : Type} (k : ℕ) (hk : k < 16) (a b : α) :
    Scalar.select (Scalar.cmpi .sgt (BitVec.ofNat 32 k) 0#32) a b = if 0 < k then a else b := by
  have e : ∀ k : Fin 16, Scalar.cmpi .sgt (BitVec.ofNat 32 k.val) 0#32 = if 0 < k.val then 1#1 else 0#1 := by decide
  rw [e ⟨k, hk⟩]
  by_cases h : 0 < k <;> simp [h, Scalar.select]
theorem pick_last {α : Type} (k : ℕ) (hk : k < 16) (a b : α) :
    Scalar.select (Scalar.cmpi .slt (BitVec.ofNat 32 k) 15#32) a b = if k < 15 then a else b := by
  have e : ∀ k : Fin 16, Scalar.cmpi .slt (BitVec.ofNat 32 k.val) 15#32 = if k.val < 15 then 1#1 else 0#1 := by decide
  rw [e ⟨k, hk⟩]
  by_cases h : k < 15 <;> simp [h, Scalar.select]

variable (U A W B) in
/-- The gradient of the convolution's output, on all rows and plain columns. -/
def dupG (n q : ℕ) : ℝ := dup 2816 B (W 0) (W 1) (W 2) (up U) A n q

variable (U) in
/-- The block of row block `i` and column block `j`: its input rows, those of the cotangent, and a row of the parameters. -/
def uAt (i j n q : ℕ) : ℝ := up U (512 * i + n) (plain (2816 * j + q))
variable (A) in
def aAt (i j n q : ℕ) : ℝ := A (512 * i + n) (1408 * j + q)
def pAt (p : ℕ → ℝ) (j q : ℕ) : ℝ := p (plain (2816 * j + q))

/-- On a block the gradient of the output is that of the whole array. -/
theorem dup_block (i j n q : ℕ) (hq : q < 2816) (hj : j < 2) :
    dup 1408 (pAt B j) (pAt (W 0) j) (pAt (W 1) j) (pAt (W 2) j) (uAt U i j) (aAt A i j) n q
      = dupG U A W B (512 * i + n) (plain (2816 * j + q)) := by
  unfold dupG dup
  have e0 : ∀ q : ℕ, pre (pAt B j) (pAt (W 0) j) (pAt (W 1) j) (pAt (W 2) j) (uAt U i j) n q
      = pre B (W 0) (W 1) (W 2) (up U) (512 * i + n) (plain (2816 * j + q)) := fun q => rfl
  simp only [e0]
  by_cases h : q < 1408
  · rw [if_pos h, if_pos (by unfold plain; omega),
      show plain (2816 * j + (1408 + q)) = 2816 + plain (2816 * j + q) by unfold plain; omega,
      show aAt A i j n q = A (512 * i + n) (plain (2816 * j + q)) from congrArg (A _) (by unfold plain; omega)]
  · rw [if_neg h, if_neg (by unfold plain; omega),
      show plain (2816 * j + (q - 1408)) = plain (2816 * j + q) - 2816 by unfold plain; omega,
      show aAt A i j n (q - 1408) = A (512 * i + n) (plain (2816 * j + q) - 2816) from congrArg (A _) (by unfold plain; omega)]

variable (U A W B) in
/-- The gradient of the output on a block and on the two rows after it. -/
def dAt (i j n q : ℕ) : ℝ := upto (dupG U A W B) (512 * i + n) (plain (2816 * j + q))

include hU in
theorem hu (t : Fin cfg0.N) (r : Fin 512) (q : Fin 2816) :
    (iblk m c 0 t : Vec Ideal S512x2816 .f32) (ix2 r q) = ((uAt U (t.val % 16) (t.val / 16) (r.val + 2) q.val : ℝ) : EReal) := by
  rw [blk0 m c hU t]
  unfold uAt up
  rw [if_neg (by omega)]
  exact congrArg _ (congrArg (U · _) (by omega))

include hU in
theorem hp (t : Fin cfg0.N) (r : Fin 8) (q : Fin 2816) (hr : 6 ≤ r.val) :
    k0_pay9 (grid0.coords t) (iblk m c 1 t : Vec Ideal S8x2816 .f32) (ix2 r q)
      = ((uAt U (t.val % 16) (t.val / 16) (r.val - 6) q.val : ℝ) : EReal) := by
  pointwise [k0_pay9]
  rw [coord t]
  refine (pick_first _ (by omega) _ _).trans ?_
  unfold uAt up
  by_cases h : 0 < t.val % 16
  · rw [if_pos h, blk1 m c hU t, if_neg (by omega)]
    exact congrArg _ (congrArg (U · _) (by omega))
  · rw [if_neg h, if_pos (by omega)]
    exact EReal.coe_zero.symm

include hU in
theorem hn (t : Fin cfg0.N) (ht : t.val % 16 < 15) (r : Fin 8) (q : Fin 2816) :
    (iblk m c 2 t : Vec Ideal S8x2816 .f32) (ix2 r q) = ((uAt U (t.val % 16) (t.val / 16) (r.val + 514) q.val : ℝ) : EReal) := by
  rw [blk2 m c hU t]
  unfold uAt up
  rw [if_neg (by omega)]
  exact congrArg _ (congrArg (U · _) (by omega))

include hA in
theorem han (t : Fin cfg0.N) (ht : t.val % 16 < 15) (r : Fin 8) (q : Fin 1408) :
    (iblk m c 4 t : Vec Ideal S8x1408 .f32) (ix2 r q) = ((aAt A (t.val % 16) (t.val / 16) (r.val + 512) q.val : ℝ) : EReal) := by
  rw [blk4 m c hA t]
  exact congrArg _ (congrArg (A · _) (by omega))

include hW in
theorem taps (t : Fin cfg0.N) (j : Fin 3) (q : Fin 2816) :
    (iblk m c 5 t : Vec Ideal S3x2816 .f32) (ix2 j q) = ((pAt (W j.val) (t.val / 16) q.val : ℝ) : EReal) := blk5 m c hW t j q

include hU hA hW hB

theorem hG (t : Fin cfg0.N) (r : Fin 512) (q : Fin 2816) :
    dupOf (grid0.coords t) (iblk m c 0 t) (iblk m c 1 t) (iblk m c 3 t) (iblk m c 5 t) (iblk m c 6 t) (ix2 r q)
      = ((dupG U A W B (512 * (t.val % 16) + r.val) (plain (2816 * (t.val / 16) + q.val)) : ℝ) : EReal) := by
  have := lt32 t
  refine (dup_real (V := uAt U (t.val % 16) (t.val / 16)) (A := aAt A (t.val % 16) (t.val / 16)) (B := pAt B (t.val / 16))
    (hu m c hU t) (hp m c hU t) (blk3 m c hA t) (blk6 m c hB t)
    (taps m c hW t 0) (taps m c hW t 1) (taps m c hW t 2) r q).trans ?_
  exact congrArg _ (dup_block (t.val % 16) (t.val / 16) r.val q.val q.isLt (by omega))

theorem hD (t : Fin cfg0.N) (r : Fin 512) (q : Fin 2816) :
    dupOf (grid0.coords t) (iblk m c 0 t) (iblk m c 1 t) (iblk m c 3 t) (iblk m c 5 t) (iblk m c 6 t) (ix2 r q)
      = ((dAt U A W B (t.val % 16) (t.val / 16) r.val q.val : ℝ) : EReal) := by
  have := lt32 t
  rw [hG m c hU hW hB hA, dAt, upto, if_pos (by omega)]

theorem hE (t : Fin cfg0.N) (r : Fin 8) (q : Fin 2816) :
    Scalar.select (Scalar.cmpi .slt (BitVec.ofNat 32 ((grid0.coords t) 1).val) 15#32)
      (dupnOf (iblk m c 0 t) (iblk m c 2 t) (iblk m c 4 t) (iblk m c 5 t) (iblk m c 6 t) (ix2 r q)) 0
      = ((dAt U A W B (t.val % 16) (t.val / 16) (r.val + 512) q.val : ℝ) : EReal) := by
  have := lt32 t
  rw [coord t]
  refine (pick_last _ (by omega) _ _).trans ?_
  rw [dAt, upto]
  by_cases h : t.val % 16 < 15
  · rw [if_pos h, if_pos (by omega)]
    refine (dupn_real (V := uAt U (t.val % 16) (t.val / 16)) (A := aAt A (t.val % 16) (t.val / 16)) (B := pAt B (t.val / 16))
      (hu m c hU t) (hn m c hU t h) (han m c hA t h) (blk6 m c hB t)
      (taps m c hW t 0) (taps m c hW t 1) (taps m c hW t 2) r q).trans ?_
    exact congrArg _ (dup_block (t.val % 16) (t.val / 16) (r.val + 512) q.val q.isLt (by omega))
  · rw [if_neg h, if_neg (by omega)]
    exact EReal.coe_zero.symm

variable (U A W B) in
/-- The gradient of the input, at a row and an interleaved column. -/
def duG (n e : ℕ) : ℝ := du (W 0) (W 1) (W 2) (upto (dupG U A W B)) n (plain e)

/-- The rows every point leaves. -/
theorem rows_real (t : Fin cfg0.N) (r : Fin 512) (q : Fin 2816) : (outsAt0 m c t.val t.isLt).1 (ix2 r q)
    = ((duG U A W B (512 * (t.val % 16) + r.val) (2816 * (t.val / 16) + q.val) : ℝ) : EReal) := by
  have h := du_real (W0 := pAt (W 0) (t.val / 16)) (W1 := pAt (W 1) (t.val / 16)) (W2 := pAt (W 2) (t.val / 16))
    (taps m c hW t 0) (taps m c hW t 1) (taps m c hW t 2) (hD m c hU hW hB hA t) (hE m c hU hW hB hA t) r q
  by_cases h0 : t.val % 16 = 0
  · rw [outsAt0_A m c t h0]
    dsimp only
    rw [out_A_7]
    exact h
  · rw [outsAt0_B m c t h0]
    dsimp only
    rw [out_B_7]
    exact h

omit hU hA hW hB

/-- Row `r` of row block `t`. -/
def row (t : ℕ) (r : Fin 512) : Fin 8192 := ⟨(512 * t + r) % 8192, Nat.mod_lt _ (by norm_num)⟩

theorem row_val {t : ℕ} (h : t < 16) (r : Fin 512) : (row t r : ℕ) = 512 * t + r := by
  show (512 * t + (r : ℕ)) % 8192 = _
  have := r.isLt
  omega

/-- One row block's part of a sum over all rows. -/
def part (f : ℕ → ℕ → ℝ) (k e : ℕ) : ℝ := ∑ r : Fin 512, f (row k r) (plain e)

/-- What an accumulator holds after point `n`. -/
def accAt (f : ℕ → ℕ → ℝ) (n q : ℕ) : ℝ := ∑ k ∈ Finset.range (n % 16 + 1), part f k (2816 * (n / 16) + q)

theorem acc_first (f : ℕ → ℕ → ℝ) (n q : ℕ) (h : n % 16 = 0) : accAt f n q = part f (n % 16) (2816 * (n / 16) + q) := by
  rw [accAt, h, Finset.sum_range_one]

theorem acc_next (f : ℕ → ℕ → ℝ) (n q : ℕ) (h : ¬n % 16 = 0) :
    accAt f n q = accAt f (n - 1) q + part f (n % 16) (2816 * (n / 16) + q) := by
  rw [accAt, Finset.sum_range_succ, accAt, show (n - 1) % 16 + 1 = n % 16 by omega, show (n - 1) / 16 = n / 16 by omega]

theorem part_eq (f : ℕ → ℕ → ℝ) {k : ℕ} (h : k < 16) (e : ℕ) : ∑ r : Fin 512, f (512 * k + r.val) (plain e) = part f k e := by
  unfold part
  simp only [row_val h]

theorem acc_total (f : ℕ → ℕ → ℝ) (n q : ℕ) (h : n % 16 = 15) : accAt f n q = ∑ s : Fin 8192, f s.val (plain (2816 * (n / 16) + q)) := by
  unfold accAt part
  rw [h]
  exact sum_blocks (b := 512) 16 (by norm_num) (fun s : Fin 8192 => f s.val (plain (2816 * (n / 16) + q))) row fun t h r => row_val h r

variable (U A W B) in
/-- The products summed for the three taps' gradients. -/
def tapG (j n e : ℕ) : ℝ := dupG U A W B n e * up U (n + j) e

include hU hA hW hB

theorem step8 (t : Fin cfg0.N) (acc : Vec Ideal S1x2816 .f32) (z : Fin 1) (q : Fin 2816) :
    acc8 (grid0.coords t) (iblk m c 0 t) (iblk m c 1 t) (iblk m c 3 t) (iblk m c 5 t) (iblk m c 6 t) acc (ix2 z q)
      = acc (ix2 z q) + ((part (tapG U A W B 0) (t.val % 16) (2816 * (t.val / 16) + q.val) : ℝ) : EReal) := by
  rw [← part_eq _ (Nat.mod_lt _ (by norm_num))]
  exact acc8_real (V := uAt U (t.val % 16) (t.val / 16))
    (D := fun n q => dupG U A W B (512 * (t.val % 16) + n) (plain (2816 * (t.val / 16) + q))) (hu m c hU t) (hp m c hU t) (hG m c hU hW hB hA t) acc z q

theorem step9 (t : Fin cfg0.N) (acc : Vec Ideal S1x2816 .f32) (z : Fin 1) (q : Fin 2816) :
    acc9 (grid0.coords t) (iblk m c 0 t) (iblk m c 1 t) (iblk m c 3 t) (iblk m c 5 t) (iblk m c 6 t) acc (ix2 z q)
      = acc (ix2 z q) + ((part (tapG U A W B 1) (t.val % 16) (2816 * (t.val / 16) + q.val) : ℝ) : EReal) := by
  rw [← part_eq _ (Nat.mod_lt _ (by norm_num))]
  exact acc9_real (V := uAt U (t.val % 16) (t.val / 16))
    (D := fun n q => dupG U A W B (512 * (t.val % 16) + n) (plain (2816 * (t.val / 16) + q))) (hu m c hU t) (hp m c hU t) (hG m c hU hW hB hA t) acc z q

theorem step10 (t : Fin cfg0.N) (acc : Vec Ideal S1x2816 .f32) (z : Fin 1) (q : Fin 2816) :
    acc10 (grid0.coords t) (iblk m c 0 t) (iblk m c 1 t) (iblk m c 3 t) (iblk m c 5 t) (iblk m c 6 t) acc (ix2 z q)
      = acc (ix2 z q) + ((part (tapG U A W B 2) (t.val % 16) (2816 * (t.val / 16) + q.val) : ℝ) : EReal) := by
  rw [← part_eq _ (Nat.mod_lt _ (by norm_num))]
  exact acc10_real (V := uAt U (t.val % 16) (t.val / 16))
    (D := fun n q => dupG U A W B (512 * (t.val % 16) + n) (plain (2816 * (t.val / 16) + q))) (hu m c hU t) (hG m c hU hW hB hA t) acc z q

theorem step11 (t : Fin cfg0.N) (acc : Vec Ideal S1x2816 .f32) (z : Fin 1) (q : Fin 2816) :
    acc11 (grid0.coords t) (iblk m c 0 t) (iblk m c 1 t) (iblk m c 3 t) (iblk m c 5 t) (iblk m c 6 t) acc (ix2 z q)
      = acc (ix2 z q) + ((part (dupG U A W B) (t.val % 16) (2816 * (t.val / 16) + q.val) : ℝ) : EReal) := by
  rw [← part_eq _ (Nat.mod_lt _ (by norm_num))]
  exact acc11_real (D := fun n q => dupG U A W B (512 * (t.val % 16) + n) (plain (2816 * (t.val / 16) + q))) (hG m c hU hW hB hA t) acc z q

/-- The accumulators after point `n`. -/
theorem acc_real : ∀ (n : ℕ) (h : n < cfg0.N),
    (∀ z q, (outsAt0 m c n h).2.1 (ix2 z q) = ((accAt (tapG U A W B 0) n q.val : ℝ) : EReal))
    ∧ (∀ z q, (outsAt0 m c n h).2.2.1 (ix2 z q) = ((accAt (tapG U A W B 1) n q.val : ℝ) : EReal))
    ∧ (∀ z q, (outsAt0 m c n h).2.2.2.1 (ix2 z q) = ((accAt (tapG U A W B 2) n q.val : ℝ) : EReal))
    ∧ ∀ z q, (outsAt0 m c n h).2.2.2.2 (ix2 z q) = ((accAt (dupG U A W B) n q.val : ℝ) : EReal) := by
  intro n
  induction n with
  | zero =>
    intro h
    rw [outsAt0_A m c ⟨0, h⟩ rfl]
    dsimp only
    rw [out_A_8, out_A_9, out_A_10, out_A_11]
    refine ⟨fun z q => ?_, fun z q => ?_, fun z q => ?_, fun z q => ?_⟩
    · rw [step8 m c hU hW hB hA, show (k0_pay4 (F := Ideal)) (ix2 z q) = 0 from zero_word, zero_add, acc_first _ _ _ rfl]
    · rw [step9 m c hU hW hB hA, show (k0_pay5 (F := Ideal)) (ix2 z q) = 0 from zero_word, zero_add, acc_first _ _ _ rfl]
    · rw [step10 m c hU hW hB hA, show (k0_pay6 (F := Ideal)) (ix2 z q) = 0 from zero_word, zero_add, acc_first _ _ _ rfl]
    · rw [step11 m c hU hW hB hA, show (k0_pay7 (F := Ideal)) (ix2 z q) = 0 from zero_word, zero_add, acc_first _ _ _ rfl]
  | succ n ih =>
    intro h
    by_cases h0 : (n + 1) % 16 = 0
    · rw [outsAt0_A m c ⟨n + 1, h⟩ h0]
      dsimp only
      rw [out_A_8, out_A_9, out_A_10, out_A_11]
      refine ⟨fun z q => ?_, fun z q => ?_, fun z q => ?_, fun z q => ?_⟩
      · rw [step8 m c hU hW hB hA, show (k0_pay4 (F := Ideal)) (ix2 z q) = 0 from zero_word, zero_add, acc_first _ _ _ h0]
      · rw [step9 m c hU hW hB hA, show (k0_pay5 (F := Ideal)) (ix2 z q) = 0 from zero_word, zero_add, acc_first _ _ _ h0]
      · rw [step10 m c hU hW hB hA, show (k0_pay6 (F := Ideal)) (ix2 z q) = 0 from zero_word, zero_add, acc_first _ _ _ h0]
      · rw [step11 m c hU hW hB hA, show (k0_pay7 (F := Ideal)) (ix2 z q) = 0 from zero_word, zero_add, acc_first _ _ _ h0]
    · obtain ⟨i1, i2, i3, i4⟩ := ih (Nat.lt_of_succ_lt h)
      rw [outsAt0_B m c ⟨n + 1, h⟩ h0]
      dsimp only
      rw [out_B_8, out_B_9, out_B_10, out_B_11]
      refine ⟨fun z q => ?_, fun z q => ?_, fun z q => ?_, fun z q => ?_⟩
      · rw [step8 m c hU hW hB hA, acc_next _ _ _ h0, EReal.coe_add]
        exact congrArg (· + _) (i1 z q)
      · rw [step9 m c hU hW hB hA, acc_next _ _ _ h0, EReal.coe_add]
        exact congrArg (· + _) (i2 z q)
      · rw [step10 m c hU hW hB hA, acc_next _ _ _ h0, EReal.coe_add]
        exact congrArg (· + _) (i3 z q)
      · rw [step11 m c hU hW hB hA, acc_next _ _ _ h0, EReal.coe_add]
        exact congrArg (· + _) (i4 z q)

theorem final7 : (dats m 0 c).arrAt 7 cfg0.N = (fun i => ((duG U A W B (i 0).val (i 1).val : ℝ) : EReal) : Vec Ideal S8192x5632 .bf16) := by
  refine (dats m 0 c).arrAt_eq_of_covers 7 _ (by decide +kernel) fun t hf y => ?_
  blk_simp
  rw [after0_7]
  refine (congrArg (outsAt0 m c t.val t.isLt).1 (eq_ix2 y)).trans ((rows_real m c hU hW hB hA t _ _).trans ?_)
  refine congrArg _ (congrArg₂ (duG U A W B) ?_ ?_)
  · blk_simp [idx t]; omega
  · blk_simp [idx t]; omega

theorem final8 : (dats m 0 c).arrAt 8 cfg0.N
    = (fun i => ((∑ s : Fin 8192, tapG U A W B 0 s.val (plain (i 1).val) : ℝ) : EReal) : Vec Ideal S1x5632 .f32) := by
  refine (dats m 0 c).arrAt_eq_of_covers 8 _ (by decide +kernel) fun t hf y => ?_
  blk_simp
  rw [after0_8]
  refine (congrArg (outsAt0 m c t.val t.isLt).2.1 (eq_ix2 y)).trans (((acc_real m c hU hW hB hA t.val t.isLt).1 _ _).trans ?_)
  rw [acc_total _ _ _ ((flush0_8 t).mp hf)]
  refine congrArg (fun e : ℕ => ((∑ s : Fin 8192, tapG U A W B 0 s.val (plain e) : ℝ) : EReal)) ?_
  blk_simp [idxs t]; omega

theorem final9 : (dats m 0 c).arrAt 9 cfg0.N
    = (fun i => ((∑ s : Fin 8192, tapG U A W B 1 s.val (plain (i 1).val) : ℝ) : EReal) : Vec Ideal S1x5632 .f32) := by
  refine (dats m 0 c).arrAt_eq_of_covers 9 _ (by decide +kernel) fun t hf y => ?_
  blk_simp
  rw [after0_9]
  refine (congrArg (outsAt0 m c t.val t.isLt).2.2.1 (eq_ix2 y)).trans (((acc_real m c hU hW hB hA t.val t.isLt).2.1 _ _).trans ?_)
  rw [acc_total _ _ _ ((flush0_9 t).mp hf)]
  refine congrArg (fun e : ℕ => ((∑ s : Fin 8192, tapG U A W B 1 s.val (plain e) : ℝ) : EReal)) ?_
  blk_simp [idxs t]; omega

theorem final10 : (dats m 0 c).arrAt 10 cfg0.N
    = (fun i => ((∑ s : Fin 8192, tapG U A W B 2 s.val (plain (i 1).val) : ℝ) : EReal) : Vec Ideal S1x5632 .f32) := by
  refine (dats m 0 c).arrAt_eq_of_covers 10 _ (by decide +kernel) fun t hf y => ?_
  blk_simp
  rw [after0_10]
  refine (congrArg (outsAt0 m c t.val t.isLt).2.2.2.1 (eq_ix2 y)).trans (((acc_real m c hU hW hB hA t.val t.isLt).2.2.1 _ _).trans ?_)
  rw [acc_total _ _ _ ((flush0_10 t).mp hf)]
  refine congrArg (fun e : ℕ => ((∑ s : Fin 8192, tapG U A W B 2 s.val (plain e) : ℝ) : EReal)) ?_
  blk_simp [idxs t]; omega

theorem final11 : (dats m 0 c).arrAt 11 cfg0.N
    = (fun i => ((∑ s : Fin 8192, dupG U A W B s.val (plain (i 1).val) : ℝ) : EReal) : Vec Ideal S1x5632 .f32) := by
  refine (dats m 0 c).arrAt_eq_of_covers 11 _ (by decide +kernel) fun t hf y => ?_
  blk_simp
  rw [after0_11]
  refine (congrArg (outsAt0 m c t.val t.isLt).2.2.2.2 (eq_ix2 y)).trans (((acc_real m c hU hW hB hA t.val t.isLt).2.2.2 _ _).trans ?_)
  rw [acc_total _ _ _ ((flush0_11 t).mp hf)]
  refine congrArg (fun e : ℕ => ((∑ s : Fin 8192, dupG U A W B s.val (plain e) : ℝ) : EReal)) ?_
  blk_simp [idxs t]; omega

end Cert.ConvArrays
-- ==== Proof.ConvRefReal.lean ====
/- What the reference of the gate and convolution's backward pass computes at finite arguments: each stage, read at an index, is the
   coercion of a real expression of `ConvMath`. -/
module

public import proofs.«01_k».proof.Proof.ConvMath
public import proofs.«01_k».proof.Proof.NormMath
public import proofs.«01_k».proof.Proof.Gen.ConvRefIdeal.Read
public import Idealize.ShloMosaic.Lib.Pipeline.ValueKit
public import Idealize.ShloMosaic.Lib.KernelVsHost

@[expose] public section

set_option maxRecDepth 16384

noncomputable section

namespace Cert.ConvRefReal

open Cert.ConvRefIdeal Cert.ConvRefIdeal.Gen Cert.ConvRefIdeal.Read Cert.Reals Cert.ConvMath
open Idealize.ShloMosaic

variable (x0 : (⟨S8192x5632, .f32⟩ : BufTy).Contents (Elt Ideal)) (x1 : (⟨S3x5632, .f32⟩ : BufTy).Contents (Elt Ideal))
  (x2 : (⟨S5632, .f32⟩ : BufTy).Contents (Elt Ideal)) (x3 : (⟨S8192x2816, .f32⟩ : BufTy).Contents (Elt Ideal))
variable {U A W : ℕ → ℕ → ℝ} {B : ℕ → ℝ}
variable (hU : ∀ s c, x0 (ix2 s c) = ((U s.val c.val : ℝ) : EReal)) (hW : ∀ j c, x1 (ix2 j c) = ((W j.val c.val : ℝ) : EReal))
  (hB : ∀ i, x2 i = ((B (i 0).val : ℝ) : EReal)) (hA : ∀ s c, x3 (ix2 s c) = ((A s.val c.val : ℝ) : EReal))

include hU in
/-- The rows after two rows of zeros. -/
theorem v1_real (n : Fin 8194) (c : Fin 5632) : val_main_v1 (F := Ideal) x0 (ix2 n c) = ((up U n.val c.val : ℝ) : EReal) := by
  pointwise [val_main_v1, val_main_v0, val_main_cst]
  unfold up
  by_cases h : n.val < 2
  · rw [dif_pos h, if_pos (.inl h)]
    exact EReal.coe_zero.symm
  · have hn : ¬(n.val < 2 ∨ 8194 ≤ n.val) := by have := n.isLt; omega
    exact (dif_neg h).trans ((hU _ _).trans (congrArg _ (if_neg hn).symm))

include hU hW hB in
/-- The convolution's output. -/
theorem v27_real (s : Fin 8192) (c : Fin 5632) :
    val_main_v27 (F := Ideal) x0 x1 x2 (ix2 s c) = ((pre B (W 0) (W 1) (W 2) (up U) s.val c.val : ℝ) : EReal) := by
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v4, val_main_v3, val_main_cst_1]
  simp only [v1_real x0 hU, hW, hB, ← EReal.coe_mul, ← EReal.coe_add]
  refine congrArg _ ?_
  show B c.val + (W 0 c.val * up U s.val c.val + W 1 c.val * up U (1 + s.val) c.val + W 2 c.val * up U (2 + s.val) c.val) = _
  rw [Nat.add_comm 1, Nat.add_comm 2, pre]
  ring

include hU hW hB in
theorem gate_real (s : Fin 8192) (c : Fin 2816) :
    val_main_v28 (F := Ideal) x0 x1 x2 (ix2 s c) = ((pre B (W 0) (W 1) (W 2) (up U) s.val c.val : ℝ) : EReal) := by
  pointwise [val_main_v28]
  exact v27_real x0 x1 x2 hU hW hB _ _

include hU hW hB in
theorem value_real (s : Fin 8192) (c : Fin 2816) :
    val_main_v29 (F := Ideal) x0 x1 x2 (ix2 s c) = ((pre B (W 0) (W 1) (W 2) (up U) s.val (2816 + c.val) : ℝ) : EReal) := by
  pointwise [val_main_v29]
  exact v27_real x0 x1 x2 hU hW hB _ _

include hU hW hB in
theorem sigmoid_real (s : Fin 8192) (c : Fin 2816) :
    val_main_v30_2 (F := Ideal) x0 x1 x2 (ix2 s c) = ((sg (pre B (W 0) (W 1) (W 2) (up U) s.val c.val) : ℝ) : EReal) := by
  pointwise [val_main_v30_2, val_main_call0_v4, val_main_call0_v3, val_main_call0_v2, val_main_call0_v1, val_main_call0_v0, val_main_call0_cst,
    val_main_call0_cst_0]
  simp only [gate_real x0 x1 x2 hU hW hB]
  rw [← EReal.coe_neg, Ideal.exp_coe, one_real, ← EReal.coe_add, div_real _ _ (by have := Real.exp_pos (-pre B (W 0) (W 1) (W 2) (up U) s.val c.val); linarith),
    sg_eq]

include hU hW hB hA

/-- The gradient of the gate. -/
theorem dgate_real (s : Fin 8192) (c : Fin 2816) :
    val_main_v34 (F := Ideal) x0 x1 x2 x3 (ix2 s c) = ((dgate (A s.val c.val) (pre B (W 0) (W 1) (W 2) (up U) s.val c.val)
      (pre B (W 0) (W 1) (W 2) (up U) s.val (2816 + c.val)) : ℝ) : EReal) := by
  pointwise [val_main_v34, val_main_call1_v2, val_main_call1_v1, val_main_call1_v0, val_main_v30_1, val_main_v33, val_main_call0_v7,
    val_main_call0_v6, val_main_call0_cst_1]
  simp only [gate_real x0 x1 x2 hU hW hB, value_real x0 x1 x2 hU hW hB, sigmoid_real x0 x1 x2 hU hW hB, hA, one_real,
    ← EReal.coe_mul, ← EReal.coe_add, ← EReal.coe_sub]
  refine congrArg _ ?_
  unfold dgate
  ring

/-- The gradient of the value. -/
theorem dval_real (s : Fin 8192) (c : Fin 2816) :
    val_main_v32 (F := Ideal) x0 x1 x2 x3 (ix2 s c)
      = ((dval (A s.val c.val) (pre B (W 0) (W 1) (W 2) (up U) s.val c.val) : ℝ) : EReal) := by
  pointwise [val_main_v32, val_main_v30_0]
  simp only [gate_real x0 x1 x2 hU hW hB, sigmoid_real x0 x1 x2 hU hW hB, hA, ← EReal.coe_mul]
  refine congrArg _ ?_
  unfold dval
  ring

/-- The gradient of the convolution's output. -/
theorem v37_real (s : Fin 8192) (c : Fin 5632) :
    val_main_v37 (F := Ideal) x0 x1 x2 x3 (ix2 s c) = ((dup 2816 B (W 0) (W 1) (W 2) (up U) A s.val c.val : ℝ) : EReal) := by
  pointwise [val_main_v37, val_main_v36, val_main_v35, val_main_cst_2, val_main_cst_3]
  simp only [dgate_real x0 x1 x2 x3 hU hW hB hA, dval_real x0 x1 x2 x3 hU hW hB hA]
  have := c.isLt
  unfold dup
  by_cases h : c.val < 2816
  · rw [if_pos h, dif_neg (by omega), dif_pos (by omega), zero_add]
  · rw [if_neg h, dif_pos (by omega), dif_neg (by omega), add_zero]

/-- The gradient of the convolution's input. -/
theorem v73_real (s : Fin 8192) (c : Fin 5632) : val_main_v73 (F := Ideal) x0 x1 x2 x3 (ix2 s c)
    = ((du (W 0) (W 1) (W 2) (upto (dup 2816 B (W 0) (W 1) (W 2) (up U) A)) s.val c.val : ℝ) : EReal) := by
  have := s.isLt
  pointwise [val_main_v73, val_main_v68, val_main_v67, val_main_v57, val_main_v56, val_main_v47, val_main_cst_8, val_main_cst_12, val_main_cst_16,
    val_main_v62, val_main_v51, val_main_v42, val_main_v61, val_main_v50, val_main_v41, val_main_v6, val_main_v14, val_main_v21, val_main_v4,
    val_main_v12, val_main_v19, val_main_v3, val_main_v11, val_main_v18]
  simp only [v37_real x0 x1 x2 x3 hU hW hB hA, hW, ← EReal.coe_mul]
  have e1 : 2 + s.val - 1 = s.val + 1 := by omega
  have e2 : 2 + s.val = s.val + 2 := by omega
  unfold du upto
  rw [if_pos s.isLt]
  by_cases h1 : s.val + 1 < 8192
  · by_cases h2 : s.val + 2 < 8192
    · rw [dif_pos (by omega), dif_pos (by omega), if_pos h1, if_pos h2, e1, e2, ← EReal.coe_add, ← EReal.coe_add]
      rfl
    · rw [dif_pos (by omega), dif_neg (by omega), if_pos h1, if_neg h2, e1, mul_zero, add_zero, add_zero, ← EReal.coe_add]
      rfl
  · rw [dif_neg (by omega), dif_neg (by omega), if_neg h1, if_neg (by omega), mul_zero, mul_zero, add_zero, add_zero, add_zero, add_zero]
    rfl

/-- The first result: the gradient of the convolution's input, its columns interleaved. -/
theorem v80_real (s : Fin 8192) (c : Fin 5632) : val_main_v80 (F := Ideal) x0 x1 x2 x3 (ix2 s c)
    = ((du (W 0) (W 1) (W 2) (upto (dup 2816 B (W 0) (W 1) (W 2) (up U) A)) s.val (plain c.val) : ℝ) : EReal) := by
  pointwise [val_main_v80, val_main_v79, val_main_v78, val_main_v77]
  exact v73_real x0 x1 x2 x3 hU hW hB hA _ _

omit hU hW hB hA in
/-- The rows of the filter's gradient, each padded to three rows. -/
theorem v49_at (j : Fin 3) (c : Fin 5632) : val_main_v49 (F := Ideal) x0 x1 x2 x3 (ix2 j c)
    = if j.val = 2 then val_main_v48 (F := Ideal) x0 x1 x2 x3 (ix2 0 c) else 0 := by
  unfold val_main_v49
  by_cases h : j.val = 2
  · rw [if_pos h]
    exact pad_apply_of_inside _ _ _ _ _ _ _ _ (ix2 0 c) (fun a => match a with
      | ⟨0, _⟩ => by show j.val = 2 + 0 * (0 + 1); omega
      | ⟨1, _⟩ => by show c.val = 0 + c.val * (0 + 1); omega)
  · rw [if_neg h]
    refine (pad_apply_of_not_inside _ _ _ _ _ _ _ _ (0 : Fin 2) ?_).trans (val_main_cst_9_apply _ |>.trans zero_word)
    show ¬(2 ≤ j.val ∧ (j.val - 2) % (0 + 1) = 0 ∧ (j.val - 2) / (0 + 1) < 1)
    omega

omit hU hW hB hA in
theorem v59_at (j : Fin 3) (c : Fin 5632) : val_main_v59 (F := Ideal) x0 x1 x2 x3 (ix2 j c)
    = if j.val = 1 then val_main_v58 (F := Ideal) x0 x1 x2 x3 (ix2 0 c) else 0 := by
  unfold val_main_v59
  by_cases h : j.val = 1
  · rw [if_pos h]
    exact pad_apply_of_inside _ _ _ _ _ _ _ _ (ix2 0 c) (fun a => match a with
      | ⟨0, _⟩ => by show j.val = 1 + 0 * (0 + 1); omega
      | ⟨1, _⟩ => by show c.val = 0 + c.val * (0 + 1); omega)
  · rw [if_neg h]
    refine (pad_apply_of_not_inside _ _ _ _ _ _ _ _ (0 : Fin 2) ?_).trans (val_main_cst_13_apply _ |>.trans zero_word)
    show ¬(1 ≤ j.val ∧ (j.val - 1) % (0 + 1) = 0 ∧ (j.val - 1) / (0 + 1) < 1)
    omega

omit hU hW hB hA in
theorem v70_at (j : Fin 3) (c : Fin 5632) : val_main_v70 (F := Ideal) x0 x1 x2 x3 (ix2 j c)
    = if j.val = 0 then val_main_v69 (F := Ideal) x0 x1 x2 x3 (ix2 0 c) else 0 := by
  unfold val_main_v70
  by_cases h : j.val = 0
  · rw [if_pos h]
    exact pad_apply_of_inside _ _ _ _ _ _ _ _ (ix2 0 c) (fun a => match a with
      | ⟨0, _⟩ => by show j.val = 0 + 0 * (0 + 1); omega
      | ⟨1, _⟩ => by show c.val = 0 + c.val * (0 + 1); omega)
  · rw [if_neg h]
    refine (pad_apply_of_not_inside _ _ _ _ _ _ _ _ (0 : Fin 2) ?_).trans (val_main_cst_17_apply _ |>.trans zero_word)
    show ¬(0 ≤ j.val ∧ (j.val - 0) % (0 + 1) = 0 ∧ (j.val - 0) / (0 + 1) < 1)
    omega

omit hU hW hB hA in
theorem row0 (c : Fin 5632) : val_main_v71 (F := Ideal) x0 x1 x2 x3 (ix2 0 c) = val_main_v69 (F := Ideal) x0 x1 x2 x3 (ix2 0 c) := by
  rw [val_main_v71_apply, val_main_v60_apply, (v49_at x0 x1 x2 x3 0 c).trans (if_neg (by decide)), (v59_at x0 x1 x2 x3 0 c).trans (if_neg (by decide)),
    (v70_at x0 x1 x2 x3 0 c).trans (if_pos rfl), Ideal.addf_def, Ideal.addf_def, zero_add, zero_add]

omit hU hW hB hA in
theorem row1 (c : Fin 5632) : val_main_v71 (F := Ideal) x0 x1 x2 x3 (ix2 1 c) = val_main_v58 (F := Ideal) x0 x1 x2 x3 (ix2 0 c) := by
  rw [val_main_v71_apply, val_main_v60_apply, (v49_at x0 x1 x2 x3 1 c).trans (if_neg (by decide)), (v59_at x0 x1 x2 x3 1 c).trans (if_pos rfl),
    (v70_at x0 x1 x2 x3 1 c).trans (if_neg (by decide)), Ideal.addf_def, Ideal.addf_def, zero_add, add_zero]

omit hU hW hB hA in
theorem row2 (c : Fin 5632) : val_main_v71 (F := Ideal) x0 x1 x2 x3 (ix2 2 c) = val_main_v48 (F := Ideal) x0 x1 x2 x3 (ix2 0 c) := by
  rw [val_main_v71_apply, val_main_v60_apply, (v49_at x0 x1 x2 x3 2 c).trans (if_pos rfl), (v59_at x0 x1 x2 x3 2 c).trans (if_neg (by decide)),
    (v70_at x0 x1 x2 x3 2 c).trans (if_neg (by decide)), Ideal.addf_def, Ideal.addf_def, add_zero, add_zero]

/-- The next three: the gradients of the filter's taps. -/
theorem v81_real (z : Fin 1) (c : Fin 5632) : val_main_v81 (F := Ideal) x0 x1 x2 x3 (ix2 z c)
    = ((∑ s : Fin 8192, dup 2816 B (W 0) (W 1) (W 2) (up U) A s.val (plain c.val) * up U s.val (plain c.val) : ℝ) : EReal) := by
  pointwise [val_main_v81, val_main_v76, val_main_v75, val_main_v74]
  refine (row0 x0 x1 x2 x3 _).trans ?_
  pointwise [val_main_v69, val_main_v66, val_main_v65, val_main_v64, val_main_v63, val_main_v5,
    val_main_cst_14, val_main_cst_15]
  simp only [v37_real x0 x1 x2 x3 hU hW hB hA, v1_real x0 hU, ← EReal.coe_mul, sum_real]
  exact congrArg _ (Fin.sum_univ_one _)

theorem v82_real (z : Fin 1) (c : Fin 5632) : val_main_v82 (F := Ideal) x0 x1 x2 x3 (ix2 z c)
    = ((∑ s : Fin 8192, dup 2816 B (W 0) (W 1) (W 2) (up U) A s.val (plain c.val) * up U (s.val + 1) (plain c.val) : ℝ) : EReal) := by
  pointwise [val_main_v82, val_main_v76, val_main_v75, val_main_v74]
  refine (row1 x0 x1 x2 x3 _).trans ?_
  pointwise [val_main_v58, val_main_v55, val_main_v54, val_main_v53, val_main_v52, val_main_v13,
    val_main_cst_10, val_main_cst_11]
  simp only [v37_real x0 x1 x2 x3 hU hW hB hA, v1_real x0 hU, ← EReal.coe_mul, sum_real]
  exact congrArg _ ((Fin.sum_univ_one _).trans (Finset.sum_congr rfl fun s _ => by rw [Nat.add_comm 1]; rfl))

theorem v83_real (z : Fin 1) (c : Fin 5632) : val_main_v83 (F := Ideal) x0 x1 x2 x3 (ix2 z c)
    = ((∑ s : Fin 8192, dup 2816 B (W 0) (W 1) (W 2) (up U) A s.val (plain c.val) * up U (s.val + 2) (plain c.val) : ℝ) : EReal) := by
  pointwise [val_main_v83, val_main_v76, val_main_v75, val_main_v74]
  refine (row2 x0 x1 x2 x3 _).trans ?_
  pointwise [val_main_v48, val_main_v46, val_main_v45, val_main_v44, val_main_v43, val_main_v20,
    val_main_cst_6, val_main_cst_7]
  simp only [v37_real x0 x1 x2 x3 hU hW hB hA, v1_real x0 hU, ← EReal.coe_mul, sum_real]
  exact congrArg _ ((Fin.sum_univ_one _).trans (Finset.sum_congr rfl fun s _ => by rw [Nat.add_comm 2]; rfl))

/-- The last: the gradient of the bias. -/
theorem v86_real (z : Fin 1) (c : Fin 5632) : val_main_v86 (F := Ideal) x0 x1 x2 x3 (ix2 z c)
    = ((∑ s : Fin 8192, dup 2816 B (W 0) (W 1) (W 2) (up U) A s.val (plain c.val) : ℝ) : EReal) := by
  pointwise [val_main_v86, val_main_v85, val_main_v84, val_main_v40, val_main_v39, val_main_v38, val_main_cst_4, val_main_cst_5]
  simp only [v37_real x0 x1 x2 x3 hU hW hB hA, sum_real]
  exact congrArg _ (Fin.sum_univ_one _)

end Cert.ConvRefReal
-- ==== Proof.ConvClaim.lean ====
/- The claims about the backward kernel of the gate and the causal convolution: where its arguments are finite its five results
   are those of the reference. -/
module

public import proofs.«01_k».proof.Defs
public import proofs.«01_k».proof.Proof.Gen.Conv
public import proofs.«01_k».proof.Proof.Gen.Conv.Frame
public import proofs.«01_k».proof.Proof.ConvArrays
public import proofs.«01_k».proof.Proof.ConvRefReal
public import proofs.«01_k».proof.Proof.Gen.ConvRefIdeal.Run
public import proofs.«01_k».proof.Proof.Gen.Pre_conv_finite
public import Idealize.ShloMosaic.Lib.Quiescent

@[expose] public section

set_option maxRecDepth 16384

noncomputable section

namespace Cert.ConvClaim

open Idealize.ShloMosaic Idealize.ShloMosaic.TcCoe Idealize.SL.Sem Cert.Reals Cert.ConvMath

attribute [local instance] Cert.Conv.Gen.facts Cert.ConvIdeal.Gen.facts Cert.ConvRefIdeal.Gen.facts Cert.Pre_conv_finite.Gen.facts

/-- Real arrays as functions of natural numbers. -/
theorem mat_nat {a b : ℕ} (x : (⟨2, ![a, b]⟩ : Shape).Idx → EReal) (h : ∀ i, x i = ((x i).toReal : EReal)) :
    ∃ A : ℕ → ℕ → ℝ, ∀ i, x i = ((A (i 0).val (i 1).val : ℝ) : EReal) := by
  obtain ⟨A, hA⟩ := mat_of_real h
  refine ⟨fun n k => if h : n < a ∧ k < b then A ⟨n, h.1⟩ ⟨k, h.2⟩ else 0, fun i => (hA i).trans (congrArg _ ?_)⟩
  dsimp only
  rw [dif_pos (show (i 0).val < a ∧ (i 1).val < b from ⟨(i 0).isLt, (i 1).isLt⟩)]
  rfl

theorem vec_nat {a : ℕ} (x : (⟨1, ![a]⟩ : Shape).Idx → EReal) (h : ∀ i, x i = ((x i).toReal : EReal)) :
    ∃ A : ℕ → ℝ, ∀ i, x i = ((A (i 0).val : ℝ) : EReal) := by
  obtain ⟨A, hA⟩ := vec_of_real h
  refine ⟨fun n => if h : n < a then A ⟨n, h⟩ else 0, fun i => (hA i).trans (congrArg _ ?_)⟩
  dsimp only
  rw [dif_pos (show (i 0).val < a from (i 0).isLt)]
  rfl

/-- The precondition, decoded: the four arguments are arrays of real numbers. -/
theorem real_args (x0 : FVec Ideal ⟨2, ![8192, 5632]⟩ .f32) (x1 : FVec Ideal ⟨2, ![3, 5632]⟩ .f32) (x2 : FVec Ideal ⟨1, ![5632]⟩ .f32)
    (x3 : FVec Ideal ⟨2, ![8192, 2816]⟩ .f32) (h : Cert.Pre_conv_finite.fn (F := Ideal) x0 x1 x2 x3 = fun _ => 1#1) :
    ∃ (U W A : ℕ → ℕ → ℝ) (B : ℕ → ℝ),
      (∀ i, x0 i = ((U (i 0).val (i 1).val : ℝ) : EReal)) ∧ (∀ i, x1 i = ((W (i 0).val (i 1).val : ℝ) : EReal))
      ∧ (∀ i, x2 i = ((B (i 0).val : ℝ) : EReal)) ∧ (∀ i, x3 i = ((A (i 0).val (i 1).val : ℝ) : EReal)) := by
  have e := congrFun h (fun a => a.elim0)
  unfold Cert.Pre_conv_finite.fn Cert.Pre_conv_finite.fn_part1 at e
  dsimp only at e
  obtain ⟨e, e3⟩ := andi_one _ _ _ e
  obtain ⟨e, e2⟩ := andi_one _ _ _ e
  obtain ⟨e0, e1⟩ := andi_one _ _ _ e
  obtain ⟨U, hU⟩ := mat_nat x0 (real_of_fin x0 _ _ _ _ _ e0)
  obtain ⟨W, hW⟩ := mat_nat x1 (real_of_fin x1 _ _ _ _ _ e1)
  obtain ⟨B, hB⟩ := vec_nat x2 (real_of_fin x2 _ _ _ _ _ e2)
  obtain ⟨A, hA⟩ := mat_nat x3 (real_of_fin x3 _ _ _ _ _ e3)
  exact ⟨U, W, A, B, hU, hW, hB, hA⟩

theorem frame_kernel : Cert.quiescent_Conv := fun m ρ _ => Cert.Conv.Gen.frame m ρ
theorem frame_ideal : Cert.quiescent_ConvIdeal := fun m ρ _ => Cert.ConvIdeal.Gen.frame m ρ
theorem frame_ideal_pre : Cert.quiescent_ConvIdeal_pre_conv_finite := fun m ρ _ => Cert.ConvIdeal.Gen.frame m ρ
theorem frame_ref : Cert.quiescent_ConvRefIdeal := fun m ρ _ =>
  (θ_run Cert.ConvRefIdeal.defs _ _).mono (fun r h => ⟨fun c => (h c).2.2.2.2.2, sem_eq_zero_of_no_sems (by decide) r.2⟩) (Cert.ConvRefIdeal.Value.run (F := Ideal) m ρ)
theorem frame_ref_pre : Cert.quiescent_ConvRefIdeal_pre_conv_finite := fun m ρ _ => frame_ref m ρ trivial

/-- Both programs end with the gradients over the real numbers. -/
theorem value : Cert.algebraic_ConvIdeal_ConvRefIdeal_pre_conv_finite := by
  intro m ρ m' ρ' hpre hag
  choose U W A B hU hW hB hA using fun c => real_args _ _ _ _ (hpre c)
  refine ⟨_, _, _, _, _, Cert.ConvIdeal.Value.run_blocks m ρ, (θ_run Cert.ConvRefIdeal.defs _ _).mono (fun r h c => ?_) (Cert.ConvRefIdeal.Value.run (F := Ideal) m' ρ')⟩
  obtain ⟨g0, g1, g2, g3⟩ := hag c
  obtain ⟨h0, h1, h2, h3, h4, hk⟩ := h c
  have kU := fun s e => (congrFun g0 (ix2 s e)).trans (hU c (ix2 s e))
  have kW := fun s e => (congrFun g1 (ix2 s e)).trans (hW c (ix2 s e))
  have kB := fun i => (congrFun g2 i).trans (hB c i)
  have kA := fun s e => (congrFun g3 (ix2 s e)).trans (hA c (ix2 s e))
  refine ⟨h0.trans ?_, h1.trans ?_, h2.trans ?_, h3.trans ?_, h4.trans ?_, hk⟩
  · rw [ConvArrays.final7 m c (hU c) (hW c) (hB c) (hA c)]
    exact (Cert.ConvRefIdeal.Read.val_main_v80_eq ..).trans (funext fun i => (congrArg _ (eq_ix2 i)).trans (ConvRefReal.v80_real _ _ _ _ kU kW kB kA _ _))
  · rw [ConvArrays.final8 m c (hU c) (hW c) (hB c) (hA c)]
    exact (Cert.ConvRefIdeal.Read.val_main_v81_eq ..).trans (funext fun i => (congrArg _ (eq_ix2 i)).trans (ConvRefReal.v81_real _ _ _ _ kU kW kB kA _ _))
  · rw [ConvArrays.final9 m c (hU c) (hW c) (hB c) (hA c)]
    exact (Cert.ConvRefIdeal.Read.val_main_v82_eq ..).trans (funext fun i => (congrArg _ (eq_ix2 i)).trans (ConvRefReal.v82_real _ _ _ _ kU kW kB kA _ _))
  · rw [ConvArrays.final10 m c (hU c) (hW c) (hB c) (hA c)]
    exact (Cert.ConvRefIdeal.Read.val_main_v83_eq ..).trans (funext fun i => (congrArg _ (eq_ix2 i)).trans (ConvRefReal.v83_real _ _ _ _ kU kW kB kA _ _))
  · rw [ConvArrays.final11 m c (hU c) (hW c) (hB c) (hA c)]
    exact (Cert.ConvRefIdeal.Read.val_main_v86_eq ..).trans (funext fun i => (congrArg _ (eq_ix2 i)).trans (ConvRefReal.v86_real _ _ _ _ kU kW kB kA _ _))

end Cert.ConvClaim

end
-- ==== Proof.MixMath.lean ====
/- The real mathematics of the norm over each head, of its gate, and of their gradients. A row is a function of its column; a head is
   64 columns, so the head of column `q` begins at `64 * (q / 64)`. -/
module

public import proofs.«01_k».proof.Proof.ConvMath

@[expose] public section

noncomputable section

namespace Cert.MixMath

open Cert.Reals Cert.ConvMath Idealize.ShloMosaic

/-- The sum over a column's head. -/
def hs (z : ℕ → ℝ) (q : ℕ) : ℝ := ∑ c : Fin 64, z (64 * (q / 64) + c.val)

variable (O G W Y : ℕ → ℝ)

/-- A row less its head's mean, the head's variance, the reciprocal standard deviation, and the normed row. -/
def dev (q : ℕ) : ℝ := O q - hs O q * (1 / 64)
def var (q : ℕ) : ℝ := hs (fun q => dev O q * dev O q) q * (1 / 64)
def rstd (q : ℕ) : ℝ := (√(var O q + eps))⁻¹
def oh (q : ℕ) : ℝ := dev O q * rstd O q

/-- The gradient of the weighted norm, of the gate, of the norm's output, and of its input. -/
def dn (q : ℕ) : ℝ := Y q * (G q * sg (G q))
def dg (q : ℕ) : ℝ := Y q * (oh O q * W q) * (sg (G q) * (1 + G q * (1 - sg (G q))))
def dh (q : ℕ) : ℝ := dn G Y q * W q
def dO (q : ℕ) : ℝ :=
  rstd O q * (dh G W Y q - hs (dh G W Y) q * (1 / 64) - oh O q * (hs (fun q => dh G W Y q * oh O q) q * (1 / 64)))

theorem var_pos (q : ℕ) : 0 < var O q + eps :=
  add_pos_of_nonneg_of_pos (mul_nonneg (Finset.sum_nonneg fun _ _ => mul_self_nonneg _) (by norm_num)) eps_pos

/-- The first 64 of 128 lanes, and the sum over a lane's half by the two masks. -/
def m0 (j : ℕ) : ℝ := if j < 64 then 1 else 0

theorem sum_halves (z : ℕ → ℝ) : ∑ j : Fin 128, z j.val = ∑ c : Fin 64, z c.val + ∑ c : Fin 64, z (64 + c.val) := by
  have h := Fin.sum_univ_add (M := ℝ) (a := 64) (b := 64) (fun j => z j.val)
  exact h

theorem first_half (z : ℕ → ℝ) : ∑ j : Fin 128, z j.val * m0 j.val = ∑ c : Fin 64, z c.val := by
  rw [sum_halves (fun j => z j * m0 j)]
  have h1 : ∀ c : Fin 64, m0 c.val = 1 := fun c => if_pos c.isLt
  have h2 : ∀ c : Fin 64, m0 (64 + c.val) = 0 := fun c => if_neg (by omega)
  simp [h1, h2]

theorem second_half (z : ℕ → ℝ) : ∑ j : Fin 128, z j.val * (1 - m0 j.val) = ∑ c : Fin 64, z (64 + c.val) := by
  rw [sum_halves (fun j => z j * (1 - m0 j))]
  have h1 : ∀ c : Fin 64, m0 c.val = 1 := fun c => if_pos c.isLt
  have h2 : ∀ c : Fin 64, m0 (64 + c.val) = 0 := fun c => if_neg (by omega)
  simp [h1, h2]

/-- The same sums where the numbers need not be finite. -/
theorem first_half_ext (z : ℕ → EReal) : ∑ j : Fin 128, z j.val * ((m0 j.val : ℝ) : EReal) = ∑ c : Fin 64, z c.val := by
  refine (Fin.sum_univ_add (M := EReal) (a := 64) (b := 64) (fun j => z j.val * ((m0 j.val : ℝ) : EReal))).trans ?_
  have h1 : ∀ c : Fin 64, m0 (Fin.castAdd 64 c).val = 1 := fun c => if_pos c.isLt
  have h2 : ∀ c : Fin 64, m0 (Fin.natAdd 64 c).val = 0 := fun c => if_neg (by simp)
  simp only [h1, h2, EReal.coe_one, EReal.coe_zero, mul_one, mul_zero, Finset.sum_const_zero, add_zero]
  rfl

theorem second_half_ext (z : ℕ → EReal) : ∑ j : Fin 128, z j.val * ((1 - m0 j.val : ℝ) : EReal) = ∑ c : Fin 64, z (64 + c.val) := by
  refine (Fin.sum_univ_add (M := EReal) (a := 64) (b := 64) (fun j => z j.val * ((1 - m0 j.val : ℝ) : EReal))).trans ?_
  have h1 : ∀ c : Fin 64, 1 - m0 (Fin.castAdd 64 c).val = 0 := fun c => by rw [m0, if_pos (show (Fin.castAdd 64 c).val < 64 from c.isLt), sub_self]
  have h2 : ∀ c : Fin 64, 1 - m0 (Fin.natAdd 64 c).val = 1 := fun c => by rw [m0, if_neg (by simp), sub_zero]
  simp only [h1, h2, EReal.coe_one, EReal.coe_zero, mul_one, mul_zero, Finset.sum_const_zero, zero_add]
  rfl

theorem hs_lanes (z : ℕ → ℝ) (j : Fin 128) :
    (∑ k : Fin 128, z k.val * m0 k.val) * m0 j.val + (∑ k : Fin 128, z k.val * (1 - m0 k.val)) * (1 - m0 j.val) = hs z j.val := by
  rw [first_half, second_half]
  unfold hs
  by_cases h : j.val < 64
  · have h1 : j.val / 64 = 0 := by omega
    rw [h1, m0, if_pos h]
    simp
  · have h1 : j.val / 64 = 1 := by omega
    rw [h1, m0, if_neg h]
    simp

/-- The sum over a head of a tile of 128 columns. -/
theorem hs_tile (z : ℕ → ℝ) (k j : ℕ) : hs (fun j => z (128 * k + j)) j = hs z (128 * k + j) := by
  unfold hs
  have h : (128 * k + j) / 64 = 2 * k + j / 64 := by omega
  rw [h]
  exact Finset.sum_congr rfl fun c _ => congrArg z (by ring)

theorem dev_tile (k j : ℕ) : dev (fun j => O (128 * k + j)) j = dev O (128 * k + j) := by unfold dev; rw [hs_tile]
theorem rstd_tile (k j : ℕ) : rstd (fun j => O (128 * k + j)) j = rstd O (128 * k + j) := by
  unfold rstd var
  simp only [dev_tile]
  rw [hs_tile (fun q => dev O q * dev O q)]
theorem oh_tile (k j : ℕ) : oh (fun j => O (128 * k + j)) j = oh O (128 * k + j) := by unfold oh; rw [dev_tile, rstd_tile]
theorem dg_tile (k j : ℕ) :
    dg (fun j => O (128 * k + j)) (fun j => G (128 * k + j)) (fun j => W (128 * k + j)) (fun j => Y (128 * k + j)) j = dg O G W Y (128 * k + j) := by
  unfold dg
  rw [oh_tile]
theorem dO_tile (k j : ℕ) :
    dO (fun j => O (128 * k + j)) (fun j => G (128 * k + j)) (fun j => W (128 * k + j)) (fun j => Y (128 * k + j)) j = dO O G W Y (128 * k + j) := by
  have h : ∀ j, dh (fun j => G (128 * k + j)) (fun j => W (128 * k + j)) (fun j => Y (128 * k + j)) j = dh G W Y (128 * k + j) := fun _ => rfl
  have h' : dh (fun j => G (128 * k + j)) (fun j => W (128 * k + j)) (fun j => Y (128 * k + j)) = fun j => dh G W Y (128 * k + j) := funext h
  unfold dO
  simp only [oh_tile, rstd_tile]
  rw [h', hs_tile (dh G W Y), hs_tile (fun q => dh G W Y q * oh O q)]

end Cert.MixMath

end
-- ==== Proof.MixPoint.lean ====
/- What one grid point of the mixers' backward kernel leaves in its five output buffers, from the six input blocks and, from the
   second point on, from what the point before left in the accumulator. -/
module

public import proofs.«01_k».proof.Proof.Gen.MixIdeal.Value
public import proofs.«01_k».proof.Proof.Reals
public import Idealize.ShloMosaic.Lib.Pipeline.ReadBack

@[expose] public section

set_option maxRecDepth 16384

noncomputable section

namespace Cert.MixPoint

open Cert.MixIdeal Cert.MixIdeal.Gen Idealize.ShloMosaic Idealize.ShloMosaic.TcCoe Idealize.SL.Sem

variable {F : FTy → Type} [FloatOps F]

/-- Row `r`, column `q` of the `k`-th tile of 128 columns. -/
theorem col_lt {n m : ℕ} (k : Fin n) (j : Fin 128) (h : 128 * n ≤ m) : 128 * k.val + j.val < m := by omega

/-- The `k`-th tile of 128 columns of a block of 512 columns, of 1024 columns, and of a row. -/
def sl {e : EltTy} (x : Vec F S512x512 e) (k : Fin 4) : Vec F S512x128 e := fun y => x (ix2 (y 0) ⟨128 * k.val + (y 1).val, col_lt k (y 1) le_rfl⟩)
def ds {e : EltTy} (x : Vec F S512x1024 e) (k : Fin 8) : Vec F S512x128 e := fun y => x (ix2 (y 0) ⟨128 * k.val + (y 1).val, col_lt k (y 1) le_rfl⟩)
def ws {e : EltTy} (x : Vec F S1x512 e) (k : Fin 4) : Vec F S1x128 e := fun y => x (ix2 (y 0) ⟨128 * k.val + (y 1).val, col_lt k (y 1) le_rfl⟩)

theorem ld_sl {e : EltTy} (x : Vec F S512x512 e) (o : ℕ) (k : Fin 4) (h : o = 128 * k.val) (inb) :
    View.ld x (Rect.unit (s := S512x512) ![0, o] ![512, 128] inb) = sl x k := by
  subst h
  exact funext fun y => congrArg x (funext fun a => Fin.ext (by fin_cases a <;> simp [Rect.emb, Rect.unit, ix2] <;> rfl))
theorem ld_ds {e : EltTy} (x : Vec F S512x1024 e) (o : ℕ) (k : Fin 8) (h : o = 128 * k.val) (inb) :
    View.ld x (Rect.unit (s := S512x1024) ![0, o] ![512, 128] inb) = ds x k := by
  subst h
  exact funext fun y => congrArg x (funext fun a => Fin.ext (by fin_cases a <;> simp [Rect.emb, Rect.unit, ix2] <;> rfl))
theorem ld_ws {e : EltTy} (x : Vec F S1x512 e) (o : ℕ) (k : Fin 4) (h : o = 128 * k.val) (inb) :
    View.ld x (Rect.unit (s := S1x512) ![0, o] ![1, 128] inb) = ws x k := by
  subst h
  exact funext fun y => congrArg x (funext fun a => Fin.ext (by fin_cases a <;> simp [Rect.emb, Rect.unit, ix2] <;> rfl))

/-- The block whose tiles are `f`. -/
def whole {e : EltTy} (f : Fin 4 → Vec F S512x128 e) : Vec F S512x512 e :=
  fun y => f ⟨(y 1).val / 128, Nat.div_lt_of_lt_mul (y 1).isLt⟩ (ix2 (y 0) ⟨(y 1).val % 128, Nat.mod_lt _ (Nat.succ_pos _)⟩)
def wholeRow {e : EltTy} (f : Fin 4 → Vec F S1x128 e) : Vec F S1x512 e :=
  fun y => f ⟨(y 1).val / 128, Nat.div_lt_of_lt_mul (y 1).isLt⟩ (ix2 (y 0) ⟨(y 1).val % 128, Nat.mod_lt _ (Nat.succ_pos _)⟩)

theorem canon_block_tile {e : EltTy} (f : Fin 4 → Vec F S512x128 e) (o : ℕ) (k : Fin 4) (h : o = 128 * k.val) (inb) (w : Vec F S512x128 e) (hw : w = f k) (x : S512x128.Idx) :
    w x = whole f ((Rect.unit (s := S512x512) ![0, o] ![512, 128] inb).emb x) := by
  subst h hw
  have h1 : (x 1).val < 128 := (x 1).isLt
  have e1 : (((Rect.unit (s := S512x512) ![0, 128 * k.val] ![512, 128] inb).emb x) 1).val = 128 * k.val + (x 1).val := by
    simp [Rect.emb, Rect.unit]
  have e0 : (((Rect.unit (s := S512x512) ![0, 128 * k.val] ![512, 128] inb).emb x) 0).val = (x 0).val := by simp [Rect.emb, Rect.unit]
  unfold whole
  refine congr (congrArg f (Fin.ext ?_)) (funext fun a => Fin.ext ?_)
  · show k.val = _
    dsimp only
    rw [e1]
    omega
  · fin_cases a
    · exact e0.symm
    · show (x 1).val = _ % 128
      rw [e1]
      omega

theorem canon_block {e : EltTy} (f : Fin 4 → Vec F S512x128 e) (w0 w1 w2 w3 : Vec F S512x128 e) (i0 i128 i256 i384)
    (L : List (View.Piece (Elt F) S512x512 e)) (h0 : w0 = f 0) (h1 : w1 = f 1) (h2 : w2 = f 2) (h3 : w3 = f 3) :
    View.canon (⟨Rect.unit (s := S512x512) ![0, 384] ![512, 128] i384, w3⟩ :: ⟨Rect.unit (s := S512x512) ![0, 256] ![512, 128] i256, w2⟩ ::
      ⟨Rect.unit (s := S512x512) ![0, 128] ![512, 128] i128, w1⟩ :: ⟨Rect.unit (s := S512x512) ![0, 0] ![512, 128] i0, w0⟩ :: L) = whole f := by
  funext y
  refine View.canon_append_of_piecesOf (whole f) L [⟨Rect.unit (s := S512x512) ![0, 384] ![512, 128] i384, w3⟩,
    ⟨Rect.unit (s := S512x512) ![0, 256] ![512, 128] i256, w2⟩, ⟨Rect.unit (s := S512x512) ![0, 128] ![512, 128] i128, w1⟩,
    ⟨Rect.unit (s := S512x512) ![0, 0] ![512, 128] i0, w0⟩] ⟨?_, ?_, ?_, ?_, trivial⟩ y (View.cover_of_tiledL _ ![512, 128] (by sl_kernel_rfl) y)
  · exact canon_block_tile f 384 3 rfl i384 w3 h3
  · exact canon_block_tile f 256 2 rfl i256 w2 h2
  · exact canon_block_tile f 128 1 rfl i128 w1 h1
  · exact canon_block_tile f 0 0 rfl i0 w0 h0

theorem canon_row_tile {e : EltTy} (f : Fin 4 → Vec F S1x128 e) (o : ℕ) (k : Fin 4) (h : o = 128 * k.val) (inb) (w : Vec F S1x128 e) (hw : w = f k) (x : S1x128.Idx) :
    w x = wholeRow f ((Rect.unit (s := S1x512) ![0, o] ![1, 128] inb).emb x) := by
  subst h hw
  have h1 : (x 1).val < 128 := (x 1).isLt
  have e1 : (((Rect.unit (s := S1x512) ![0, 128 * k.val] ![1, 128] inb).emb x) 1).val = 128 * k.val + (x 1).val := by
    simp [Rect.emb, Rect.unit]
  have e0 : (((Rect.unit (s := S1x512) ![0, 128 * k.val] ![1, 128] inb).emb x) 0).val = (x 0).val := by simp [Rect.emb, Rect.unit]
  unfold wholeRow
  refine congr (congrArg f (Fin.ext ?_)) (funext fun a => Fin.ext ?_)
  · show k.val = _
    dsimp only
    rw [e1]
    omega
  · fin_cases a
    · exact e0.symm
    · show (x 1).val = _ % 128
      rw [e1]
      omega

theorem canon_row {e : EltTy} (f : Fin 4 → Vec F S1x128 e) (w0 w1 w2 w3 : Vec F S1x128 e) (i0 i128 i256 i384)
    (L : List (View.Piece (Elt F) S1x512 e)) (h0 : w0 = f 0) (h1 : w1 = f 1) (h2 : w2 = f 2) (h3 : w3 = f 3) :
    View.canon (⟨Rect.unit (s := S1x512) ![0, 384] ![1, 128] i384, w3⟩ :: ⟨Rect.unit (s := S1x512) ![0, 256] ![1, 128] i256, w2⟩ ::
      ⟨Rect.unit (s := S1x512) ![0, 128] ![1, 128] i128, w1⟩ :: ⟨Rect.unit (s := S1x512) ![0, 0] ![1, 128] i0, w0⟩ :: L) = wholeRow f := by
  funext y
  refine View.canon_append_of_piecesOf (wholeRow f) L [⟨Rect.unit (s := S1x512) ![0, 384] ![1, 128] i384, w3⟩,
    ⟨Rect.unit (s := S1x512) ![0, 256] ![1, 128] i256, w2⟩, ⟨Rect.unit (s := S1x512) ![0, 128] ![1, 128] i128, w1⟩,
    ⟨Rect.unit (s := S1x512) ![0, 0] ![1, 128] i0, w0⟩] ⟨?_, ?_, ?_, ?_, trivial⟩ y (View.cover_of_tiledL _ ![1, 128] (by sl_kernel_rfl) y)
  · exact canon_row_tile f 384 3 rfl i384 w3 h3
  · exact canon_row_tile f 256 2 rfl i256 w2 h2
  · exact canon_row_tile f 128 1 rfl i128 w1 h1
  · exact canon_row_tile f 0 0 rfl i0 w0 h0

/-- The mean's two partial sums, the deviations times the reciprocal standard deviation, and the gate's part of a tile. -/
def rs (o : Vec F S512x128 .f32) : FVec F S512x128 .f32 := k0_pay12 (k0_pay4 (F := F)) (k0_pay5 (F := F)) o (k0_pay9 o) (k0_pay10 o)
def nrm (o : Vec F S512x128 .f32) : FVec F S512x128 .f32 := k0_pay13 (k0_pay4 (F := F)) (k0_pay5 (F := F)) o (k0_pay9 o) (k0_pay10 o)
def dn (d g : Vec F S512x128 .f32) : FVec F S512x128 .f32 := k0_pay15 d (k0_pay7 g)
/-- The gradients of one tile of two heads. -/
def doT (d o g : Vec F S512x128 .f32) (w : Vec F S1x128 .f32) : FVec F S512x128 .bf16 :=
  k0_pay18 (k0_pay4 (F := F)) (k0_pay5 (F := F)) (k0_pay8 w) (rs o) (nrm o) (dn d g)
def dgT (d o g : Vec F S512x128 .f32) (w : Vec F S1x128 .f32) : FVec F S512x128 .bf16 :=
  k0_pay16 (k0_pay4 (F := F)) (k0_pay5 (F := F)) d o (k0_pay7 g) (k0_pay8 w) (k0_pay9 o) (k0_pay10 o)
def dwT (d o g : Vec F S512x128 .f32) (acc : Vec F S1x128 .f32) : FVec F S1x128 .f32 := k0_pay17 (nrm o) (dn d g) acc

/-- The row sums of a tile's two heads, of all four tiles. -/
def deltaT (d0 d1 d2 d3 : Vec F S512x128 .f32) (y0 y1 y2 y3 : Vec F S512x128 .bf16) : FVec F S8x512 .f32 :=
  have io := iota Kind.tc S512x128 32 [1] iota_S512x128_d1_w32
  have m0 := k0_pay4 (F := F)
  have m1 := k0_pay5 (F := F)
  k0_pay1 m1 (k0_pay70 d3 y3) (k0_pay71 m0 io (k0_pay54 m1 io (k0_pay34 m0 m1 io (k0_pay20 m0 m1 io (k0_pay6 (F := F)) d0 y0) d1 (k0_pay33 y1))
    (k0_pay51 d2 y2) (k0_pay52 io) (k0_pay53 m0 d2 y2)) d3 y3) (k0_pay72 io)

/-- The gradient of the joined mixers' outputs. -/
def dm (x0 : Vec F S512x1024 .f32) (x1 : Vec F S1024x1024 .bf16) : FVec F S512x1024 .f32 := k0_pay3 x0 x1
variable (c : Dev nD) (i : grid0.Coords)
  (a1 : Memref sig .tc .vmem S512x1024 .f32) (h1 : a1.IsWhole)
  (a2 : Memref sig .tc .vmem S1024x1024 .bf16) (h2 : a2.IsWhole)
  (a3 : Memref sig .tc .vmem S512x512 .f32) (h3 : a3.IsWhole)
  (a4 : Memref sig .tc .vmem S512x512 .f32) (h4 : a4.IsWhole)
  (a5 : Memref sig .tc .vmem S512x512 .bf16) (h5 : a5.IsWhole)
  (a6 : Memref sig .tc .vmem S1x512 .f32) (h6 : a6.IsWhole)
  (a7 : Memref sig .tc .vmem S512x512 .bf16) (h7 : a7.IsWhole)
  (a8 : Memref sig .tc .vmem S512x512 .bf16) (h8 : a8.IsWhole)
  (a9 : Memref sig .tc .vmem S512x512 .bf16) (h9 : a9.IsWhole)
  (a10 : Memref sig .tc .vmem S8x512 .f32) (h10 : a10.IsWhole)
  (a11 : Memref sig .tc .vmem S1x512 .f32) (h11 : a11.IsWhole)
  (a12 : Memref sig .tc .vmem S512x1024 .f32) (h12 : a12.IsWhole)
  (x0 : Vec F S512x1024 .f32) (x1 : Vec F S1024x1024 .bf16) (x2 x3 : Vec F S512x512 .f32) (x4 : Vec F S512x512 .bf16)
  (x5 : Vec F S1x512 .f32) (y10 : Vec F S1x512 .f32)

/-- Its tiles: the normed output's and the other mixer's. -/
def lo (x0 : Vec F S512x1024 .f32) (x1 : Vec F S1024x1024 .bf16) (k : Fin 4) : Vec F S512x128 .f32 :=
  ds (dm x0 x1) ⟨k.val, Nat.lt_of_lt_of_le k.isLt (Nat.le_add_right 4 4)⟩
def hi (x0 : Vec F S512x1024 .f32) (x1 : Vec F S1024x1024 .bf16) (k : Fin 4) : Vec F S512x128 .f32 :=
  ds (dm x0 x1) ⟨4 + k.val, Nat.add_lt_add_left k.isLt 4⟩

/-- A tile of the stored product is a tile of the product. -/
theorem read_dm {sp : Space} {o : ℕ} (v : View sig .tc sp S512x1024 .f32) (inb inb') (Z : Vec F S512x1024 .f32) (L : List (View.Piece (Elt F) S512x1024 .f32)) :
    v.readCov (⟨Rect.unit (s := S512x1024) ![0, 0] ![512, 1024] inb, Z⟩ :: L) (Rect.unit (s := S512x1024) ![0, o] ![512, 128] inb').toLoadRect =
      View.ld Z (Rect.unit (s := S512x1024) ![0, o] ![512, 128] inb') :=
  View.readCov_fill v inb Z L _ (fun a => by fin_cases a <;> rfl)
theorem skip_row {sp : Space} (o o' : ℕ) (h : o + 128 ≤ o') (v : View sig .tc sp S1x512 .f32) (inb inb') (w : Vec F S1x128 .f32)
    (L : List (View.Piece (Elt F) S1x512 .f32)) :
    v.readCov (⟨Rect.unit (s := S1x512) ![0, o] ![1, 128] inb, w⟩ :: L) (Rect.unit (s := S1x512) ![0, o'] ![1, 128] inb').toLoadRect =
      v.readCov L (Rect.unit (s := S1x512) ![0, o'] ![1, 128] inb').toLoadRect :=
  View.readCov_skip v _ _ _ _ (decide_eq_true ⟨1, Or.inr (Or.inr (Or.inl (show o + 1 * (128 - 1) < o' by omega)))⟩)
theorem read_zero {sp : Space} {o : ℕ} (v : View sig .tc sp S1x512 .f32) (inb inb') (Z : Vec F S1x512 .f32) (L : List (View.Piece (Elt F) S1x512 .f32)) :
    v.readCov (⟨Rect.unit (s := S1x512) ![0, 0] ![1, 512] inb, Z⟩ :: L) (Rect.unit (s := S1x512) ![0, o] ![1, 128] inb').toLoadRect =
      View.ld Z (Rect.unit (s := S1x512) ![0, o] ![1, 128] inb') :=
  View.readCov_fill v inb Z L _ (fun a => by fin_cases a <;> rfl)

theorem hz : (![0, 0] : Fin 2 → Nat) = fun _ => 0 := funext fun a => by fin_cases a <;> rfl

theorem out_B_6 (hc : ¬cond0_0 i) : out0_B_6 c i a1 h1 a2 h2 a3 h3 a4 h4 a5 h5 a6 h6 a7 h7 a8 h8 a9 h9 a10 h10 a11 h11 a12 h12 hc x0 x1 x2 x3 x4 x5 y10 = whole fun k => doT (lo x0 x1 k) (sl x2 k) (sl x3 k) (ws x5 k) := by
  unfold out0_B_6
  rw [View.read_writes_eq_canon _ _ _ (cover0_B_6 c i a1 h1 a2 h2 a3 h3 a4 h4 a5 h5 a6 h6 a7 h7 a8 h8 a9 h9 a10 h10 a11 h11 a12 h12 hc x0 x1 x2 x3 x4 x5 y10)]
  unfold kernelRun0_B
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact canon_block _ _ _ _ _ _ _ _ _ _ rfl rfl rfl rfl

theorem out_A_6 (hc : cond0_0 i) : out0_A_6 c i a1 h1 a2 h2 a3 h3 a4 h4 a5 h5 a6 h6 a7 h7 a8 h8 a9 h9 a10 h10 a11 h11 a12 h12 hc x0 x1 x2 x3 x4 x5 = whole fun k => doT (lo x0 x1 k) (sl x2 k) (sl x3 k) (ws x5 k) := by
  unfold out0_A_6
  rw [View.read_writes_eq_canon _ _ _ (cover0_A_6 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact canon_block _ _ _ _ _ _ _ _ _ _ rfl rfl rfl rfl

theorem out_B_7 (hc : ¬cond0_0 i) : out0_B_7 c i a1 h1 a2 h2 a3 h3 a4 h4 a5 h5 a6 h6 a7 h7 a8 h8 a9 h9 a10 h10 a11 h11 a12 h12 hc x0 x1 x2 x3 x4 x5 y10 = whole fun k => dgT (lo x0 x1 k) (sl x2 k) (sl x3 k) (ws x5 k) := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 x5 y10)]
  unfold kernelRun0_B
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact canon_block _ _ _ _ _ _ _ _ _ _ rfl rfl rfl rfl

theorem out_A_7 (hc : cond0_0 i) : out0_A_7 c i a1 h1 a2 h2 a3 h3 a4 h4 a5 h5 a6 h6 a7 h7 a8 h8 a9 h9 a10 h10 a11 h11 a12 h12 hc x0 x1 x2 x3 x4 x5 = whole fun k => dgT (lo x0 x1 k) (sl x2 k) (sl x3 k) (ws x5 k) := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact canon_block _ _ _ _ _ _ _ _ _ _ rfl rfl rfl rfl

theorem out_B_8 (hc : ¬cond0_0 i) : out0_B_8 c i a1 h1 a2 h2 a3 h3 a4 h4 a5 h5 a6 h6 a7 h7 a8 h8 a9 h9 a10 h10 a11 h11 a12 h12 hc x0 x1 x2 x3 x4 x5 y10 = whole fun k => truncf .bf16 (hi x0 x1 k) bitsLt_bf16_f32 := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 y10)]
  unfold kernelRun0_B
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact canon_block _ _ _ _ _ _ _ _ _ _ rfl rfl rfl rfl

theorem out_A_8 (hc : cond0_0 i) : out0_A_8 c i a1 h1 a2 h2 a3 h3 a4 h4 a5 h5 a6 h6 a7 h7 a8 h8 a9 h9 a10 h10 a11 h11 a12 h12 hc x0 x1 x2 x3 x4 x5 = whole fun k => truncf .bf16 (hi x0 x1 k) bitsLt_bf16_f32 := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact canon_block _ _ _ _ _ _ _ _ _ _ rfl rfl rfl rfl

theorem out_B_9 (hc : ¬cond0_0 i) : out0_B_9 c i a1 h1 a2 h2 a3 h3 a4 h4 a5 h5 a6 h6 a7 h7 a8 h8 a9 h9 a10 h10 a11 h11 a12 h12 hc x0 x1 x2 x3 x4 x5 y10 = deltaT (hi x0 x1 0) (hi x0 x1 1) (hi x0 x1 2) (hi x0 x1 3) (sl x4 0) (sl x4 1) (sl x4 2) (sl x4 3) := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 y10)]
  unfold kernelRun0_B
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact View.canon_unit_zero hz _ _

theorem out_A_9 (hc : cond0_0 i) : out0_A_9 c i a1 h1 a2 h2 a3 h3 a4 h4 a5 h5 a6 h6 a7 h7 a8 h8 a9 h9 a10 h10 a11 h11 a12 h12 hc x0 x1 x2 x3 x4 x5 = deltaT (hi x0 x1 0) (hi x0 x1 1) (hi x0 x1 2) (hi x0 x1 3) (sl x4 0) (sl x4 1) (sl x4 2) (sl x4 3) := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact View.canon_unit_zero hz _ _

theorem out_B_10 (hc : ¬cond0_0 i) : out0_B_10 c i a1 h1 a2 h2 a3 h3 a4 h4 a5 h5 a6 h6 a7 h7 a8 h8 a9 h9 a10 h10 a11 h11 a12 h12 hc x0 x1 x2 x3 x4 x5 y10 = wholeRow fun k => dwT (lo x0 x1 k) (sl x2 k) (sl x3 k) (ws y10 k) := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 y10)]
  unfold kernelRun0_B
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact canon_row _ _ _ _ _ _ _ _ _ _ rfl rfl rfl rfl

theorem out_A_10 (hc : cond0_0 i) : out0_A_10 c i a1 h1 a2 h2 a3 h3 a4 h4 a5 h5 a6 h6 a7 h7 a8 h8 a9 h9 a10 h10 a11 h11 a12 h12 hc x0 x1 x2 x3 x4 x5 = wholeRow fun k => dwT (lo x0 x1 k) (sl x2 k) (sl x3 k) (ws (k0_pay2 (F := F)) k) := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readAt_eq_ld, h1.read_unread, h2.read_unread, h3.read_unread, h4.read_unread, h5.read_unread, h6.read_unread, h11.read_unread,
    View.ld_unit_zero (S := S512x1024) hz, View.ld_unit_zero (S := S1024x1024) hz]
  simp only [read_dm, read_zero, skip_row 0 128 (by decide), skip_row 0 256 (by decide), skip_row 0 384 (by decide), skip_row 128 256 (by decide),
    skip_row 128 384 (by decide), skip_row 256 384 (by decide)]
  simp only [ld_ds _ 0 0 rfl, ld_ds _ 128 1 rfl, ld_ds _ 256 2 rfl, ld_ds _ 384 3 rfl, ld_ds _ 512 4 rfl, ld_ds _ 640 5 rfl, ld_ds _ 768 6 rfl, ld_ds _ 896 7 rfl,
    ld_sl _ 0 0 rfl, ld_sl _ 128 1 rfl, ld_sl _ 256 2 rfl, ld_sl _ 384 3 rfl, ld_ws _ 0 0 rfl, ld_ws _ 128 1 rfl, ld_ws _ 256 2 rfl, ld_ws _ 384 3 rfl]
  exact canon_row _ _ _ _ _ _ _ _ _ _ rfl rfl rfl rfl

end Cert.MixPoint

end
-- ==== Proof.MixPay.lean ====
/- The values of one grid point of the mixers' backward kernel at finite blocks, as real expressions of `MixMath`: a tile of two heads
   first. -/
module

public import proofs.«01_k».proof.Proof.MixMath
public import proofs.«01_k».proof.Proof.MixPoint

@[expose] public section

set_option maxRecDepth 16384

noncomputable section

namespace Cert.MixPay

open Cert.MixIdeal Cert.MixIdeal.Gen Cert.MixPoint Cert.Reals Cert.ConvMath Cert.MixMath Idealize.ShloMosaic

/-- 1/64. -/
theorem inv64_word : Ideal.ofBits .f32 0x3C800000#32 = (((1 / 64 : ℝ)) : EReal) := by
  simp [Ideal.ofBits, Ideal.ieee, -EReal.coe_mul]; norm_num

theorem lane_lt : ∀ j : Fin 128, BitVec.setWidth 32 (IntOp.cmpi .slt (BitVec.ofNat 32 j.val) (64#32)) = if j.val < 64 then 1#32 else 0#32 := by decide

theorem mask0 (r : Fin 512) (j : Fin 128) : k0_pay4 (F := Ideal) (ix2 r j) = ((m0 j.val : ℝ) : EReal) := by
  pointwise [k0_pay4]
  rw [lane_lt]
  unfold m0
  by_cases h : j.val < 64 <;> simp [h, FloatOps.sitofp]

theorem mask1 (r : Fin 512) (j : Fin 128) : k0_pay5 (F := Ideal) (ix2 r j) = ((1 - m0 j.val : ℝ) : EReal) := by
  pointwise [k0_pay5]
  simp only [mask0, one_real, ← EReal.coe_sub]

variable {d o g : Vec Ideal S512x128 .f32} {w acc : Vec Ideal S1x128 .f32} {O G Y : ℕ → ℕ → ℝ} {W A : ℕ → ℝ}
variable (hd : ∀ r j, d (ix2 r j) = ((Y r.val j.val : ℝ) : EReal)) (ho : ∀ r j, o (ix2 r j) = ((O r.val j.val : ℝ) : EReal))
  (hg : ∀ r j, g (ix2 r j) = ((G r.val j.val : ℝ) : EReal)) (hw : ∀ z j, w (ix2 z j) = ((W j.val : ℝ) : EReal))
  (ha : ∀ z j, acc (ix2 z j) = ((A j.val : ℝ) : EReal))

include hg in
theorem pay14_real (r : Fin 512) (j : Fin 128) : k0_pay14 (F := Ideal) g (ix2 r j) = ((sg (G r.val j.val) : ℝ) : EReal) := by
  pointwise [k0_pay14]
  simp only [hg, half_word, ← EReal.coe_mul, Ideal.tanh_coe, ← EReal.coe_add]
  rfl

include ho in
theorem pay9_real (r : Fin 512) (j : Fin 128) : k0_pay9 (F := Ideal) o (ix2 r j) = (((∑ k : Fin 128, O r.val k.val * m0 k.val) * m0 j.val : ℝ) : EReal) := by
  pointwise [k0_pay9]
  simp only [mask0, ho, ← EReal.coe_mul, sum_real]
include ho in
theorem pay10_real (r : Fin 512) (j : Fin 128) : k0_pay10 (F := Ideal) o (ix2 r j) = ((∑ k : Fin 128, O r.val k.val * (1 - m0 k.val) : ℝ) : EReal) := by
  pointwise [k0_pay10]
  simp only [mask1, ho, ← EReal.coe_mul, sum_real]
include ho in
theorem pay11_real (r : Fin 512) (j : Fin 128) :
    k0_pay11 (F := Ideal) k0_pay5 o (k0_pay9 o) (k0_pay10 o) (ix2 r j) = ((dev (O r.val) j.val : ℝ) : EReal) := by
  pointwise [k0_pay11]
  simp only [pay9_real ho, pay10_real ho, mask1, ho, inv64_word, ← EReal.coe_mul, ← EReal.coe_add, ← EReal.coe_sub]
  rw [hs_lanes (O r.val) j]
  rfl
include ho in
theorem rs_real (r : Fin 512) (j : Fin 128) : rs (F := Ideal) o (ix2 r j) = ((rstd (O r.val) j.val : ℝ) : EReal) := by
  pointwise [rs, k0_pay12]
  simp only [pay11_real ho, mask0, mask1, inv64_word, eps_word, ← EReal.coe_mul, sum_real, ← EReal.coe_add]
  rw [hs_lanes (fun q => dev (O r.val) q * dev (O r.val) q) j]
  exact rsqrt_real _ (var_pos (O r.val) j.val)
include ho in
theorem nrm_real (r : Fin 512) (j : Fin 128) : nrm (F := Ideal) o (ix2 r j) = ((oh (O r.val) j.val : ℝ) : EReal) := by
  have h := rs_real ho r j
  unfold rs at h
  pointwise [nrm, k0_pay13]
  simp only [pay11_real ho, h, ← EReal.coe_mul]
  rfl
include hd hg in
theorem dn_real (r : Fin 512) (j : Fin 128) : MixPoint.dn (F := Ideal) d g (ix2 r j) = ((MixMath.dn (G r.val) (Y r.val) j.val : ℝ) : EReal) := by
  have h : ∀ r j, k0_pay7 (F := Ideal) g (ix2 r j) = ((G r.val j.val : ℝ) : EReal) := fun r j => by
    pointwise [k0_pay7]
    exact hg r j
  pointwise [MixPoint.dn, k0_pay15]
  simp only [pay14_real h, h, hd, ← EReal.coe_mul]
  rfl
include hd ho hg hw in
theorem dgT_real (r : Fin 512) (j : Fin 128) :
    dgT (F := Ideal) d o g w (ix2 r j) = ((dg (O r.val) (G r.val) W (Y r.val) j.val : ℝ) : EReal) := by
  have h : ∀ r j, k0_pay7 (F := Ideal) g (ix2 r j) = ((G r.val j.val : ℝ) : EReal) := fun r j => by
    pointwise [k0_pay7]
    exact hg r j
  have h8 : ∀ z j, k0_pay8 (F := Ideal) w (ix2 z j) = ((W j.val : ℝ) : EReal) := fun z j => by
    pointwise [k0_pay8]
    exact hw z j
  have hn := nrm_real ho r j
  unfold nrm at hn
  pointwise [dgT, k0_pay16]
  simp only [pay14_real h, h, h8, hd, hn, one_real, ← EReal.coe_mul, ← EReal.coe_add, ← EReal.coe_sub]
  rfl
include hd ho hg hw in
theorem doT_real (r : Fin 512) (j : Fin 128) :
    doT (F := Ideal) d o g w (ix2 r j) = ((dO (O r.val) (G r.val) W (Y r.val) j.val : ℝ) : EReal) := by
  have h8 : ∀ z j, k0_pay8 (F := Ideal) w (ix2 z j) = ((W j.val : ℝ) : EReal) := fun z j => by
    pointwise [k0_pay8]
    exact hw z j
  pointwise [doT, k0_pay18]
  simp only [dn_real hd hg, nrm_real ho, rs_real ho, h8, mask0, mask1, inv64_word, ← EReal.coe_mul, sum_real, ← EReal.coe_add, ← EReal.coe_sub]
  rw [hs_lanes (fun q => MixMath.dn (G r.val) (Y r.val) q * W q) j,
    hs_lanes (fun q => MixMath.dn (G r.val) (Y r.val) q * W q * oh (O r.val) q) j]
  rfl
include hd ho hg ha in
theorem dwT_real (z : Fin 1) (j : Fin 128) :
    dwT (F := Ideal) d o g acc (ix2 z j) =
      ((A j.val + ∑ r : Fin 512, MixMath.dn (G r.val) (Y r.val) j.val * oh (O r.val) j.val : ℝ) : EReal) := by
  pointwise [dwT, k0_pay17]
  simp only [dn_real hd hg, nrm_real ho, ha, ← EReal.coe_mul, sum_real, ← EReal.coe_add]

variable {D : Fin 4 → Vec Ideal S512x128 .f32} {V : Fin 4 → Vec Ideal S512x128 .bf16} {T : ℕ → ℕ → ℝ} {U : ℕ → ℕ → EReal}
variable (hD : ∀ k r j, D k (ix2 r j) = ((T r.val (128 * k.val + j.val) : ℝ) : EReal))
  (hV : ∀ k r j, V k (ix2 r j) = U r.val (128 * k.val + j.val))

include hD hV in
theorem deltaT_real (h : Fin 8) (r : Fin 512) :
    deltaT (F := Ideal) (D 0) (D 1) (D 2) (D 3) (V 0) (V 1) (V 2) (V 3) (ix2 h r) =
      ∑ c : Fin 64, (T r.val (64 * h.val + c.val) : EReal) * U r.val (64 * h.val + c.val) := by
  pointwise [deltaT, k0_pay1, k0_pay70, k0_pay71, k0_pay54, k0_pay34, k0_pay20, k0_pay6, k0_pay33, k0_pay51, k0_pay52, k0_pay53, k0_pay72]
  simp only [hD, hV, mask0, mask1]
  have e0 : ∀ k : ℕ, ∑ i : Fin 128, (T r.val (128 * k + i.val) : EReal) * U r.val (128 * k + i.val) * ((m0 i.val : ℝ) : EReal) =
      ∑ c : Fin 64, (T r.val (64 * (2 * k) + c.val) : EReal) * U r.val (64 * (2 * k) + c.val) := fun k => by
    rw [first_half_ext (fun i => (T r.val (128 * k + i) : EReal) * U r.val (128 * k + i)), show 64 * (2 * k) = 128 * k by ring]
  have e1 : ∀ k : ℕ, ∑ i : Fin 128, (T r.val (128 * k + i.val) : EReal) * U r.val (128 * k + i.val) * ((1 - m0 i.val : ℝ) : EReal) =
      ∑ c : Fin 64, (T r.val (64 * (2 * k + 1) + c.val) : EReal) * U r.val (64 * (2 * k + 1) + c.val) := fun k => by
    rw [second_half_ext (fun i => (T r.val (128 * k + i) : EReal) * U r.val (128 * k + i)), show 64 * (2 * k + 1) = 128 * k + 64 by ring]
    simp only [Nat.add_assoc]
  simp only [e0, e1]
  fin_cases h <;> rfl

theorem tile_eq (q : ℕ) : 128 * (q / 128) + q % 128 = q := by omega

variable {x0 : Vec Ideal S512x1024 .f32} {x1 : Vec Ideal S1024x1024 .bf16} {x2 x3 : Vec Ideal S512x512 .f32} {x4 : Vec Ideal S512x512 .bf16}
  {x5 y10 : Vec Ideal S1x512 .f32} {X : Fin 512 → Fin 1024 → ℝ} {M : Fin 1024 → Fin 1024 → ℝ} {P : ℕ → ℕ → ℝ}
variable (h0 : ∀ r k, x0 (ix2 r k) = ((X r k : ℝ) : EReal)) (h1 : ∀ m k, x1 (ix2 m k) = ((M m k : ℝ) : EReal))
  (hP : ∀ (r : Fin 512) (m : Fin 1024), ∑ k, X r k * M m k = P r.val m.val)
  (h2 : ∀ r q, x2 (ix2 r q) = ((O r.val q.val : ℝ) : EReal)) (h3 : ∀ r q, x3 (ix2 r q) = ((G r.val q.val : ℝ) : EReal))
  (h4 : ∀ r q, x4 (ix2 r q) = U r.val q.val) (h5 : ∀ z q, x5 (ix2 z q) = ((W q.val : ℝ) : EReal))
  (h10 : ∀ z q, y10 (ix2 z q) = ((A q.val : ℝ) : EReal))

include h0 h1 hP in
theorem dm_real (r : Fin 512) (m : Fin 1024) : dm (F := Ideal) x0 x1 (ix2 r m) = ((P r.val m.val : ℝ) : EReal) := by
  pointwise [dm, k0_pay3]
  simp only [h0, h1, ← EReal.coe_mul, sum_real]
  exact congrArg _ (hP r m)
include h0 h1 hP in
theorem lo_real (k : Fin 4) (r : Fin 512) (j : Fin 128) : lo (F := Ideal) x0 x1 k (ix2 r j) = ((P r.val (128 * k.val + j.val) : ℝ) : EReal) :=
  dm_real h0 h1 hP r _
include h0 h1 hP in
theorem hi_real (k : Fin 4) (r : Fin 512) (j : Fin 128) : hi (F := Ideal) x0 x1 k (ix2 r j) = ((P r.val (512 + (128 * k.val + j.val)) : ℝ) : EReal) :=
  (dm_real h0 h1 hP r _).trans (congrArg (fun n => ((P r.val n : ℝ) : EReal)) (show 128 * (4 + k.val) + j.val = 512 + (128 * k.val + j.val) by ring))

include h0 h1 hP h2 h3 h5 in
theorem do_real (r : Fin 512) (q : Fin 512) :
    whole (F := Ideal) (e := .bf16) (fun k => doT (F := Ideal) (lo x0 x1 k) (sl x2 k) (sl x3 k) (ws x5 k)) (ix2 r q) =
      ((dO (O r.val) (G r.val) W (P r.val) q.val : ℝ) : EReal) := by
  unfold whole
  refine (doT_real (Y := fun r j => P r (128 * (q.val / 128) + j)) (O := fun r j => O r (128 * (q.val / 128) + j))
    (G := fun r j => G r (128 * (q.val / 128) + j)) (W := fun j => W (128 * (q.val / 128) + j)) (lo_real h0 h1 hP _)
    (fun r j => h2 r _) (fun r j => h3 r _) (fun z j => h5 z _) r _).trans ?_
  exact (congrArg _ (dO_tile (O r.val) (G r.val) W (P r.val) _ _)).trans (congrArg (fun n => ((dO (O r.val) (G r.val) W (P r.val) n : ℝ) : EReal)) (tile_eq q.val))
include h0 h1 hP h2 h3 h5 in
theorem dg_real (r : Fin 512) (q : Fin 512) :
    whole (F := Ideal) (e := .bf16) (fun k => dgT (F := Ideal) (lo x0 x1 k) (sl x2 k) (sl x3 k) (ws x5 k)) (ix2 r q) =
      ((dg (O r.val) (G r.val) W (P r.val) q.val : ℝ) : EReal) := by
  unfold whole
  refine (dgT_real (Y := fun r j => P r (128 * (q.val / 128) + j)) (O := fun r j => O r (128 * (q.val / 128) + j))
    (G := fun r j => G r (128 * (q.val / 128) + j)) (W := fun j => W (128 * (q.val / 128) + j)) (lo_real h0 h1 hP _)
    (fun r j => h2 r _) (fun r j => h3 r _) (fun z j => h5 z _) r _).trans ?_
  exact (congrArg _ (dg_tile (O r.val) (G r.val) W (P r.val) _ _)).trans (congrArg (fun n => ((dg (O r.val) (G r.val) W (P r.val) n : ℝ) : EReal)) (tile_eq q.val))
include h0 h1 hP in
theorem dym_real (r : Fin 512) (q : Fin 512) :
    whole (F := Ideal) (e := .bf16) (fun k => truncf (F := Ideal) .bf16 (hi x0 x1 k) bitsLt_bf16_f32) (ix2 r q) = ((P r.val (512 + q.val) : ℝ) : EReal) := by
  unfold whole
  pointwise
  exact (hi_real h0 h1 hP _ r _).trans (congrArg (fun n => ((P r.val (512 + n) : ℝ) : EReal)) (tile_eq q.val))
include h0 h1 hP h4 in
theorem delta_real (h : Fin 8) (r : Fin 512) :
    deltaT (F := Ideal) (hi x0 x1 0) (hi x0 x1 1) (hi x0 x1 2) (hi x0 x1 3) (sl x4 0) (sl x4 1) (sl x4 2) (sl x4 3) (ix2 h r) =
      ∑ c : Fin 64, (P r.val (512 + (64 * h.val + c.val)) : EReal) * U r.val (64 * h.val + c.val) :=
  deltaT_real (D := hi x0 x1) (V := sl x4) (T := fun r q => P r (512 + q)) (U := U) (hi_real h0 h1 hP) (fun k r j => h4 r _) h r
include h0 h1 hP h2 h3 h10 in
theorem dw_real (z : Fin 1) (q : Fin 512) :
    wholeRow (F := Ideal) (e := .f32) (fun k => dwT (F := Ideal) (lo x0 x1 k) (sl x2 k) (sl x3 k) (ws y10 k)) (ix2 z q) =
      ((A q.val + ∑ r : Fin 512, MixMath.dn (G r.val) (P r.val) q.val * oh (O r.val) q.val : ℝ) : EReal) := by
  unfold wholeRow
  refine (dwT_real (Y := fun r j => P r (128 * (q.val / 128) + j)) (O := fun r j => O r (128 * (q.val / 128) + j))
    (G := fun r j => G r (128 * (q.val / 128) + j)) (A := fun j => A (128 * (q.val / 128) + j)) (lo_real h0 h1 hP _)
    (fun r j => h2 r _) (fun r j => h3 r _) (fun z j => h10 z _) z _).trans ?_
  simp only [oh_tile]
  exact congrArg (fun n => ((A n + ∑ r : Fin 512, MixMath.dn (G r.val) (P r.val) n * oh (O r.val) n : ℝ) : EReal)) (tile_eq q.val)

end Cert.MixPay

end
-- ==== Proof.MixRefReal.lean ====
/- What the reference of the mixers' backward pass computes at finite arguments: each stage, read at an index, is the coercion of a real
   expression of `MixMath`. -/
module

public import proofs.«01_k».proof.Proof.MixMath
public import proofs.«01_k».proof.Proof.Gen.MixRefIdeal.Read
public import Idealize.ShloMosaic.Lib.Pipeline.ValueKit
public import Idealize.ShloMosaic.Lib.KernelVsHost

@[expose] public section

set_option maxRecDepth 16384

noncomputable section

namespace Cert.MixRefReal

open Cert.MixRefIdeal Cert.MixRefIdeal.Gen Cert.MixRefIdeal.Read Cert.Reals Cert.ConvMath Cert.MixMath
open Idealize.ShloMosaic

/-- 64. -/
theorem n64_word : Ideal.ofBits .f32 0x42800000#32 = (((64 : ℝ)) : EReal) := by
  simp [Ideal.ofBits, Ideal.ieee, -EReal.coe_mul]; norm_num

variable (x0 : (⟨S8192x512, .f32⟩ : BufTy).Contents (Elt Ideal)) (x1 : (⟨S8192x2464, .f32⟩ : BufTy).Contents (Elt Ideal))
  (x2 : (⟨S8192x512, .f32⟩ : BufTy).Contents (Elt Ideal)) (x3 : (⟨S512, .f32⟩ : BufTy).Contents (Elt Ideal))
  (x4 : (⟨S1024x1024, .f32⟩ : BufTy).Contents (Elt Ideal)) (x5 : (⟨S8192x1024, .f32⟩ : BufTy).Contents (Elt Ideal))
variable {O G X M : ℕ → ℕ → ℝ} {U : ℕ → ℕ → EReal} {W : ℕ → ℝ}
variable (hO : ∀ s c, x0 (ix2 s c) = ((O s.val c.val : ℝ) : EReal)) (hG : ∀ s c, x1 (ix2 s c) = ((G s.val c.val : ℝ) : EReal))
  (hU : ∀ s c, x2 (ix2 s c) = U s.val c.val) (hW : ∀ i, x3 i = ((W (i 0).val : ℝ) : EReal))
  (hM : ∀ s c, x4 (ix2 s c) = ((M s.val c.val : ℝ) : EReal)) (hX : ∀ s c, x5 (ix2 s c) = ((X s.val c.val : ℝ) : EReal))

theorem hs_head (z : ℕ → ℝ) (h : ℕ) (i : Fin 64) : hs z (64 * h + i.val) = ∑ c : Fin 64, z (64 * h + c.val) := by
  unfold hs
  have e : (64 * h + i.val) / 64 = h := by omega
  rw [e]

theorem dev_head (z : ℕ → ℝ) (h : ℕ) (i : Fin 64) : dev z (64 * h + i.val) = z (64 * h + i.val) - (∑ c : Fin 64, z (64 * h + c.val)) / 64 := by
  unfold dev
  rw [hs_head]
  ring

/-- A head's reciprocal variance, and its deviations' sum. -/
def rh (z : ℕ → ℝ) (h : ℕ) : ℝ := (∑ c : Fin 64, dev z (64 * h + c.val) * dev z (64 * h + c.val)) / 64 + eps
theorem rstd_head (z : ℕ → ℝ) (h : ℕ) (i : Fin 64) : rstd z (64 * h + i.val) = (√(rh z h))⁻¹ := by
  unfold rstd var rh
  rw [hs_head (fun q => dev z q * dev z q), mul_one_div]
theorem rh_pos (z : ℕ → ℝ) (h : ℕ) : 0 < rh z h :=
  add_pos_of_nonneg_of_pos (div_nonneg (Finset.sum_nonneg fun _ _ => mul_self_nonneg _) (by norm_num)) eps_pos
theorem dev_sum (z : ℕ → ℝ) (h : ℕ) : ∑ c : Fin 64, dev z (64 * h + c.val) = 0 := by
  simp only [dev_head, Finset.sum_sub_distrib]
  simp
  ring

/-- The norm's gradient as it comes from the variance, the mean and the deviations by the chain rule. -/
theorem dO_head (z g w y : ℕ → ℝ) (h : ℕ) (i : Fin 64) :
    dO z g w y (64 * h + i.val) = dh g w y (64 * h + i.val) * (√(rh z h))⁻¹
      + (∑ c : Fin 64, dev z (64 * h + c.val) * dh g w y (64 * h + c.val)) * (-(1 / 2) * ((√(rh z h))⁻¹ / rh z h)) / 64 * (2 * dev z (64 * h + i.val))
      + (∑ c : Fin 64, -(dh g w y (64 * h + c.val) * (√(rh z h))⁻¹)
        + ∑ c : Fin 64, -((∑ c : Fin 64, dev z (64 * h + c.val) * dh g w y (64 * h + c.val)) * (-(1 / 2) * ((√(rh z h))⁻¹ / rh z h)) / 64
          * (2 * dev z (64 * h + c.val)))) / 64 := by
  have hv := rh_pos z h
  have e : (rh z h)⁻¹ = (√(rh z h))⁻¹ * (√(rh z h))⁻¹ := by rw [← mul_inv, Real.mul_self_sqrt hv.le]
  unfold dO oh
  rw [hs_head (dh g w y), hs_head (fun q => dh g w y q * (dev z q * rstd z q))]
  simp only [rstd_head]
  have e1 : ∑ c : Fin 64, -(dh g w y (64 * h + c.val) * (√(rh z h))⁻¹) = -((∑ c : Fin 64, dh g w y (64 * h + c.val)) * (√(rh z h))⁻¹) := by
    rw [Finset.sum_neg_distrib, Finset.sum_mul]
  have e2 : ∀ a : ℝ, ∑ c : Fin 64, -(a * (2 * dev z (64 * h + c.val))) = 0 := fun a => by
    rw [Finset.sum_neg_distrib, ← Finset.mul_sum, ← Finset.mul_sum, dev_sum, mul_zero, mul_zero, neg_zero]
  have e3 : ∑ c : Fin 64, dh g w y (64 * h + c.val) * (dev z (64 * h + c.val) * (√(rh z h))⁻¹) =
      (∑ c : Fin 64, dev z (64 * h + c.val) * dh g w y (64 * h + c.val)) * (√(rh z h))⁻¹ := by
    rw [Finset.sum_mul]
    exact Finset.sum_congr rfl fun c _ => by ring
  rw [e1, e2, e3, div_eq_mul_inv _ (rh z h), e]
  ring

include hO in
theorem v1_real (s : Fin 8192) (h : Fin 8) (i : Fin 64) : val_main_v1 (F := Ideal) x0 (ix3 s h i) = ((O s.val (64 * h.val + i.val) : ℝ) : EReal) := by
  pointwise [val_main_v1]
  exact (hO _ _).trans (congrArg (fun n => ((O s.val n : ℝ) : EReal)) (show h.val * 64 + i.val = 64 * h.val + i.val by ring))

include hO in
theorem v7_real (s : Fin 8192) (h : Fin 8) (i : Fin 64) : val_main_v7 (F := Ideal) x0 (ix3 s h i) = ((dev (O s.val) (64 * h.val + i.val) : ℝ) : EReal) := by
  pointwise [val_main_v7, val_main_v6, val_main_v5, val_main_v4, val_main_v3, val_main_v2, val_main_cst, val_main_cst_0]
  simp only [v1_real x0 hO, n64_word, sum_real]
  rw [div_real _ _ (by norm_num), ← EReal.coe_sub, dev_head]

include hO in
theorem v16_real (s : Fin 8192) (h : Fin 8) (i : Fin 64) : val_main_v16 (F := Ideal) x0 (ix3 s h i) = ((dev (O s.val) (64 * h.val + i.val) : ℝ) : EReal) :=
  v7_real x0 hO s h i

include hO in
theorem v18_real (s : Fin 8192) (h : Fin 8) (z : Fin 1) : val_main_v18 (F := Ideal) x0 (ix3 s h z) = ((rh (O s.val) h.val : ℝ) : EReal) := by
  pointwise [val_main_v18, val_main_v17, val_main_v14, val_main_v13, val_main_v12, val_main_v11, val_main_v8, val_main_cst_2, val_main_cst_3, val_main_cst_4]
  simp only [v7_real x0 hO, n64_word, eps_word, ← EReal.coe_mul, sum_real]
  rw [div_real _ _ (by norm_num), ← EReal.coe_add]
  rfl

include hO in
theorem v19_real (s : Fin 8192) (h : Fin 8) (z : Fin 1) : val_main_v19 (F := Ideal) x0 (ix3 s h z) = (((√(rh (O s.val) h.val))⁻¹ : ℝ) : EReal) := by
  pointwise [val_main_v19]
  rw [v18_real x0 hO, rsqrt_real _ (rh_pos _ _)]

include hO in
theorem v22_real (s : Fin 8192) (h : Fin 8) (z : Fin 1) :
    val_main_v22 (F := Ideal) x0 (ix3 s h z) = ((-(1 / 2) * ((√(rh (O s.val) h.val))⁻¹ / rh (O s.val) h.val) : ℝ) : EReal) := by
  pointwise [val_main_v22, val_main_v21, val_main_v20, val_main_cst_5]
  rw [v18_real x0 hO, v19_real x0 hO, div_real _ _ (rh_pos _ _).ne', neg_half_word, ← EReal.coe_mul]

theorem split_eq (q : ℕ) : 64 * (q / 64) + q % 64 = q := by omega

include hO in
theorem v25_real (s : Fin 8192) (q : Fin 512) : val_main_v25 (F := Ideal) x0 (ix2 s q) = ((oh (O s.val) q.val : ℝ) : EReal) := by
  have h : ∀ (h : Fin 8) (i : Fin 64), val_main_v24 (F := Ideal) x0 (ix3 s h i) = ((oh (O s.val) (64 * h.val + i.val) : ℝ) : EReal) := fun h i => by
    pointwise [val_main_v24, val_main_v23]
    rw [v16_real x0 hO, v19_real x0 hO, ← EReal.coe_mul, oh, rstd_head]
  pointwise [val_main_v25]
  exact (h _ _).trans (congrArg (fun n => ((oh (O s.val) n : ℝ) : EReal)) (split_eq q.val))

include hG in
theorem v0_real (s : Fin 8192) (q : Fin 512) : val_main_v0 (F := Ideal) x1 (ix2 s q) = ((G s.val (1536 + q.val) : ℝ) : EReal) := by
  pointwise [val_main_v0]
  exact hG _ _

include hG in
theorem sigmoid_real (s : Fin 8192) (q : Fin 512) : val_main_v29_2 (F := Ideal) x1 (ix2 s q) = ((sg (G s.val (1536 + q.val)) : ℝ) : EReal) := by
  pointwise [val_main_v29_2, val_main_call0_v4, val_main_call0_v3, val_main_call0_v2, val_main_call0_v1, val_main_call0_v0, val_main_call0_cst,
    val_main_call0_cst_0]
  simp only [v0_real x1 hG]
  rw [← EReal.coe_neg, Ideal.exp_coe, one_real, ← EReal.coe_add, div_real _ _ (by have := Real.exp_pos (-G s.val (1536 + q.val)); linarith), sg_eq]

variable (X M) in
/-- The gradient of the joined mixers' outputs. -/
def P (s q : ℕ) : ℝ := ∑ k : Fin 1024, X s k.val * M q k.val

include hM hX in
theorem v33_real (s : Fin 8192) (q : Fin 1024) : val_main_v33 (F := Ideal) x4 x5 (ix2 s q) = ((P X M s.val q.val : ℝ) : EReal) := by
  pointwise [val_main_v33]
  simp only [hM, hX, ← EReal.coe_mul, sum_real]
  rfl
include hM hX in
theorem v34_real (s : Fin 8192) (q : Fin 512) : val_main_v34 (F := Ideal) x4 x5 (ix2 s q) = ((P X M s.val q.val : ℝ) : EReal) := by
  pointwise [val_main_v34]
  exact v33_real x4 x5 hM hX _ _
include hM hX in
theorem v35_real (s : Fin 8192) (q : Fin 512) : val_main_v35 (F := Ideal) x4 x5 (ix2 s q) = ((P X M s.val (512 + q.val) : ℝ) : EReal) := by
  pointwise [val_main_v35]
  exact v33_real x4 x5 hM hX _ _

include hG hM hX in
theorem v36_real (s : Fin 8192) (q : Fin 512) :
    val_main_v36 (F := Ideal) x1 x4 x5 (ix2 s q) = ((dn (fun q => G s.val (1536 + q)) (P X M s.val) q.val : ℝ) : EReal) := by
  pointwise [val_main_v36, val_main_v29_0]
  simp only [v0_real x1 hG, sigmoid_real x1 hG, v34_real x4 x5 hM hX, ← EReal.coe_mul]
  refine congrArg _ ?_
  unfold dn
  ring

include hG hM hX hW in
theorem v45_real (s : Fin 8192) (h : Fin 8) (i : Fin 64) :
    val_main_v45 (F := Ideal) x1 x3 x4 x5 (ix3 s h i) = ((dh (fun q => G s.val (1536 + q)) W (P X M s.val) (64 * h.val + i.val) : ℝ) : EReal) := by
  have e : ∀ q : Fin 512, val_main_v43 (F := Ideal) x1 x3 x4 x5 (ix2 s q) = ((dh (fun q => G s.val (1536 + q)) W (P X M s.val) q.val : ℝ) : EReal) := fun q => by
    pointwise [val_main_v43, val_main_v42, val_main_v26]
    simp only [v36_real x1 x4 x5 hG hM hX, hW, ← EReal.coe_mul]
    rfl
  pointwise [val_main_v45]
  exact (e _).trans (congrArg (fun n => ((dh (fun q => G s.val (1536 + q)) W (P X M s.val) n : ℝ) : EReal)) (show h.val * 64 + i.val = 64 * h.val + i.val by ring))

include hO hG hM hX hW

theorem v69_real (s : Fin 8192) (h : Fin 8) (i : Fin 64) : val_main_v69 (F := Ideal) x0 x1 x3 x4 x5 (ix3 s h i) =
    ((dO (O s.val) (fun q => G s.val (1536 + q)) W (P X M s.val) (64 * h.val + i.val) : ℝ) : EReal) := by
  have e50 : ∀ i : Fin 64, val_main_v50 (F := Ideal) x0 x1 x3 x4 x5 (ix3 s h i) =
      ((dh (fun q => G s.val (1536 + q)) W (P X M s.val) (64 * h.val + i.val) * (√(rh (O s.val) h.val))⁻¹ : ℝ) : EReal) := fun i => by
    pointwise [val_main_v50, val_main_v49]
    rw [v45_real x1 x3 x4 x5 hG hW hM hX, v19_real x0 hO, ← EReal.coe_mul]
  have e56 : ∀ z : Fin 1, val_main_v56 (F := Ideal) x0 x1 x3 x4 x5 (ix3 s h z) =
      (((∑ c : Fin 64, dev (O s.val) (64 * h.val + c.val) * dh (fun q => G s.val (1536 + q)) W (P X M s.val) (64 * h.val + c.val))
        * (-(1 / 2) * ((√(rh (O s.val) h.val))⁻¹ / rh (O s.val) h.val)) / 64 : ℝ) : EReal) := fun z => by
    pointwise [val_main_v56, val_main_v55, val_main_v51, val_main_v48, val_main_v47, val_main_v46, val_main_cst_8, val_main_cst_10]
    simp only [v45_real x1 x3 x4 x5 hG hW hM hX, v16_real x0 hO, v22_real x0 hO, n64_word, ← EReal.coe_mul, sum_real]
    rw [div_real _ _ (by norm_num)]
  have e59 : ∀ i : Fin 64, val_main_v59 (F := Ideal) x0 x1 x3 x4 x5 (ix3 s h i) =
      (((∑ c : Fin 64, dev (O s.val) (64 * h.val + c.val) * dh (fun q => G s.val (1536 + q)) W (P X M s.val) (64 * h.val + c.val))
        * (-(1 / 2) * ((√(rh (O s.val) h.val))⁻¹ / rh (O s.val) h.val)) / 64 * (2 * dev (O s.val) (64 * h.val + i.val)) : ℝ) : EReal) := fun i => by
    pointwise [val_main_v59, val_main_v58, val_main_v57, val_main_v10, val_main_v9, val_main_cst_1, val_main_cst_11]
    simp only [e56, v7_real x0 hO, two_word, ← EReal.coe_mul, sum_real, Finset.univ_unique, Finset.sum_singleton]
  pointwise [val_main_v69, val_main_v68, val_main_v67, val_main_v66, val_main_v65, val_main_v64, val_main_v63, val_main_v62, val_main_v61, val_main_v60,
    val_main_v54, val_main_v53, val_main_v52, val_main_cst_9, val_main_cst_12, val_main_cst_13, val_main_cst_14]
  simp only [e50, e59, n64_word, ← EReal.coe_neg, sum_real, ← EReal.coe_add, Finset.univ_unique, Finset.sum_singleton]
  rw [div_real _ _ (by norm_num), ← EReal.coe_add, dO_head]

/-- The gradient of the norm's input. -/
theorem v75_real (s : Fin 8192) (q : Fin 512) : val_main_v75 (F := Ideal) x0 x1 x3 x4 x5 (ix2 s q) =
    ((dO (O s.val) (fun q => G s.val (1536 + q)) W (P X M s.val) q.val : ℝ) : EReal) := by
  pointwise [val_main_v75, val_main_v70]
  exact (v69_real x0 x1 x3 x4 x5 hO hG hW hM hX _ _ _).trans
    (congrArg (fun n => ((dO (O s.val) (fun q => G s.val (1536 + q)) W (P X M s.val) n : ℝ) : EReal)) (split_eq q.val))

/-- The gradient of the gate. -/
theorem v76_real (s : Fin 8192) (q : Fin 512) : val_main_v76 (F := Ideal) x0 x1 x3 x4 x5 (ix2 s q) =
    ((dg (O s.val) (fun q => G s.val (1536 + q)) W (P X M s.val) q.val : ℝ) : EReal) := by
  pointwise [val_main_v76, val_main_v38, val_main_call1_v2, val_main_call1_v1, val_main_call1_v0, val_main_v29_1, val_main_call0_v7, val_main_call0_v6,
    val_main_call0_cst_1, val_main_v37, val_main_v28, val_main_v27, val_main_v26]
  have hw : x3 (ix1 q) = ((W q.val : ℝ) : EReal) := hW _
  simp only [v0_real x1 hG, sigmoid_real x1 hG, v34_real x4 x5 hM hX, v25_real x0 hO, hw, one_real, ← EReal.coe_mul, ← EReal.coe_add, ← EReal.coe_sub]
  refine congrArg _ ?_
  unfold dg
  ring

omit hW in
/-- The gradient of the norm's weight. -/
theorem v78_real (z : Fin 1) (q : Fin 512) : val_main_v78 (F := Ideal) x0 x1 x4 x5 (ix2 z q) =
    ((∑ s : Fin 8192, dn (fun q => G s.val (1536 + q)) (P X M s.val) q.val * oh (O s.val) q.val : ℝ) : EReal) := by
  pointwise [val_main_v78, val_main_v44, val_main_v41, val_main_v40, val_main_v39, val_main_cst_6, val_main_cst_7]
  simp only [v36_real x1 x4 x5 hG hM hX, v25_real x0 hO, ← EReal.coe_mul, sum_real, Finset.univ_unique, Finset.sum_singleton]
  exact congrArg _ (Finset.sum_congr rfl fun s _ => mul_comm _ _)

omit hO hG hW in
/-- The gradient of the other mixer's output. -/
theorem v77_real (s : Fin 8192) (q : Fin 512) : val_main_v77 (F := Ideal) x4 x5 (ix2 s q) = ((P X M s.val (512 + q.val) : ℝ) : EReal) := by
  pointwise [val_main_v77]
  exact v35_real x4 x5 hM hX _ _

omit hO hG hW in
include hU in
/-- The row sums of each head of that gradient times the output. -/
theorem v74_real (h : Fin 8) (s : Fin 8192) : val_main_v74 (F := Ideal) x2 x4 x5 (ix2 h s) =
    ∑ c : Fin 64, (P X M s.val (512 + (64 * h.val + c.val)) : EReal) * U s.val (64 * h.val + c.val) := by
  have e : ∀ i : Fin 64, val_main_v72 (F := Ideal) x2 x4 x5 (ix3 s h i) =
      (P X M s.val (512 + (64 * h.val + i.val)) : EReal) * U s.val (64 * h.val + i.val) := fun i => by
    pointwise [val_main_v72, val_main_v71]
    simp only [v35_real x4 x5 hM hX, hU]
    exact congrArg (fun n => (P X M s.val (512 + n) : EReal) * U s.val n) (show h.val * 64 + i.val = 64 * h.val + i.val by ring)
  pointwise [val_main_v74, val_main_v73, val_main_cst_15]
  simp only [e]

end Cert.MixRefReal

end
-- ==== Proof.MixArrays.lean ====
/- The five result arrays of the mixers' backward kernel at finite arguments: the sixteen row blocks one after the other, and their parts
   of the norm weight's gradient, added up. -/
module

public import proofs.«01_k».proof.Proof.MixPay
public import proofs.«01_k».proof.Proof.MixRefReal
public import Idealize.ShloMosaic.Lib.Pipeline.ValueKit
public import Idealize.ShloMosaic.Lib.StableHlo.ReadAt

@[expose] public section

set_option maxRecDepth 16384

noncomputable section

namespace Cert.MixArrays

open Cert.MixIdeal Cert.MixIdeal.Gen Cert.MixPoint Cert.MixPay Cert.Reals Cert.MixMath Cert.MixRefReal
open Idealize.ShloMosaic Idealize.ShloMosaic.TcCoe Idealize.SL.Sem

variable (m : (ℓ : Loc nD τ sig) → Buf (Elt Ideal) ℓ) (c : Dev nD)

/-- Row `r` of row block `t`. -/
def row (t : ℕ) (r : Fin 512) : Fin 8192 := ⟨(512 * t + r) % 8192, Nat.mod_lt _ (by norm_num)⟩

theorem row_val {t : ℕ} (h : t < 16) (r : Fin 512) : (row t r : ℕ) = 512 * t + r := by
  show (512 * t + (r : ℕ)) % 8192 = _
  have := r.isLt
  omega

theorem V_w (j d : Fin 1024) : V m c main_v0 (ix2 j d) = m ((c : Thread nD τ).loc main_arg4) (ix2 j d) := by
  unfold V; after_reads_at
theorem V_y (s : Fin 8192) (q : Fin 512) : V m c main_v6 (ix2 s q) = m ((c : Thread nD τ).loc main_arg2) (ix2 s q) := by
  unfold V; after_reads_at
theorem V_n (z : Fin 1) (q : Fin 512) : V m c main_v7 (ix2 z q) = m ((c : Thread nD τ).loc main_arg3) (ix1 q) := by
  unfold V; after_reads_at
theorem V_g (s : Fin 8192) (j : Fin 2560) (h : j.val < 2432) :
    V m c main_v5 (ix2 s j) = m ((c : Thread nD τ).loc main_arg1) (ix2 s ⟨j.val, by omega⟩) := by
  unfold V; after_reads_at
  refine (dif_pos h).trans ?_
  after_reads_at

/-- The block indices of the eleven windows at every point. -/
theorem idx : ∀ t : Fin cfg0.N, win0_0.index t = ![t.val, 0] ∧ win0_1.index t = ![0, 0] ∧ win0_2.index t = ![t.val, 0] ∧ win0_3.index t = ![t.val, 3]
    ∧ win0_4.index t = ![t.val, 0] ∧ win0_5.index t = ![0, 0] ∧ win0_6.index t = ![t.val, 0] ∧ win0_7.index t = ![t.val, 0] ∧ win0_8.index t = ![t.val, 0]
    ∧ win0_9.index t = ![0, t.val] ∧ win0_10.index t = ![0, 0] ∧ t.val < 16 :=
  (by decide +kernel : ∀ t : Fin grid0.N, _)

theorem lt16 (t : Fin cfg0.N) : t.val < 16 := (idx t).2.2.2.2.2.2.2.2.2.2.2

variable {O G X M : ℕ → ℕ → ℝ} {U : ℕ → ℕ → EReal} {W : ℕ → ℝ}
variable (hO : ∀ s q, m ((c : Thread nD τ).loc main_arg0) (ix2 s q) = ((O s.val q.val : ℝ) : EReal))
  (hG : ∀ s q, m ((c : Thread nD τ).loc main_arg1) (ix2 s q) = ((G s.val q.val : ℝ) : EReal))
  (hU : ∀ s q, m ((c : Thread nD τ).loc main_arg2) (ix2 s q) = U s.val q.val)
  (hW : ∀ i, m ((c : Thread nD τ).loc main_arg3) i = ((W (i 0).val : ℝ) : EReal))
  (hM : ∀ j d, m ((c : Thread nD τ).loc main_arg4) (ix2 j d) = ((M j.val d.val : ℝ) : EReal))
  (hX : ∀ s d, m ((c : Thread nD τ).loc main_arg5) (ix2 s d) = ((X s.val d.val : ℝ) : EReal))

include hX in
theorem blk0 (t : Fin cfg0.N) (r : Fin 512) (d : Fin 1024) :
    (iblk m c 0 t : Vec Ideal S512x1024 .f32) (ix2 r d) = ((X (512 * t.val + r.val) d.val : ℝ) : EReal) := by
  have e := row_val (lt16 t) r
  blk_simp [iblk]
  refine (congrArg (V m c main_arg5) (?_ : _ = ix2 (row t r) d)).trans ((congrFun (V_main_arg5 m c) _).trans ((hX _ _).trans (by rw [e])))
  blk_ext [idx t]
  all_goals omega

include hM in
theorem blk1 (t : Fin cfg0.N) (j d : Fin 1024) : (iblk m c 1 t : Vec Ideal S1024x1024 .bf16) (ix2 j d) = ((M j.val d.val : ℝ) : EReal) := by
  blk_simp [iblk]
  refine (congrArg (V m c main_v0) (?_ : _ = ix2 j d)).trans ((V_w m c _ _).trans (hM _ _))
  blk_ext [idx t]

include hO in
theorem blk2 (t : Fin cfg0.N) (r q : Fin 512) :
    (iblk m c 2 t : Vec Ideal S512x512 .f32) (ix2 r q) = ((O (512 * t.val + r.val) q.val : ℝ) : EReal) := by
  have e := row_val (lt16 t) r
  blk_simp [iblk]
  refine (congrArg (V m c main_arg0) (?_ : _ = ix2 (row t r) q)).trans ((congrFun (V_main_arg0 m c) _).trans ((hO _ _).trans (by rw [e])))
  blk_ext [idx t]
  all_goals omega

include hG in
theorem blk3 (t : Fin cfg0.N) (r q : Fin 512) :
    (iblk m c 3 t : Vec Ideal S512x512 .f32) (ix2 r q) = ((G (512 * t.val + r.val) (1536 + q.val) : ℝ) : EReal) := by
  have e := row_val (lt16 t) r
  have hq := q.isLt
  blk_simp [iblk]
  refine (congrArg (V m c main_v5) (?_ : _ = ix2 (row t r) (⟨1536 + q.val, by omega⟩ : Fin 2560))).trans
    ((V_g m c _ _ (by show 1536 + q.val < 2432; omega)).trans ((hG _ _).trans (by rw [e])))
  blk_ext [idx t]
  all_goals omega

include hU in
theorem blk4 (t : Fin cfg0.N) (r q : Fin 512) :
    (iblk m c 4 t : Vec Ideal S512x512 .bf16) (ix2 r q) = U (512 * t.val + r.val) q.val := by
  have e := row_val (lt16 t) r
  blk_simp [iblk]
  refine (congrArg (V m c main_v6) (?_ : _ = ix2 (row t r) q)).trans ((V_y m c _ _).trans ((hU _ _).trans (by rw [e])))
  blk_ext [idx t]
  all_goals omega

include hW in
theorem blk5 (t : Fin cfg0.N) (z : Fin 1) (q : Fin 512) : (iblk m c 5 t : Vec Ideal S1x512 .f32) (ix2 z q) = ((W q.val : ℝ) : EReal) := by
  blk_simp [iblk]
  rw [show (win0_5.blk t).view.emb (ix2 z q) = ix2 z q by blk_ext [idx t]]
  exact (V_n m c z q).trans (hW _)

variable (O G X M) in
/-- The part of the weight's gradient of one row, and of row block `t`. -/
def dwRow (s q : ℕ) : ℝ := dn (fun q => G s (1536 + q)) (P X M s) q * oh (O s) q
variable (O G X M) in
def dwAt (t q : ℕ) : ℝ := ∑ r : Fin 512, dwRow O G X M (512 * t + r.val) q

theorem dw_sum (q : ℕ) : ∑ t ∈ Finset.range 16, dwAt O G X M t q = ∑ s : Fin 8192, dwRow O G X M s.val q := by
  have h := sum_blocks (b := 512) 16 (by norm_num) (fun s : Fin 8192 => dwRow O G X M s.val q) row fun t h r => row_val h r
  rw [← h]
  exact Finset.sum_congr rfl fun t ht => Finset.sum_congr rfl fun r _ => by rw [row_val (Finset.mem_range.mp ht) r]

theorem prod_row (t : ℕ) (r : Fin 512) (j : Fin 1024) : ∑ k : Fin 1024, X (512 * t + r.val) k.val * M j.val k.val = P X M (512 * t + r.val) j.val := rfl

include hX hM

theorem dym_rows (t : Fin cfg0.N) (r q : Fin 512) :
    (outsAt0 m c t.val t.isLt).2.2.1 (ix2 r q) = ((P X M (512 * t.val + r.val) (512 + q.val) : ℝ) : EReal) := by
  have h := dym_real (P := fun r => P X M (512 * t.val + r)) (blk0 m c hX t) (blk1 m c hM t) (prod_row t.val) r q
  by_cases h0 : t.val % 16 = 0
  · rw [outsAt0_A m c t h0]; dsimp only; rw [out_A_8]; exact h
  · rw [outsAt0_B m c t h0]; dsimp only; rw [out_B_8]; exact h

include hU in
theorem delta_rows (t : Fin cfg0.N) (h : Fin 8) (r : Fin 512) : (outsAt0 m c t.val t.isLt).2.2.2.1 (ix2 h r) =
    ∑ k : Fin 64, (P X M (512 * t.val + r.val) (512 + (64 * h.val + k.val)) : EReal) * U (512 * t.val + r.val) (64 * h.val + k.val) := by
  have h := delta_real (P := fun r => P X M (512 * t.val + r)) (U := fun r => U (512 * t.val + r)) (blk0 m c hX t) (blk1 m c hM t) (prod_row t.val)
    (blk4 m c hU t) h r
  by_cases h0 : t.val % 16 = 0
  · rw [outsAt0_A m c t h0]; dsimp only; rw [out_A_9]; exact h
  · rw [outsAt0_B m c t h0]; dsimp only; rw [out_B_9]; exact h

include hO hG

theorem dw_step (t : Fin cfg0.N) (acc : Vec Ideal S1x512 .f32) (A : ℕ → ℝ) (ha : ∀ z q, acc (ix2 z q) = ((A q.val : ℝ) : EReal)) (z : Fin 1) (q : Fin 512) :
    wholeRow (F := Ideal) (e := .f32) (fun k => dwT (F := Ideal) (lo (iblk m c 0 t) (iblk m c 1 t) k) (sl (iblk m c 2 t) k) (sl (iblk m c 3 t) k) (ws acc k)) (ix2 z q)
      = ((A q.val + dwAt O G X M t.val q.val : ℝ) : EReal) :=
  dw_real (P := fun r => P X M (512 * t.val + r)) (O := fun r => O (512 * t.val + r)) (G := fun r q => G (512 * t.val + r) (1536 + q))
    (blk0 m c hX t) (blk1 m c hM t) (prod_row t.val) (blk2 m c hO t) (blk3 m c hG t) ha z q

/-- The accumulator after point `n`: the parts of the points so far, added up. -/
theorem acc_real : ∀ (n : ℕ) (h : n < cfg0.N), ∀ z q,
    (outsAt0 m c n h).2.2.2.2 (ix2 z q) = ((∑ t ∈ Finset.range (n + 1), dwAt O G X M t q.val : ℝ) : EReal)
  | 0, h => by
    rw [outsAt0_A m c ⟨0, h⟩ rfl]
    dsimp only
    rw [out_A_10]
    intro z q
    rw [dw_step m c hO hG hM hX ⟨0, h⟩ _ (fun _ => 0) (fun _ _ => zero_word), Finset.sum_range_one, zero_add]
  | n + 1, h => by
    have hB' : ¬(⟨n + 1, h⟩ : Fin cfg0.N).val % 16 = 0 := by
      have : n + 1 < 16 := lt16 ⟨n + 1, h⟩
      dsimp only
      omega
    have i := acc_real n (Nat.lt_of_succ_lt h)
    rw [outsAt0_B m c ⟨n + 1, h⟩ hB']
    dsimp only
    rw [out_B_10]
    intro z q
    refine (dw_step m c hO hG hM hX ⟨n + 1, h⟩ _ (fun q => ∑ t ∈ Finset.range (n + 1), dwAt O G X M t q) i z q).trans ?_
    rw [Finset.sum_range_succ _ (n + 1)]

include hW

theorem do_rows (t : Fin cfg0.N) (r q : Fin 512) : (outsAt0 m c t.val t.isLt).1 (ix2 r q) =
    ((dO (O (512 * t.val + r.val)) (fun q => G (512 * t.val + r.val) (1536 + q)) W (P X M (512 * t.val + r.val)) q.val : ℝ) : EReal) := by
  have h := do_real (P := fun r => P X M (512 * t.val + r)) (O := fun r => O (512 * t.val + r)) (G := fun r q => G (512 * t.val + r) (1536 + q))
    (blk0 m c hX t) (blk1 m c hM t) (prod_row t.val) (blk2 m c hO t) (blk3 m c hG t) (blk5 m c hW t) r q
  by_cases h0 : t.val % 16 = 0
  · rw [outsAt0_A m c t h0]; dsimp only; rw [out_A_6]; exact h
  · rw [outsAt0_B m c t h0]; dsimp only; rw [out_B_6]; exact h

theorem dg_rows (t : Fin cfg0.N) (r q : Fin 512) : (outsAt0 m c t.val t.isLt).2.1 (ix2 r q) =
    ((dg (O (512 * t.val + r.val)) (fun q => G (512 * t.val + r.val) (1536 + q)) W (P X M (512 * t.val + r.val)) q.val : ℝ) : EReal) := by
  have h := dg_real (P := fun r => P X M (512 * t.val + r)) (O := fun r => O (512 * t.val + r)) (G := fun r q => G (512 * t.val + r) (1536 + q))
    (blk0 m c hX t) (blk1 m c hM t) (prod_row t.val) (blk2 m c hO t) (blk3 m c hG t) (blk5 m c hW t) r q
  by_cases h0 : t.val % 16 = 0
  · rw [outsAt0_A m c t h0]; dsimp only; rw [out_A_7]; exact h
  · rw [outsAt0_B m c t h0]; dsimp only; rw [out_B_7]; exact h

theorem final6 : (dats m 0 c).arrAt 6 cfg0.N =
    (fun i => ((dO (O (i 0).val) (fun q => G (i 0).val (1536 + q)) W (P X M (i 0).val) (i 1).val : ℝ) : EReal) : Vec Ideal S8192x512 .bf16) := by
  refine (dats m 0 c).arrAt_eq_of_covers 6 _ (by decide +kernel) fun t hf y => ?_
  blk_simp
  rw [after0_6]
  refine (congrArg (outsAt0 m c t.val t.isLt).1 (eq_ix2 y)).trans ((do_rows m c hO hG hW hM hX t _ _).trans ?_)
  refine congrArg _ (congrArg₂ (fun s q => dO (O s) (fun q => G s (1536 + q)) W (P X M s) q) ?_ ?_)
  · blk_simp [idx t]; omega
  · blk_simp [idx t]

theorem final7 : (dats m 0 c).arrAt 7 cfg0.N =
    (fun i => ((dg (O (i 0).val) (fun q => G (i 0).val (1536 + q)) W (P X M (i 0).val) (i 1).val : ℝ) : EReal) : Vec Ideal S8192x512 .bf16) := by
  refine (dats m 0 c).arrAt_eq_of_covers 7 _ (by decide +kernel) fun t hf y => ?_
  blk_simp
  rw [after0_7]
  refine (congrArg (outsAt0 m c t.val t.isLt).2.1 (eq_ix2 y)).trans ((dg_rows m c hO hG hW hM hX t _ _).trans ?_)
  refine congrArg _ (congrArg₂ (fun s q => dg (O s) (fun q => G s (1536 + q)) W (P X M s) q) ?_ ?_)
  · blk_simp [idx t]; omega
  · blk_simp [idx t]

omit hO hG hW in
theorem final8 : (dats m 0 c).arrAt 8 cfg0.N = (fun i => ((P X M (i 0).val (512 + (i 1).val) : ℝ) : EReal) : Vec Ideal S8192x512 .bf16) := by
  refine (dats m 0 c).arrAt_eq_of_covers 8 _ (by decide +kernel) fun t hf y => ?_
  blk_simp
  rw [after0_8]
  refine (congrArg (outsAt0 m c t.val t.isLt).2.2.1 (eq_ix2 y)).trans ((dym_rows m c hM hX t _ _).trans ?_)
  refine congrArg _ (congrArg₂ (fun s q => P X M s (512 + q)) ?_ ?_)
  · blk_simp [idx t]; omega
  · blk_simp [idx t]

omit hO hG hW in
include hU in
theorem final9 : (dats m 0 c).arrAt 9 cfg0.N =
    (fun i => ∑ k : Fin 64, (P X M (i 1).val (512 + (64 * (i 0).val + k.val)) : EReal) * U (i 1).val (64 * (i 0).val + k.val) : Vec Ideal S8x8192 .f32) := by
  refine (dats m 0 c).arrAt_eq_of_covers 9 _ (by decide +kernel) fun t hf y => ?_
  blk_simp
  rw [after0_9]
  refine (congrArg (outsAt0 m c t.val t.isLt).2.2.2.1 (eq_ix2 y)).trans ((delta_rows m c hU hM hX t _ _).trans ?_)
  refine congrArg₂ (fun h s => ∑ k : Fin 64, (P X M s (512 + (64 * h + k.val)) : EReal) * U s (64 * h + k.val)) ?_ ?_
  · blk_simp [idx t]
  · blk_simp [idx t]; omega

omit hW in
theorem final10 : (dats m 0 c).arrAt 10 cfg0.N = (fun i => ((∑ s : Fin 8192, dwRow O G X M s.val (i 1).val : ℝ) : EReal) : Vec Ideal S1x512 .f32) := by
  refine (dats m 0 c).arrAt_eq_of_covers 10 _ (by decide +kernel) fun t hf y => ?_
  have ht : t.val = 15 := by have := (flush0_10 t).mp hf; have := lt16 t; omega
  blk_simp
  rw [after0_10]
  refine (congrArg (outsAt0 m c t.val t.isLt).2.2.2.2 (eq_ix2 y)).trans ((acc_real m c hO hG hM hX t.val t.isLt _ _).trans ?_)
  rw [ht]
  refine (congrArg _ (dw_sum _)).trans ?_
  refine congrArg _ (congrArg (fun q => ∑ s : Fin 8192, dwRow O G X M s.val q) ?_)
  blk_simp [idx t]

end Cert.MixArrays

end
-- ==== Proof.MixClaim.lean ====
/- The claims about the mixers' backward kernel: where its arguments are finite its five results are those of the reference. -/
module

public import proofs.«01_k».proof.Defs
public import proofs.«01_k».proof.Proof.Gen.Mix
public import proofs.«01_k».proof.Proof.Gen.Mix.Frame
public import proofs.«01_k».proof.Proof.MixArrays
public import proofs.«01_k».proof.Proof.ConvClaim
public import proofs.«01_k».proof.Proof.Gen.MixRefIdeal.Run
public import proofs.«01_k».proof.Proof.Gen.Pre_mix_finite
public import Idealize.ShloMosaic.Lib.Quiescent

@[expose] public section

set_option maxRecDepth 16384

noncomputable section

namespace Cert.MixClaim

open Idealize.ShloMosaic Idealize.ShloMosaic.TcCoe Idealize.SL.Sem Cert.Reals Cert.MixMath Cert.ConvClaim

attribute [local instance] Cert.Mix.Gen.facts Cert.MixIdeal.Gen.facts Cert.MixRefIdeal.Gen.facts Cert.Pre_mix_finite.Gen.facts

/-- An array, finite or not, as a function of two natural numbers. -/
theorem ext_nat {a b : ℕ} (x : (⟨2, ![a, b]⟩ : Shape).Idx → EReal) : ∃ A : ℕ → ℕ → EReal, ∀ i, x i = A (i 0).val (i 1).val := by
  refine ⟨fun n k => if h : n < a ∧ k < b then x (ix2 ⟨n, h.1⟩ ⟨k, h.2⟩) else 0, fun i => ?_⟩
  dsimp only
  rw [dif_pos (show (i 0).val < a ∧ (i 1).val < b from ⟨(i 0).isLt, (i 1).isLt⟩)]
  exact congrArg x (eq_ix2 i)

/-- The precondition, decoded: all arguments but the other mixer's output are arrays of real numbers. -/
theorem real_args (x0 : FVec Ideal ⟨2, ![8192, 512]⟩ .f32) (x1 : FVec Ideal ⟨2, ![8192, 2464]⟩ .f32) (x2 : FVec Ideal ⟨2, ![8192, 512]⟩ .f32)
    (x3 : FVec Ideal ⟨1, ![512]⟩ .f32) (x4 : FVec Ideal ⟨2, ![1024, 1024]⟩ .f32) (x5 : FVec Ideal ⟨2, ![8192, 1024]⟩ .f32)
    (h : Cert.Pre_mix_finite.fn (F := Ideal) x0 x1 x2 x3 x4 x5 = fun _ => 1#1) :
    ∃ (O G M X : ℕ → ℕ → ℝ) (U : ℕ → ℕ → EReal) (W : ℕ → ℝ),
      (∀ i, x0 i = ((O (i 0).val (i 1).val : ℝ) : EReal)) ∧ (∀ i, x1 i = ((G (i 0).val (i 1).val : ℝ) : EReal))
      ∧ (∀ i, x2 i = U (i 0).val (i 1).val) ∧ (∀ i, x3 i = ((W (i 0).val : ℝ) : EReal))
      ∧ (∀ i, x4 i = ((M (i 0).val (i 1).val : ℝ) : EReal)) ∧ (∀ i, x5 i = ((X (i 0).val (i 1).val : ℝ) : EReal)) := by
  have e := congrFun h (fun a => a.elim0)
  unfold Cert.Pre_mix_finite.fn Cert.Pre_mix_finite.fn_part1 at e
  dsimp only at e
  obtain ⟨e, e5⟩ := andi_one _ _ _ e
  obtain ⟨e, e4⟩ := andi_one _ _ _ e
  obtain ⟨e, e3⟩ := andi_one _ _ _ e
  obtain ⟨e0, e1⟩ := andi_one _ _ _ e
  obtain ⟨O, hO⟩ := mat_nat x0 (real_of_fin x0 _ _ _ _ _ e0)
  obtain ⟨G, hG⟩ := mat_nat x1 (real_of_fin x1 _ _ _ _ _ e1)
  obtain ⟨U, hU⟩ := ext_nat x2
  obtain ⟨W, hW⟩ := vec_nat x3 (real_of_fin x3 _ _ _ _ _ e3)
  obtain ⟨M, hM⟩ := mat_nat x4 (real_of_fin x4 _ _ _ _ _ e4)
  obtain ⟨X, hX⟩ := mat_nat x5 (real_of_fin x5 _ _ _ _ _ e5)
  exact ⟨O, G, M, X, U, W, hO, hG, hU, hW, hM, hX⟩

theorem frame_kernel : Cert.quiescent_Mix := fun m ρ _ => Cert.Mix.Gen.frame m ρ
theorem frame_ideal : Cert.quiescent_MixIdeal := fun m ρ _ => Cert.MixIdeal.Gen.frame m ρ
theorem frame_ideal_pre : Cert.quiescent_MixIdeal_pre_mix_finite := fun m ρ _ => Cert.MixIdeal.Gen.frame m ρ
theorem frame_ref : Cert.quiescent_MixRefIdeal := fun m ρ _ =>
  (θ_run Cert.MixRefIdeal.defs _ _).mono (fun r h => ⟨fun c => (h c).2.2.2.2.2, sem_eq_zero_of_no_sems (by decide) r.2⟩) (Cert.MixRefIdeal.Value.run (F := Ideal) m ρ)
theorem frame_ref_pre : Cert.quiescent_MixRefIdeal_pre_mix_finite := fun m ρ _ => frame_ref m ρ trivial

/-- Both programs end with the gradients over the real numbers. -/
theorem value : Cert.algebraic_MixIdeal_MixRefIdeal_pre_mix_finite := by
  intro m ρ m' ρ' hpre hag
  choose O G M X U W hO hG hU hW hM hX using fun c => real_args _ _ _ _ _ _ (hpre c)
  refine ⟨_, _, _, _, _, Cert.MixIdeal.Value.run_blocks m ρ, (θ_run Cert.MixRefIdeal.defs _ _).mono (fun r h c => ?_) (Cert.MixRefIdeal.Value.run (F := Ideal) m' ρ')⟩
  obtain ⟨g0, g1, g2, g3, g4, g5⟩ := hag c
  obtain ⟨h0, h1, h2, h3, h4, hk⟩ := h c
  have kO := fun s e => (congrFun g0 (ix2 s e)).trans (hO c (ix2 s e))
  have kG := fun s e => (congrFun g1 (ix2 s e)).trans (hG c (ix2 s e))
  have kU := fun s e => (congrFun g2 (ix2 s e)).trans (hU c (ix2 s e))
  have kW := fun i => (congrFun g3 i).trans (hW c i)
  have kM := fun s e => (congrFun g4 (ix2 s e)).trans (hM c (ix2 s e))
  have kX := fun s e => (congrFun g5 (ix2 s e)).trans (hX c (ix2 s e))
  have lO := fun s e => hO c (ix2 s e)
  have lG := fun s e => hG c (ix2 s e)
  have lU := fun s e => hU c (ix2 s e)
  have lM := fun s e => hM c (ix2 s e)
  have lX := fun s e => hX c (ix2 s e)
  refine ⟨h0.trans ?_, h1.trans ?_, h2.trans ?_, h3.trans ?_, h4.trans ?_, hk⟩
  · rw [MixArrays.final6 m c lO lG (hW c) lM lX]
    exact (Cert.MixRefIdeal.Read.val_main_v75_eq ..).trans (funext fun i => (congrArg _ (eq_ix2 i)).trans (MixRefReal.v75_real _ _ _ _ _ kO kG kW kM kX _ _))
  · rw [MixArrays.final7 m c lO lG (hW c) lM lX]
    exact (Cert.MixRefIdeal.Read.val_main_v76_eq ..).trans (funext fun i => (congrArg _ (eq_ix2 i)).trans (MixRefReal.v76_real _ _ _ _ _ kO kG kW kM kX _ _))
  · rw [MixArrays.final8 m c lM lX]
    exact (Cert.MixRefIdeal.Read.val_main_v77_eq ..).trans (funext fun i => (congrArg _ (eq_ix2 i)).trans (MixRefReal.v77_real _ _ kM kX _ _))
  · rw [MixArrays.final9 m c lU lM lX]
    exact (Cert.MixRefIdeal.Read.val_main_v74_eq ..).trans (funext fun i => (congrArg _ (eq_ix2 i)).trans (MixRefReal.v74_real _ _ _ kU kM kX _ _))
  · rw [MixArrays.final10 m c lO lG lM lX]
    exact (Cert.MixRefIdeal.Read.val_main_v78_eq ..).trans (funext fun i => (congrArg _ (eq_ix2 i)).trans (MixRefReal.v78_real _ _ _ _ kO kG kM kX _ _))

end Cert.MixClaim

end
-- ==== Proof.lean ====
/- The proof of the claim: the frames and the value claims of the calls, put together. -/
module

public import proofs.«01_k».proof.Defs
public import proofs.«01_k».proof.Proof.LossClaim
public import proofs.«01_k».proof.Proof.MlaClaim
public import proofs.«01_k».proof.Proof.FfnClaim
public import proofs.«01_k».proof.Proof.AttnClaim
public import proofs.«01_k».proof.Proof.ConvClaim
public import proofs.«01_k».proof.Proof.MixClaim

@[expose] public section

noncomputable section

namespace Cert.Proof

theorem claim : Cert.Claim := ⟨Cert.Loss.Gen.facts, Cert.LossIdeal.Gen.facts, Cert.LossRefIdeal.Gen.facts,
  Cert.Mla.Gen.facts, Cert.MlaIdeal.Gen.facts, Cert.MlaRefIdeal.Gen.facts,
  Cert.Ffn.Gen.facts, Cert.FfnIdeal.Gen.facts, Cert.FfnRefIdeal.Gen.facts, Cert.Attn.Gen.facts, Cert.AttnIdeal.Gen.facts, Cert.AttnRefIdeal.Gen.facts,
  Cert.Conv.Gen.facts, Cert.ConvIdeal.Gen.facts, Cert.ConvRefIdeal.Gen.facts,
  Cert.Mix.Gen.facts, Cert.MixIdeal.Gen.facts, Cert.MixRefIdeal.Gen.facts,
  Cert.Pre_loss_finite.Gen.facts, Cert.Pre_mla_finite.Gen.facts, Cert.Pre_ffn_finite.Gen.facts, Cert.Pre_attn_finite.Gen.facts, Cert.Pre_conv_finite.Gen.facts, Cert.Pre_mix_finite.Gen.facts,
  LossClaim.frame_kernel, LossClaim.frame_ideal, LossClaim.frame_ideal_pre, LossClaim.frame_ref, LossClaim.frame_ref_pre,
  MlaClaim.frame_kernel, MlaClaim.frame_ideal, MlaClaim.frame_ideal_pre, MlaClaim.frame_ref, MlaClaim.frame_ref_pre,
  FfnClaim.frame_kernel, FfnClaim.frame_ideal, FfnClaim.frame_ideal_pre, FfnClaim.frame_ref, FfnClaim.frame_ref_pre,
  AttnClaim.frame_kernel, AttnClaim.frame_ideal, AttnClaim.frame_ideal_pre, AttnClaim.frame_ref, AttnClaim.frame_ref_pre,
  ConvClaim.frame_kernel, ConvClaim.frame_ideal, ConvClaim.frame_ideal_pre, ConvClaim.frame_ref, ConvClaim.frame_ref_pre,
  MixClaim.frame_kernel, MixClaim.frame_ideal, MixClaim.frame_ideal_pre, MixClaim.frame_ref, MixClaim.frame_ref_pre,
  trivial, trivial, trivial, trivial, trivial, trivial, LossClaim.value, MlaClaim.value, FfnClaim.value, AttnClaim.value, ConvClaim.value, MixClaim.value⟩

end Cert.Proof

end
